-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_DwInA (m : (ℓ : Loc Cert.DwInA.nD Cert.DwInA.τ Cert.DwInA.sig) → Buf (Elt Bits) ℓ) : Prop :=
  True

def Pre_DwInAIdeal (m : (ℓ : Loc Cert.DwInAIdeal.nD Cert.DwInAIdeal.τ Cert.DwInAIdeal.sig) → Buf (Elt Ideal) ℓ) : Prop :=
  True

def Pre_DwInAReferenceIdeal (m : (ℓ : Loc Cert.DwInAReferenceIdeal.nD Cert.DwInAReferenceIdeal.τ Cert.DwInAReferenceIdeal.sig) → Buf (Elt Ideal) ℓ) : Prop :=
  True

def Pre_DwInB (m : (ℓ : Loc Cert.DwInB.nD Cert.DwInB.τ Cert.DwInB.sig) → Buf (Elt Bits) ℓ) : Prop :=
  True

def Pre_DwInBIdeal (m : (ℓ : Loc Cert.DwInBIdeal.nD Cert.DwInBIdeal.τ Cert.DwInBIdeal.sig) → Buf (Elt Ideal) ℓ) : Prop :=
  True

def Pre_DwInBReferenceIdeal (m : (ℓ : Loc Cert.DwInBReferenceIdeal.nD Cert.DwInBReferenceIdeal.τ Cert.DwInBReferenceIdeal.sig) → Buf (Elt Ideal) ℓ) : Prop :=
  True

def Pre_DhA (m : (ℓ : Loc Cert.DhA.nD Cert.DhA.τ Cert.DhA.sig) → Buf (Elt Bits) ℓ) : Prop :=
  True

def Pre_DhAIdeal (m : (ℓ : Loc Cert.DhAIdeal.nD Cert.DhAIdeal.τ Cert.DhAIdeal.sig) → Buf (Elt Ideal) ℓ) : Prop :=
  True

def Pre_DhAReferenceIdeal (m : (ℓ : Loc Cert.DhAReferenceIdeal.nD Cert.DhAReferenceIdeal.τ Cert.DhAReferenceIdeal.sig) → Buf (Elt Ideal) ℓ) : Prop :=
  True

def Pre_DhB (m : (ℓ : Loc Cert.DhB.nD Cert.DhB.τ Cert.DhB.sig) → Buf (Elt Bits) ℓ) : Prop :=
  True

def Pre_DhBIdeal (m : (ℓ : Loc Cert.DhBIdeal.nD Cert.DhBIdeal.τ Cert.DhBIdeal.sig) → Buf (Elt Ideal) ℓ) : Prop :=
  True

def Pre_DhBReferenceIdeal (m : (ℓ : Loc Cert.DhBReferenceIdeal.nD Cert.DhBReferenceIdeal.τ Cert.DhBReferenceIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutReferenceIdeal (m : (ℓ : Loc Cert.DwOutReferenceIdeal.nD Cert.DwOutReferenceIdeal.τ Cert.DwOutReferenceIdeal.sig) → Buf (Elt Ideal) ℓ) : Prop :=
  True

def Pre_InprojA (m : (ℓ : Loc Cert.InprojA.nD Cert.InprojA.τ Cert.InprojA.sig) → Buf (Elt Bits) ℓ) : Prop :=
  True

def Pre_InprojAIdeal (m : (ℓ : Loc Cert.InprojAIdeal.nD Cert.InprojAIdeal.τ Cert.InprojAIdeal.sig) → Buf (Elt Ideal) ℓ) : Prop :=
  True

def Pre_InprojAReferenceIdeal (m : (ℓ : Loc Cert.InprojAReferenceIdeal.nD Cert.InprojAReferenceIdeal.τ Cert.InprojAReferenceIdeal.sig) → Buf (Elt Ideal) ℓ) : Prop :=
  True

def Pre_InprojB (m : (ℓ : Loc Cert.InprojB.nD Cert.InprojB.τ Cert.InprojB.sig) → Buf (Elt Bits) ℓ) : Prop :=
  True

def Pre_InprojBIdeal (m : (ℓ : Loc Cert.InprojBIdeal.nD Cert.InprojBIdeal.τ Cert.InprojBIdeal.sig) → Buf (Elt Ideal) ℓ) : Prop :=
  True

def Pre_InprojBReferenceIdeal (m : (ℓ : Loc Cert.InprojBReferenceIdeal.nD Cert.InprojBReferenceIdeal.τ Cert.InprojBReferenceIdeal.sig) → Buf (Elt Ideal) ℓ) : Prop :=
  True

def Pre_DwKv (m : (ℓ : Loc Cert.DwKv.nD Cert.DwKv.τ Cert.DwKv.sig) → Buf (Elt Bits) ℓ) : Prop :=
  True

def Pre_DwKvIdeal (m : (ℓ : Loc Cert.DwKvIdeal.nD Cert.DwKvIdeal.τ Cert.DwKvIdeal.sig) → Buf (Elt Ideal) ℓ) : Prop :=
  True

def Pre_DwKvReferenceIdeal (m : (ℓ : Loc Cert.DwKvReferenceIdeal.nD Cert.DwKvReferenceIdeal.τ Cert.DwKvReferenceIdeal.sig) → Buf (Elt Ideal) ℓ) : Prop :=
  True

def Pre_Dmem (m : (ℓ : Loc Cert.Dmem.nD Cert.Dmem.τ Cert.Dmem.sig) → Buf (Elt Bits) ℓ) : Prop :=
  True

def Pre_DmemIdeal (m : (ℓ : Loc Cert.DmemIdeal.nD Cert.DmemIdeal.τ Cert.DmemIdeal.sig) → Buf (Elt Ideal) ℓ) : Prop :=
  True

def Pre_DmemReferenceIdeal (m : (ℓ : Loc Cert.DmemReferenceIdeal.nD Cert.DmemReferenceIdeal.τ Cert.DmemReferenceIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvReferenceIdeal (m : (ℓ : Loc Cert.MemKvReferenceIdeal.nD Cert.MemKvReferenceIdeal.τ Cert.MemKvReferenceIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdIdeal_finite_heads [hPre_finite_heads : Cert.Pre_finite_heads.Facts] (m : (ℓ : Loc Cert.OutFwdIdeal.nD Cert.OutFwdIdeal.τ Cert.OutFwdIdeal.sig) → Buf (Elt Ideal) ℓ) : Prop :=
  ∀ c : Dev Cert.OutFwdIdeal.nD,
    (Cert.Pre_finite_heads.fn (F := Ideal) (m ((c.tc : Thread Cert.OutFwdIdeal.nD Cert.OutFwdIdeal.τ).loc Cert.OutFwdIdeal.main_arg0)) (m ((c.tc : Thread Cert.OutFwdIdeal.nD Cert.OutFwdIdeal.τ).loc Cert.OutFwdIdeal.main_arg1)) (m ((c.tc : Thread Cert.OutFwdIdeal.nD Cert.OutFwdIdeal.τ).loc Cert.OutFwdIdeal.main_arg2)) (m ((c.tc : Thread Cert.OutFwdIdeal.nD Cert.OutFwdIdeal.τ).loc Cert.OutFwdIdeal.main_arg3)) (m ((c.tc : Thread Cert.OutFwdIdeal.nD Cert.OutFwdIdeal.τ).loc Cert.OutFwdIdeal.main_arg4)) (m ((c.tc : Thread Cert.OutFwdIdeal.nD Cert.OutFwdIdeal.τ).loc Cert.OutFwdIdeal.main_arg5)) (m ((c.tc : Thread Cert.OutFwdIdeal.nD Cert.OutFwdIdeal.τ).loc Cert.OutFwdIdeal.main_arg6))) = (fun _ => 1#1)

def Pre_OutFwdReferenceIdeal (m : (ℓ : Loc Cert.OutFwdReferenceIdeal.nD Cert.OutFwdReferenceIdeal.τ Cert.OutFwdReferenceIdeal.sig) → Buf (Elt Ideal) ℓ) : Prop :=
  True

def Pre_OutFwdReferenceIdeal_finite_heads [hPre_finite_heads : Cert.Pre_finite_heads.Facts] (m : (ℓ : Loc Cert.OutFwdReferenceIdeal.nD Cert.OutFwdReferenceIdeal.τ Cert.OutFwdReferenceIdeal.sig) → Buf (Elt Ideal) ℓ) : Prop :=
  ∀ c : Dev Cert.OutFwdReferenceIdeal.nD,
    (Cert.Pre_finite_heads.fn (F := Ideal) (m ((c.tc : Thread Cert.OutFwdReferenceIdeal.nD Cert.OutFwdReferenceIdeal.τ).loc Cert.OutFwdReferenceIdeal.main_arg0)) (m ((c.tc : Thread Cert.OutFwdReferenceIdeal.nD Cert.OutFwdReferenceIdeal.τ).loc Cert.OutFwdReferenceIdeal.main_arg1)) (m ((c.tc : Thread Cert.OutFwdReferenceIdeal.nD Cert.OutFwdReferenceIdeal.τ).loc Cert.OutFwdReferenceIdeal.main_arg2)) (m ((c.tc : Thread Cert.OutFwdReferenceIdeal.nD Cert.OutFwdReferenceIdeal.τ).loc Cert.OutFwdReferenceIdeal.main_arg3)) (m ((c.tc : Thread Cert.OutFwdReferenceIdeal.nD Cert.OutFwdReferenceIdeal.τ).loc Cert.OutFwdReferenceIdeal.main_arg4)) (m ((c.tc : Thread Cert.OutFwdReferenceIdeal.nD Cert.OutFwdReferenceIdeal.τ).loc Cert.OutFwdReferenceIdeal.main_arg5)) (m ((c.tc : Thread Cert.OutFwdReferenceIdeal.nD Cert.OutFwdReferenceIdeal.τ).loc Cert.OutFwdReferenceIdeal.main_arg6))) = (fun _ => 1#1)

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdIdeal_finite_out [hPre_finite_out : Cert.Pre_finite_out.Facts] (m : (ℓ : Loc Cert.OutBwdIdeal.nD Cert.OutBwdIdeal.τ Cert.OutBwdIdeal.sig) → Buf (Elt Ideal) ℓ) : Prop :=
  ∀ c : Dev Cert.OutBwdIdeal.nD,
    (Cert.Pre_finite_out.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6))) = (fun _ => 1#1)

def Pre_OutBwdReferenceIdeal (m : (ℓ : Loc Cert.OutBwdReferenceIdeal.nD Cert.OutBwdReferenceIdeal.τ Cert.OutBwdReferenceIdeal.sig) → Buf (Elt Ideal) ℓ) : Prop :=
  True

def Pre_OutBwdReferenceIdeal_finite_out [hPre_finite_out : Cert.Pre_finite_out.Facts] (m : (ℓ : Loc Cert.OutBwdReferenceIdeal.nD Cert.OutBwdReferenceIdeal.τ Cert.OutBwdReferenceIdeal.sig) → Buf (Elt Ideal) ℓ) : Prop :=
  ∀ c : Dev Cert.OutBwdReferenceIdeal.nD,
    (Cert.Pre_finite_out.fn (F := Ideal) (m ((c.tc : Thread Cert.OutBwdReferenceIdeal.nD Cert.OutBwdReferenceIdeal.τ).loc Cert.OutBwdReferenceIdeal.main_arg0)) (m ((c.tc : Thread Cert.OutBwdReferenceIdeal.nD Cert.OutBwdReferenceIdeal.τ).loc Cert.OutBwdReferenceIdeal.main_arg1)) (m ((c.tc : Thread Cert.OutBwdReferenceIdeal.nD Cert.OutBwdReferenceIdeal.τ).loc Cert.OutBwdReferenceIdeal.main_arg2)) (m ((c.tc : Thread Cert.OutBwdReferenceIdeal.nD Cert.OutBwdReferenceIdeal.τ).loc Cert.OutBwdReferenceIdeal.main_arg3)) (m ((c.tc : Thread Cert.OutBwdReferenceIdeal.nD Cert.OutBwdReferenceIdeal.τ).loc Cert.OutBwdReferenceIdeal.main_arg4)) (m ((c.tc : Thread Cert.OutBwdReferenceIdeal.nD Cert.OutBwdReferenceIdeal.τ).loc Cert.OutBwdReferenceIdeal.main_arg5)) (m ((c.tc : Thread Cert.OutBwdReferenceIdeal.nD Cert.OutBwdReferenceIdeal.τ).loc Cert.OutBwdReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_DwInA [hDwInA : Cert.DwInA.Facts] : Prop :=
  ∀ (m : (ℓ : Loc Cert.DwInA.nD Cert.DwInA.τ Cert.DwInA.sig) → Buf (Elt Bits) ℓ) (g : Dev Cert.DwInA.nD → PrngReg), Pre_DwInA m →
    θ_run (Cert.DwInA.defs (F := Bits)) (onTc (τ := Cert.DwInA.τ) (Cert.DwInA.main (F := Bits))) ⟨m, fun _ => 0, g⟩ (fun r => (∀ c : Dev Cert.DwInA.nD,
      r.2.mem ((c.tc : Thread Cert.DwInA.nD Cert.DwInA.τ).loc Cert.DwInA.main_arg0) = m ((c.tc : Thread Cert.DwInA.nD Cert.DwInA.τ).loc Cert.DwInA.main_arg0)
      ∧ r.2.mem ((c.tc : Thread Cert.DwInA.nD Cert.DwInA.τ).loc Cert.DwInA.main_arg1) = m ((c.tc : Thread Cert.DwInA.nD Cert.DwInA.τ).loc Cert.DwInA.main_arg1))
      ∧ r.2.sem = fun _ => 0)

def quiescent_DwInAIdeal [hDwInAIdeal : Cert.DwInAIdeal.Facts] : Prop :=
  ∀ (m : (ℓ : Loc Cert.DwInAIdeal.nD Cert.DwInAIdeal.τ Cert.DwInAIdeal.sig) → Buf (Elt Ideal) ℓ) (g : Dev Cert.DwInAIdeal.nD → PrngReg), Pre_DwInAIdeal m →
    θ_run (Cert.DwInAIdeal.defs (F := Ideal)) (onTc (τ := Cert.DwInAIdeal.τ) (Cert.DwInAIdeal.main (F := Ideal))) ⟨m, fun _ => 0, g⟩ (fun r => (∀ c : Dev Cert.DwInAIdeal.nD,
      r.2.mem ((c.tc : Thread Cert.DwInAIdeal.nD Cert.DwInAIdeal.τ).loc Cert.DwInAIdeal.main_arg0) = m ((c.tc : Thread Cert.DwInAIdeal.nD Cert.DwInAIdeal.τ).loc Cert.DwInAIdeal.main_arg0)
      ∧ r.2.mem ((c.tc : Thread Cert.DwInAIdeal.nD Cert.DwInAIdeal.τ).loc Cert.DwInAIdeal.main_arg1) = m ((c.tc : Thread Cert.DwInAIdeal.nD Cert.DwInAIdeal.τ).loc Cert.DwInAIdeal.main_arg1))
      ∧ r.2.sem = fun _ => 0)

def quiescent_DwInAReferenceIdeal [hDwInAReferenceIdeal : Cert.DwInAReferenceIdeal.Facts] : Prop :=
  ∀ (m : (ℓ : Loc Cert.DwInAReferenceIdeal.nD Cert.DwInAReferenceIdeal.τ Cert.DwInAReferenceIdeal.sig) → Buf (Elt Ideal) ℓ) (g : Dev Cert.DwInAReferenceIdeal.nD → PrngReg), Pre_DwInAReferenceIdeal m →
    θ_run (Cert.DwInAReferenceIdeal.defs (F := Ideal)) (onTc (τ := Cert.DwInAReferenceIdeal.τ) (Cert.DwInAReferenceIdeal.main (F := Ideal))) ⟨m, fun _ => 0, g⟩ (fun r => (∀ c : Dev Cert.DwInAReferenceIdeal.nD,
      r.2.mem ((c.tc : Thread Cert.DwInAReferenceIdeal.nD Cert.DwInAReferenceIdeal.τ).loc Cert.DwInAReferenceIdeal.main_arg0) = m ((c.tc : Thread Cert.DwInAReferenceIdeal.nD Cert.DwInAReferenceIdeal.τ).loc Cert.DwInAReferenceIdeal.main_arg0)
      ∧ r.2.mem ((c.tc : Thread Cert.DwInAReferenceIdeal.nD Cert.DwInAReferenceIdeal.τ).loc Cert.DwInAReferenceIdeal.main_arg1) = m ((c.tc : Thread Cert.DwInAReferenceIdeal.nD Cert.DwInAReferenceIdeal.τ).loc Cert.DwInAReferenceIdeal.main_arg1))
      ∧ r.2.sem = fun _ => 0)

def quiescent_DwInB [hDwInB : Cert.DwInB.Facts] : Prop :=
  ∀ (m : (ℓ : Loc Cert.DwInB.nD Cert.DwInB.τ Cert.DwInB.sig) → Buf (Elt Bits) ℓ) (g : Dev Cert.DwInB.nD → PrngReg), Pre_DwInB m →
    θ_run (Cert.DwInB.defs (F := Bits)) (onTc (τ := Cert.DwInB.τ) (Cert.DwInB.main (F := Bits))) ⟨m, fun _ => 0, g⟩ (fun r => (∀ c : Dev Cert.DwInB.nD,
      r.2.mem ((c.tc : Thread Cert.DwInB.nD Cert.DwInB.τ).loc Cert.DwInB.main_arg0) = m ((c.tc : Thread Cert.DwInB.nD Cert.DwInB.τ).loc Cert.DwInB.main_arg0)
      ∧ r.2.mem ((c.tc : Thread Cert.DwInB.nD Cert.DwInB.τ).loc Cert.DwInB.main_arg1) = m ((c.tc : Thread Cert.DwInB.nD Cert.DwInB.τ).loc Cert.DwInB.main_arg1))
      ∧ r.2.sem = fun _ => 0)

def quiescent_DwInBIdeal [hDwInBIdeal : Cert.DwInBIdeal.Facts] : Prop :=
  ∀ (m : (ℓ : Loc Cert.DwInBIdeal.nD Cert.DwInBIdeal.τ Cert.DwInBIdeal.sig) → Buf (Elt Ideal) ℓ) (g : Dev Cert.DwInBIdeal.nD → PrngReg), Pre_DwInBIdeal m →
    θ_run (Cert.DwInBIdeal.defs (F := Ideal)) (onTc (τ := Cert.DwInBIdeal.τ) (Cert.DwInBIdeal.main (F := Ideal))) ⟨m, fun _ => 0, g⟩ (fun r => (∀ c : Dev Cert.DwInBIdeal.nD,
      r.2.mem ((c.tc : Thread Cert.DwInBIdeal.nD Cert.DwInBIdeal.τ).loc Cert.DwInBIdeal.main_arg0) = m ((c.tc : Thread Cert.DwInBIdeal.nD Cert.DwInBIdeal.τ).loc Cert.DwInBIdeal.main_arg0)
      ∧ r.2.mem ((c.tc : Thread Cert.DwInBIdeal.nD Cert.DwInBIdeal.τ).loc Cert.DwInBIdeal.main_arg1) = m ((c.tc : Thread Cert.DwInBIdeal.nD Cert.DwInBIdeal.τ).loc Cert.DwInBIdeal.main_arg1))
      ∧ r.2.sem = fun _ => 0)

def quiescent_DwInBReferenceIdeal [hDwInBReferenceIdeal : Cert.DwInBReferenceIdeal.Facts] : Prop :=
  ∀ (m : (ℓ : Loc Cert.DwInBReferenceIdeal.nD Cert.DwInBReferenceIdeal.τ Cert.DwInBReferenceIdeal.sig) → Buf (Elt Ideal) ℓ) (g : Dev Cert.DwInBReferenceIdeal.nD → PrngReg), Pre_DwInBReferenceIdeal m →
    θ_run (Cert.DwInBReferenceIdeal.defs (F := Ideal)) (onTc (τ := Cert.DwInBReferenceIdeal.τ) (Cert.DwInBReferenceIdeal.main (F := Ideal))) ⟨m, fun _ => 0, g⟩ (fun r => (∀ c : Dev Cert.DwInBReferenceIdeal.nD,
      r.2.mem ((c.tc : Thread Cert.DwInBReferenceIdeal.nD Cert.DwInBReferenceIdeal.τ).loc Cert.DwInBReferenceIdeal.main_arg0) = m ((c.tc : Thread Cert.DwInBReferenceIdeal.nD Cert.DwInBReferenceIdeal.τ).loc Cert.DwInBReferenceIdeal.main_arg0)
      ∧ r.2.mem ((c.tc : Thread Cert.DwInBReferenceIdeal.nD Cert.DwInBReferenceIdeal.τ).loc Cert.DwInBReferenceIdeal.main_arg1) = m ((c.tc : Thread Cert.DwInBReferenceIdeal.nD Cert.DwInBReferenceIdeal.τ).loc Cert.DwInBReferenceIdeal.main_arg1))
      ∧ r.2.sem = fun _ => 0)

def quiescent_DhA [hDhA : Cert.DhA.Facts] : Prop :=
  ∀ (m : (ℓ : Loc Cert.DhA.nD Cert.DhA.τ Cert.DhA.sig) → Buf (Elt Bits) ℓ) (g : Dev Cert.DhA.nD → PrngReg), Pre_DhA m →
    θ_run (Cert.DhA.defs (F := Bits)) (onTc (τ := Cert.DhA.τ) (Cert.DhA.main (F := Bits))) ⟨m, fun _ => 0, g⟩ (fun r => (∀ c : Dev Cert.DhA.nD,
      r.2.mem ((c.tc : Thread Cert.DhA.nD Cert.DhA.τ).loc Cert.DhA.main_arg0) = m ((c.tc : Thread Cert.DhA.nD Cert.DhA.τ).loc Cert.DhA.main_arg0)
      ∧ r.2.mem ((c.tc : Thread Cert.DhA.nD Cert.DhA.τ).loc Cert.DhA.main_arg1) = m ((c.tc : Thread Cert.DhA.nD Cert.DhA.τ).loc Cert.DhA.main_arg1))
      ∧ r.2.sem = fun _ => 0)

def quiescent_DhAIdeal [hDhAIdeal : Cert.DhAIdeal.Facts] : Prop :=
  ∀ (m : (ℓ : Loc Cert.DhAIdeal.nD Cert.DhAIdeal.τ Cert.DhAIdeal.sig) → Buf (Elt Ideal) ℓ) (g : Dev Cert.DhAIdeal.nD → PrngReg), Pre_DhAIdeal m →
    θ_run (Cert.DhAIdeal.defs (F := Ideal)) (onTc (τ := Cert.DhAIdeal.τ) (Cert.DhAIdeal.main (F := Ideal))) ⟨m, fun _ => 0, g⟩ (fun r => (∀ c : Dev Cert.DhAIdeal.nD,
      r.2.mem ((c.tc : Thread Cert.DhAIdeal.nD Cert.DhAIdeal.τ).loc Cert.DhAIdeal.main_arg0) = m ((c.tc : Thread Cert.DhAIdeal.nD Cert.DhAIdeal.τ).loc Cert.DhAIdeal.main_arg0)
      ∧ r.2.mem ((c.tc : Thread Cert.DhAIdeal.nD Cert.DhAIdeal.τ).loc Cert.DhAIdeal.main_arg1) = m ((c.tc : Thread Cert.DhAIdeal.nD Cert.DhAIdeal.τ).loc Cert.DhAIdeal.main_arg1))
      ∧ r.2.sem = fun _ => 0)

def quiescent_DhAReferenceIdeal [hDhAReferenceIdeal : Cert.DhAReferenceIdeal.Facts] : Prop :=
  ∀ (m : (ℓ : Loc Cert.DhAReferenceIdeal.nD Cert.DhAReferenceIdeal.τ Cert.DhAReferenceIdeal.sig) → Buf (Elt Ideal) ℓ) (g : Dev Cert.DhAReferenceIdeal.nD → PrngReg), Pre_DhAReferenceIdeal m →
    θ_run (Cert.DhAReferenceIdeal.defs (F := Ideal)) (onTc (τ := Cert.DhAReferenceIdeal.τ) (Cert.DhAReferenceIdeal.main (F := Ideal))) ⟨m, fun _ => 0, g⟩ (fun r => (∀ c : Dev Cert.DhAReferenceIdeal.nD,
      r.2.mem ((c.tc : Thread Cert.DhAReferenceIdeal.nD Cert.DhAReferenceIdeal.τ).loc Cert.DhAReferenceIdeal.main_arg0) = m ((c.tc : Thread Cert.DhAReferenceIdeal.nD Cert.DhAReferenceIdeal.τ).loc Cert.DhAReferenceIdeal.main_arg0)
      ∧ r.2.mem ((c.tc : Thread Cert.DhAReferenceIdeal.nD Cert.DhAReferenceIdeal.τ).loc Cert.DhAReferenceIdeal.main_arg1) = m ((c.tc : Thread Cert.DhAReferenceIdeal.nD Cert.DhAReferenceIdeal.τ).loc Cert.DhAReferenceIdeal.main_arg1))
      ∧ r.2.sem = fun _ => 0)

def quiescent_DhB [hDhB : Cert.DhB.Facts] : Prop :=
  ∀ (m : (ℓ : Loc Cert.DhB.nD Cert.DhB.τ Cert.DhB.sig) → Buf (Elt Bits) ℓ) (g : Dev Cert.DhB.nD → PrngReg), Pre_DhB m →
    θ_run (Cert.DhB.defs (F := Bits)) (onTc (τ := Cert.DhB.τ) (Cert.DhB.main (F := Bits))) ⟨m, fun _ => 0, g⟩ (fun r => (∀ c : Dev Cert.DhB.nD,
      r.2.mem ((c.tc : Thread Cert.DhB.nD Cert.DhB.τ).loc Cert.DhB.main_arg0) = m ((c.tc : Thread Cert.DhB.nD Cert.DhB.τ).loc Cert.DhB.main_arg0)
      ∧ r.2.mem ((c.tc : Thread Cert.DhB.nD Cert.DhB.τ).loc Cert.DhB.main_arg1) = m ((c.tc : Thread Cert.DhB.nD Cert.DhB.τ).loc Cert.DhB.main_arg1)
      ∧ r.2.mem ((c.tc : Thread Cert.DhB.nD Cert.DhB.τ).loc Cert.DhB.main_arg2) = m ((c.tc : Thread Cert.DhB.nD Cert.DhB.τ).loc Cert.DhB.main_arg2))
      ∧ r.2.sem = fun _ => 0)

def quiescent_DhBIdeal [hDhBIdeal : Cert.DhBIdeal.Facts] : Prop :=
  ∀ (m : (ℓ : Loc Cert.DhBIdeal.nD Cert.DhBIdeal.τ Cert.DhBIdeal.sig) → Buf (Elt Ideal) ℓ) (g : Dev Cert.DhBIdeal.nD → PrngReg), Pre_DhBIdeal m →
    θ_run (Cert.DhBIdeal.defs (F := Ideal)) (onTc (τ := Cert.DhBIdeal.τ) (Cert.DhBIdeal.main (F := Ideal))) ⟨m, fun _ => 0, g⟩ (fun r => (∀ c : Dev Cert.DhBIdeal.nD,
      r.2.mem ((c.tc : Thread Cert.DhBIdeal.nD Cert.DhBIdeal.τ).loc Cert.DhBIdeal.main_arg0) = m ((c.tc : Thread Cert.DhBIdeal.nD Cert.DhBIdeal.τ).loc Cert.DhBIdeal.main_arg0)
      ∧ r.2.mem ((c.tc : Thread Cert.DhBIdeal.nD Cert.DhBIdeal.τ).loc Cert.DhBIdeal.main_arg1) = m ((c.tc : Thread Cert.DhBIdeal.nD Cert.DhBIdeal.τ).loc Cert.DhBIdeal.main_arg1)
      ∧ r.2.mem ((c.tc : Thread Cert.DhBIdeal.nD Cert.DhBIdeal.τ).loc Cert.DhBIdeal.main_arg2) = m ((c.tc : Thread Cert.DhBIdeal.nD Cert.DhBIdeal.τ).loc Cert.DhBIdeal.main_arg2))
      ∧ r.2.sem = fun _ => 0)

def quiescent_DhBReferenceIdeal [hDhBReferenceIdeal : Cert.DhBReferenceIdeal.Facts] : Prop :=
  ∀ (m : (ℓ : Loc Cert.DhBReferenceIdeal.nD Cert.DhBReferenceIdeal.τ Cert.DhBReferenceIdeal.sig) → Buf (Elt Ideal) ℓ) (g : Dev Cert.DhBReferenceIdeal.nD → PrngReg), Pre_DhBReferenceIdeal m →
    θ_run (Cert.DhBReferenceIdeal.defs (F := Ideal)) (onTc (τ := Cert.DhBReferenceIdeal.τ) (Cert.DhBReferenceIdeal.main (F := Ideal))) ⟨m, fun _ => 0, g⟩ (fun r => (∀ c : Dev Cert.DhBReferenceIdeal.nD,
      r.2.mem ((c.tc : Thread Cert.DhBReferenceIdeal.nD Cert.DhBReferenceIdeal.τ).loc Cert.DhBReferenceIdeal.main_arg0) = m ((c.tc : Thread Cert.DhBReferenceIdeal.nD Cert.DhBReferenceIdeal.τ).loc Cert.DhBReferenceIdeal.main_arg0)
      ∧ r.2.mem ((c.tc : Thread Cert.DhBReferenceIdeal.nD Cert.DhBReferenceIdeal.τ).loc Cert.DhBReferenceIdeal.main_arg1) = m ((c.tc : Thread Cert.DhBReferenceIdeal.nD Cert.DhBReferenceIdeal.τ).loc Cert.DhBReferenceIdeal.main_arg1)
      ∧ r.2.mem ((c.tc : Thread Cert.DhBReferenceIdeal.nD Cert.DhBReferenceIdeal.τ).loc Cert.DhBReferenceIdeal.main_arg2) = m ((c.tc : Thread Cert.DhBReferenceIdeal.nD Cert.DhBReferenceIdeal.τ).loc Cert.DhBReferenceIdeal.main_arg2))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutReferenceIdeal [hDwOutReferenceIdeal : Cert.DwOutReferenceIdeal.Facts] : Prop :=
  ∀ (m : (ℓ : Loc Cert.DwOutReferenceIdeal.nD Cert.DwOutReferenceIdeal.τ Cert.DwOutReferenceIdeal.sig) → Buf (Elt Ideal) ℓ) (g : Dev Cert.DwOutReferenceIdeal.nD → PrngReg), Pre_DwOutReferenceIdeal m →
    θ_run (Cert.DwOutReferenceIdeal.defs (F := Ideal)) (onTc (τ := Cert.DwOutReferenceIdeal.τ) (Cert.DwOutReferenceIdeal.main (F := Ideal))) ⟨m, fun _ => 0, g⟩ (fun r => (∀ c : Dev Cert.DwOutReferenceIdeal.nD,
      r.2.mem ((c.tc : Thread Cert.DwOutReferenceIdeal.nD Cert.DwOutReferenceIdeal.τ).loc Cert.DwOutReferenceIdeal.main_arg0) = m ((c.tc : Thread Cert.DwOutReferenceIdeal.nD Cert.DwOutReferenceIdeal.τ).loc Cert.DwOutReferenceIdeal.main_arg0)
      ∧ r.2.mem ((c.tc : Thread Cert.DwOutReferenceIdeal.nD Cert.DwOutReferenceIdeal.τ).loc Cert.DwOutReferenceIdeal.main_arg1) = m ((c.tc : Thread Cert.DwOutReferenceIdeal.nD Cert.DwOutReferenceIdeal.τ).loc Cert.DwOutReferenceIdeal.main_arg1))
      ∧ r.2.sem = fun _ => 0)

def quiescent_InprojA [hInprojA : Cert.InprojA.Facts] : Prop :=
  ∀ (m : (ℓ : Loc Cert.InprojA.nD Cert.InprojA.τ Cert.InprojA.sig) → Buf (Elt Bits) ℓ) (g : Dev Cert.InprojA.nD → PrngReg), Pre_InprojA m →
    θ_run (Cert.InprojA.defs (F := Bits)) (onTc (τ := Cert.InprojA.τ) (Cert.InprojA.main (F := Bits))) ⟨m, fun _ => 0, g⟩ (fun r => (∀ c : Dev Cert.InprojA.nD,
      r.2.mem ((c.tc : Thread Cert.InprojA.nD Cert.InprojA.τ).loc Cert.InprojA.main_arg0) = m ((c.tc : Thread Cert.InprojA.nD Cert.InprojA.τ).loc Cert.InprojA.main_arg0)
      ∧ r.2.mem ((c.tc : Thread Cert.InprojA.nD Cert.InprojA.τ).loc Cert.InprojA.main_arg1) = m ((c.tc : Thread Cert.InprojA.nD Cert.InprojA.τ).loc Cert.InprojA.main_arg1))
      ∧ r.2.sem = fun _ => 0)

def quiescent_InprojAIdeal [hInprojAIdeal : Cert.InprojAIdeal.Facts] : Prop :=
  ∀ (m : (ℓ : Loc Cert.InprojAIdeal.nD Cert.InprojAIdeal.τ Cert.InprojAIdeal.sig) → Buf (Elt Ideal) ℓ) (g : Dev Cert.InprojAIdeal.nD → PrngReg), Pre_InprojAIdeal m →
    θ_run (Cert.InprojAIdeal.defs (F := Ideal)) (onTc (τ := Cert.InprojAIdeal.τ) (Cert.InprojAIdeal.main (F := Ideal))) ⟨m, fun _ => 0, g⟩ (fun r => (∀ c : Dev Cert.InprojAIdeal.nD,
      r.2.mem ((c.tc : Thread Cert.InprojAIdeal.nD Cert.InprojAIdeal.τ).loc Cert.InprojAIdeal.main_arg0) = m ((c.tc : Thread Cert.InprojAIdeal.nD Cert.InprojAIdeal.τ).loc Cert.InprojAIdeal.main_arg0)
      ∧ r.2.mem ((c.tc : Thread Cert.InprojAIdeal.nD Cert.InprojAIdeal.τ).loc Cert.InprojAIdeal.main_arg1) = m ((c.tc : Thread Cert.InprojAIdeal.nD Cert.InprojAIdeal.τ).loc Cert.InprojAIdeal.main_arg1))
      ∧ r.2.sem = fun _ => 0)

def quiescent_InprojAReferenceIdeal [hInprojAReferenceIdeal : Cert.InprojAReferenceIdeal.Facts] : Prop :=
  ∀ (m : (ℓ : Loc Cert.InprojAReferenceIdeal.nD Cert.InprojAReferenceIdeal.τ Cert.InprojAReferenceIdeal.sig) → Buf (Elt Ideal) ℓ) (g : Dev Cert.InprojAReferenceIdeal.nD → PrngReg), Pre_InprojAReferenceIdeal m →
    θ_run (Cert.InprojAReferenceIdeal.defs (F := Ideal)) (onTc (τ := Cert.InprojAReferenceIdeal.τ) (Cert.InprojAReferenceIdeal.main (F := Ideal))) ⟨m, fun _ => 0, g⟩ (fun r => (∀ c : Dev Cert.InprojAReferenceIdeal.nD,
      r.2.mem ((c.tc : Thread Cert.InprojAReferenceIdeal.nD Cert.InprojAReferenceIdeal.τ).loc Cert.InprojAReferenceIdeal.main_arg0) = m ((c.tc : Thread Cert.InprojAReferenceIdeal.nD Cert.InprojAReferenceIdeal.τ).loc Cert.InprojAReferenceIdeal.main_arg0)
      ∧ r.2.mem ((c.tc : Thread Cert.InprojAReferenceIdeal.nD Cert.InprojAReferenceIdeal.τ).loc Cert.InprojAReferenceIdeal.main_arg1) = m ((c.tc : Thread Cert.InprojAReferenceIdeal.nD Cert.InprojAReferenceIdeal.τ).loc Cert.InprojAReferenceIdeal.main_arg1))
      ∧ r.2.sem = fun _ => 0)

def quiescent_InprojB [hInprojB : Cert.InprojB.Facts] : Prop :=
  ∀ (m : (ℓ : Loc Cert.InprojB.nD Cert.InprojB.τ Cert.InprojB.sig) → Buf (Elt Bits) ℓ) (g : Dev Cert.InprojB.nD → PrngReg), Pre_InprojB m →
    θ_run (Cert.InprojB.defs (F := Bits)) (onTc (τ := Cert.InprojB.τ) (Cert.InprojB.main (F := Bits))) ⟨m, fun _ => 0, g⟩ (fun r => (∀ c : Dev Cert.InprojB.nD,
      r.2.mem ((c.tc : Thread Cert.InprojB.nD Cert.InprojB.τ).loc Cert.InprojB.main_arg0) = m ((c.tc : Thread Cert.InprojB.nD Cert.InprojB.τ).loc Cert.InprojB.main_arg0)
      ∧ r.2.mem ((c.tc : Thread Cert.InprojB.nD Cert.InprojB.τ).loc Cert.InprojB.main_arg1) = m ((c.tc : Thread Cert.InprojB.nD Cert.InprojB.τ).loc Cert.InprojB.main_arg1))
      ∧ r.2.sem = fun _ => 0)

def quiescent_InprojBIdeal [hInprojBIdeal : Cert.InprojBIdeal.Facts] : Prop :=
  ∀ (m : (ℓ : Loc Cert.InprojBIdeal.nD Cert.InprojBIdeal.τ Cert.InprojBIdeal.sig) → Buf (Elt Ideal) ℓ) (g : Dev Cert.InprojBIdeal.nD → PrngReg), Pre_InprojBIdeal m →
    θ_run (Cert.InprojBIdeal.defs (F := Ideal)) (onTc (τ := Cert.InprojBIdeal.τ) (Cert.InprojBIdeal.main (F := Ideal))) ⟨m, fun _ => 0, g⟩ (fun r => (∀ c : Dev Cert.InprojBIdeal.nD,
      r.2.mem ((c.tc : Thread Cert.InprojBIdeal.nD Cert.InprojBIdeal.τ).loc Cert.InprojBIdeal.main_arg0) = m ((c.tc : Thread Cert.InprojBIdeal.nD Cert.InprojBIdeal.τ).loc Cert.InprojBIdeal.main_arg0)
      ∧ r.2.mem ((c.tc : Thread Cert.InprojBIdeal.nD Cert.InprojBIdeal.τ).loc Cert.InprojBIdeal.main_arg1) = m ((c.tc : Thread Cert.InprojBIdeal.nD Cert.InprojBIdeal.τ).loc Cert.InprojBIdeal.main_arg1))
      ∧ r.2.sem = fun _ => 0)

def quiescent_InprojBReferenceIdeal [hInprojBReferenceIdeal : Cert.InprojBReferenceIdeal.Facts] : Prop :=
  ∀ (m : (ℓ : Loc Cert.InprojBReferenceIdeal.nD Cert.InprojBReferenceIdeal.τ Cert.InprojBReferenceIdeal.sig) → Buf (Elt Ideal) ℓ) (g : Dev Cert.InprojBReferenceIdeal.nD → PrngReg), Pre_InprojBReferenceIdeal m →
    θ_run (Cert.InprojBReferenceIdeal.defs (F := Ideal)) (onTc (τ := Cert.InprojBReferenceIdeal.τ) (Cert.InprojBReferenceIdeal.main (F := Ideal))) ⟨m, fun _ => 0, g⟩ (fun r => (∀ c : Dev Cert.InprojBReferenceIdeal.nD,
      r.2.mem ((c.tc : Thread Cert.InprojBReferenceIdeal.nD Cert.InprojBReferenceIdeal.τ).loc Cert.InprojBReferenceIdeal.main_arg0) = m ((c.tc : Thread Cert.InprojBReferenceIdeal.nD Cert.InprojBReferenceIdeal.τ).loc Cert.InprojBReferenceIdeal.main_arg0)
      ∧ r.2.mem ((c.tc : Thread Cert.InprojBReferenceIdeal.nD Cert.InprojBReferenceIdeal.τ).loc Cert.InprojBReferenceIdeal.main_arg1) = m ((c.tc : Thread Cert.InprojBReferenceIdeal.nD Cert.InprojBReferenceIdeal.τ).loc Cert.InprojBReferenceIdeal.main_arg1))
      ∧ r.2.sem = fun _ => 0)

def quiescent_DwKv [hDwKv : Cert.DwKv.Facts] : Prop :=
  ∀ (m : (ℓ : Loc Cert.DwKv.nD Cert.DwKv.τ Cert.DwKv.sig) → Buf (Elt Bits) ℓ) (g : Dev Cert.DwKv.nD → PrngReg), Pre_DwKv m →
    θ_run (Cert.DwKv.defs (F := Bits)) (onTc (τ := Cert.DwKv.τ) (Cert.DwKv.main (F := Bits))) ⟨m, fun _ => 0, g⟩ (fun r => (∀ c : Dev Cert.DwKv.nD,
      r.2.mem ((c.tc : Thread Cert.DwKv.nD Cert.DwKv.τ).loc Cert.DwKv.main_arg0) = m ((c.tc : Thread Cert.DwKv.nD Cert.DwKv.τ).loc Cert.DwKv.main_arg0)
      ∧ r.2.mem ((c.tc : Thread Cert.DwKv.nD Cert.DwKv.τ).loc Cert.DwKv.main_arg1) = m ((c.tc : Thread Cert.DwKv.nD Cert.DwKv.τ).loc Cert.DwKv.main_arg1))
      ∧ r.2.sem = fun _ => 0)

def quiescent_DwKvIdeal [hDwKvIdeal : Cert.DwKvIdeal.Facts] : Prop :=
  ∀ (m : (ℓ : Loc Cert.DwKvIdeal.nD Cert.DwKvIdeal.τ Cert.DwKvIdeal.sig) → Buf (Elt Ideal) ℓ) (g : Dev Cert.DwKvIdeal.nD → PrngReg), Pre_DwKvIdeal m →
    θ_run (Cert.DwKvIdeal.defs (F := Ideal)) (onTc (τ := Cert.DwKvIdeal.τ) (Cert.DwKvIdeal.main (F := Ideal))) ⟨m, fun _ => 0, g⟩ (fun r => (∀ c : Dev Cert.DwKvIdeal.nD,
      r.2.mem ((c.tc : Thread Cert.DwKvIdeal.nD Cert.DwKvIdeal.τ).loc Cert.DwKvIdeal.main_arg0) = m ((c.tc : Thread Cert.DwKvIdeal.nD Cert.DwKvIdeal.τ).loc Cert.DwKvIdeal.main_arg0)
      ∧ r.2.mem ((c.tc : Thread Cert.DwKvIdeal.nD Cert.DwKvIdeal.τ).loc Cert.DwKvIdeal.main_arg1) = m ((c.tc : Thread Cert.DwKvIdeal.nD Cert.DwKvIdeal.τ).loc Cert.DwKvIdeal.main_arg1))
      ∧ r.2.sem = fun _ => 0)

def quiescent_DwKvReferenceIdeal [hDwKvReferenceIdeal : Cert.DwKvReferenceIdeal.Facts] : Prop :=
  ∀ (m : (ℓ : Loc Cert.DwKvReferenceIdeal.nD Cert.DwKvReferenceIdeal.τ Cert.DwKvReferenceIdeal.sig) → Buf (Elt Ideal) ℓ) (g : Dev Cert.DwKvReferenceIdeal.nD → PrngReg), Pre_DwKvReferenceIdeal m →
    θ_run (Cert.DwKvReferenceIdeal.defs (F := Ideal)) (onTc (τ := Cert.DwKvReferenceIdeal.τ) (Cert.DwKvReferenceIdeal.main (F := Ideal))) ⟨m, fun _ => 0, g⟩ (fun r => (∀ c : Dev Cert.DwKvReferenceIdeal.nD,
      r.2.mem ((c.tc : Thread Cert.DwKvReferenceIdeal.nD Cert.DwKvReferenceIdeal.τ).loc Cert.DwKvReferenceIdeal.main_arg0) = m ((c.tc : Thread Cert.DwKvReferenceIdeal.nD Cert.DwKvReferenceIdeal.τ).loc Cert.DwKvReferenceIdeal.main_arg0)
      ∧ r.2.mem ((c.tc : Thread Cert.DwKvReferenceIdeal.nD Cert.DwKvReferenceIdeal.τ).loc Cert.DwKvReferenceIdeal.main_arg1) = m ((c.tc : Thread Cert.DwKvReferenceIdeal.nD Cert.DwKvReferenceIdeal.τ).loc Cert.DwKvReferenceIdeal.main_arg1))
      ∧ r.2.sem = fun _ => 0)

def quiescent_Dmem [hDmem : Cert.Dmem.Facts] : Prop :=
  ∀ (m : (ℓ : Loc Cert.Dmem.nD Cert.Dmem.τ Cert.Dmem.sig) → Buf (Elt Bits) ℓ) (g : Dev Cert.Dmem.nD → PrngReg), Pre_Dmem m →
    θ_run (Cert.Dmem.defs (F := Bits)) (onTc (τ := Cert.Dmem.τ) (Cert.Dmem.main (F := Bits))) ⟨m, fun _ => 0, g⟩ (fun r => (∀ c : Dev Cert.Dmem.nD,
      r.2.mem ((c.tc : Thread Cert.Dmem.nD Cert.Dmem.τ).loc Cert.Dmem.main_arg0) = m ((c.tc : Thread Cert.Dmem.nD Cert.Dmem.τ).loc Cert.Dmem.main_arg0)
      ∧ r.2.mem ((c.tc : Thread Cert.Dmem.nD Cert.Dmem.τ).loc Cert.Dmem.main_arg1) = m ((c.tc : Thread Cert.Dmem.nD Cert.Dmem.τ).loc Cert.Dmem.main_arg1))
      ∧ r.2.sem = fun _ => 0)

def quiescent_DmemIdeal [hDmemIdeal : Cert.DmemIdeal.Facts] : Prop :=
  ∀ (m : (ℓ : Loc Cert.DmemIdeal.nD Cert.DmemIdeal.τ Cert.DmemIdeal.sig) → Buf (Elt Ideal) ℓ) (g : Dev Cert.DmemIdeal.nD → PrngReg), Pre_DmemIdeal m →
    θ_run (Cert.DmemIdeal.defs (F := Ideal)) (onTc (τ := Cert.DmemIdeal.τ) (Cert.DmemIdeal.main (F := Ideal))) ⟨m, fun _ => 0, g⟩ (fun r => (∀ c : Dev Cert.DmemIdeal.nD,
      r.2.mem ((c.tc : Thread Cert.DmemIdeal.nD Cert.DmemIdeal.τ).loc Cert.DmemIdeal.main_arg0) = m ((c.tc : Thread Cert.DmemIdeal.nD Cert.DmemIdeal.τ).loc Cert.DmemIdeal.main_arg0)
      ∧ r.2.mem ((c.tc : Thread Cert.DmemIdeal.nD Cert.DmemIdeal.τ).loc Cert.DmemIdeal.main_arg1) = m ((c.tc : Thread Cert.DmemIdeal.nD Cert.DmemIdeal.τ).loc Cert.DmemIdeal.main_arg1))
      ∧ r.2.sem = fun _ => 0)

def quiescent_DmemReferenceIdeal [hDmemReferenceIdeal : Cert.DmemReferenceIdeal.Facts] : Prop :=
  ∀ (m : (ℓ : Loc Cert.DmemReferenceIdeal.nD Cert.DmemReferenceIdeal.τ Cert.DmemReferenceIdeal.sig) → Buf (Elt Ideal) ℓ) (g : Dev Cert.DmemReferenceIdeal.nD → PrngReg), Pre_DmemReferenceIdeal m →
    θ_run (Cert.DmemReferenceIdeal.defs (F := Ideal)) (onTc (τ := Cert.DmemReferenceIdeal.τ) (Cert.DmemReferenceIdeal.main (F := Ideal))) ⟨m, fun _ => 0, g⟩ (fun r => (∀ c : Dev Cert.DmemReferenceIdeal.nD,
      r.2.mem ((c.tc : Thread Cert.DmemReferenceIdeal.nD Cert.DmemReferenceIdeal.τ).loc Cert.DmemReferenceIdeal.main_arg0) = m ((c.tc : Thread Cert.DmemReferenceIdeal.nD Cert.DmemReferenceIdeal.τ).loc Cert.DmemReferenceIdeal.main_arg0)
      ∧ r.2.mem ((c.tc : Thread Cert.DmemReferenceIdeal.nD Cert.DmemReferenceIdeal.τ).loc Cert.DmemReferenceIdeal.main_arg1) = m ((c.tc : Thread Cert.DmemReferenceIdeal.nD Cert.DmemReferenceIdeal.τ).loc Cert.DmemReferenceIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvReferenceIdeal [hMemKvReferenceIdeal : Cert.MemKvReferenceIdeal.Facts] : Prop :=
  ∀ (m : (ℓ : Loc Cert.MemKvReferenceIdeal.nD Cert.MemKvReferenceIdeal.τ Cert.MemKvReferenceIdeal.sig) → Buf (Elt Ideal) ℓ) (g : Dev Cert.MemKvReferenceIdeal.nD → PrngReg), Pre_MemKvReferenceIdeal m →
    θ_run (Cert.MemKvReferenceIdeal.defs (F := Ideal)) (onTc (τ := Cert.MemKvReferenceIdeal.τ) (Cert.MemKvReferenceIdeal.main (F := Ideal))) ⟨m, fun _ => 0, g⟩ (fun r => (∀ c : Dev Cert.MemKvReferenceIdeal.nD,
      r.2.mem ((c.tc : Thread Cert.MemKvReferenceIdeal.nD Cert.MemKvReferenceIdeal.τ).loc Cert.MemKvReferenceIdeal.main_arg0) = m ((c.tc : Thread Cert.MemKvReferenceIdeal.nD Cert.MemKvReferenceIdeal.τ).loc Cert.MemKvReferenceIdeal.main_arg0)
      ∧ r.2.mem ((c.tc : Thread Cert.MemKvReferenceIdeal.nD Cert.MemKvReferenceIdeal.τ).loc Cert.MemKvReferenceIdeal.main_arg1) = m ((c.tc : Thread Cert.MemKvReferenceIdeal.nD Cert.MemKvReferenceIdeal.τ).loc Cert.MemKvReferenceIdeal.main_arg1))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3)
      ∧ r.2.mem ((c.tc : Thread Cert.OutFwd.nD Cert.OutFwd.τ).loc Cert.OutFwd.main_arg4) = m ((c.tc : Thread Cert.OutFwd.nD Cert.OutFwd.τ).loc Cert.OutFwd.main_arg4)
      ∧ r.2.mem ((c.tc : Thread Cert.OutFwd.nD Cert.OutFwd.τ).loc Cert.OutFwd.main_arg5) = m ((c.tc : Thread Cert.OutFwd.nD Cert.OutFwd.τ).loc Cert.OutFwd.main_arg5)
      ∧ r.2.mem ((c.tc : Thread Cert.OutFwd.nD Cert.OutFwd.τ).loc Cert.OutFwd.main_arg6) = m ((c.tc : Thread Cert.OutFwd.nD Cert.OutFwd.τ).loc Cert.OutFwd.main_arg6))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
      ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
      ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5)
      ∧ r.2.mem ((c.tc : Thread Cert.OutFwdIdeal.nD Cert.OutFwdIdeal.τ).loc Cert.OutFwdIdeal.main_arg6) = m ((c.tc : Thread Cert.OutFwdIdeal.nD Cert.OutFwdIdeal.τ).loc Cert.OutFwdIdeal.main_arg6))
      ∧ r.2.sem = fun _ => 0)

def quiescent_OutFwdIdeal_pre_finite_heads [hOutFwdIdeal : Cert.OutFwdIdeal.Facts] [hPre_finite_heads : Cert.Pre_finite_heads.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal_finite_heads m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
      ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
      ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5)
      ∧ r.2.mem ((c.tc : Thread Cert.OutFwdIdeal.nD Cert.OutFwdIdeal.τ).loc Cert.OutFwdIdeal.main_arg6) = m ((c.tc : Thread Cert.OutFwdIdeal.nD Cert.OutFwdIdeal.τ).loc Cert.OutFwdIdeal.main_arg6))
      ∧ r.2.sem = fun _ => 0)

def quiescent_OutFwdReferenceIdeal [hOutFwdReferenceIdeal : Cert.OutFwdReferenceIdeal.Facts] : Prop :=
  ∀ (m : (ℓ : Loc Cert.OutFwdReferenceIdeal.nD Cert.OutFwdReferenceIdeal.τ Cert.OutFwdReferenceIdeal.sig) → Buf (Elt Ideal) ℓ) (g : Dev Cert.OutFwdReferenceIdeal.nD → PrngReg), Pre_OutFwdReferenceIdeal m →
    θ_run (Cert.OutFwdReferenceIdeal.defs (F := Ideal)) (onTc (τ := Cert.OutFwdReferenceIdeal.τ) (Cert.OutFwdReferenceIdeal.main (F := Ideal))) ⟨m, fun _ => 0, g⟩ (fun r => (∀ c : Dev Cert.OutFwdReferenceIdeal.nD,
      r.2.mem ((c.tc : Thread Cert.OutFwdReferenceIdeal.nD Cert.OutFwdReferenceIdeal.τ).loc Cert.OutFwdReferenceIdeal.main_arg0) = m ((c.tc : Thread Cert.OutFwdReferenceIdeal.nD Cert.OutFwdReferenceIdeal.τ).loc Cert.OutFwdReferenceIdeal.main_arg0)
      ∧ r.2.mem ((c.tc : Thread Cert.OutFwdReferenceIdeal.nD Cert.OutFwdReferenceIdeal.τ).loc Cert.OutFwdReferenceIdeal.main_arg1) = m ((c.tc : Thread Cert.OutFwdReferenceIdeal.nD Cert.OutFwdReferenceIdeal.τ).loc Cert.OutFwdReferenceIdeal.main_arg1)
      ∧ r.2.mem ((c.tc : Thread Cert.OutFwdReferenceIdeal.nD Cert.OutFwdReferenceIdeal.τ).loc Cert.OutFwdReferenceIdeal.main_arg2) = m ((c.tc : Thread Cert.OutFwdReferenceIdeal.nD Cert.OutFwdReferenceIdeal.τ).loc Cert.OutFwdReferenceIdeal.main_arg2)
      ∧ r.2.mem ((c.tc : Thread Cert.OutFwdReferenceIdeal.nD Cert.OutFwdReferenceIdeal.τ).loc Cert.OutFwdReferenceIdeal.main_arg3) = m ((c.tc : Thread Cert.OutFwdReferenceIdeal.nD Cert.OutFwdReferenceIdeal.τ).loc Cert.OutFwdReferenceIdeal.main_arg3)
      ∧ r.2.mem ((c.tc : Thread Cert.OutFwdReferenceIdeal.nD Cert.OutFwdReferenceIdeal.τ).loc Cert.OutFwdReferenceIdeal.main_arg4) = m ((c.tc : Thread Cert.OutFwdReferenceIdeal.nD Cert.OutFwdReferenceIdeal.τ).loc Cert.OutFwdReferenceIdeal.main_arg4)
      ∧ r.2.mem ((c.tc : Thread Cert.OutFwdReferenceIdeal.nD Cert.OutFwdReferenceIdeal.τ).loc Cert.OutFwdReferenceIdeal.main_arg5) = m ((c.tc : Thread Cert.OutFwdReferenceIdeal.nD Cert.OutFwdReferenceIdeal.τ).loc Cert.OutFwdReferenceIdeal.main_arg5)
      ∧ r.2.mem ((c.tc : Thread Cert.OutFwdReferenceIdeal.nD Cert.OutFwdReferenceIdeal.τ).loc Cert.OutFwdReferenceIdeal.main_arg6) = m ((c.tc : Thread Cert.OutFwdReferenceIdeal.nD Cert.OutFwdReferenceIdeal.τ).loc Cert.OutFwdReferenceIdeal.main_arg6))
      ∧ r.2.sem = fun _ => 0)

def quiescent_OutFwdReferenceIdeal_pre_finite_heads [hOutFwdReferenceIdeal : Cert.OutFwdReferenceIdeal.Facts] [hPre_finite_heads : Cert.Pre_finite_heads.Facts] : Prop :=
  ∀ (m : (ℓ : Loc Cert.OutFwdReferenceIdeal.nD Cert.OutFwdReferenceIdeal.τ Cert.OutFwdReferenceIdeal.sig) → Buf (Elt Ideal) ℓ) (g : Dev Cert.OutFwdReferenceIdeal.nD → PrngReg), Pre_OutFwdReferenceIdeal_finite_heads m →
    θ_run (Cert.OutFwdReferenceIdeal.defs (F := Ideal)) (onTc (τ := Cert.OutFwdReferenceIdeal.τ) (Cert.OutFwdReferenceIdeal.main (F := Ideal))) ⟨m, fun _ => 0, g⟩ (fun r => (∀ c : Dev Cert.OutFwdReferenceIdeal.nD,
      r.2.mem ((c.tc : Thread Cert.OutFwdReferenceIdeal.nD Cert.OutFwdReferenceIdeal.τ).loc Cert.OutFwdReferenceIdeal.main_arg0) = m ((c.tc : Thread Cert.OutFwdReferenceIdeal.nD Cert.OutFwdReferenceIdeal.τ).loc Cert.OutFwdReferenceIdeal.main_arg0)
      ∧ r.2.mem ((c.tc : Thread Cert.OutFwdReferenceIdeal.nD Cert.OutFwdReferenceIdeal.τ).loc Cert.OutFwdReferenceIdeal.main_arg1) = m ((c.tc : Thread Cert.OutFwdReferenceIdeal.nD Cert.OutFwdReferenceIdeal.τ).loc Cert.OutFwdReferenceIdeal.main_arg1)
      ∧ r.2.mem ((c.tc : Thread Cert.OutFwdReferenceIdeal.nD Cert.OutFwdReferenceIdeal.τ).loc Cert.OutFwdReferenceIdeal.main_arg2) = m ((c.tc : Thread Cert.OutFwdReferenceIdeal.nD Cert.OutFwdReferenceIdeal.τ).loc Cert.OutFwdReferenceIdeal.main_arg2)
      ∧ r.2.mem ((c.tc : Thread Cert.OutFwdReferenceIdeal.nD Cert.OutFwdReferenceIdeal.τ).loc Cert.OutFwdReferenceIdeal.main_arg3) = m ((c.tc : Thread Cert.OutFwdReferenceIdeal.nD Cert.OutFwdReferenceIdeal.τ).loc Cert.OutFwdReferenceIdeal.main_arg3)
      ∧ r.2.mem ((c.tc : Thread Cert.OutFwdReferenceIdeal.nD Cert.OutFwdReferenceIdeal.τ).loc Cert.OutFwdReferenceIdeal.main_arg4) = m ((c.tc : Thread Cert.OutFwdReferenceIdeal.nD Cert.OutFwdReferenceIdeal.τ).loc Cert.OutFwdReferenceIdeal.main_arg4)
      ∧ r.2.mem ((c.tc : Thread Cert.OutFwdReferenceIdeal.nD Cert.OutFwdReferenceIdeal.τ).loc Cert.OutFwdReferenceIdeal.main_arg5) = m ((c.tc : Thread Cert.OutFwdReferenceIdeal.nD Cert.OutFwdReferenceIdeal.τ).loc Cert.OutFwdReferenceIdeal.main_arg5)
      ∧ r.2.mem ((c.tc : Thread Cert.OutFwdReferenceIdeal.nD Cert.OutFwdReferenceIdeal.τ).loc Cert.OutFwdReferenceIdeal.main_arg6) = m ((c.tc : Thread Cert.OutFwdReferenceIdeal.nD Cert.OutFwdReferenceIdeal.τ).loc Cert.OutFwdReferenceIdeal.main_arg6))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2)
      ∧ r.2.mem ((c.tc : Thread Cert.OutBwd.nD Cert.OutBwd.τ).loc Cert.OutBwd.main_arg3) = m ((c.tc : Thread Cert.OutBwd.nD Cert.OutBwd.τ).loc Cert.OutBwd.main_arg3)
      ∧ r.2.mem ((c.tc : Thread Cert.OutBwd.nD Cert.OutBwd.τ).loc Cert.OutBwd.main_arg4) = m ((c.tc : Thread Cert.OutBwd.nD Cert.OutBwd.τ).loc Cert.OutBwd.main_arg4)
      ∧ r.2.mem ((c.tc : Thread Cert.OutBwd.nD Cert.OutBwd.τ).loc Cert.OutBwd.main_arg5) = m ((c.tc : Thread Cert.OutBwd.nD Cert.OutBwd.τ).loc Cert.OutBwd.main_arg5)
      ∧ r.2.mem ((c.tc : Thread Cert.OutBwd.nD Cert.OutBwd.τ).loc Cert.OutBwd.main_arg6) = m ((c.tc : Thread Cert.OutBwd.nD Cert.OutBwd.τ).loc Cert.OutBwd.main_arg6))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
      ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5)
      ∧ r.2.mem ((c.tc : Thread Cert.OutBwdIdeal.nD Cert.OutBwdIdeal.τ).loc Cert.OutBwdIdeal.main_arg6) = m ((c.tc : Thread Cert.OutBwdIdeal.nD Cert.OutBwdIdeal.τ).loc Cert.OutBwdIdeal.main_arg6))
      ∧ r.2.sem = fun _ => 0)

def quiescent_OutBwdIdeal_pre_finite_out [hOutBwdIdeal : Cert.OutBwdIdeal.Facts] [hPre_finite_out : Cert.Pre_finite_out.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal_finite_out m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
      ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5)
      ∧ r.2.mem ((c.tc : Thread Cert.OutBwdIdeal.nD Cert.OutBwdIdeal.τ).loc Cert.OutBwdIdeal.main_arg6) = m ((c.tc : Thread Cert.OutBwdIdeal.nD Cert.OutBwdIdeal.τ).loc Cert.OutBwdIdeal.main_arg6))
      ∧ r.2.sem = fun _ => 0)

def quiescent_OutBwdReferenceIdeal [hOutBwdReferenceIdeal : Cert.OutBwdReferenceIdeal.Facts] : Prop :=
  ∀ (m : (ℓ : Loc Cert.OutBwdReferenceIdeal.nD Cert.OutBwdReferenceIdeal.τ Cert.OutBwdReferenceIdeal.sig) → Buf (Elt Ideal) ℓ) (g : Dev Cert.OutBwdReferenceIdeal.nD → PrngReg), Pre_OutBwdReferenceIdeal m →
    θ_run (Cert.OutBwdReferenceIdeal.defs (F := Ideal)) (onTc (τ := Cert.OutBwdReferenceIdeal.τ) (Cert.OutBwdReferenceIdeal.main (F := Ideal))) ⟨m, fun _ => 0, g⟩ (fun r => (∀ c : Dev Cert.OutBwdReferenceIdeal.nD,
      r.2.mem ((c.tc : Thread Cert.OutBwdReferenceIdeal.nD Cert.OutBwdReferenceIdeal.τ).loc Cert.OutBwdReferenceIdeal.main_arg0) = m ((c.tc : Thread Cert.OutBwdReferenceIdeal.nD Cert.OutBwdReferenceIdeal.τ).loc Cert.OutBwdReferenceIdeal.main_arg0)
      ∧ r.2.mem ((c.tc : Thread Cert.OutBwdReferenceIdeal.nD Cert.OutBwdReferenceIdeal.τ).loc Cert.OutBwdReferenceIdeal.main_arg1) = m ((c.tc : Thread Cert.OutBwdReferenceIdeal.nD Cert.OutBwdReferenceIdeal.τ).loc Cert.OutBwdReferenceIdeal.main_arg1)
      ∧ r.2.mem ((c.tc : Thread Cert.OutBwdReferenceIdeal.nD Cert.OutBwdReferenceIdeal.τ).loc Cert.OutBwdReferenceIdeal.main_arg2) = m ((c.tc : Thread Cert.OutBwdReferenceIdeal.nD Cert.OutBwdReferenceIdeal.τ).loc Cert.OutBwdReferenceIdeal.main_arg2)
      ∧ r.2.mem ((c.tc : Thread Cert.OutBwdReferenceIdeal.nD Cert.OutBwdReferenceIdeal.τ).loc Cert.OutBwdReferenceIdeal.main_arg3) = m ((c.tc : Thread Cert.OutBwdReferenceIdeal.nD Cert.OutBwdReferenceIdeal.τ).loc Cert.OutBwdReferenceIdeal.main_arg3)
      ∧ r.2.mem ((c.tc : Thread Cert.OutBwdReferenceIdeal.nD Cert.OutBwdReferenceIdeal.τ).loc Cert.OutBwdReferenceIdeal.main_arg4) = m ((c.tc : Thread Cert.OutBwdReferenceIdeal.nD Cert.OutBwdReferenceIdeal.τ).loc Cert.OutBwdReferenceIdeal.main_arg4)
      ∧ r.2.mem ((c.tc : Thread Cert.OutBwdReferenceIdeal.nD Cert.OutBwdReferenceIdeal.τ).loc Cert.OutBwdReferenceIdeal.main_arg5) = m ((c.tc : Thread Cert.OutBwdReferenceIdeal.nD Cert.OutBwdReferenceIdeal.τ).loc Cert.OutBwdReferenceIdeal.main_arg5)
      ∧ r.2.mem ((c.tc : Thread Cert.OutBwdReferenceIdeal.nD Cert.OutBwdReferenceIdeal.τ).loc Cert.OutBwdReferenceIdeal.main_arg6) = m ((c.tc : Thread Cert.OutBwdReferenceIdeal.nD Cert.OutBwdReferenceIdeal.τ).loc Cert.OutBwdReferenceIdeal.main_arg6))
      ∧ r.2.sem = fun _ => 0)

def quiescent_OutBwdReferenceIdeal_pre_finite_out [hOutBwdReferenceIdeal : Cert.OutBwdReferenceIdeal.Facts] [hPre_finite_out : Cert.Pre_finite_out.Facts] : Prop :=
  ∀ (m : (ℓ : Loc Cert.OutBwdReferenceIdeal.nD Cert.OutBwdReferenceIdeal.τ Cert.OutBwdReferenceIdeal.sig) → Buf (Elt Ideal) ℓ) (g : Dev Cert.OutBwdReferenceIdeal.nD → PrngReg), Pre_OutBwdReferenceIdeal_finite_out m →
    θ_run (Cert.OutBwdReferenceIdeal.defs (F := Ideal)) (onTc (τ := Cert.OutBwdReferenceIdeal.τ) (Cert.OutBwdReferenceIdeal.main (F := Ideal))) ⟨m, fun _ => 0, g⟩ (fun r => (∀ c : Dev Cert.OutBwdReferenceIdeal.nD,
      r.2.mem ((c.tc : Thread Cert.OutBwdReferenceIdeal.nD Cert.OutBwdReferenceIdeal.τ).loc Cert.OutBwdReferenceIdeal.main_arg0) = m ((c.tc : Thread Cert.OutBwdReferenceIdeal.nD Cert.OutBwdReferenceIdeal.τ).loc Cert.OutBwdReferenceIdeal.main_arg0)
      ∧ r.2.mem ((c.tc : Thread Cert.OutBwdReferenceIdeal.nD Cert.OutBwdReferenceIdeal.τ).loc Cert.OutBwdReferenceIdeal.main_arg1) = m ((c.tc : Thread Cert.OutBwdReferenceIdeal.nD Cert.OutBwdReferenceIdeal.τ).loc Cert.OutBwdReferenceIdeal.main_arg1)
      ∧ r.2.mem ((c.tc : Thread Cert.OutBwdReferenceIdeal.nD Cert.OutBwdReferenceIdeal.τ).loc Cert.OutBwdReferenceIdeal.main_arg2) = m ((c.tc : Thread Cert.OutBwdReferenceIdeal.nD Cert.OutBwdReferenceIdeal.τ).loc Cert.OutBwdReferenceIdeal.main_arg2)
      ∧ r.2.mem ((c.tc : Thread Cert.OutBwdReferenceIdeal.nD Cert.OutBwdReferenceIdeal.τ).loc Cert.OutBwdReferenceIdeal.main_arg3) = m ((c.tc : Thread Cert.OutBwdReferenceIdeal.nD Cert.OutBwdReferenceIdeal.τ).loc Cert.OutBwdReferenceIdeal.main_arg3)
      ∧ r.2.mem ((c.tc : Thread Cert.OutBwdReferenceIdeal.nD Cert.OutBwdReferenceIdeal.τ).loc Cert.OutBwdReferenceIdeal.main_arg4) = m ((c.tc : Thread Cert.OutBwdReferenceIdeal.nD Cert.OutBwdReferenceIdeal.τ).loc Cert.OutBwdReferenceIdeal.main_arg4)
      ∧ r.2.mem ((c.tc : Thread Cert.OutBwdReferenceIdeal.nD Cert.OutBwdReferenceIdeal.τ).loc Cert.OutBwdReferenceIdeal.main_arg5) = m ((c.tc : Thread Cert.OutBwdReferenceIdeal.nD Cert.OutBwdReferenceIdeal.τ).loc Cert.OutBwdReferenceIdeal.main_arg5)
      ∧ r.2.mem ((c.tc : Thread Cert.OutBwdReferenceIdeal.nD Cert.OutBwdReferenceIdeal.τ).loc Cert.OutBwdReferenceIdeal.main_arg6) = m ((c.tc : Thread Cert.OutBwdReferenceIdeal.nD Cert.OutBwdReferenceIdeal.τ).loc Cert.OutBwdReferenceIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v58_0)) (v1 : (c : Dev Cert.KernelIdeal.nD) → Buf (Elt Ideal) ((c.tc : Thread Cert.KernelIdeal.nD Cert.KernelIdeal.τ).loc Cert.KernelIdeal.main_v58_1)) (v2 : (c : Dev Cert.KernelIdeal.nD) → Buf (Elt Ideal) ((c.tc : Thread Cert.KernelIdeal.nD Cert.KernelIdeal.τ).loc Cert.KernelIdeal.main_v58_2)) (v3 : (c : Dev Cert.KernelIdeal.nD) → Buf (Elt Ideal) ((c.tc : Thread Cert.KernelIdeal.nD Cert.KernelIdeal.τ).loc Cert.KernelIdeal.main_v58_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58_0) = v0 c
          ∧ r.2.mem ((c.tc : Thread Cert.KernelIdeal.nD Cert.KernelIdeal.τ).loc Cert.KernelIdeal.main_v58_1) = v1 c
          ∧ r.2.mem ((c.tc : Thread Cert.KernelIdeal.nD Cert.KernelIdeal.τ).loc Cert.KernelIdeal.main_v58_2) = v2 c
          ∧ r.2.mem ((c.tc : Thread Cert.KernelIdeal.nD Cert.KernelIdeal.τ).loc Cert.KernelIdeal.main_v58_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v99) = v2 c
          ∧ r.2.mem ((c.tc : Thread Cert.ReferenceIdeal.nD Cert.ReferenceIdeal.τ).loc Cert.ReferenceIdeal.main_v100) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_DwInA_DwInAIdeal : Prop :=
  True

def algebraic_DwInAIdeal_DwInAReferenceIdeal [hDwInAIdeal : Cert.DwInAIdeal.Facts] [hDwInAReferenceIdeal : Cert.DwInAReferenceIdeal.Facts] : Prop :=
  ∀ (m : (ℓ : Loc Cert.DwInAIdeal.nD Cert.DwInAIdeal.τ Cert.DwInAIdeal.sig) → Buf (Elt Ideal) ℓ) (g : Dev Cert.DwInAIdeal.nD → PrngReg)
    (m' : (ℓ : Loc Cert.DwInAReferenceIdeal.nD Cert.DwInAReferenceIdeal.τ Cert.DwInAReferenceIdeal.sig) → Buf (Elt Ideal) ℓ) (g' : Dev Cert.DwInAReferenceIdeal.nD → PrngReg), Pre_DwInAIdeal m →
    (∀ c : Dev Cert.DwInAIdeal.nD,
      m' ((c.tc : Thread Cert.DwInAReferenceIdeal.nD Cert.DwInAReferenceIdeal.τ).loc Cert.DwInAReferenceIdeal.main_arg0) = m ((c.tc : Thread Cert.DwInAIdeal.nD Cert.DwInAIdeal.τ).loc Cert.DwInAIdeal.main_arg0)
      ∧ m' ((c.tc : Thread Cert.DwInAReferenceIdeal.nD Cert.DwInAReferenceIdeal.τ).loc Cert.DwInAReferenceIdeal.main_arg1) = m ((c.tc : Thread Cert.DwInAIdeal.nD Cert.DwInAIdeal.τ).loc Cert.DwInAIdeal.main_arg1)) →
    ∃ (v0 : (c : Dev Cert.DwInAIdeal.nD) → Buf (Elt Ideal) ((c.tc : Thread Cert.DwInAIdeal.nD Cert.DwInAIdeal.τ).loc Cert.DwInAIdeal.main_v0)),
      θ_run (Cert.DwInAIdeal.defs (F := Ideal)) (onTc (τ := Cert.DwInAIdeal.τ) (Cert.DwInAIdeal.main (F := Ideal))) ⟨m, fun _ => 0, g⟩ (fun r => ∀ c : Dev Cert.DwInAIdeal.nD,
          r.2.mem ((c.tc : Thread Cert.DwInAIdeal.nD Cert.DwInAIdeal.τ).loc Cert.DwInAIdeal.main_v0) = v0 c
          ∧ r.2.mem ((c.tc : Thread Cert.DwInAIdeal.nD Cert.DwInAIdeal.τ).loc Cert.DwInAIdeal.main_arg0) = m ((c.tc : Thread Cert.DwInAIdeal.nD Cert.DwInAIdeal.τ).loc Cert.DwInAIdeal.main_arg0)
          ∧ r.2.mem ((c.tc : Thread Cert.DwInAIdeal.nD Cert.DwInAIdeal.τ).loc Cert.DwInAIdeal.main_arg1) = m ((c.tc : Thread Cert.DwInAIdeal.nD Cert.DwInAIdeal.τ).loc Cert.DwInAIdeal.main_arg1))
      ∧ θ_run (Cert.DwInAReferenceIdeal.defs (F := Ideal)) (onTc (τ := Cert.DwInAReferenceIdeal.τ) (Cert.DwInAReferenceIdeal.main (F := Ideal))) ⟨m', fun _ => 0, g'⟩ (fun r => ∀ c : Dev Cert.DwInAReferenceIdeal.nD,
          r.2.mem ((c.tc : Thread Cert.DwInAReferenceIdeal.nD Cert.DwInAReferenceIdeal.τ).loc Cert.DwInAReferenceIdeal.main_v5) = v0 c
          ∧ r.2.mem ((c.tc : Thread Cert.DwInAReferenceIdeal.nD Cert.DwInAReferenceIdeal.τ).loc Cert.DwInAReferenceIdeal.main_arg0) = m' ((c.tc : Thread Cert.DwInAReferenceIdeal.nD Cert.DwInAReferenceIdeal.τ).loc Cert.DwInAReferenceIdeal.main_arg0)
          ∧ r.2.mem ((c.tc : Thread Cert.DwInAReferenceIdeal.nD Cert.DwInAReferenceIdeal.τ).loc Cert.DwInAReferenceIdeal.main_arg1) = m' ((c.tc : Thread Cert.DwInAReferenceIdeal.nD Cert.DwInAReferenceIdeal.τ).loc Cert.DwInAReferenceIdeal.main_arg1))

def preserves_DwInB_DwInBIdeal : Prop :=
  True

def algebraic_DwInBIdeal_DwInBReferenceIdeal [hDwInBIdeal : Cert.DwInBIdeal.Facts] [hDwInBReferenceIdeal : Cert.DwInBReferenceIdeal.Facts] : Prop :=
  ∀ (m : (ℓ : Loc Cert.DwInBIdeal.nD Cert.DwInBIdeal.τ Cert.DwInBIdeal.sig) → Buf (Elt Ideal) ℓ) (g : Dev Cert.DwInBIdeal.nD → PrngReg)
    (m' : (ℓ : Loc Cert.DwInBReferenceIdeal.nD Cert.DwInBReferenceIdeal.τ Cert.DwInBReferenceIdeal.sig) → Buf (Elt Ideal) ℓ) (g' : Dev Cert.DwInBReferenceIdeal.nD → PrngReg), Pre_DwInBIdeal m →
    (∀ c : Dev Cert.DwInBIdeal.nD,
      m' ((c.tc : Thread Cert.DwInBReferenceIdeal.nD Cert.DwInBReferenceIdeal.τ).loc Cert.DwInBReferenceIdeal.main_arg0) = m ((c.tc : Thread Cert.DwInBIdeal.nD Cert.DwInBIdeal.τ).loc Cert.DwInBIdeal.main_arg0)
      ∧ m' ((c.tc : Thread Cert.DwInBReferenceIdeal.nD Cert.DwInBReferenceIdeal.τ).loc Cert.DwInBReferenceIdeal.main_arg1) = m ((c.tc : Thread Cert.DwInBIdeal.nD Cert.DwInBIdeal.τ).loc Cert.DwInBIdeal.main_arg1)) →
    ∃ (v0 : (c : Dev Cert.DwInBIdeal.nD) → Buf (Elt Ideal) ((c.tc : Thread Cert.DwInBIdeal.nD Cert.DwInBIdeal.τ).loc Cert.DwInBIdeal.main_v0)),
      θ_run (Cert.DwInBIdeal.defs (F := Ideal)) (onTc (τ := Cert.DwInBIdeal.τ) (Cert.DwInBIdeal.main (F := Ideal))) ⟨m, fun _ => 0, g⟩ (fun r => ∀ c : Dev Cert.DwInBIdeal.nD,
          r.2.mem ((c.tc : Thread Cert.DwInBIdeal.nD Cert.DwInBIdeal.τ).loc Cert.DwInBIdeal.main_v0) = v0 c
          ∧ r.2.mem ((c.tc : Thread Cert.DwInBIdeal.nD Cert.DwInBIdeal.τ).loc Cert.DwInBIdeal.main_arg0) = m ((c.tc : Thread Cert.DwInBIdeal.nD Cert.DwInBIdeal.τ).loc Cert.DwInBIdeal.main_arg0)
          ∧ r.2.mem ((c.tc : Thread Cert.DwInBIdeal.nD Cert.DwInBIdeal.τ).loc Cert.DwInBIdeal.main_arg1) = m ((c.tc : Thread Cert.DwInBIdeal.nD Cert.DwInBIdeal.τ).loc Cert.DwInBIdeal.main_arg1))
      ∧ θ_run (Cert.DwInBReferenceIdeal.defs (F := Ideal)) (onTc (τ := Cert.DwInBReferenceIdeal.τ) (Cert.DwInBReferenceIdeal.main (F := Ideal))) ⟨m', fun _ => 0, g'⟩ (fun r => ∀ c : Dev Cert.DwInBReferenceIdeal.nD,
          r.2.mem ((c.tc : Thread Cert.DwInBReferenceIdeal.nD Cert.DwInBReferenceIdeal.τ).loc Cert.DwInBReferenceIdeal.main_v5) = v0 c
          ∧ r.2.mem ((c.tc : Thread Cert.DwInBReferenceIdeal.nD Cert.DwInBReferenceIdeal.τ).loc Cert.DwInBReferenceIdeal.main_arg0) = m' ((c.tc : Thread Cert.DwInBReferenceIdeal.nD Cert.DwInBReferenceIdeal.τ).loc Cert.DwInBReferenceIdeal.main_arg0)
          ∧ r.2.mem ((c.tc : Thread Cert.DwInBReferenceIdeal.nD Cert.DwInBReferenceIdeal.τ).loc Cert.DwInBReferenceIdeal.main_arg1) = m' ((c.tc : Thread Cert.DwInBReferenceIdeal.nD Cert.DwInBReferenceIdeal.τ).loc Cert.DwInBReferenceIdeal.main_arg1))

def preserves_DhA_DhAIdeal : Prop :=
  True

def algebraic_DhAIdeal_DhAReferenceIdeal [hDhAIdeal : Cert.DhAIdeal.Facts] [hDhAReferenceIdeal : Cert.DhAReferenceIdeal.Facts] : Prop :=
  ∀ (m : (ℓ : Loc Cert.DhAIdeal.nD Cert.DhAIdeal.τ Cert.DhAIdeal.sig) → Buf (Elt Ideal) ℓ) (g : Dev Cert.DhAIdeal.nD → PrngReg)
    (m' : (ℓ : Loc Cert.DhAReferenceIdeal.nD Cert.DhAReferenceIdeal.τ Cert.DhAReferenceIdeal.sig) → Buf (Elt Ideal) ℓ) (g' : Dev Cert.DhAReferenceIdeal.nD → PrngReg), Pre_DhAIdeal m →
    (∀ c : Dev Cert.DhAIdeal.nD,
      m' ((c.tc : Thread Cert.DhAReferenceIdeal.nD Cert.DhAReferenceIdeal.τ).loc Cert.DhAReferenceIdeal.main_arg0) = m ((c.tc : Thread Cert.DhAIdeal.nD Cert.DhAIdeal.τ).loc Cert.DhAIdeal.main_arg0)
      ∧ m' ((c.tc : Thread Cert.DhAReferenceIdeal.nD Cert.DhAReferenceIdeal.τ).loc Cert.DhAReferenceIdeal.main_arg1) = m ((c.tc : Thread Cert.DhAIdeal.nD Cert.DhAIdeal.τ).loc Cert.DhAIdeal.main_arg1)) →
    ∃ (v0 : (c : Dev Cert.DhAIdeal.nD) → Buf (Elt Ideal) ((c.tc : Thread Cert.DhAIdeal.nD Cert.DhAIdeal.τ).loc Cert.DhAIdeal.main_v0)),
      θ_run (Cert.DhAIdeal.defs (F := Ideal)) (onTc (τ := Cert.DhAIdeal.τ) (Cert.DhAIdeal.main (F := Ideal))) ⟨m, fun _ => 0, g⟩ (fun r => ∀ c : Dev Cert.DhAIdeal.nD,
          r.2.mem ((c.tc : Thread Cert.DhAIdeal.nD Cert.DhAIdeal.τ).loc Cert.DhAIdeal.main_v0) = v0 c
          ∧ r.2.mem ((c.tc : Thread Cert.DhAIdeal.nD Cert.DhAIdeal.τ).loc Cert.DhAIdeal.main_arg0) = m ((c.tc : Thread Cert.DhAIdeal.nD Cert.DhAIdeal.τ).loc Cert.DhAIdeal.main_arg0)
          ∧ r.2.mem ((c.tc : Thread Cert.DhAIdeal.nD Cert.DhAIdeal.τ).loc Cert.DhAIdeal.main_arg1) = m ((c.tc : Thread Cert.DhAIdeal.nD Cert.DhAIdeal.τ).loc Cert.DhAIdeal.main_arg1))
      ∧ θ_run (Cert.DhAReferenceIdeal.defs (F := Ideal)) (onTc (τ := Cert.DhAReferenceIdeal.τ) (Cert.DhAReferenceIdeal.main (F := Ideal))) ⟨m', fun _ => 0, g'⟩ (fun r => ∀ c : Dev Cert.DhAReferenceIdeal.nD,
          r.2.mem ((c.tc : Thread Cert.DhAReferenceIdeal.nD Cert.DhAReferenceIdeal.τ).loc Cert.DhAReferenceIdeal.main_v4) = v0 c
          ∧ r.2.mem ((c.tc : Thread Cert.DhAReferenceIdeal.nD Cert.DhAReferenceIdeal.τ).loc Cert.DhAReferenceIdeal.main_arg0) = m' ((c.tc : Thread Cert.DhAReferenceIdeal.nD Cert.DhAReferenceIdeal.τ).loc Cert.DhAReferenceIdeal.main_arg0)
          ∧ r.2.mem ((c.tc : Thread Cert.DhAReferenceIdeal.nD Cert.DhAReferenceIdeal.τ).loc Cert.DhAReferenceIdeal.main_arg1) = m' ((c.tc : Thread Cert.DhAReferenceIdeal.nD Cert.DhAReferenceIdeal.τ).loc Cert.DhAReferenceIdeal.main_arg1))

def preserves_DhB_DhBIdeal : Prop :=
  True

def algebraic_DhBIdeal_DhBReferenceIdeal [hDhBIdeal : Cert.DhBIdeal.Facts] [hDhBReferenceIdeal : Cert.DhBReferenceIdeal.Facts] : Prop :=
  ∀ (m : (ℓ : Loc Cert.DhBIdeal.nD Cert.DhBIdeal.τ Cert.DhBIdeal.sig) → Buf (Elt Ideal) ℓ) (g : Dev Cert.DhBIdeal.nD → PrngReg)
    (m' : (ℓ : Loc Cert.DhBReferenceIdeal.nD Cert.DhBReferenceIdeal.τ Cert.DhBReferenceIdeal.sig) → Buf (Elt Ideal) ℓ) (g' : Dev Cert.DhBReferenceIdeal.nD → PrngReg), Pre_DhBIdeal m →
    (∀ c : Dev Cert.DhBIdeal.nD,
      m' ((c.tc : Thread Cert.DhBReferenceIdeal.nD Cert.DhBReferenceIdeal.τ).loc Cert.DhBReferenceIdeal.main_arg0) = m ((c.tc : Thread Cert.DhBIdeal.nD Cert.DhBIdeal.τ).loc Cert.DhBIdeal.main_arg0)
      ∧ m' ((c.tc : Thread Cert.DhBReferenceIdeal.nD Cert.DhBReferenceIdeal.τ).loc Cert.DhBReferenceIdeal.main_arg1) = m ((c.tc : Thread Cert.DhBIdeal.nD Cert.DhBIdeal.τ).loc Cert.DhBIdeal.main_arg1)
      ∧ m' ((c.tc : Thread Cert.DhBReferenceIdeal.nD Cert.DhBReferenceIdeal.τ).loc Cert.DhBReferenceIdeal.main_arg2) = m ((c.tc : Thread Cert.DhBIdeal.nD Cert.DhBIdeal.τ).loc Cert.DhBIdeal.main_arg2)) →
    ∃ (v0 : (c : Dev Cert.DhBIdeal.nD) → Buf (Elt Ideal) ((c.tc : Thread Cert.DhBIdeal.nD Cert.DhBIdeal.τ).loc Cert.DhBIdeal.main_v0)),
      θ_run (Cert.DhBIdeal.defs (F := Ideal)) (onTc (τ := Cert.DhBIdeal.τ) (Cert.DhBIdeal.main (F := Ideal))) ⟨m, fun _ => 0, g⟩ (fun r => ∀ c : Dev Cert.DhBIdeal.nD,
          r.2.mem ((c.tc : Thread Cert.DhBIdeal.nD Cert.DhBIdeal.τ).loc Cert.DhBIdeal.main_v0) = v0 c
          ∧ r.2.mem ((c.tc : Thread Cert.DhBIdeal.nD Cert.DhBIdeal.τ).loc Cert.DhBIdeal.main_arg0) = m ((c.tc : Thread Cert.DhBIdeal.nD Cert.DhBIdeal.τ).loc Cert.DhBIdeal.main_arg0)
          ∧ r.2.mem ((c.tc : Thread Cert.DhBIdeal.nD Cert.DhBIdeal.τ).loc Cert.DhBIdeal.main_arg1) = m ((c.tc : Thread Cert.DhBIdeal.nD Cert.DhBIdeal.τ).loc Cert.DhBIdeal.main_arg1)
          ∧ r.2.mem ((c.tc : Thread Cert.DhBIdeal.nD Cert.DhBIdeal.τ).loc Cert.DhBIdeal.main_arg2) = m ((c.tc : Thread Cert.DhBIdeal.nD Cert.DhBIdeal.τ).loc Cert.DhBIdeal.main_arg2))
      ∧ θ_run (Cert.DhBReferenceIdeal.defs (F := Ideal)) (onTc (τ := Cert.DhBReferenceIdeal.τ) (Cert.DhBReferenceIdeal.main (F := Ideal))) ⟨m', fun _ => 0, g'⟩ (fun r => ∀ c : Dev Cert.DhBReferenceIdeal.nD,
          r.2.mem ((c.tc : Thread Cert.DhBReferenceIdeal.nD Cert.DhBReferenceIdeal.τ).loc Cert.DhBReferenceIdeal.main_v5) = v0 c
          ∧ r.2.mem ((c.tc : Thread Cert.DhBReferenceIdeal.nD Cert.DhBReferenceIdeal.τ).loc Cert.DhBReferenceIdeal.main_arg0) = m' ((c.tc : Thread Cert.DhBReferenceIdeal.nD Cert.DhBReferenceIdeal.τ).loc Cert.DhBReferenceIdeal.main_arg0)
          ∧ r.2.mem ((c.tc : Thread Cert.DhBReferenceIdeal.nD Cert.DhBReferenceIdeal.τ).loc Cert.DhBReferenceIdeal.main_arg1) = m' ((c.tc : Thread Cert.DhBReferenceIdeal.nD Cert.DhBReferenceIdeal.τ).loc Cert.DhBReferenceIdeal.main_arg1)
          ∧ r.2.mem ((c.tc : Thread Cert.DhBReferenceIdeal.nD Cert.DhBReferenceIdeal.τ).loc Cert.DhBReferenceIdeal.main_arg2) = m' ((c.tc : Thread Cert.DhBReferenceIdeal.nD Cert.DhBReferenceIdeal.τ).loc Cert.DhBReferenceIdeal.main_arg2))

def preserves_DwOut_DwOutIdeal : Prop :=
  True

def algebraic_DwOutIdeal_DwOutReferenceIdeal [hDwOutIdeal : Cert.DwOutIdeal.Facts] [hDwOutReferenceIdeal : Cert.DwOutReferenceIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutReferenceIdeal.nD Cert.DwOutReferenceIdeal.τ Cert.DwOutReferenceIdeal.sig) → Buf (Elt Ideal) ℓ) (g' : Dev Cert.DwOutReferenceIdeal.nD → PrngReg), Pre_DwOutIdeal m →
    (∀ c : Dev Cert.DwOutIdeal.nD,
      m' ((c.tc : Thread Cert.DwOutReferenceIdeal.nD Cert.DwOutReferenceIdeal.τ).loc Cert.DwOutReferenceIdeal.main_arg0) = m ((c.tc : Thread Cert.DwOutIdeal.nD Cert.DwOutIdeal.τ).loc Cert.DwOutIdeal.main_arg0)
      ∧ m' ((c.tc : Thread Cert.DwOutReferenceIdeal.nD Cert.DwOutReferenceIdeal.τ).loc Cert.DwOutReferenceIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutReferenceIdeal.defs (F := Ideal)) (onTc (τ := Cert.DwOutReferenceIdeal.τ) (Cert.DwOutReferenceIdeal.main (F := Ideal))) ⟨m', fun _ => 0, g'⟩ (fun r => ∀ c : Dev Cert.DwOutReferenceIdeal.nD,
          r.2.mem ((c.tc : Thread Cert.DwOutReferenceIdeal.nD Cert.DwOutReferenceIdeal.τ).loc Cert.DwOutReferenceIdeal.main_v5) = v0 c
          ∧ r.2.mem ((c.tc : Thread Cert.DwOutReferenceIdeal.nD Cert.DwOutReferenceIdeal.τ).loc Cert.DwOutReferenceIdeal.main_arg0) = m' ((c.tc : Thread Cert.DwOutReferenceIdeal.nD Cert.DwOutReferenceIdeal.τ).loc Cert.DwOutReferenceIdeal.main_arg0)
          ∧ r.2.mem ((c.tc : Thread Cert.DwOutReferenceIdeal.nD Cert.DwOutReferenceIdeal.τ).loc Cert.DwOutReferenceIdeal.main_arg1) = m' ((c.tc : Thread Cert.DwOutReferenceIdeal.nD Cert.DwOutReferenceIdeal.τ).loc Cert.DwOutReferenceIdeal.main_arg1))

def preserves_InprojA_InprojAIdeal : Prop :=
  True

def algebraic_InprojAIdeal_InprojAReferenceIdeal [hInprojAIdeal : Cert.InprojAIdeal.Facts] [hInprojAReferenceIdeal : Cert.InprojAReferenceIdeal.Facts] : Prop :=
  ∀ (m : (ℓ : Loc Cert.InprojAIdeal.nD Cert.InprojAIdeal.τ Cert.InprojAIdeal.sig) → Buf (Elt Ideal) ℓ) (g : Dev Cert.InprojAIdeal.nD → PrngReg)
    (m' : (ℓ : Loc Cert.InprojAReferenceIdeal.nD Cert.InprojAReferenceIdeal.τ Cert.InprojAReferenceIdeal.sig) → Buf (Elt Ideal) ℓ) (g' : Dev Cert.InprojAReferenceIdeal.nD → PrngReg), Pre_InprojAIdeal m →
    (∀ c : Dev Cert.InprojAIdeal.nD,
      m' ((c.tc : Thread Cert.InprojAReferenceIdeal.nD Cert.InprojAReferenceIdeal.τ).loc Cert.InprojAReferenceIdeal.main_arg0) = m ((c.tc : Thread Cert.InprojAIdeal.nD Cert.InprojAIdeal.τ).loc Cert.InprojAIdeal.main_arg0)
      ∧ m' ((c.tc : Thread Cert.InprojAReferenceIdeal.nD Cert.InprojAReferenceIdeal.τ).loc Cert.InprojAReferenceIdeal.main_arg1) = m ((c.tc : Thread Cert.InprojAIdeal.nD Cert.InprojAIdeal.τ).loc Cert.InprojAIdeal.main_arg1)) →
    ∃ (v0 : (c : Dev Cert.InprojAIdeal.nD) → Buf (Elt Ideal) ((c.tc : Thread Cert.InprojAIdeal.nD Cert.InprojAIdeal.τ).loc Cert.InprojAIdeal.main_v0)),
      θ_run (Cert.InprojAIdeal.defs (F := Ideal)) (onTc (τ := Cert.InprojAIdeal.τ) (Cert.InprojAIdeal.main (F := Ideal))) ⟨m, fun _ => 0, g⟩ (fun r => ∀ c : Dev Cert.InprojAIdeal.nD,
          r.2.mem ((c.tc : Thread Cert.InprojAIdeal.nD Cert.InprojAIdeal.τ).loc Cert.InprojAIdeal.main_v0) = v0 c
          ∧ r.2.mem ((c.tc : Thread Cert.InprojAIdeal.nD Cert.InprojAIdeal.τ).loc Cert.InprojAIdeal.main_arg0) = m ((c.tc : Thread Cert.InprojAIdeal.nD Cert.InprojAIdeal.τ).loc Cert.InprojAIdeal.main_arg0)
          ∧ r.2.mem ((c.tc : Thread Cert.InprojAIdeal.nD Cert.InprojAIdeal.τ).loc Cert.InprojAIdeal.main_arg1) = m ((c.tc : Thread Cert.InprojAIdeal.nD Cert.InprojAIdeal.τ).loc Cert.InprojAIdeal.main_arg1))
      ∧ θ_run (Cert.InprojAReferenceIdeal.defs (F := Ideal)) (onTc (τ := Cert.InprojAReferenceIdeal.τ) (Cert.InprojAReferenceIdeal.main (F := Ideal))) ⟨m', fun _ => 0, g'⟩ (fun r => ∀ c : Dev Cert.InprojAReferenceIdeal.nD,
          r.2.mem ((c.tc : Thread Cert.InprojAReferenceIdeal.nD Cert.InprojAReferenceIdeal.τ).loc Cert.InprojAReferenceIdeal.main_v3) = v0 c
          ∧ r.2.mem ((c.tc : Thread Cert.InprojAReferenceIdeal.nD Cert.InprojAReferenceIdeal.τ).loc Cert.InprojAReferenceIdeal.main_arg0) = m' ((c.tc : Thread Cert.InprojAReferenceIdeal.nD Cert.InprojAReferenceIdeal.τ).loc Cert.InprojAReferenceIdeal.main_arg0)
          ∧ r.2.mem ((c.tc : Thread Cert.InprojAReferenceIdeal.nD Cert.InprojAReferenceIdeal.τ).loc Cert.InprojAReferenceIdeal.main_arg1) = m' ((c.tc : Thread Cert.InprojAReferenceIdeal.nD Cert.InprojAReferenceIdeal.τ).loc Cert.InprojAReferenceIdeal.main_arg1))

def preserves_InprojB_InprojBIdeal : Prop :=
  True

def algebraic_InprojBIdeal_InprojBReferenceIdeal [hInprojBIdeal : Cert.InprojBIdeal.Facts] [hInprojBReferenceIdeal : Cert.InprojBReferenceIdeal.Facts] : Prop :=
  ∀ (m : (ℓ : Loc Cert.InprojBIdeal.nD Cert.InprojBIdeal.τ Cert.InprojBIdeal.sig) → Buf (Elt Ideal) ℓ) (g : Dev Cert.InprojBIdeal.nD → PrngReg)
    (m' : (ℓ : Loc Cert.InprojBReferenceIdeal.nD Cert.InprojBReferenceIdeal.τ Cert.InprojBReferenceIdeal.sig) → Buf (Elt Ideal) ℓ) (g' : Dev Cert.InprojBReferenceIdeal.nD → PrngReg), Pre_InprojBIdeal m →
    (∀ c : Dev Cert.InprojBIdeal.nD,
      m' ((c.tc : Thread Cert.InprojBReferenceIdeal.nD Cert.InprojBReferenceIdeal.τ).loc Cert.InprojBReferenceIdeal.main_arg0) = m ((c.tc : Thread Cert.InprojBIdeal.nD Cert.InprojBIdeal.τ).loc Cert.InprojBIdeal.main_arg0)
      ∧ m' ((c.tc : Thread Cert.InprojBReferenceIdeal.nD Cert.InprojBReferenceIdeal.τ).loc Cert.InprojBReferenceIdeal.main_arg1) = m ((c.tc : Thread Cert.InprojBIdeal.nD Cert.InprojBIdeal.τ).loc Cert.InprojBIdeal.main_arg1)) →
    ∃ (v0 : (c : Dev Cert.InprojBIdeal.nD) → Buf (Elt Ideal) ((c.tc : Thread Cert.InprojBIdeal.nD Cert.InprojBIdeal.τ).loc Cert.InprojBIdeal.main_v0)),
      θ_run (Cert.InprojBIdeal.defs (F := Ideal)) (onTc (τ := Cert.InprojBIdeal.τ) (Cert.InprojBIdeal.main (F := Ideal))) ⟨m, fun _ => 0, g⟩ (fun r => ∀ c : Dev Cert.InprojBIdeal.nD,
          r.2.mem ((c.tc : Thread Cert.InprojBIdeal.nD Cert.InprojBIdeal.τ).loc Cert.InprojBIdeal.main_v0) = v0 c
          ∧ r.2.mem ((c.tc : Thread Cert.InprojBIdeal.nD Cert.InprojBIdeal.τ).loc Cert.InprojBIdeal.main_arg0) = m ((c.tc : Thread Cert.InprojBIdeal.nD Cert.InprojBIdeal.τ).loc Cert.InprojBIdeal.main_arg0)
          ∧ r.2.mem ((c.tc : Thread Cert.InprojBIdeal.nD Cert.InprojBIdeal.τ).loc Cert.InprojBIdeal.main_arg1) = m ((c.tc : Thread Cert.InprojBIdeal.nD Cert.InprojBIdeal.τ).loc Cert.InprojBIdeal.main_arg1))
      ∧ θ_run (Cert.InprojBReferenceIdeal.defs (F := Ideal)) (onTc (τ := Cert.InprojBReferenceIdeal.τ) (Cert.InprojBReferenceIdeal.main (F := Ideal))) ⟨m', fun _ => 0, g'⟩ (fun r => ∀ c : Dev Cert.InprojBReferenceIdeal.nD,
          r.2.mem ((c.tc : Thread Cert.InprojBReferenceIdeal.nD Cert.InprojBReferenceIdeal.τ).loc Cert.InprojBReferenceIdeal.main_v2) = v0 c
          ∧ r.2.mem ((c.tc : Thread Cert.InprojBReferenceIdeal.nD Cert.InprojBReferenceIdeal.τ).loc Cert.InprojBReferenceIdeal.main_arg0) = m' ((c.tc : Thread Cert.InprojBReferenceIdeal.nD Cert.InprojBReferenceIdeal.τ).loc Cert.InprojBReferenceIdeal.main_arg0)
          ∧ r.2.mem ((c.tc : Thread Cert.InprojBReferenceIdeal.nD Cert.InprojBReferenceIdeal.τ).loc Cert.InprojBReferenceIdeal.main_arg1) = m' ((c.tc : Thread Cert.InprojBReferenceIdeal.nD Cert.InprojBReferenceIdeal.τ).loc Cert.InprojBReferenceIdeal.main_arg1))

def preserves_DwKv_DwKvIdeal : Prop :=
  True

def algebraic_DwKvIdeal_DwKvReferenceIdeal [hDwKvIdeal : Cert.DwKvIdeal.Facts] [hDwKvReferenceIdeal : Cert.DwKvReferenceIdeal.Facts] : Prop :=
  ∀ (m : (ℓ : Loc Cert.DwKvIdeal.nD Cert.DwKvIdeal.τ Cert.DwKvIdeal.sig) → Buf (Elt Ideal) ℓ) (g : Dev Cert.DwKvIdeal.nD → PrngReg)
    (m' : (ℓ : Loc Cert.DwKvReferenceIdeal.nD Cert.DwKvReferenceIdeal.τ Cert.DwKvReferenceIdeal.sig) → Buf (Elt Ideal) ℓ) (g' : Dev Cert.DwKvReferenceIdeal.nD → PrngReg), Pre_DwKvIdeal m →
    (∀ c : Dev Cert.DwKvIdeal.nD,
      m' ((c.tc : Thread Cert.DwKvReferenceIdeal.nD Cert.DwKvReferenceIdeal.τ).loc Cert.DwKvReferenceIdeal.main_arg0) = m ((c.tc : Thread Cert.DwKvIdeal.nD Cert.DwKvIdeal.τ).loc Cert.DwKvIdeal.main_arg0)
      ∧ m' ((c.tc : Thread Cert.DwKvReferenceIdeal.nD Cert.DwKvReferenceIdeal.τ).loc Cert.DwKvReferenceIdeal.main_arg1) = m ((c.tc : Thread Cert.DwKvIdeal.nD Cert.DwKvIdeal.τ).loc Cert.DwKvIdeal.main_arg1)) →
    ∃ (v0 : (c : Dev Cert.DwKvIdeal.nD) → Buf (Elt Ideal) ((c.tc : Thread Cert.DwKvIdeal.nD Cert.DwKvIdeal.τ).loc Cert.DwKvIdeal.main_v0)),
      θ_run (Cert.DwKvIdeal.defs (F := Ideal)) (onTc (τ := Cert.DwKvIdeal.τ) (Cert.DwKvIdeal.main (F := Ideal))) ⟨m, fun _ => 0, g⟩ (fun r => ∀ c : Dev Cert.DwKvIdeal.nD,
          r.2.mem ((c.tc : Thread Cert.DwKvIdeal.nD Cert.DwKvIdeal.τ).loc Cert.DwKvIdeal.main_v0) = v0 c
          ∧ r.2.mem ((c.tc : Thread Cert.DwKvIdeal.nD Cert.DwKvIdeal.τ).loc Cert.DwKvIdeal.main_arg0) = m ((c.tc : Thread Cert.DwKvIdeal.nD Cert.DwKvIdeal.τ).loc Cert.DwKvIdeal.main_arg0)
          ∧ r.2.mem ((c.tc : Thread Cert.DwKvIdeal.nD Cert.DwKvIdeal.τ).loc Cert.DwKvIdeal.main_arg1) = m ((c.tc : Thread Cert.DwKvIdeal.nD Cert.DwKvIdeal.τ).loc Cert.DwKvIdeal.main_arg1))
      ∧ θ_run (Cert.DwKvReferenceIdeal.defs (F := Ideal)) (onTc (τ := Cert.DwKvReferenceIdeal.τ) (Cert.DwKvReferenceIdeal.main (F := Ideal))) ⟨m', fun _ => 0, g'⟩ (fun r => ∀ c : Dev Cert.DwKvReferenceIdeal.nD,
          r.2.mem ((c.tc : Thread Cert.DwKvReferenceIdeal.nD Cert.DwKvReferenceIdeal.τ).loc Cert.DwKvReferenceIdeal.main_v5) = v0 c
          ∧ r.2.mem ((c.tc : Thread Cert.DwKvReferenceIdeal.nD Cert.DwKvReferenceIdeal.τ).loc Cert.DwKvReferenceIdeal.main_arg0) = m' ((c.tc : Thread Cert.DwKvReferenceIdeal.nD Cert.DwKvReferenceIdeal.τ).loc Cert.DwKvReferenceIdeal.main_arg0)
          ∧ r.2.mem ((c.tc : Thread Cert.DwKvReferenceIdeal.nD Cert.DwKvReferenceIdeal.τ).loc Cert.DwKvReferenceIdeal.main_arg1) = m' ((c.tc : Thread Cert.DwKvReferenceIdeal.nD Cert.DwKvReferenceIdeal.τ).loc Cert.DwKvReferenceIdeal.main_arg1))

def preserves_Dmem_DmemIdeal : Prop :=
  True

def algebraic_DmemIdeal_DmemReferenceIdeal [hDmemIdeal : Cert.DmemIdeal.Facts] [hDmemReferenceIdeal : Cert.DmemReferenceIdeal.Facts] : Prop :=
  ∀ (m : (ℓ : Loc Cert.DmemIdeal.nD Cert.DmemIdeal.τ Cert.DmemIdeal.sig) → Buf (Elt Ideal) ℓ) (g : Dev Cert.DmemIdeal.nD → PrngReg)
    (m' : (ℓ : Loc Cert.DmemReferenceIdeal.nD Cert.DmemReferenceIdeal.τ Cert.DmemReferenceIdeal.sig) → Buf (Elt Ideal) ℓ) (g' : Dev Cert.DmemReferenceIdeal.nD → PrngReg), Pre_DmemIdeal m →
    (∀ c : Dev Cert.DmemIdeal.nD,
      m' ((c.tc : Thread Cert.DmemReferenceIdeal.nD Cert.DmemReferenceIdeal.τ).loc Cert.DmemReferenceIdeal.main_arg0) = m ((c.tc : Thread Cert.DmemIdeal.nD Cert.DmemIdeal.τ).loc Cert.DmemIdeal.main_arg0)
      ∧ m' ((c.tc : Thread Cert.DmemReferenceIdeal.nD Cert.DmemReferenceIdeal.τ).loc Cert.DmemReferenceIdeal.main_arg1) = m ((c.tc : Thread Cert.DmemIdeal.nD Cert.DmemIdeal.τ).loc Cert.DmemIdeal.main_arg1)) →
    ∃ (v0 : (c : Dev Cert.DmemIdeal.nD) → Buf (Elt Ideal) ((c.tc : Thread Cert.DmemIdeal.nD Cert.DmemIdeal.τ).loc Cert.DmemIdeal.main_v0)),
      θ_run (Cert.DmemIdeal.defs (F := Ideal)) (onTc (τ := Cert.DmemIdeal.τ) (Cert.DmemIdeal.main (F := Ideal))) ⟨m, fun _ => 0, g⟩ (fun r => ∀ c : Dev Cert.DmemIdeal.nD,
          r.2.mem ((c.tc : Thread Cert.DmemIdeal.nD Cert.DmemIdeal.τ).loc Cert.DmemIdeal.main_v0) = v0 c
          ∧ r.2.mem ((c.tc : Thread Cert.DmemIdeal.nD Cert.DmemIdeal.τ).loc Cert.DmemIdeal.main_arg0) = m ((c.tc : Thread Cert.DmemIdeal.nD Cert.DmemIdeal.τ).loc Cert.DmemIdeal.main_arg0)
          ∧ r.2.mem ((c.tc : Thread Cert.DmemIdeal.nD Cert.DmemIdeal.τ).loc Cert.DmemIdeal.main_arg1) = m ((c.tc : Thread Cert.DmemIdeal.nD Cert.DmemIdeal.τ).loc Cert.DmemIdeal.main_arg1))
      ∧ θ_run (Cert.DmemReferenceIdeal.defs (F := Ideal)) (onTc (τ := Cert.DmemReferenceIdeal.τ) (Cert.DmemReferenceIdeal.main (F := Ideal))) ⟨m', fun _ => 0, g'⟩ (fun r => ∀ c : Dev Cert.DmemReferenceIdeal.nD,
          r.2.mem ((c.tc : Thread Cert.DmemReferenceIdeal.nD Cert.DmemReferenceIdeal.τ).loc Cert.DmemReferenceIdeal.main_v4) = v0 c
          ∧ r.2.mem ((c.tc : Thread Cert.DmemReferenceIdeal.nD Cert.DmemReferenceIdeal.τ).loc Cert.DmemReferenceIdeal.main_arg0) = m' ((c.tc : Thread Cert.DmemReferenceIdeal.nD Cert.DmemReferenceIdeal.τ).loc Cert.DmemReferenceIdeal.main_arg0)
          ∧ r.2.mem ((c.tc : Thread Cert.DmemReferenceIdeal.nD Cert.DmemReferenceIdeal.τ).loc Cert.DmemReferenceIdeal.main_arg1) = m' ((c.tc : Thread Cert.DmemReferenceIdeal.nD Cert.DmemReferenceIdeal.τ).loc Cert.DmemReferenceIdeal.main_arg1))

def preserves_MemKv_MemKvIdeal : Prop :=
  True

def algebraic_MemKvIdeal_MemKvReferenceIdeal [hMemKvIdeal : Cert.MemKvIdeal.Facts] [hMemKvReferenceIdeal : Cert.MemKvReferenceIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvReferenceIdeal.nD Cert.MemKvReferenceIdeal.τ Cert.MemKvReferenceIdeal.sig) → Buf (Elt Ideal) ℓ) (g' : Dev Cert.MemKvReferenceIdeal.nD → PrngReg), Pre_MemKvIdeal m →
    (∀ c : Dev Cert.MemKvIdeal.nD,
      m' ((c.tc : Thread Cert.MemKvReferenceIdeal.nD Cert.MemKvReferenceIdeal.τ).loc Cert.MemKvReferenceIdeal.main_arg0) = m ((c.tc : Thread Cert.MemKvIdeal.nD Cert.MemKvIdeal.τ).loc Cert.MemKvIdeal.main_arg0)
      ∧ m' ((c.tc : Thread Cert.MemKvReferenceIdeal.nD Cert.MemKvReferenceIdeal.τ).loc Cert.MemKvReferenceIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v0)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v0) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvReferenceIdeal.defs (F := Ideal)) (onTc (τ := Cert.MemKvReferenceIdeal.τ) (Cert.MemKvReferenceIdeal.main (F := Ideal))) ⟨m', fun _ => 0, g'⟩ (fun r => ∀ c : Dev Cert.MemKvReferenceIdeal.nD,
          r.2.mem ((c.tc : Thread Cert.MemKvReferenceIdeal.nD Cert.MemKvReferenceIdeal.τ).loc Cert.MemKvReferenceIdeal.main_v3) = v0 c
          ∧ r.2.mem ((c.tc : Thread Cert.MemKvReferenceIdeal.nD Cert.MemKvReferenceIdeal.τ).loc Cert.MemKvReferenceIdeal.main_arg0) = m' ((c.tc : Thread Cert.MemKvReferenceIdeal.nD Cert.MemKvReferenceIdeal.τ).loc Cert.MemKvReferenceIdeal.main_arg0)
          ∧ r.2.mem ((c.tc : Thread Cert.MemKvReferenceIdeal.nD Cert.MemKvReferenceIdeal.τ).loc Cert.MemKvReferenceIdeal.main_arg1) = m' ((c.tc : Thread Cert.MemKvReferenceIdeal.nD Cert.MemKvReferenceIdeal.τ).loc Cert.MemKvReferenceIdeal.main_arg1))

def preserves_OutFwd_OutFwdIdeal : Prop :=
  True

def algebraic_OutFwdIdeal_OutFwdReferenceIdeal_pre_finite_heads [hOutFwdIdeal : Cert.OutFwdIdeal.Facts] [hOutFwdReferenceIdeal : Cert.OutFwdReferenceIdeal.Facts] [hPre_finite_heads : Cert.Pre_finite_heads.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdReferenceIdeal.nD Cert.OutFwdReferenceIdeal.τ Cert.OutFwdReferenceIdeal.sig) → Buf (Elt Ideal) ℓ) (g' : Dev Cert.OutFwdReferenceIdeal.nD → PrngReg), Pre_OutFwdIdeal_finite_heads m →
    (∀ c : Dev Cert.OutFwdIdeal.nD,
      m' ((c.tc : Thread Cert.OutFwdReferenceIdeal.nD Cert.OutFwdReferenceIdeal.τ).loc Cert.OutFwdReferenceIdeal.main_arg0) = m ((c.tc : Thread Cert.OutFwdIdeal.nD Cert.OutFwdIdeal.τ).loc Cert.OutFwdIdeal.main_arg0)
      ∧ m' ((c.tc : Thread Cert.OutFwdReferenceIdeal.nD Cert.OutFwdReferenceIdeal.τ).loc Cert.OutFwdReferenceIdeal.main_arg1) = m ((c.tc : Thread Cert.OutFwdIdeal.nD Cert.OutFwdIdeal.τ).loc Cert.OutFwdIdeal.main_arg1)
      ∧ m' ((c.tc : Thread Cert.OutFwdReferenceIdeal.nD Cert.OutFwdReferenceIdeal.τ).loc Cert.OutFwdReferenceIdeal.main_arg2) = m ((c.tc : Thread Cert.OutFwdIdeal.nD Cert.OutFwdIdeal.τ).loc Cert.OutFwdIdeal.main_arg2)
      ∧ m' ((c.tc : Thread Cert.OutFwdReferenceIdeal.nD Cert.OutFwdReferenceIdeal.τ).loc Cert.OutFwdReferenceIdeal.main_arg3) = m ((c.tc : Thread Cert.OutFwdIdeal.nD Cert.OutFwdIdeal.τ).loc Cert.OutFwdIdeal.main_arg3)
      ∧ m' ((c.tc : Thread Cert.OutFwdReferenceIdeal.nD Cert.OutFwdReferenceIdeal.τ).loc Cert.OutFwdReferenceIdeal.main_arg4) = m ((c.tc : Thread Cert.OutFwdIdeal.nD Cert.OutFwdIdeal.τ).loc Cert.OutFwdIdeal.main_arg4)
      ∧ m' ((c.tc : Thread Cert.OutFwdReferenceIdeal.nD Cert.OutFwdReferenceIdeal.τ).loc Cert.OutFwdReferenceIdeal.main_arg5) = m ((c.tc : Thread Cert.OutFwdIdeal.nD Cert.OutFwdIdeal.τ).loc Cert.OutFwdIdeal.main_arg5)
      ∧ m' ((c.tc : Thread Cert.OutFwdReferenceIdeal.nD Cert.OutFwdReferenceIdeal.τ).loc Cert.OutFwdReferenceIdeal.main_arg6) = m ((c.tc : Thread Cert.OutFwdIdeal.nD Cert.OutFwdIdeal.τ).loc Cert.OutFwdIdeal.main_arg6)) →
    ∃ (v0 : (c : Dev Cert.OutFwdIdeal.nD) → Buf (Elt Ideal) ((c.tc : Thread Cert.OutFwdIdeal.nD Cert.OutFwdIdeal.τ).loc Cert.OutFwdIdeal.main_v10_0)) (v1 : (c : Dev Cert.OutFwdIdeal.nD) → Buf (Elt Ideal) ((c.tc : Thread Cert.OutFwdIdeal.nD Cert.OutFwdIdeal.τ).loc Cert.OutFwdIdeal.main_v10_1)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v10_0) = v0 c
          ∧ r.2.mem ((c.tc : Thread Cert.OutFwdIdeal.nD Cert.OutFwdIdeal.τ).loc Cert.OutFwdIdeal.main_v10_1) = v1 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
          ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
          ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5)
          ∧ r.2.mem ((c.tc : Thread Cert.OutFwdIdeal.nD Cert.OutFwdIdeal.τ).loc Cert.OutFwdIdeal.main_arg6) = m ((c.tc : Thread Cert.OutFwdIdeal.nD Cert.OutFwdIdeal.τ).loc Cert.OutFwdIdeal.main_arg6))
      ∧ θ_run (Cert.OutFwdReferenceIdeal.defs (F := Ideal)) (onTc (τ := Cert.OutFwdReferenceIdeal.τ) (Cert.OutFwdReferenceIdeal.main (F := Ideal))) ⟨m', fun _ => 0, g'⟩ (fun r => ∀ c : Dev Cert.OutFwdReferenceIdeal.nD,
          r.2.mem ((c.tc : Thread Cert.OutFwdReferenceIdeal.nD Cert.OutFwdReferenceIdeal.τ).loc Cert.OutFwdReferenceIdeal.main_v20) = v0 c
          ∧ r.2.mem ((c.tc : Thread Cert.OutFwdReferenceIdeal.nD Cert.OutFwdReferenceIdeal.τ).loc Cert.OutFwdReferenceIdeal.main_v21) = v1 c
          ∧ r.2.mem ((c.tc : Thread Cert.OutFwdReferenceIdeal.nD Cert.OutFwdReferenceIdeal.τ).loc Cert.OutFwdReferenceIdeal.main_arg0) = m' ((c.tc : Thread Cert.OutFwdReferenceIdeal.nD Cert.OutFwdReferenceIdeal.τ).loc Cert.OutFwdReferenceIdeal.main_arg0)
          ∧ r.2.mem ((c.tc : Thread Cert.OutFwdReferenceIdeal.nD Cert.OutFwdReferenceIdeal.τ).loc Cert.OutFwdReferenceIdeal.main_arg1) = m' ((c.tc : Thread Cert.OutFwdReferenceIdeal.nD Cert.OutFwdReferenceIdeal.τ).loc Cert.OutFwdReferenceIdeal.main_arg1)
          ∧ r.2.mem ((c.tc : Thread Cert.OutFwdReferenceIdeal.nD Cert.OutFwdReferenceIdeal.τ).loc Cert.OutFwdReferenceIdeal.main_arg2) = m' ((c.tc : Thread Cert.OutFwdReferenceIdeal.nD Cert.OutFwdReferenceIdeal.τ).loc Cert.OutFwdReferenceIdeal.main_arg2)
          ∧ r.2.mem ((c.tc : Thread Cert.OutFwdReferenceIdeal.nD Cert.OutFwdReferenceIdeal.τ).loc Cert.OutFwdReferenceIdeal.main_arg3) = m' ((c.tc : Thread Cert.OutFwdReferenceIdeal.nD Cert.OutFwdReferenceIdeal.τ).loc Cert.OutFwdReferenceIdeal.main_arg3)
          ∧ r.2.mem ((c.tc : Thread Cert.OutFwdReferenceIdeal.nD Cert.OutFwdReferenceIdeal.τ).loc Cert.OutFwdReferenceIdeal.main_arg4) = m' ((c.tc : Thread Cert.OutFwdReferenceIdeal.nD Cert.OutFwdReferenceIdeal.τ).loc Cert.OutFwdReferenceIdeal.main_arg4)
          ∧ r.2.mem ((c.tc : Thread Cert.OutFwdReferenceIdeal.nD Cert.OutFwdReferenceIdeal.τ).loc Cert.OutFwdReferenceIdeal.main_arg5) = m' ((c.tc : Thread Cert.OutFwdReferenceIdeal.nD Cert.OutFwdReferenceIdeal.τ).loc Cert.OutFwdReferenceIdeal.main_arg5)
          ∧ r.2.mem ((c.tc : Thread Cert.OutFwdReferenceIdeal.nD Cert.OutFwdReferenceIdeal.τ).loc Cert.OutFwdReferenceIdeal.main_arg6) = m' ((c.tc : Thread Cert.OutFwdReferenceIdeal.nD Cert.OutFwdReferenceIdeal.τ).loc Cert.OutFwdReferenceIdeal.main_arg6))

def preserves_OutBwd_OutBwdIdeal : Prop :=
  True

def algebraic_OutBwdIdeal_OutBwdReferenceIdeal_pre_finite_out [hOutBwdIdeal : Cert.OutBwdIdeal.Facts] [hOutBwdReferenceIdeal : Cert.OutBwdReferenceIdeal.Facts] [hPre_finite_out : Cert.Pre_finite_out.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdReferenceIdeal.nD Cert.OutBwdReferenceIdeal.τ Cert.OutBwdReferenceIdeal.sig) → Buf (Elt Ideal) ℓ) (g' : Dev Cert.OutBwdReferenceIdeal.nD → PrngReg), Pre_OutBwdIdeal_finite_out m →
    (∀ c : Dev Cert.OutBwdIdeal.nD,
      m' ((c.tc : Thread Cert.OutBwdReferenceIdeal.nD Cert.OutBwdReferenceIdeal.τ).loc Cert.OutBwdReferenceIdeal.main_arg0) = m ((c.tc : Thread Cert.OutBwdIdeal.nD Cert.OutBwdIdeal.τ).loc Cert.OutBwdIdeal.main_arg0)
      ∧ m' ((c.tc : Thread Cert.OutBwdReferenceIdeal.nD Cert.OutBwdReferenceIdeal.τ).loc Cert.OutBwdReferenceIdeal.main_arg1) = m ((c.tc : Thread Cert.OutBwdIdeal.nD Cert.OutBwdIdeal.τ).loc Cert.OutBwdIdeal.main_arg1)
      ∧ m' ((c.tc : Thread Cert.OutBwdReferenceIdeal.nD Cert.OutBwdReferenceIdeal.τ).loc Cert.OutBwdReferenceIdeal.main_arg2) = m ((c.tc : Thread Cert.OutBwdIdeal.nD Cert.OutBwdIdeal.τ).loc Cert.OutBwdIdeal.main_arg2)
      ∧ m' ((c.tc : Thread Cert.OutBwdReferenceIdeal.nD Cert.OutBwdReferenceIdeal.τ).loc Cert.OutBwdReferenceIdeal.main_arg3) = m ((c.tc : Thread Cert.OutBwdIdeal.nD Cert.OutBwdIdeal.τ).loc Cert.OutBwdIdeal.main_arg3)
      ∧ m' ((c.tc : Thread Cert.OutBwdReferenceIdeal.nD Cert.OutBwdReferenceIdeal.τ).loc Cert.OutBwdReferenceIdeal.main_arg4) = m ((c.tc : Thread Cert.OutBwdIdeal.nD Cert.OutBwdIdeal.τ).loc Cert.OutBwdIdeal.main_arg4)
      ∧ m' ((c.tc : Thread Cert.OutBwdReferenceIdeal.nD Cert.OutBwdReferenceIdeal.τ).loc Cert.OutBwdReferenceIdeal.main_arg5) = m ((c.tc : Thread Cert.OutBwdIdeal.nD Cert.OutBwdIdeal.τ).loc Cert.OutBwdIdeal.main_arg5)
      ∧ m' ((c.tc : Thread Cert.OutBwdReferenceIdeal.nD Cert.OutBwdReferenceIdeal.τ).loc Cert.OutBwdReferenceIdeal.main_arg6) = m ((c.tc : Thread Cert.OutBwdIdeal.nD Cert.OutBwdIdeal.τ).loc Cert.OutBwdIdeal.main_arg6)) →
    ∃ (v0 : (c : Dev Cert.OutBwdIdeal.nD) → Buf (Elt Ideal) ((c.tc : Thread Cert.OutBwdIdeal.nD Cert.OutBwdIdeal.τ).loc Cert.OutBwdIdeal.main_v10_0)) (v1 : (c : Dev Cert.OutBwdIdeal.nD) → Buf (Elt Ideal) ((c.tc : Thread Cert.OutBwdIdeal.nD Cert.OutBwdIdeal.τ).loc Cert.OutBwdIdeal.main_v10_1)) (v2 : (c : Dev Cert.OutBwdIdeal.nD) → Buf (Elt Ideal) ((c.tc : Thread Cert.OutBwdIdeal.nD Cert.OutBwdIdeal.τ).loc Cert.OutBwdIdeal.main_v10_2)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v10_0) = v0 c
          ∧ r.2.mem ((c.tc : Thread Cert.OutBwdIdeal.nD Cert.OutBwdIdeal.τ).loc Cert.OutBwdIdeal.main_v10_1) = v1 c
          ∧ r.2.mem ((c.tc : Thread Cert.OutBwdIdeal.nD Cert.OutBwdIdeal.τ).loc Cert.OutBwdIdeal.main_v10_2) = v2 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
          ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
          ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
          ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5)
          ∧ r.2.mem ((c.tc : Thread Cert.OutBwdIdeal.nD Cert.OutBwdIdeal.τ).loc Cert.OutBwdIdeal.main_arg6) = m ((c.tc : Thread Cert.OutBwdIdeal.nD Cert.OutBwdIdeal.τ).loc Cert.OutBwdIdeal.main_arg6))
      ∧ θ_run (Cert.OutBwdReferenceIdeal.defs (F := Ideal)) (onTc (τ := Cert.OutBwdReferenceIdeal.τ) (Cert.OutBwdReferenceIdeal.main (F := Ideal))) ⟨m', fun _ => 0, g'⟩ (fun r => ∀ c : Dev Cert.OutBwdReferenceIdeal.nD,
          r.2.mem ((c.tc : Thread Cert.OutBwdReferenceIdeal.nD Cert.OutBwdReferenceIdeal.τ).loc Cert.OutBwdReferenceIdeal.main_v48) = v0 c
          ∧ r.2.mem ((c.tc : Thread Cert.OutBwdReferenceIdeal.nD Cert.OutBwdReferenceIdeal.τ).loc Cert.OutBwdReferenceIdeal.main_v49) = v1 c
          ∧ r.2.mem ((c.tc : Thread Cert.OutBwdReferenceIdeal.nD Cert.OutBwdReferenceIdeal.τ).loc Cert.OutBwdReferenceIdeal.main_v30) = v2 c
          ∧ r.2.mem ((c.tc : Thread Cert.OutBwdReferenceIdeal.nD Cert.OutBwdReferenceIdeal.τ).loc Cert.OutBwdReferenceIdeal.main_arg0) = m' ((c.tc : Thread Cert.OutBwdReferenceIdeal.nD Cert.OutBwdReferenceIdeal.τ).loc Cert.OutBwdReferenceIdeal.main_arg0)
          ∧ r.2.mem ((c.tc : Thread Cert.OutBwdReferenceIdeal.nD Cert.OutBwdReferenceIdeal.τ).loc Cert.OutBwdReferenceIdeal.main_arg1) = m' ((c.tc : Thread Cert.OutBwdReferenceIdeal.nD Cert.OutBwdReferenceIdeal.τ).loc Cert.OutBwdReferenceIdeal.main_arg1)
          ∧ r.2.mem ((c.tc : Thread Cert.OutBwdReferenceIdeal.nD Cert.OutBwdReferenceIdeal.τ).loc Cert.OutBwdReferenceIdeal.main_arg2) = m' ((c.tc : Thread Cert.OutBwdReferenceIdeal.nD Cert.OutBwdReferenceIdeal.τ).loc Cert.OutBwdReferenceIdeal.main_arg2)
          ∧ r.2.mem ((c.tc : Thread Cert.OutBwdReferenceIdeal.nD Cert.OutBwdReferenceIdeal.τ).loc Cert.OutBwdReferenceIdeal.main_arg3) = m' ((c.tc : Thread Cert.OutBwdReferenceIdeal.nD Cert.OutBwdReferenceIdeal.τ).loc Cert.OutBwdReferenceIdeal.main_arg3)
          ∧ r.2.mem ((c.tc : Thread Cert.OutBwdReferenceIdeal.nD Cert.OutBwdReferenceIdeal.τ).loc Cert.OutBwdReferenceIdeal.main_arg4) = m' ((c.tc : Thread Cert.OutBwdReferenceIdeal.nD Cert.OutBwdReferenceIdeal.τ).loc Cert.OutBwdReferenceIdeal.main_arg4)
          ∧ r.2.mem ((c.tc : Thread Cert.OutBwdReferenceIdeal.nD Cert.OutBwdReferenceIdeal.τ).loc Cert.OutBwdReferenceIdeal.main_arg5) = m' ((c.tc : Thread Cert.OutBwdReferenceIdeal.nD Cert.OutBwdReferenceIdeal.τ).loc Cert.OutBwdReferenceIdeal.main_arg5)
          ∧ r.2.mem ((c.tc : Thread Cert.OutBwdReferenceIdeal.nD Cert.OutBwdReferenceIdeal.τ).loc Cert.OutBwdReferenceIdeal.main_arg6) = m' ((c.tc : Thread Cert.OutBwdReferenceIdeal.nD Cert.OutBwdReferenceIdeal.τ).loc Cert.OutBwdReferenceIdeal.main_arg6))

def Claim : Prop :=
  ∃ (hKernel : Cert.Kernel.Facts) (hKernelIdeal : Cert.KernelIdeal.Facts) (hReferenceIdeal : Cert.ReferenceIdeal.Facts) (hDwInA : Cert.DwInA.Facts) (hDwInAIdeal : Cert.DwInAIdeal.Facts) (hDwInAReferenceIdeal : Cert.DwInAReferenceIdeal.Facts) (hDwInB : Cert.DwInB.Facts) (hDwInBIdeal : Cert.DwInBIdeal.Facts) (hDwInBReferenceIdeal : Cert.DwInBReferenceIdeal.Facts) (hDhA : Cert.DhA.Facts) (hDhAIdeal : Cert.DhAIdeal.Facts) (hDhAReferenceIdeal : Cert.DhAReferenceIdeal.Facts) (hDhB : Cert.DhB.Facts) (hDhBIdeal : Cert.DhBIdeal.Facts) (hDhBReferenceIdeal : Cert.DhBReferenceIdeal.Facts) (hDwOut : Cert.DwOut.Facts) (hDwOutIdeal : Cert.DwOutIdeal.Facts) (hDwOutReferenceIdeal : Cert.DwOutReferenceIdeal.Facts) (hInprojA : Cert.InprojA.Facts) (hInprojAIdeal : Cert.InprojAIdeal.Facts) (hInprojAReferenceIdeal : Cert.InprojAReferenceIdeal.Facts) (hInprojB : Cert.InprojB.Facts) (hInprojBIdeal : Cert.InprojBIdeal.Facts) (hInprojBReferenceIdeal : Cert.InprojBReferenceIdeal.Facts) (hDwKv : Cert.DwKv.Facts) (hDwKvIdeal : Cert.DwKvIdeal.Facts) (hDwKvReferenceIdeal : Cert.DwKvReferenceIdeal.Facts) (hDmem : Cert.Dmem.Facts) (hDmemIdeal : Cert.DmemIdeal.Facts) (hDmemReferenceIdeal : Cert.DmemReferenceIdeal.Facts) (hMemKv : Cert.MemKv.Facts) (hMemKvIdeal : Cert.MemKvIdeal.Facts) (hMemKvReferenceIdeal : Cert.MemKvReferenceIdeal.Facts) (hOutFwd : Cert.OutFwd.Facts) (hOutFwdIdeal : Cert.OutFwdIdeal.Facts) (hOutFwdReferenceIdeal : Cert.OutFwdReferenceIdeal.Facts) (hOutBwd : Cert.OutBwd.Facts) (hOutBwdIdeal : Cert.OutBwdIdeal.Facts) (hOutBwdReferenceIdeal : Cert.OutBwdReferenceIdeal.Facts) (hPre_finite : Cert.Pre_finite.Facts) (hPre_finite_heads : Cert.Pre_finite_heads.Facts) (hPre_finite_out : Cert.Pre_finite_out.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DwInA (hDwInA := hDwInA)
    ∧ quiescent_DwInAIdeal (hDwInAIdeal := hDwInAIdeal)
    ∧ quiescent_DwInAReferenceIdeal (hDwInAReferenceIdeal := hDwInAReferenceIdeal)
    ∧ quiescent_DwInB (hDwInB := hDwInB)
    ∧ quiescent_DwInBIdeal (hDwInBIdeal := hDwInBIdeal)
    ∧ quiescent_DwInBReferenceIdeal (hDwInBReferenceIdeal := hDwInBReferenceIdeal)
    ∧ quiescent_DhA (hDhA := hDhA)
    ∧ quiescent_DhAIdeal (hDhAIdeal := hDhAIdeal)
    ∧ quiescent_DhAReferenceIdeal (hDhAReferenceIdeal := hDhAReferenceIdeal)
    ∧ quiescent_DhB (hDhB := hDhB)
    ∧ quiescent_DhBIdeal (hDhBIdeal := hDhBIdeal)
    ∧ quiescent_DhBReferenceIdeal (hDhBReferenceIdeal := hDhBReferenceIdeal)
    ∧ quiescent_DwOut (hDwOut := hDwOut)
    ∧ quiescent_DwOutIdeal (hDwOutIdeal := hDwOutIdeal)
    ∧ quiescent_DwOutReferenceIdeal (hDwOutReferenceIdeal := hDwOutReferenceIdeal)
    ∧ quiescent_InprojA (hInprojA := hInprojA)
    ∧ quiescent_InprojAIdeal (hInprojAIdeal := hInprojAIdeal)
    ∧ quiescent_InprojAReferenceIdeal (hInprojAReferenceIdeal := hInprojAReferenceIdeal)
    ∧ quiescent_InprojB (hInprojB := hInprojB)
    ∧ quiescent_InprojBIdeal (hInprojBIdeal := hInprojBIdeal)
    ∧ quiescent_InprojBReferenceIdeal (hInprojBReferenceIdeal := hInprojBReferenceIdeal)
    ∧ quiescent_DwKv (hDwKv := hDwKv)
    ∧ quiescent_DwKvIdeal (hDwKvIdeal := hDwKvIdeal)
    ∧ quiescent_DwKvReferenceIdeal (hDwKvReferenceIdeal := hDwKvReferenceIdeal)
    ∧ quiescent_Dmem (hDmem := hDmem)
    ∧ quiescent_DmemIdeal (hDmemIdeal := hDmemIdeal)
    ∧ quiescent_DmemReferenceIdeal (hDmemReferenceIdeal := hDmemReferenceIdeal)
    ∧ quiescent_MemKv (hMemKv := hMemKv)
    ∧ quiescent_MemKvIdeal (hMemKvIdeal := hMemKvIdeal)
    ∧ quiescent_MemKvReferenceIdeal (hMemKvReferenceIdeal := hMemKvReferenceIdeal)
    ∧ quiescent_OutFwd (hOutFwd := hOutFwd)
    ∧ quiescent_OutFwdIdeal (hOutFwdIdeal := hOutFwdIdeal)
    ∧ quiescent_OutFwdIdeal_pre_finite_heads (hOutFwdIdeal := hOutFwdIdeal) (hPre_finite_heads := hPre_finite_heads)
    ∧ quiescent_OutFwdReferenceIdeal (hOutFwdReferenceIdeal := hOutFwdReferenceIdeal)
    ∧ quiescent_OutFwdReferenceIdeal_pre_finite_heads (hOutFwdReferenceIdeal := hOutFwdReferenceIdeal) (hPre_finite_heads := hPre_finite_heads)
    ∧ quiescent_OutBwd (hOutBwd := hOutBwd)
    ∧ quiescent_OutBwdIdeal (hOutBwdIdeal := hOutBwdIdeal)
    ∧ quiescent_OutBwdIdeal_pre_finite_out (hOutBwdIdeal := hOutBwdIdeal) (hPre_finite_out := hPre_finite_out)
    ∧ quiescent_OutBwdReferenceIdeal (hOutBwdReferenceIdeal := hOutBwdReferenceIdeal)
    ∧ quiescent_OutBwdReferenceIdeal_pre_finite_out (hOutBwdReferenceIdeal := hOutBwdReferenceIdeal) (hPre_finite_out := hPre_finite_out)
    ∧ preserves_Kernel_KernelIdeal
    ∧ algebraic_KernelIdeal_ReferenceIdeal_pre_finite (hKernelIdeal := hKernelIdeal) (hReferenceIdeal := hReferenceIdeal) (hPre_finite := hPre_finite)
    ∧ preserves_DwInA_DwInAIdeal
    ∧ algebraic_DwInAIdeal_DwInAReferenceIdeal (hDwInAIdeal := hDwInAIdeal) (hDwInAReferenceIdeal := hDwInAReferenceIdeal)
    ∧ preserves_DwInB_DwInBIdeal
    ∧ algebraic_DwInBIdeal_DwInBReferenceIdeal (hDwInBIdeal := hDwInBIdeal) (hDwInBReferenceIdeal := hDwInBReferenceIdeal)
    ∧ preserves_DhA_DhAIdeal
    ∧ algebraic_DhAIdeal_DhAReferenceIdeal (hDhAIdeal := hDhAIdeal) (hDhAReferenceIdeal := hDhAReferenceIdeal)
    ∧ preserves_DhB_DhBIdeal
    ∧ algebraic_DhBIdeal_DhBReferenceIdeal (hDhBIdeal := hDhBIdeal) (hDhBReferenceIdeal := hDhBReferenceIdeal)
    ∧ preserves_DwOut_DwOutIdeal
    ∧ algebraic_DwOutIdeal_DwOutReferenceIdeal (hDwOutIdeal := hDwOutIdeal) (hDwOutReferenceIdeal := hDwOutReferenceIdeal)
    ∧ preserves_InprojA_InprojAIdeal
    ∧ algebraic_InprojAIdeal_InprojAReferenceIdeal (hInprojAIdeal := hInprojAIdeal) (hInprojAReferenceIdeal := hInprojAReferenceIdeal)
    ∧ preserves_InprojB_InprojBIdeal
    ∧ algebraic_InprojBIdeal_InprojBReferenceIdeal (hInprojBIdeal := hInprojBIdeal) (hInprojBReferenceIdeal := hInprojBReferenceIdeal)
    ∧ preserves_DwKv_DwKvIdeal
    ∧ algebraic_DwKvIdeal_DwKvReferenceIdeal (hDwKvIdeal := hDwKvIdeal) (hDwKvReferenceIdeal := hDwKvReferenceIdeal)
    ∧ preserves_Dmem_DmemIdeal
    ∧ algebraic_DmemIdeal_DmemReferenceIdeal (hDmemIdeal := hDmemIdeal) (hDmemReferenceIdeal := hDmemReferenceIdeal)
    ∧ preserves_MemKv_MemKvIdeal
    ∧ algebraic_MemKvIdeal_MemKvReferenceIdeal (hMemKvIdeal := hMemKvIdeal) (hMemKvReferenceIdeal := hMemKvReferenceIdeal)
    ∧ preserves_OutFwd_OutFwdIdeal
    ∧ algebraic_OutFwdIdeal_OutFwdReferenceIdeal_pre_finite_heads (hOutFwdIdeal := hOutFwdIdeal) (hOutFwdReferenceIdeal := hOutFwdReferenceIdeal) (hPre_finite_heads := hPre_finite_heads)
    ∧ preserves_OutBwd_OutBwdIdeal
    ∧ algebraic_OutBwdIdeal_OutBwdReferenceIdeal_pre_finite_out (hOutBwdIdeal := hOutBwdIdeal) (hOutBwdReferenceIdeal := hOutBwdReferenceIdeal) (hPre_finite_out := hPre_finite_out)
-- ==== Pre_finite.lean ====
abbrev S2048x3328 : Shape := ⟨2, ![2048, 3328]⟩
abbrev S8x2048 : Shape := ⟨2, ![8, 2048]⟩
abbrev S2048x1280 : Shape := ⟨2, ![2048, 1280]⟩
abbrev S_ : Shape := ⟨0, ![]⟩

class Facts : Prop where
  bcast_S_S2048x3328 : S_.BroadcastsInDim S2048x3328 (![] : Fin 0 → Fin S2048x3328.rank)
  reducesTo_S2048x3328_S_d0_1 : S2048x3328.ReducesTo [0, 1] S_
  h_S_ : 0 < S_.numel
  bcast_S_S8x2048 : S_.BroadcastsInDim S8x2048 (![] : Fin 0 → Fin S8x2048.rank)
  reducesTo_S8x2048_S_d0_1 : S8x2048.ReducesTo [0, 1] S_
  bcast_S_S2048x1280 : S_.BroadcastsInDim S2048x1280 (![] : Fin 0 → Fin S2048x1280.rank)
  reducesTo_S2048x1280_S_d0_1 : S2048x1280.ReducesTo [0, 1] S_

variable [Facts]

def fn {F : FTy → Type} [FloatOps F] (main_arg0 : FVec F S2048x3328 .bf16) (main_arg1 : FVec F S8x2048 .f32) (main_arg2 : FVec F S2048x1280 .f32) : IVec S_ 1 :=
  let main_v0 : FVec F S2048x3328 .bf16 := Host.absf main_arg0
  let main_cst : FVec F S_ .bf16 := constant S_ .bf16 0x7F80#16
  let main_v1 : FVec F S2048x3328 .bf16 := broadcastInDim S2048x3328 ![] bcast_S_S2048x3328 main_cst
  let main_v2 : IVec S2048x3328 1 := cmpf .olt main_v0 main_v1
  let main_c : IVec S_ 1 := constantI S_ 1 1#1
  let main_v3 : IVec S_ 1 := (fun x v => Host.reduce IntOp.andi x v reducesTo_S2048x3328_S_d0_1 h_S_) main_v2 main_c
  let main_v4 : FVec F S8x2048 .f32 := Host.absf main_arg1
  let main_cst_0 : FVec F S_ .f32 := constant S_ .f32 0x7F800000#32
  let main_v5 : FVec F S8x2048 .f32 := broadcastInDim S8x2048 ![] bcast_S_S8x2048 main_cst_0
  let main_v6 : IVec S8x2048 1 := cmpf .olt main_v4 main_v5
  let main_c_1 : IVec S_ 1 := constantI S_ 1 1#1
  let main_v7 : IVec S_ 1 := (fun x v => Host.reduce IntOp.andi x v reducesTo_S8x2048_S_d0_1 h_S_) main_v6 main_c_1
  let main_v8 : IVec S_ 1 := andi main_v3 main_v7
  let main_v9 : FVec F S2048x1280 .f32 := Host.absf main_arg2
  let main_cst_2 : FVec F S_ .f32 := constant S_ .f32 0x7F800000#32
  let main_v10 : FVec F S2048x1280 .f32 := broadcastInDim S2048x1280 ![] bcast_S_S2048x1280 main_cst_2
  let main_v11 : IVec S2048x1280 1 := cmpf .olt main_v9 main_v10
  let main_c_3 : IVec S_ 1 := constantI S_ 1 1#1
  let main_v12 : IVec S_ 1 := (fun x v => Host.reduce IntOp.andi x v reducesTo_S2048x1280_S_d0_1 h_S_) main_v11 main_c_3
  let main_v13 : IVec S_ 1 := andi main_v8 main_v12
  main_v13
-- ==== Pre_finite_heads.lean ====
abbrev S2048x512 : Shape := ⟨2, ![2048, 512]⟩
abbrev S2048x256 : Shape := ⟨2, ![2048, 256]⟩
abbrev S2048x1408 : Shape := ⟨2, ![2048, 1408]⟩
abbrev S1x1280 : Shape := ⟨2, ![1, 1280]⟩
abbrev S2048x1024 : Shape := ⟨2, ![2048, 1024]⟩
abbrev S1280x1024 : Shape := ⟨2, ![1280, 1024]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_

variable [Facts]

def fn {F : FTy → Type} [FloatOps F] (main_arg0 : FVec F S2048x512 .f32) (main_arg1 : FVec F S2048x512 .f32) (main_arg2 : FVec F S2048x256 .f32) (main_arg3 : FVec F S2048x1408 .f32) (main_arg4 : FVec F S1x1280 .f32) (main_arg5 : FVec F S2048x1024 .f32) (main_arg6 : FVec F S1280x1024 .bf16) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S2048x256 .f32 := Host.absf main_arg2
  let main_cst_2 : FVec F S_ .f32 := constant S_ .f32 0x7F800000#32
  let main_v10 : FVec F S2048x256 .f32 := broadcastInDim S2048x256 ![] bcast_S_S2048x256 main_cst_2
  let main_v11 : IVec S2048x256 1 := cmpf .olt main_v9 main_v10
  let main_c_3 : IVec S_ 1 := constantI S_ 1 1#1
  let main_v12 : IVec S_ 1 := (fun x v => Host.reduce IntOp.andi x v reducesTo_S2048x256_S_d0_1 h_S_) main_v11 main_c_3
  let main_v13 : IVec S_ 1 := andi main_v8 main_v12
  main_v13
-- ==== Pre_finite_out.lean ====
abbrev S2048x1024 : Shape := ⟨2, ![2048, 1024]⟩
abbrev S2048x512 : Shape := ⟨2, ![2048, 512]⟩
abbrev S2048x256 : Shape := ⟨2, ![2048, 256]⟩
abbrev S2048x1408 : Shape := ⟨2, ![2048, 1408]⟩
abbrev S1x1280 : Shape := ⟨2, ![1, 1280]⟩
abbrev S1280x1024 : Shape := ⟨2, ![1280, 1024]⟩
abbrev S_ : Shape := ⟨0, ![]⟩
abbrev S2048x1280 : Shape := ⟨2, ![2048, 1280]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S2048x256 : S_.BroadcastsInDim S2048x256 (![] : Fin 0 → Fin S2048x256.rank)
  reducesTo_S2048x256_S_d0_1 : S2048x256.ReducesTo [0, 1] S_
  slices_S2048x1408_S2048x1280_0_0 : S2048x1408.Slices ![0, 0] S2048x1280
  bcast_S_S2048x1280 : S_.BroadcastsInDim S2048x1280 (![] : Fin 0 → Fin S2048x1280.rank)
  reducesTo_S2048x1280_S_d0_1 : S2048x1280.ReducesTo [0, 1] S_
  bcast_S_S1x1280 : S_.BroadcastsInDim S1x1280 (![] : Fin 0 → Fin S1x1280.rank)
  reducesTo_S1x1280_S_d0_1 : S1x1280.ReducesTo [0, 1] S_
  bcast_S_S1280x1024 : S_.BroadcastsInDim S1280x1024 (![] : Fin 0 → Fin S1280x1024.rank)
  reducesTo_S1280x1024_S_d0_1 : S1280x1024.ReducesTo [0, 1] S_

variable [Facts]

def fn_part2 {F : FTy → Type} [FloatOps F] (main_v29 : IVec S_ 1) (main_v33 : IVec S_ 1) : IVec S_ 1 :=
  let main_v34 : IVec S_ 1 := andi main_v29 main_v33
  main_v34

def fn_part1 {F : FTy → Type} [FloatOps F] (main_arg4 : FVec F S2048x1408 .f32) (main_arg5 : FVec F S1x1280 .f32) (main_arg6 : FVec F S1280x1024 .bf16) (main_v13 : IVec S_ 1) (main_v16 : IVec S2048x256 1) : IVec S_ 1 :=
  let main_c_5 : IVec S_ 1 := constantI S_ 1 1#1
  let main_v17 : IVec S_ 1 := (fun x v => Host.reduce IntOp.andi x v reducesTo_S2048x256_S_d0_1 h_S_) main_v16 main_c_5
  let main_v18 : IVec S_ 1 := andi main_v13 main_v17
  let main_v19 : FVec F S2048x1280 .f32 := (extractStridedSlice S2048x1280 ![0, 0] · slices_S2048x1408_S2048x1280_0_0) main_arg4
  let main_v20 : FVec F S2048x1280 .f32 := Host.absf main_v19
  let main_cst_6 : FVec F S_ .f32 := constant S_ .f32 0x7F800000#32
  let main_v21 : FVec F S2048x1280 .f32 := broadcastInDim S2048x1280 ![] bcast_S_S2048x1280 main_cst_6
  let main_v22 : IVec S2048x1280 1 := cmpf .olt main_v20 main_v21
  let main_c_7 : IVec S_ 1 := constantI S_ 1 1#1
  let main_v23 : IVec S_ 1 := (fun x v => Host.reduce IntOp.andi x v reducesTo_S2048x1280_S_d0_1 h_S_) main_v22 main_c_7
  let main_v24 : IVec S_ 1 := andi main_v18 main_v23
  let main_v25 : FVec F S1x1280 .f32 := Host.absf main_arg5
  let main_cst_8 : FVec F S_ .f32 := constant S_ .f32 0x7F800000#32
  let main_v26 : FVec F S1x1280 .f32 := broadcastInDim S1x1280 ![] bcast_S_S1x1280 main_cst_8
  let main_v27 : IVec S1x1280 1 := cmpf .olt main_v25 main_v26
  let main_c_9 : IVec S_ 1 := constantI S_ 1 1#1
  let main_v28 : IVec S_ 1 := (fun x v => Host.reduce IntOp.andi x v reducesTo_S1x1280_S_d0_1 h_S_) main_v27 main_c_9
  let main_v29 : IVec S_ 1 := andi main_v24 main_v28
  let main_v30 : FVec F S1280x1024 .bf16 := Host.absf main_arg6
  let main_cst_10 : FVec F S_ .bf16 := constant S_ .bf16 0x7F80#16
  let main_v31 : FVec F S1280x1024 .bf16 := broadcastInDim S1280x1024 ![] bcast_S_S1280x1024 main_cst_10
  let main_v32 : IVec S1280x1024 1 := cmpf .olt main_v30 main_v31
  let main_c_11 : IVec S_ 1 := constantI S_ 1 1#1
  let main_v33 : IVec S_ 1 := (fun x v => Host.reduce IntOp.andi x v reducesTo_S1280x1024_S_d0_1 h_S_) main_v32 main_c_11
  fn_part2 (F := F) main_v29 main_v33

def fn {F : FTy → Type} [FloatOps F] (main_arg0 : FVec F S2048x1024 .bf16) (main_arg1 : FVec F S2048x512 .f32) (main_arg2 : FVec F S2048x512 .f32) (main_arg3 : FVec F S2048x256 .f32) (main_arg4 : FVec F S2048x1408 .f32) (main_arg5 : FVec F S1x1280 .f32) (main_arg6 : FVec F S1280x1024 .bf16) : IVec S_ 1 :=
  let main_v0 : FVec F S2048x1024 .bf16 := Host.absf main_arg0
  let main_cst : FVec F S_ .bf16 := constant S_ .bf16 0x7F80#16
  let main_v1 : FVec F S2048x1024 .bf16 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S2048x256 .f32 := Host.absf main_arg3
  let main_cst_4 : FVec F S_ .f32 := constant S_ .f32 0x7F800000#32
  let main_v15 : FVec F S2048x256 .f32 := broadcastInDim S2048x256 ![] bcast_S_S2048x256 main_cst_4
  let main_v16 : IVec S2048x256 1 := cmpf .olt main_v14 main_v15
  fn_part1 (F := F) main_arg4 main_arg5 main_arg6 main_v13 main_v16
-- ==== Kernel.lean ====
abbrev S2048x3328 : Shape := ⟨2, ![2048, 3328]⟩
abbrev S8x2048 : Shape := ⟨2, ![8, 2048]⟩
abbrev S2048x1280 : Shape := ⟨2, ![2048, 1280]⟩
abbrev S2048x8 : Shape := ⟨2, ![2048, 8]⟩
abbrev S2048x2x4 : Shape := ⟨3, ![2048, 2, 4]⟩
abbrev S2x2048x4 : Shape := ⟨3, ![2, 2048, 4]⟩
abbrev S2x2048x4x64 : Shape := ⟨4, ![2, 2048, 4, 64]⟩
abbrev S2x2048x256 : Shape := ⟨3, ![2, 2048, 256]⟩
abbrev S8x8x256 : Shape := ⟨3, ![8, 8, 256]⟩
abbrev S8x2x4x256 : Shape := ⟨4, ![8, 2, 4, 256]⟩
abbrev S2x8x4x256 : Shape := ⟨4, ![2, 8, 4, 256]⟩
abbrev S_ : Shape := ⟨0, ![]⟩
abbrev S2x8x8x256 : Shape := ⟨4, ![2, 8, 8, 256]⟩
abbrev S2048x512 : Shape := ⟨2, ![2048, 512]⟩
abbrev S2048x8x64 : Shape := ⟨3, ![2048, 8, 64]⟩
abbrev S8x2048x64 : Shape := ⟨3, ![8, 2048, 64]⟩
abbrev S8x2048x2048 : Shape := ⟨3, ![8, 2048, 2048]⟩
abbrev S8x2048x1 : Shape := ⟨3, ![8, 2048, 1]⟩
abbrev S8x1x2048 : Shape := ⟨3, ![8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S256x256 : Shape := ⟨2, ![256, 256]⟩
abbrev S2048x256 : Shape := ⟨2, ![2048, 256]⟩
abbrev S1x256x256 : Shape := ⟨3, ![1, 256, 256]⟩
abbrev S1x8x8x256 : Shape := ⟨4, ![1, 8, 8, 256]⟩
abbrev S4x2048x64 : Shape := ⟨3, ![4, 2048, 64]⟩
abbrev S2x4x256x256 : Shape := ⟨4, ![2, 4, 256, 256]⟩
abbrev S256x64 : Shape := ⟨2, ![256, 64]⟩
abbrev S1x256x1 : Shape := ⟨3, ![1, 256, 1]⟩
abbrev S256x1 : Shape := ⟨2, ![256, 1]⟩
abbrev S256 : Shape := ⟨1, ![256]⟩
abbrev S1x1x1x256 : Shape := ⟨4, ![1, 1, 1, 256]⟩
abbrev S1x256 : Shape := ⟨2, ![1, 256]⟩
abbrev S1x1x256x256 : Shape := ⟨4, ![1, 1, 256, 256]⟩
abbrev S1x256x64 : Shape := ⟨3, ![1, 256, 64]⟩
abbrev S256x128 : Shape := ⟨2, ![256, 128]⟩
abbrev S128x256 : Shape := ⟨2, ![128, 256]⟩
abbrev S1x2048x64 : Shape := ⟨3, ![1, 2048, 64]⟩
abbrev S2048x64 : Shape := ⟨2, ![2048, 64]⟩

abbrev nBuf : Space → Nat
  | .hbm => 74
  | .vmem => 28
  | .smem => 0
  | _ => 0

abbrev bufTy : (tb : Table) → Fin (tcTables nBuf tb) → BufTy
  | .hbm, ⟨0, _⟩ => ⟨S2048x3328, .bf16⟩
  | .hbm, ⟨1, _⟩ => ⟨S8x2048, .f32⟩
  | .hbm, ⟨2, _⟩ => ⟨S2048x1280, .f32⟩
  | .hbm, ⟨3, _⟩ => ⟨S2048x8, .f32⟩
  | .hbm, ⟨4, _⟩ => ⟨S2048x2x4, .f32⟩
  | .hbm, ⟨5, _⟩ => ⟨S2x2048x4, .f32⟩
  | .hbm, ⟨6, _⟩ => ⟨S2x2048x4x64, .f32⟩
  | .hbm, ⟨7, _⟩ => ⟨S2x2048x256, .f32⟩
  | .hbm, ⟨8, _⟩ => ⟨S8x8x256, .f32⟩
  | .hbm, ⟨9, _⟩ => ⟨S8x8x256, .f32⟩
  | .hbm, ⟨10, _⟩ => ⟨S8x2x4x256, .f32⟩
  | .hbm, ⟨11, _⟩ => ⟨S2x8x4x256, .f32⟩
  | .hbm, ⟨12, _⟩ => ⟨S_, .i32⟩
  | .hbm, ⟨13, _⟩ => ⟨S_, .f32⟩
  | .hbm, ⟨14, _⟩ => ⟨S2x8x8x256, .f32⟩
  | .hbm, ⟨15, _⟩ => ⟨S2048x512, .bf16⟩
  | .hbm, ⟨16, _⟩ => ⟨S2048x512, .f32⟩
  | .hbm, ⟨17, _⟩ => ⟨S2048x8x64, .f32⟩
  | .hbm, ⟨18, _⟩ => ⟨S8x2048x64, .f32⟩
  | .hbm, ⟨19, _⟩ => ⟨S2048x512, .bf16⟩
  | .hbm, ⟨20, _⟩ => ⟨S2048x512, .f32⟩
  | .hbm, ⟨21, _⟩ => ⟨S2048x8x64, .f32⟩
  | .hbm, ⟨22, _⟩ => ⟨S8x2048x64, .f32⟩
  | .hbm, ⟨23, _⟩ => ⟨S2048x512, .bf16⟩
  | .hbm, ⟨24, _⟩ => ⟨S2048x512, .f32⟩
  | .hbm, ⟨25, _⟩ => ⟨S2048x8x64, .f32⟩
  | .hbm, ⟨26, _⟩ => ⟨S8x2048x64, .f32⟩
  | .hbm, ⟨27, _⟩ => ⟨S8x2048x2048, .f32⟩
  | .hbm, ⟨28, _⟩ => ⟨S_, .f32⟩
  | .hbm, ⟨29, _⟩ => ⟨S8x2048x2048, .f32⟩
  | .hbm, ⟨30, _⟩ => ⟨S8x2048x2048, .f32⟩
  | .hbm, ⟨31, _⟩ => ⟨S8x2048x1, .f32⟩
  | .hbm, ⟨32, _⟩ => ⟨S8x2048x2048, .f32⟩
  | .hbm, ⟨33, _⟩ => ⟨S8x2048x2048, .f32⟩
  | .hbm, ⟨34, _⟩ => ⟨S8x1x2048, .f32⟩
  | .hbm, ⟨35, _⟩ => ⟨S8x2048x2048, .f32⟩
  | .hbm, ⟨36, _⟩ => ⟨S8x2048x2048, .f32⟩
  | .hbm, ⟨37, _⟩ => ⟨S2048, .i32⟩
  | .hbm, ⟨38, _⟩ => ⟨S1x2048, .i32⟩
  | .hbm, ⟨39, _⟩ => ⟨S2048x1, .i32⟩
  | .hbm, ⟨40, _⟩ => ⟨S2048x2048, .i32⟩
  | .hbm, ⟨41, _⟩ => ⟨S2048x2048, .i32⟩
  | .hbm, ⟨42, _⟩ => ⟨S2048x2048, .i1⟩
  | .hbm, ⟨43, _⟩ => ⟨S_, .f32⟩
  | .hbm, ⟨44, _⟩ => ⟨S_, .f32⟩
  | .hbm, ⟨45, _⟩ => ⟨S8x2048x2048, .i1⟩
  | .hbm, ⟨46, _⟩ => ⟨S8x2048x2048, .f32⟩
  | .hbm, ⟨47, _⟩ => ⟨S8x2048x2048, .f32⟩
  | .hbm, ⟨48, _⟩ => ⟨S_, .f32⟩
  | .hbm, ⟨49, _⟩ => ⟨S8x2048, .f32⟩
  | .hbm, ⟨50, _⟩ => ⟨S8x2048x1, .f32⟩
  | .hbm, ⟨51, _⟩ => ⟨S8x2048x2048, .f32⟩
  | .hbm, ⟨52, _⟩ => ⟨S8x2048x2048, .f32⟩
  | .hbm, ⟨53, _⟩ => ⟨S8x2048x2048, .f32⟩
  | .hbm, ⟨54, _⟩ => ⟨S_, .f32⟩
  | .hbm, ⟨55, _⟩ => ⟨S8x2048, .f32⟩
  | .hbm, ⟨56, _⟩ => ⟨S8x2048x1, .f32⟩
  | .hbm, ⟨57, _⟩ => ⟨S8x2048x2048, .f32⟩
  | .hbm, ⟨58, _⟩ => ⟨S8x2048x2048, .f32⟩
  | .hbm, ⟨59, _⟩ => ⟨S8x2048x64, .f32⟩
  | .hbm, ⟨60, _⟩ => ⟨S2048x8x64, .f32⟩
  | .hbm, ⟨61, _⟩ => ⟨S2048x512, .f32⟩
  | .hbm, ⟨62, _⟩ => ⟨S8x2048x1, .f32⟩
  | .hbm, ⟨63, _⟩ => ⟨S8x2048x1, .f32⟩
  | .hbm, ⟨64, _⟩ => ⟨S8x2048, .f32⟩
  | .hbm, ⟨65, _⟩ => ⟨S2048x8, .f32⟩
  | .hbm, ⟨66, _⟩ => ⟨S2048x2x4, .f32⟩
  | .hbm, ⟨67, _⟩ => ⟨S2x2048x4, .f32⟩
  | .hbm, ⟨68, _⟩ => ⟨S2x2048x4x64, .f32⟩
  | .hbm, ⟨69, _⟩ => ⟨S2x2048x256, .f32⟩
  | .hbm, ⟨70, _⟩ => ⟨S2048x512, .bf16⟩
  | .hbm, ⟨71, _⟩ => ⟨S2048x512, .bf16⟩
  | .hbm, ⟨72, _⟩ => ⟨S2048x512, .bf16⟩
  | .hbm, ⟨73, _⟩ => ⟨S2x8x8x256, .f32⟩
  | .local _ .vmem, ⟨0, _⟩ => ⟨S256x256, .bf16⟩
  | .local _ .vmem, ⟨1, _⟩ => ⟨S256x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S1x256x256, .f32⟩
  | .local _ .vmem, ⟨7, _⟩ => ⟨S1x256x256, .f32⟩
  | .local _ .vmem, ⟨8, _⟩ => ⟨S1x8x8x256, .f32⟩
  | .local _ .vmem, ⟨9, _⟩ => ⟨S1x8x8x256, .f32⟩
  | .local _ .vmem, ⟨10, _⟩ => ⟨S256x256, .f32⟩
  | .local _ .vmem, ⟨11, _⟩ => ⟨S256x256, .f32⟩
  | .local _ .vmem, ⟨12, _⟩ => ⟨S1x256x256, .f32⟩
  | .local _ .vmem, ⟨13, _⟩ => ⟨S1x256x256, .f32⟩
  | .local _ .vmem, ⟨14, _⟩ => ⟨S256x256, .f32⟩
  | .local _ .vmem, ⟨15, _⟩ => ⟨S256x256, .f32⟩
  | .local _ .vmem, ⟨16, _⟩ => ⟨S256x256, .bf16⟩
  | .local _ .vmem, ⟨17, _⟩ => ⟨S256x256, .bf16⟩
  | .local _ .vmem, ⟨18, _⟩ => ⟨S2048x256, .bf16⟩
  | .local _ .vmem, ⟨19, _⟩ => ⟨S2048x256, .bf16⟩
  | .local _ .vmem, ⟨20, _⟩ => ⟨S2048x256, .bf16⟩
  | .local _ .vmem, ⟨21, _⟩ => ⟨S2048x256, .bf16⟩
  | .local _ .vmem, ⟨22, _⟩ => ⟨S1x8x8x256, .f32⟩
  | .local _ .vmem, ⟨23, _⟩ => ⟨S1x8x8x256, .f32⟩
  | .local _ .vmem, ⟨24, _⟩ => ⟨S4x2048x64, .f32⟩
  | .local _ .vmem, ⟨25, _⟩ => ⟨S4x2048x64, .f32⟩
  | .local _ .vmem, ⟨26, _⟩ => ⟨S2x4x256x256, .bf16⟩
  | .local _ .vmem, ⟨27, _⟩ => ⟨S2x4x256x256, .bf16⟩
  | _, _ => ⟨S2048x3328, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_0 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v37 : Ref sig .tc := ⟨.hbm, 47, rfl⟩
abbrev main_cst_1 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_2 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58_0 : Ref sig .tc := ⟨.hbm, 70, rfl⟩
abbrev main_v58_1 : Ref sig .tc := ⟨.hbm, 71, rfl⟩
abbrev main_v58_2 : Ref sig .tc := ⟨.hbm, 72, rfl⟩
abbrev main_v58_3 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let arg1 : BitVec 32 := BitVec.ofNat 32 (i 1).val
  let c256_i32 : BitVec 32 := 256#32
  let v73 : BitVec 32 := Scalar.muli arg1 c256_i32
  v73
def k0_off1 (i : grid0.Coords) : Fin 2 → Nat :=
  let arg1 : BitVec 32 := BitVec.ofNat 32 (i 1).val
  let c256_i32 : BitVec 32 := 256#32
  let v73 : BitVec 32 := Scalar.muli arg1 c256_i32
  let v74 : BitVec 32 := v73
  let v75 : Index := Scalar.indexCast v74
  let c0_54 : Index := 0#32
  ![v75.toNat, 0]
def k0_mult2 (i : grid0.Coords) : BitVec 32 :=
  let arg1 : BitVec 32 := BitVec.ofNat 32 (i 1).val
  let c256_i32_55 : BitVec 32 := 256#32
  let v77 : BitVec 32 := Scalar.muli arg1 c256_i32_55
  v77
def k0_off2 (i : grid0.Coords) : Fin 4 → Nat :=
  let c0_57 : Index := 0#32
  let arg1 : BitVec 32 := BitVec.ofNat 32 (i 1).val
  let v82 : Index := Scalar.indexCast arg1
  let c0_58 : Index := 0#32
  let c0_59 : Index := 0#32
  ![0, v82.toNat, 0, 0]
def k0_off3 (i : grid0.Coords) : Fin 4 → Nat :=
  let c0_79 : Index := 0#32
  let arg1 : BitVec 32 := BitVec.ofNat 32 (i 1).val
  let v122 : Index := Scalar.indexCast arg1
  let c1 : Index := 1#32
  let c0_80 : Index := 0#32
  ![0, v122.toNat, 1, 0]
def k0_off4 (i : grid0.Coords) : Fin 4 → Nat :=
  let c0_100 : Index := 0#32
  let arg1 : BitVec 32 := BitVec.ofNat 32 (i 1).val
  let v162 : Index := Scalar.indexCast arg1
  let c2 : Index := 2#32
  let c0_101 : Index := 0#32
  ![0, v162.toNat, 2, 0]
def k0_off5 (i : grid0.Coords) : Fin 4 → Nat :=
  let c0_121 : Index := 0#32
  let arg1 : BitVec 32 := BitVec.ofNat 32 (i 1).val
  let v202 : Index := Scalar.indexCast arg1
  let c3 : Index := 3#32
  let c0_122 : Index := 0#32
  ![0, v202.toNat, 3, 0]
@[reducible] def k0_t1_loop (i : grid0.Coords) : Scf.Loop 32 :=
  let c1_i32_142 : BitVec 32 := 1#32
  let arg1 : BitVec 32 := BitVec.ofNat 32 (i 1).val
  let c1_i32 : BitVec 32 := 1#32
  let v72 : BitVec 32 := Scalar.addi arg1 c1_i32
  let v241 : BitVec 32 := Scalar.subi v72 c1_i32_142
  let c1_i32_143 : BitVec 32 := 1#32
  let v243 : BitVec 32 := Scalar.divsi v241 c1_i32_143
  let v244 : BitVec 32 := Scalar.muli v243 c1_i32_143
  let v245 : BitVec 32 := Scalar.addi c1_i32_142 v244
  let c1_i32_144 : BitVec 32 := 1#32
  ⟨c1_i32_142, v245, c1_i32_144⟩
def k0_mult3 (i : grid0.Coords) (k0_t1 : Fin (k0_t1_loop i).trips) : BitVec 32 :=
  let arg1 : BitVec 32 := BitVec.ofNat 32 (i 1).val
  let c1_i32_142 : BitVec 32 := 1#32
  let c1_i32_144 : BitVec 32 := 1#32
  let arg18 : BitVec 32 := Scf.iv c1_i32_142 c1_i32_144 k0_t1
  let v439 : BitVec 32 := Scalar.subi arg1 arg18
  let c1_i32_260 : BitVec 32 := 1#32
  let v440 : BitVec 32 := Scalar.addi v439 c1_i32_260
  let c256_i32_268 : BitVec 32 := 256#32
  let v452 : BitVec 32 := Scalar.muli v440 c256_i32_268
  v452
def k0_off6 (i : grid0.Coords) (k0_t1 : Fin (k0_t1_loop i).trips) : Fin 2 → Nat :=
  let arg1 : BitVec 32 := BitVec.ofNat 32 (i 1).val
  let c1_i32_142 : BitVec 32 := 1#32
  let c1_i32_144 : BitVec 32 := 1#32
  let arg18 : BitVec 32 := Scf.iv c1_i32_142 c1_i32_144 k0_t1
  let v439 : BitVec 32 := Scalar.subi arg1 arg18
  let c1_i32_260 : BitVec 32 := 1#32
  let v440 : BitVec 32 := Scalar.addi v439 c1_i32_260
  let c256_i32_268 : BitVec 32 := 256#32
  let v452 : BitVec 32 := Scalar.muli v440 c256_i32_268
  let v453 : BitVec 32 := v452
  let v454 : Index := Scalar.indexCast v453
  let c0_269 : Index := 0#32
  ![v454.toNat, 0]
def k0_off7 (i : grid0.Coords) (k0_t1 : Fin (k0_t1_loop i).trips) : Fin 4 → Nat :=
  let c1_i32_142 : BitVec 32 := 1#32
  let c1_i32_144 : BitVec 32 := 1#32
  let arg18 : BitVec 32 := Scf.iv c1_i32_142 c1_i32_144 k0_t1
  let c1_i32_261 : BitVec 32 := 1#32
  let v441 : BitVec 32 := Scalar.subi arg18 c1_i32_261
  let c2_i32_262 : BitVec 32 := 2#32
  let c0_i32_263 : BitVec 32 := 0#32
  let v442 : BitVec 1 := Scalar.cmpi .eq c2_i32_262 c0_i32_263
  let c1_i32_264 : BitVec 32 := 1#32
  let v443 : BitVec 32 := Scalar.select v442 c1_i32_264 c2_i32_262
  let v444 : BitVec 32 := Scalar.remsi v441 v443
  let c0_i32_266 : BitVec 32 := 0#32
  let v446 : BitVec 1 := Scalar.cmpi .slt v444 c0_i32_266
  let c0_i32_267 : BitVec 32 := 0#32
  let v447 : BitVec 1 := Scalar.cmpi .slt v443 c0_i32_267
  let v448 : BitVec 1 := Scalar.xori v446 v447
  let c0_i32_265 : BitVec 32 := 0#32
  let v445 : BitVec 1 := Scalar.cmpi .ne v444 c0_i32_265
  let v449 : BitVec 1 := Scalar.andi v448 v445
  let v450 : BitVec 32 := Scalar.addi v444 v443
  let v451 : BitVec 32 := Scalar.select v449 v450 v444
  let v456 : Index := Scalar.indexCast v451
  let c0_270 : Index := 0#32
  let c0_271 : Index := 0#32
  let c0_272 : Index := 0#32
  ![v456.toNat, 0, 0, 0]
def k0_mult4 (i : grid0.Coords) (k0_t1 : Fin (k0_t1_loop i).trips) : BitVec 32 :=
  let arg1 : BitVec 32 := BitVec.ofNat 32 (i 1).val
  let c1_i32_142 : BitVec 32 := 1#32
  let c1_i32_144 : BitVec 32 := 1#32
  let arg18 : BitVec 32 := Scf.iv c1_i32_142 c1_i32_144 k0_t1
  let v439 : BitVec 32 := Scalar.subi arg1 arg18
  let c1_i32_260 : BitVec 32 := 1#32
  let v440 : BitVec 32 := Scalar.addi v439 c1_i32_260
  let c256_i32_273 : BitVec 32 := 256#32
  let v459 : BitVec 32 := Scalar.muli v440 c256_i32_273
  v459
def k0_off8 (i : grid0.Coords) (k0_t1 : Fin (k0_t1_loop i).trips) : Fin 3 → Nat :=
  let c0_274 : Index := 0#32
  let arg1 : BitVec 32 := BitVec.ofNat 32 (i 1).val
  let c1_i32_142 : BitVec 32 := 1#32
  let c1_i32_144 : BitVec 32 := 1#32
  let arg18 : BitVec 32 := Scf.iv c1_i32_142 c1_i32_144 k0_t1
  let v439 : BitVec 32 := Scalar.subi arg1 arg18
  let c1_i32_260 : BitVec 32 := 1#32
  let v440 : BitVec 32 := Scalar.addi v439 c1_i32_260
  let c256_i32_273 : BitVec 32 := 256#32
  let v459 : BitVec 32 := Scalar.muli v440 c256_i32_273
  let v460 : BitVec 32 := v459
  let v461 : Index := Scalar.indexCast v460
  let c0_275 : Index := 0#32
  ![0, v461.toNat, 0]
def k0_mult5 (i : grid0.Coords) (k0_t1 : Fin (k0_t1_loop i).trips) : BitVec 32 :=
  let arg1 : BitVec 32 := BitVec.ofNat 32 (i 1).val
  let c1_i32_142 : BitVec 32 := 1#32
  let c1_i32_144 : BitVec 32 := 1#32
  let arg18 : BitVec 32 := Scf.iv c1_i32_142 c1_i32_144 k0_t1
  let v439 : BitVec 32 := Scalar.subi arg1 arg18
  let c1_i32_260 : BitVec 32 := 1#32
  let v440 : BitVec 32 := Scalar.addi v439 c1_i32_260
  let c256_i32_282 : BitVec 32 := 256#32
  let v473 : BitVec 32 := Scalar.muli v440 c256_i32_282
  v473
def k0_off9 (i : grid0.Coords) (k0_t1 : Fin (k0_t1_loop i).trips) : Fin 4 → Nat :=
  let c1_i32_142 : BitVec 32 := 1#32
  let c1_i32_144 : BitVec 32 := 1#32
  let arg18 : BitVec 32 := Scf.iv c1_i32_142 c1_i32_144 k0_t1
  let c1_i32_261 : BitVec 32 := 1#32
  let v441 : BitVec 32 := Scalar.subi arg18 c1_i32_261
  let c2_i32_262 : BitVec 32 := 2#32
  let c0_i32_263 : BitVec 32 := 0#32
  let v442 : BitVec 1 := Scalar.cmpi .eq c2_i32_262 c0_i32_263
  let c1_i32_264 : BitVec 32 := 1#32
  let v443 : BitVec 32 := Scalar.select v442 c1_i32_264 c2_i32_262
  let v444 : BitVec 32 := Scalar.remsi v441 v443
  let c0_i32_266 : BitVec 32 := 0#32
  let v446 : BitVec 1 := Scalar.cmpi .slt v444 c0_i32_266
  let c0_i32_267 : BitVec 32 := 0#32
  let v447 : BitVec 1 := Scalar.cmpi .slt v443 c0_i32_267
  let v448 : BitVec 1 := Scalar.xori v446 v447
  let c0_i32_265 : BitVec 32 := 0#32
  let v445 : BitVec 1 := Scalar.cmpi .ne v444 c0_i32_265
  let v449 : BitVec 1 := Scalar.andi v448 v445
  let v450 : BitVec 32 := Scalar.addi v444 v443
  let v451 : BitVec 32 := Scalar.select v449 v450 v444
  let v487 : Index := Scalar.indexCast v451
  let c1_289 : Index := 1#32
  let c0_290 : Index := 0#32
  let c0_291 : Index := 0#32
  ![v487.toNat, 1, 0, 0]
def k0_mult6 (i : grid0.Coords) (k0_t1 : Fin (k0_t1_loop i).trips) : BitVec 32 :=
  let arg1 : BitVec 32 := BitVec.ofNat 32 (i 1).val
  let c1_i32_142 : BitVec 32 := 1#32
  let c1_i32_144 : BitVec 32 := 1#32
  let arg18 : BitVec 32 := Scf.iv c1_i32_142 c1_i32_144 k0_t1
  let v439 : BitVec 32 := Scalar.subi arg1 arg18
  let c1_i32_260 : BitVec 32 := 1#32
  let v440 : BitVec 32 := Scalar.addi v439 c1_i32_260
  let c256_i32_292 : BitVec 32 := 256#32
  let v490 : BitVec 32 := Scalar.muli v440 c256_i32_292
  v490
def k0_off10 (i : grid0.Coords) (k0_t1 : Fin (k0_t1_loop i).trips) : Fin 3 → Nat :=
  let c1_293 : Index := 1#32
  let arg1 : BitVec 32 := BitVec.ofNat 32 (i 1).val
  let c1_i32_142 : BitVec 32 := 1#32
  let c1_i32_144 : BitVec 32 := 1#32
  let arg18 : BitVec 32 := Scf.iv c1_i32_142 c1_i32_144 k0_t1
  let v439 : BitVec 32 := Scalar.subi arg1 arg18
  let c1_i32_260 : BitVec 32 := 1#32
  let v440 : BitVec 32 := Scalar.addi v439 c1_i32_260
  let c256_i32_292 : BitVec 32 := 256#32
  let v490 : BitVec 32 := Scalar.muli v440 c256_i32_292
  let v491 : BitVec 32 := v490
  let v492 : Index := Scalar.indexCast v491
  let c0_294 : Index := 0#32
  ![1, v492.toNat, 0]
def k0_mult7 (i : grid0.Coords) (k0_t1 : Fin (k0_t1_loop i).trips) : BitVec 32 :=
  let arg1 : BitVec 32 := BitVec.ofNat 32 (i 1).val
  let c1_i32_142 : BitVec 32 := 1#32
  let c1_i32_144 : BitVec 32 := 1#32
  let arg18 : BitVec 32 := Scf.iv c1_i32_142 c1_i32_144 k0_t1
  let v439 : BitVec 32 := Scalar.subi arg1 arg18
  let c1_i32_260 : BitVec 32 := 1#32
  let v440 : BitVec 32 := Scalar.addi v439 c1_i32_260
  let c256_i32_301 : BitVec 32 := 256#32
  let v504 : BitVec 32 := Scalar.muli v440 c256_i32_301
  v504
def k0_off11 (i : grid0.Coords) (k0_t1 : Fin (k0_t1_loop i).trips) : Fin 4 → Nat :=
  let c1_i32_142 : BitVec 32 := 1#32
  let c1_i32_144 : BitVec 32 := 1#32
  let arg18 : BitVec 32 := Scf.iv c1_i32_142 c1_i32_144 k0_t1
  let c1_i32_261 : BitVec 32 := 1#32
  let v441 : BitVec 32 := Scalar.subi arg18 c1_i32_261
  let c2_i32_262 : BitVec 32 := 2#32
  let c0_i32_263 : BitVec 32 := 0#32
  let v442 : BitVec 1 := Scalar.cmpi .eq c2_i32_262 c0_i32_263
  let c1_i32_264 : BitVec 32 := 1#32
  let v443 : BitVec 32 := Scalar.select v442 c1_i32_264 c2_i32_262
  let v444 : BitVec 32 := Scalar.remsi v441 v443
  let c0_i32_266 : BitVec 32 := 0#32
  let v446 : BitVec 1 := Scalar.cmpi .slt v444 c0_i32_266
  let c0_i32_267 : BitVec 32 := 0#32
  let v447 : BitVec 1 := Scalar.cmpi .slt v443 c0_i32_267
  let v448 : BitVec 1 := Scalar.xori v446 v447
  let c0_i32_265 : BitVec 32 := 0#32
  let v445 : BitVec 1 := Scalar.cmpi .ne v444 c0_i32_265
  let v449 : BitVec 1 := Scalar.andi v448 v445
  let v450 : BitVec 32 := Scalar.addi v444 v443
  let v451 : BitVec 32 := Scalar.select v449 v450 v444
  let v518 : Index := Scalar.indexCast v451
  let c2_308 : Index := 2#32
  let c0_309 : Index := 0#32
  let c0_310 : Index := 0#32
  ![v518.toNat, 2, 0, 0]
def k0_mult8 (i : grid0.Coords) (k0_t1 : Fin (k0_t1_loop i).trips) : BitVec 32 :=
  let arg1 : BitVec 32 := BitVec.ofNat 32 (i 1).val
  let c1_i32_142 : BitVec 32 := 1#32
  let c1_i32_144 : BitVec 32 := 1#32
  let arg18 : BitVec 32 := Scf.iv c1_i32_142 c1_i32_144 k0_t1
  let v439 : BitVec 32 := Scalar.subi arg1 arg18
  let c1_i32_260 : BitVec 32 := 1#32
  let v440 : BitVec 32 := Scalar.addi v439 c1_i32_260
  let c256_i32_311 : BitVec 32 := 256#32
  let v521 : BitVec 32 := Scalar.muli v440 c256_i32_311
  v521
def k0_off12 (i : grid0.Coords) (k0_t1 : Fin (k0_t1_loop i).trips) : Fin 3 → Nat :=
  let c2_312 : Index := 2#32
  let arg1 : BitVec 32 := BitVec.ofNat 32 (i 1).val
  let c1_i32_142 : BitVec 32 := 1#32
  let c1_i32_144 : BitVec 32 := 1#32
  let arg18 : BitVec 32 := Scf.iv c1_i32_142 c1_i32_144 k0_t1
  let v439 : BitVec 32 := Scalar.subi arg1 arg18
  let c1_i32_260 : BitVec 32 := 1#32
  let v440 : BitVec 32 := Scalar.addi v439 c1_i32_260
  let c256_i32_311 : BitVec 32 := 256#32
  let v521 : BitVec 32 := Scalar.muli v440 c256_i32_311
  let v522 : BitVec 32 := v521
  let v523 : Index := Scalar.indexCast v522
  let c0_313 : Index := 0#32
  ![2, v523.toNat, 0]
def k0_mult9 (i : grid0.Coords) (k0_t1 : Fin (k0_t1_loop i).trips) : BitVec 32 :=
  let arg1 : BitVec 32 := BitVec.ofNat 32 (i 1).val
  let c1_i32_142 : BitVec 32 := 1#32
  let c1_i32_144 : BitVec 32 := 1#32
  let arg18 : BitVec 32 := Scf.iv c1_i32_142 c1_i32_144 k0_t1
  let v439 : BitVec 32 := Scalar.subi arg1 arg18
  let c1_i32_260 : BitVec 32 := 1#32
  let v440 : BitVec 32 := Scalar.addi v439 c1_i32_260
  let c256_i32_320 : BitVec 32 := 256#32
  let v535 : BitVec 32 := Scalar.muli v440 c256_i32_320
  v535
def k0_off13 (i : grid0.Coords) (k0_t1 : Fin (k0_t1_loop i).trips) : Fin 4 → Nat :=
  let c1_i32_142 : BitVec 32 := 1#32
  let c1_i32_144 : BitVec 32 := 1#32
  let arg18 : BitVec 32 := Scf.iv c1_i32_142 c1_i32_144 k0_t1
  let c1_i32_261 : BitVec 32 := 1#32
  let v441 : BitVec 32 := Scalar.subi arg18 c1_i32_261
  let c2_i32_262 : BitVec 32 := 2#32
  let c0_i32_263 : BitVec 32 := 0#32
  let v442 : BitVec 1 := Scalar.cmpi .eq c2_i32_262 c0_i32_263
  let c1_i32_264 : BitVec 32 := 1#32
  let v443 : BitVec 32 := Scalar.select v442 c1_i32_264 c2_i32_262
  let v444 : BitVec 32 := Scalar.remsi v441 v443
  let c0_i32_266 : BitVec 32 := 0#32
  let v446 : BitVec 1 := Scalar.cmpi .slt v444 c0_i32_266
  let c0_i32_267 : BitVec 32 := 0#32
  let v447 : BitVec 1 := Scalar.cmpi .slt v443 c0_i32_267
  let v448 : BitVec 1 := Scalar.xori v446 v447
  let c0_i32_265 : BitVec 32 := 0#32
  let v445 : BitVec 1 := Scalar.cmpi .ne v444 c0_i32_265
  let v449 : BitVec 1 := Scalar.andi v448 v445
  let v450 : BitVec 32 := Scalar.addi v444 v443
  let v451 : BitVec 32 := Scalar.select v449 v450 v444
  let v549 : Index := Scalar.indexCast v451
  let c3_327 : Index := 3#32
  let c0_328 : Index := 0#32
  let c0_329 : Index := 0#32
  ![v549.toNat, 3, 0, 0]
def k0_mult10 (i : grid0.Coords) (k0_t1 : Fin (k0_t1_loop i).trips) : BitVec 32 :=
  let arg1 : BitVec 32 := BitVec.ofNat 32 (i 1).val
  let c1_i32_142 : BitVec 32 := 1#32
  let c1_i32_144 : BitVec 32 := 1#32
  let arg18 : BitVec 32 := Scf.iv c1_i32_142 c1_i32_144 k0_t1
  let v439 : BitVec 32 := Scalar.subi arg1 arg18
  let c1_i32_260 : BitVec 32 := 1#32
  let v440 : BitVec 32 := Scalar.addi v439 c1_i32_260
  let c256_i32_330 : BitVec 32 := 256#32
  let v552 : BitVec 32 := Scalar.muli v440 c256_i32_330
  v552
def k0_off14 (i : grid0.Coords) (k0_t1 : Fin (k0_t1_loop i).trips) : Fin 3 → Nat :=
  let c3_331 : Index := 3#32
  let arg1 : BitVec 32 := BitVec.ofNat 32 (i 1).val
  let c1_i32_142 : BitVec 32 := 1#32
  let c1_i32_144 : BitVec 32 := 1#32
  let arg18 : BitVec 32 := Scf.iv c1_i32_142 c1_i32_144 k0_t1
  let v439 : BitVec 32 := Scalar.subi arg1 arg18
  let c1_i32_260 : BitVec 32 := 1#32
  let v440 : BitVec 32 := Scalar.addi v439 c1_i32_260
  let c256_i32_330 : BitVec 32 := 256#32
  let v552 : BitVec 32 := Scalar.muli v440 c256_i32_330
  let v553 : BitVec 32 := v552
  let v554 : Index := Scalar.indexCast v553
  let c0_332 : Index := 0#32
  ![3, v554.toNat, 0]
def k0_mult11 (i : grid0.Coords) (k0_t1 : Fin (k0_t1_loop i).trips) : BitVec 32 :=
  let arg1 : BitVec 32 := BitVec.ofNat 32 (i 1).val
  let c1_i32_142 : BitVec 32 := 1#32
  let c1_i32_144 : BitVec 32 := 1#32
  let arg18 : BitVec 32 := Scf.iv c1_i32_142 c1_i32_144 k0_t1
  let v439 : BitVec 32 := Scalar.subi arg1 arg18
  let c1_i32_260 : BitVec 32 := 1#32
  let v440 : BitVec 32 := Scalar.addi v439 c1_i32_260
  let c256_i32_339 : BitVec 32 := 256#32
  let v566 : BitVec 32 := Scalar.muli v440 c256_i32_339
  v566
def k0_mult12 (i : grid0.Coords) (k0_t1 : Fin (k0_t1_loop i).trips) : BitVec 32 :=
  let arg1 : BitVec 32 := BitVec.ofNat 32 (i 1).val
  let c1_i32_142 : BitVec 32 := 1#32
  let c1_i32_144 : BitVec 32 := 1#32
  let arg18 : BitVec 32 := Scf.iv c1_i32_142 c1_i32_144 k0_t1
  let v580 : BitVec 32 := Scalar.subi arg1 arg18
  let c256_i32_352 : BitVec 32 := 256#32
  let v591 : BitVec 32 := Scalar.muli v580 c256_i32_352
  v591
def k0_off15 (i : grid0.Coords) (k0_t1 : Fin (k0_t1_loop i).trips) : Fin 2 → Nat :=
  let arg1 : BitVec 32 := BitVec.ofNat 32 (i 1).val
  let c1_i32_142 : BitVec 32 := 1#32
  let c1_i32_144 : BitVec 32 := 1#32
  let arg18 : BitVec 32 := Scf.iv c1_i32_142 c1_i32_144 k0_t1
  let v580 : BitVec 32 := Scalar.subi arg1 arg18
  let c256_i32_352 : BitVec 32 := 256#32
  let v591 : BitVec 32 := Scalar.muli v580 c256_i32_352
  let v592 : BitVec 32 := v591
  let v593 : Index := Scalar.indexCast v592
  let c0_353 : Index := 0#32
  ![v593.toNat, 0]
def k0_mult13 (i : grid0.Coords) (k0_t1 : Fin (k0_t1_loop i).trips) : BitVec 32 :=
  let arg1 : BitVec 32 := BitVec.ofNat 32 (i 1).val
  let c1_i32_142 : BitVec 32 := 1#32
  let c1_i32_144 : BitVec 32 := 1#32
  let arg18 : BitVec 32 := Scf.iv c1_i32_142 c1_i32_144 k0_t1
  let v580 : BitVec 32 := Scalar.subi arg1 arg18
  let c256_i32_354 : BitVec 32 := 256#32
  let v595 : BitVec 32 := Scalar.muli v580 c256_i32_354
  v595
def k0_off16 (i : grid0.Coords) (k0_t1 : Fin (k0_t1_loop i).trips) : Fin 4 → Nat :=
  let c0_356 : Index := 0#32
  let arg1 : BitVec 32 := BitVec.ofNat 32 (i 1).val
  let c1_i32_142 : BitVec 32 := 1#32
  let c1_i32_144 : BitVec 32 := 1#32
  let arg18 : BitVec 32 := Scf.iv c1_i32_142 c1_i32_144 k0_t1
  let v580 : BitVec 32 := Scalar.subi arg1 arg18
  let v600 : Index := Scalar.indexCast v580
  let c0_357 : Index := 0#32
  let c0_358 : Index := 0#32
  ![0, v600.toNat, 0, 0]
def k0_off17 (i : grid0.Coords) (k0_t1 : Fin (k0_t1_loop i).trips) : Fin 4 → Nat :=
  let c1_i32_142 : BitVec 32 := 1#32
  let c1_i32_144 : BitVec 32 := 1#32
  let arg18 : BitVec 32 := Scf.iv c1_i32_142 c1_i32_144 k0_t1
  let c2_i32_346 : BitVec 32 := 2#32
  let c0_i32_347 : BitVec 32 := 0#32
  let v581 : BitVec 1 := Scalar.cmpi .eq c2_i32_346 c0_i32_347
  let c1_i32_348 : BitVec 32 := 1#32
  let v582 : BitVec 32 := Scalar.select v581 c1_i32_348 c2_i32_346
  let v583 : BitVec 32 := Scalar.remsi arg18 v582
  let c0_i32_350 : BitVec 32 := 0#32
  let v585 : BitVec 1 := Scalar.cmpi .slt v583 c0_i32_350
  let c0_i32_351 : BitVec 32 := 0#32
  let v586 : BitVec 1 := Scalar.cmpi .slt v582 c0_i32_351
  let v587 : BitVec 1 := Scalar.xori v585 v586
  let c0_i32_349 : BitVec 32 := 0#32
  let v584 : BitVec 1 := Scalar.cmpi .ne v583 c0_i32_349
  let v588 : BitVec 1 := Scalar.andi v587 v584
  let v589 : BitVec 32 := Scalar.addi v583 v582
  let v590 : BitVec 32 := Scalar.select v588 v589 v583
  let v617 : Index := Scalar.indexCast v590
  let c0_361 : Index := 0#32
  let c0_362 : Index := 0#32
  let c0_363 : Index := 0#32
  ![v617.toNat, 0, 0, 0]
def k0_off18 (i : grid0.Coords) (k0_t1 : Fin (k0_t1_loop i).trips) : Fin 4 → Nat :=
  let c0_375 : Index := 0#32
  let arg1 : BitVec 32 := BitVec.ofNat 32 (i 1).val
  let c1_i32_142 : BitVec 32 := 1#32
  let c1_i32_144 : BitVec 32 := 1#32
  let arg18 : BitVec 32 := Scf.iv c1_i32_142 c1_i32_144 k0_t1
  let v580 : BitVec 32 := Scalar.subi arg1 arg18
  let v640 : Index := Scalar.indexCast v580
  let c1_376 : Index := 1#32
  let c0_377 : Index := 0#32
  ![0, v640.toNat, 1, 0]
def k0_off19 (i : grid0.Coords) (k0_t1 : Fin (k0_t1_loop i).trips) : Fin 4 → Nat :=
  let c1_i32_142 : BitVec 32 := 1#32
  let c1_i32_144 : BitVec 32 := 1#32
  let arg18 : BitVec 32 := Scf.iv c1_i32_142 c1_i32_144 k0_t1
  let c2_i32_346 : BitVec 32 := 2#32
  let c0_i32_347 : BitVec 32 := 0#32
  let v581 : BitVec 1 := Scalar.cmpi .eq c2_i32_346 c0_i32_347
  let c1_i32_348 : BitVec 32 := 1#32
  let v582 : BitVec 32 := Scalar.select v581 c1_i32_348 c2_i32_346
  let v583 : BitVec 32 := Scalar.remsi arg18 v582
  let c0_i32_350 : BitVec 32 := 0#32
  let v585 : BitVec 1 := Scalar.cmpi .slt v583 c0_i32_350
  let c0_i32_351 : BitVec 32 := 0#32
  let v586 : BitVec 1 := Scalar.cmpi .slt v582 c0_i32_351
  let v587 : BitVec 1 := Scalar.xori v585 v586
  let c0_i32_349 : BitVec 32 := 0#32
  let v584 : BitVec 1 := Scalar.cmpi .ne v583 c0_i32_349
  let v588 : BitVec 1 := Scalar.andi v587 v584
  let v589 : BitVec 32 := Scalar.addi v583 v582
  let v590 : BitVec 32 := Scalar.select v588 v589 v583
  let v657 : Index := Scalar.indexCast v590
  let c1_380 : Index := 1#32
  let c0_381 : Index := 0#32
  let c0_382 : Index := 0#32
  ![v657.toNat, 1, 0, 0]
def k0_off20 (i : grid0.Coords) (k0_t1 : Fin (k0_t1_loop i).trips) : Fin 4 → Nat :=
  let c0_394 : Index := 0#32
  let arg1 : BitVec 32 := BitVec.ofNat 32 (i 1).val
  let c1_i32_142 : BitVec 32 := 1#32
  let c1_i32_144 : BitVec 32 := 1#32
  let arg18 : BitVec 32 := Scf.iv c1_i32_142 c1_i32_144 k0_t1
  let v580 : BitVec 32 := Scalar.subi arg1 arg18
  let v680 : Index := Scalar.indexCast v580
  let c2_395 : Index := 2#32
  let c0_396 : Index := 0#32
  ![0, v680.toNat, 2, 0]
def k0_off21 (i : grid0.Coords) (k0_t1 : Fin (k0_t1_loop i).trips) : Fin 4 → Nat :=
  let c1_i32_142 : BitVec 32 := 1#32
  let c1_i32_144 : BitVec 32 := 1#32
  let arg18 : BitVec 32 := Scf.iv c1_i32_142 c1_i32_144 k0_t1
  let c2_i32_346 : BitVec 32 := 2#32
  let c0_i32_347 : BitVec 32 := 0#32
  let v581 : BitVec 1 := Scalar.cmpi .eq c2_i32_346 c0_i32_347
  let c1_i32_348 : BitVec 32 := 1#32
  let v582 : BitVec 32 := Scalar.select v581 c1_i32_348 c2_i32_346
  let v583 : BitVec 32 := Scalar.remsi arg18 v582
  let c0_i32_350 : BitVec 32 := 0#32
  let v585 : BitVec 1 := Scalar.cmpi .slt v583 c0_i32_350
  let c0_i32_351 : BitVec 32 := 0#32
  let v586 : BitVec 1 := Scalar.cmpi .slt v582 c0_i32_351
  let v587 : BitVec 1 := Scalar.xori v585 v586
  let c0_i32_349 : BitVec 32 := 0#32
  let v584 : BitVec 1 := Scalar.cmpi .ne v583 c0_i32_349
  let v588 : BitVec 1 := Scalar.andi v587 v584
  let v589 : BitVec 32 := Scalar.addi v583 v582
  let v590 : BitVec 32 := Scalar.select v588 v589 v583
  let v697 : Index := Scalar.indexCast v590
  let c2_399 : Index := 2#32
  let c0_400 : Index := 0#32
  let c0_401 : Index := 0#32
  ![v697.toNat, 2, 0, 0]
def k0_off22 (i : grid0.Coords) (k0_t1 : Fin (k0_t1_loop i).trips) : Fin 4 → Nat :=
  let c0_413 : Index := 0#32
  let arg1 : BitVec 32 := BitVec.ofNat 32 (i 1).val
  let c1_i32_142 : BitVec 32 := 1#32
  let c1_i32_144 : BitVec 32 := 1#32
  let arg18 : BitVec 32 := Scf.iv c1_i32_142 c1_i32_144 k0_t1
  let v580 : BitVec 32 := Scalar.subi arg1 arg18
  let v720 : Index := Scalar.indexCast v580
  let c3_414 : Index := 3#32
  let c0_415 : Index := 0#32
  ![0, v720.toNat, 3, 0]
def k0_off23 (i : grid0.Coords) (k0_t1 : Fin (k0_t1_loop i).trips) : Fin 4 → Nat :=
  let c1_i32_142 : BitVec 32 := 1#32
  let c1_i32_144 : BitVec 32 := 1#32
  let arg18 : BitVec 32 := Scf.iv c1_i32_142 c1_i32_144 k0_t1
  let c2_i32_346 : BitVec 32 := 2#32
  let c0_i32_347 : BitVec 32 := 0#32
  let v581 : BitVec 1 := Scalar.cmpi .eq c2_i32_346 c0_i32_347
  let c1_i32_348 : BitVec 32 := 1#32
  let v582 : BitVec 32 := Scalar.select v581 c1_i32_348 c2_i32_346
  let v583 : BitVec 32 := Scalar.remsi arg18 v582
  let c0_i32_350 : BitVec 32 := 0#32
  let v585 : BitVec 1 := Scalar.cmpi .slt v583 c0_i32_350
  let c0_i32_351 : BitVec 32 := 0#32
  let v586 : BitVec 1 := Scalar.cmpi .slt v582 c0_i32_351
  let v587 : BitVec 1 := Scalar.xori v585 v586
  let c0_i32_349 : BitVec 32 := 0#32
  let v584 : BitVec 1 := Scalar.cmpi .ne v583 c0_i32_349
  let v588 : BitVec 1 := Scalar.andi v587 v584
  let v589 : BitVec 32 := Scalar.addi v583 v582
  let v590 : BitVec 32 := Scalar.select v588 v589 v583
  let v737 : Index := Scalar.indexCast v590
  let c3_418 : Index := 3#32
  let c0_419 : Index := 0#32
  let c0_420 : Index := 0#32
  ![v737.toNat, 3, 0, 0]
@[reducible] def k0_t2_loop (i : grid0.Coords) : Scf.Loop 32 :=
  let c1_i32_142 : BitVec 32 := 1#32
  let arg1 : BitVec 32 := BitVec.ofNat 32 (i 1).val
  let c1_i32 : BitVec 32 := 1#32
  let v72 : BitVec 32 := Scalar.addi arg1 c1_i32
  let v241 : BitVec 32 := Scalar.subi v72 c1_i32_142
  let c1_i32_143 : BitVec 32 := 1#32
  let v243 : BitVec 32 := Scalar.divsi v241 c1_i32_143
  let v244 : BitVec 32 := Scalar.muli v243 c1_i32_143
  let v245 : BitVec 32 := Scalar.addi c1_i32_142 v244
  let v242 : BitVec 32 := Scalar.addi c1_i32_142 v241
  let c1_i32_145 : BitVec 32 := 1#32
  ⟨v245, v242, c1_i32_145⟩
def k0_mult14 (i : grid0.Coords) (k0_t2 : Fin (k0_t2_loop i).trips) : BitVec 32 :=
  let arg1 : BitVec 32 := BitVec.ofNat 32 (i 1).val
  let c1_i32_142 : BitVec 32 := 1#32
  let c1_i32 : BitVec 32 := 1#32
  let v72 : BitVec 32 := Scalar.addi arg1 c1_i32
  let v241 : BitVec 32 := Scalar.subi v72 c1_i32_142
  let c1_i32_143 : BitVec 32 := 1#32
  let v243 : BitVec 32 := Scalar.divsi v241 c1_i32_143
  let v244 : BitVec 32 := Scalar.muli v243 c1_i32_143
  let v245 : BitVec 32 := Scalar.addi c1_i32_142 v244
  let c1_i32_145 : BitVec 32 := 1#32
  let arg18 : BitVec 32 := Scf.iv v245 c1_i32_145 k0_t2
  let v439 : BitVec 32 := Scalar.subi arg1 arg18
  let c1_i32_260 : BitVec 32 := 1#32
  let v440 : BitVec 32 := Scalar.addi v439 c1_i32_260
  let c256_i32_268 : BitVec 32 := 256#32
  let v452 : BitVec 32 := Scalar.muli v440 c256_i32_268
  v452
def k0_off24 (i : grid0.Coords) (k0_t2 : Fin (k0_t2_loop i).trips) : Fin 2 → Nat :=
  let arg1 : BitVec 32 := BitVec.ofNat 32 (i 1).val
  let c1_i32_142 : BitVec 32 := 1#32
  let c1_i32 : BitVec 32 := 1#32
  let v72 : BitVec 32 := Scalar.addi arg1 c1_i32
  let v241 : BitVec 32 := Scalar.subi v72 c1_i32_142
  let c1_i32_143 : BitVec 32 := 1#32
  let v243 : BitVec 32 := Scalar.divsi v241 c1_i32_143
  let v244 : BitVec 32 := Scalar.muli v243 c1_i32_143
  let v245 : BitVec 32 := Scalar.addi c1_i32_142 v244
  let c1_i32_145 : BitVec 32 := 1#32
  let arg18 : BitVec 32 := Scf.iv v245 c1_i32_145 k0_t2
  let v439 : BitVec 32 := Scalar.subi arg1 arg18
  let c1_i32_260 : BitVec 32 := 1#32
  let v440 : BitVec 32 := Scalar.addi v439 c1_i32_260
  let c256_i32_268 : BitVec 32 := 256#32
  let v452 : BitVec 32 := Scalar.muli v440 c256_i32_268
  let v453 : BitVec 32 := v452
  let v454 : Index := Scalar.indexCast v453
  let c0_269 : Index := 0#32
  ![v454.toNat, 0]
def k0_off25 (i : grid0.Coords) (k0_t2 : Fin (k0_t2_loop i).trips) : Fin 4 → Nat :=
  let c1_i32_142 : BitVec 32 := 1#32
  let arg1 : BitVec 32 := BitVec.ofNat 32 (i 1).val
  let c1_i32 : BitVec 32 := 1#32
  let v72 : BitVec 32 := Scalar.addi arg1 c1_i32
  let v241 : BitVec 32 := Scalar.subi v72 c1_i32_142
  let c1_i32_143 : BitVec 32 := 1#32
  let v243 : BitVec 32 := Scalar.divsi v241 c1_i32_143
  let v244 : BitVec 32 := Scalar.muli v243 c1_i32_143
  let v245 : BitVec 32 := Scalar.addi c1_i32_142 v244
  let c1_i32_145 : BitVec 32 := 1#32
  let arg18 : BitVec 32 := Scf.iv v245 c1_i32_145 k0_t2
  let c1_i32_261 : BitVec 32 := 1#32
  let v441 : BitVec 32 := Scalar.subi arg18 c1_i32_261
  let c2_i32_262 : BitVec 32 := 2#32
  let c0_i32_263 : BitVec 32 := 0#32
  let v442 : BitVec 1 := Scalar.cmpi .eq c2_i32_262 c0_i32_263
  let c1_i32_264 : BitVec 32 := 1#32
  let v443 : BitVec 32 := Scalar.select v442 c1_i32_264 c2_i32_262
  let v444 : BitVec 32 := Scalar.remsi v441 v443
  let c0_i32_266 : BitVec 32 := 0#32
  let v446 : BitVec 1 := Scalar.cmpi .slt v444 c0_i32_266
  let c0_i32_267 : BitVec 32 := 0#32
  let v447 : BitVec 1 := Scalar.cmpi .slt v443 c0_i32_267
  let v448 : BitVec 1 := Scalar.xori v446 v447
  let c0_i32_265 : BitVec 32 := 0#32
  let v445 : BitVec 1 := Scalar.cmpi .ne v444 c0_i32_265
  let v449 : BitVec 1 := Scalar.andi v448 v445
  let v450 : BitVec 32 := Scalar.addi v444 v443
  let v451 : BitVec 32 := Scalar.select v449 v450 v444
  let v456 : Index := Scalar.indexCast v451
  let c0_270 : Index := 0#32
  let c0_271 : Index := 0#32
  let c0_272 : Index := 0#32
  ![v456.toNat, 0, 0, 0]
def k0_mult15 (i : grid0.Coords) (k0_t2 : Fin (k0_t2_loop i).trips) : BitVec 32 :=
  let arg1 : BitVec 32 := BitVec.ofNat 32 (i 1).val
  let c1_i32_142 : BitVec 32 := 1#32
  let c1_i32 : BitVec 32 := 1#32
  let v72 : BitVec 32 := Scalar.addi arg1 c1_i32
  let v241 : BitVec 32 := Scalar.subi v72 c1_i32_142
  let c1_i32_143 : BitVec 32 := 1#32
  let v243 : BitVec 32 := Scalar.divsi v241 c1_i32_143
  let v244 : BitVec 32 := Scalar.muli v243 c1_i32_143
  let v245 : BitVec 32 := Scalar.addi c1_i32_142 v244
  let c1_i32_145 : BitVec 32 := 1#32
  let arg18 : BitVec 32 := Scf.iv v245 c1_i32_145 k0_t2
  let v439 : BitVec 32 := Scalar.subi arg1 arg18
  let c1_i32_260 : BitVec 32 := 1#32
  let v440 : BitVec 32 := Scalar.addi v439 c1_i32_260
  let c256_i32_273 : BitVec 32 := 256#32
  let v459 : BitVec 32 := Scalar.muli v440 c256_i32_273
  v459
def k0_off26 (i : grid0.Coords) (k0_t2 : Fin (k0_t2_loop i).trips) : Fin 3 → Nat :=
  let c0_274 : Index := 0#32
  let arg1 : BitVec 32 := BitVec.ofNat 32 (i 1).val
  let c1_i32_142 : BitVec 32 := 1#32
  let c1_i32 : BitVec 32 := 1#32
  let v72 : BitVec 32 := Scalar.addi arg1 c1_i32
  let v241 : BitVec 32 := Scalar.subi v72 c1_i32_142
  let c1_i32_143 : BitVec 32 := 1#32
  let v243 : BitVec 32 := Scalar.divsi v241 c1_i32_143
  let v244 : BitVec 32 := Scalar.muli v243 c1_i32_143
  let v245 : BitVec 32 := Scalar.addi c1_i32_142 v244
  let c1_i32_145 : BitVec 32 := 1#32
  let arg18 : BitVec 32 := Scf.iv v245 c1_i32_145 k0_t2
  let v439 : BitVec 32 := Scalar.subi arg1 arg18
  let c1_i32_260 : BitVec 32 := 1#32
  let v440 : BitVec 32 := Scalar.addi v439 c1_i32_260
  let c256_i32_273 : BitVec 32 := 256#32
  let v459 : BitVec 32 := Scalar.muli v440 c256_i32_273
  let v460 : BitVec 32 := v459
  let v461 : Index := Scalar.indexCast v460
  let c0_275 : Index := 0#32
  ![0, v461.toNat, 0]
def k0_mult16 (i : grid0.Coords) (k0_t2 : Fin (k0_t2_loop i).trips) : BitVec 32 :=
  let arg1 : BitVec 32 := BitVec.ofNat 32 (i 1).val
  let c1_i32_142 : BitVec 32 := 1#32
  let c1_i32 : BitVec 32 := 1#32
  let v72 : BitVec 32 := Scalar.addi arg1 c1_i32
  let v241 : BitVec 32 := Scalar.subi v72 c1_i32_142
  let c1_i32_143 : BitVec 32 := 1#32
  let v243 : BitVec 32 := Scalar.divsi v241 c1_i32_143
  let v244 : BitVec 32 := Scalar.muli v243 c1_i32_143
  let v245 : BitVec 32 := Scalar.addi c1_i32_142 v244
  let c1_i32_145 : BitVec 32 := 1#32
  let arg18 : BitVec 32 := Scf.iv v245 c1_i32_145 k0_t2
  let v439 : BitVec 32 := Scalar.subi arg1 arg18
  let c1_i32_260 : BitVec 32 := 1#32
  let v440 : BitVec 32 := Scalar.addi v439 c1_i32_260
  let c256_i32_282 : BitVec 32 := 256#32
  let v473 : BitVec 32 := Scalar.muli v440 c256_i32_282
  v473
def k0_off27 (i : grid0.Coords) (k0_t2 : Fin (k0_t2_loop i).trips) : Fin 4 → Nat :=
  let c1_i32_142 : BitVec 32 := 1#32
  let arg1 : BitVec 32 := BitVec.ofNat 32 (i 1).val
  let c1_i32 : BitVec 32 := 1#32
  let v72 : BitVec 32 := Scalar.addi arg1 c1_i32
  let v241 : BitVec 32 := Scalar.subi v72 c1_i32_142
  let c1_i32_143 : BitVec 32 := 1#32
  let v243 : BitVec 32 := Scalar.divsi v241 c1_i32_143
  let v244 : BitVec 32 := Scalar.muli v243 c1_i32_143
  let v245 : BitVec 32 := Scalar.addi c1_i32_142 v244
  let c1_i32_145 : BitVec 32 := 1#32
  let arg18 : BitVec 32 := Scf.iv v245 c1_i32_145 k0_t2
  let c1_i32_261 : BitVec 32 := 1#32
  let v441 : BitVec 32 := Scalar.subi arg18 c1_i32_261
  let c2_i32_262 : BitVec 32 := 2#32
  let c0_i32_263 : BitVec 32 := 0#32
  let v442 : BitVec 1 := Scalar.cmpi .eq c2_i32_262 c0_i32_263
  let c1_i32_264 : BitVec 32 := 1#32
  let v443 : BitVec 32 := Scalar.select v442 c1_i32_264 c2_i32_262
  let v444 : BitVec 32 := Scalar.remsi v441 v443
  let c0_i32_266 : BitVec 32 := 0#32
  let v446 : BitVec 1 := Scalar.cmpi .slt v444 c0_i32_266
  let c0_i32_267 : BitVec 32 := 0#32
  let v447 : BitVec 1 := Scalar.cmpi .slt v443 c0_i32_267
  let v448 : BitVec 1 := Scalar.xori v446 v447
  let c0_i32_265 : BitVec 32 := 0#32
  let v445 : BitVec 1 := Scalar.cmpi .ne v444 c0_i32_265
  let v449 : BitVec 1 := Scalar.andi v448 v445
  let v450 : BitVec 32 := Scalar.addi v444 v443
  let v451 : BitVec 32 := Scalar.select v449 v450 v444
  let v487 : Index := Scalar.indexCast v451
  let c1_289 : Index := 1#32
  let c0_290 : Index := 0#32
  let c0_291 : Index := 0#32
  ![v487.toNat, 1, 0, 0]
def k0_mult17 (i : grid0.Coords) (k0_t2 : Fin (k0_t2_loop i).trips) : BitVec 32 :=
  let arg1 : BitVec 32 := BitVec.ofNat 32 (i 1).val
  let c1_i32_142 : BitVec 32 := 1#32
  let c1_i32 : BitVec 32 := 1#32
  let v72 : BitVec 32 := Scalar.addi arg1 c1_i32
  let v241 : BitVec 32 := Scalar.subi v72 c1_i32_142
  let c1_i32_143 : BitVec 32 := 1#32
  let v243 : BitVec 32 := Scalar.divsi v241 c1_i32_143
  let v244 : BitVec 32 := Scalar.muli v243 c1_i32_143
  let v245 : BitVec 32 := Scalar.addi c1_i32_142 v244
  let c1_i32_145 : BitVec 32 := 1#32
  let arg18 : BitVec 32 := Scf.iv v245 c1_i32_145 k0_t2
  let v439 : BitVec 32 := Scalar.subi arg1 arg18
  let c1_i32_260 : BitVec 32 := 1#32
  let v440 : BitVec 32 := Scalar.addi v439 c1_i32_260
  let c256_i32_292 : BitVec 32 := 256#32
  let v490 : BitVec 32 := Scalar.muli v440 c256_i32_292
  v490
def k0_off28 (i : grid0.Coords) (k0_t2 : Fin (k0_t2_loop i).trips) : Fin 3 → Nat :=
  let c1_293 : Index := 1#32
  let arg1 : BitVec 32 := BitVec.ofNat 32 (i 1).val
  let c1_i32_142 : BitVec 32 := 1#32
  let c1_i32 : BitVec 32 := 1#32
  let v72 : BitVec 32 := Scalar.addi arg1 c1_i32
  let v241 : BitVec 32 := Scalar.subi v72 c1_i32_142
  let c1_i32_143 : BitVec 32 := 1#32
  let v243 : BitVec 32 := Scalar.divsi v241 c1_i32_143
  let v244 : BitVec 32 := Scalar.muli v243 c1_i32_143
  let v245 : BitVec 32 := Scalar.addi c1_i32_142 v244
  let c1_i32_145 : BitVec 32 := 1#32
  let arg18 : BitVec 32 := Scf.iv v245 c1_i32_145 k0_t2
  let v439 : BitVec 32 := Scalar.subi arg1 arg18
  let c1_i32_260 : BitVec 32 := 1#32
  let v440 : BitVec 32 := Scalar.addi v439 c1_i32_260
  let c256_i32_292 : BitVec 32 := 256#32
  let v490 : BitVec 32 := Scalar.muli v440 c256_i32_292
  let v491 : BitVec 32 := v490
  let v492 : Index := Scalar.indexCast v491
  let c0_294 : Index := 0#32
  ![1, v492.toNat, 0]
def k0_mult18 (i : grid0.Coords) (k0_t2 : Fin (k0_t2_loop i).trips) : BitVec 32 :=
  let arg1 : BitVec 32 := BitVec.ofNat 32 (i 1).val
  let c1_i32_142 : BitVec 32 := 1#32
  let c1_i32 : BitVec 32 := 1#32
  let v72 : BitVec 32 := Scalar.addi arg1 c1_i32
  let v241 : BitVec 32 := Scalar.subi v72 c1_i32_142
  let c1_i32_143 : BitVec 32 := 1#32
  let v243 : BitVec 32 := Scalar.divsi v241 c1_i32_143
  let v244 : BitVec 32 := Scalar.muli v243 c1_i32_143
  let v245 : BitVec 32 := Scalar.addi c1_i32_142 v244
  let c1_i32_145 : BitVec 32 := 1#32
  let arg18 : BitVec 32 := Scf.iv v245 c1_i32_145 k0_t2
  let v439 : BitVec 32 := Scalar.subi arg1 arg18
  let c1_i32_260 : BitVec 32 := 1#32
  let v440 : BitVec 32 := Scalar.addi v439 c1_i32_260
  let c256_i32_301 : BitVec 32 := 256#32
  let v504 : BitVec 32 := Scalar.muli v440 c256_i32_301
  v504
def k0_off29 (i : grid0.Coords) (k0_t2 : Fin (k0_t2_loop i).trips) : Fin 4 → Nat :=
  let c1_i32_142 : BitVec 32 := 1#32
  let arg1 : BitVec 32 := BitVec.ofNat 32 (i 1).val
  let c1_i32 : BitVec 32 := 1#32
  let v72 : BitVec 32 := Scalar.addi arg1 c1_i32
  let v241 : BitVec 32 := Scalar.subi v72 c1_i32_142
  let c1_i32_143 : BitVec 32 := 1#32
  let v243 : BitVec 32 := Scalar.divsi v241 c1_i32_143
  let v244 : BitVec 32 := Scalar.muli v243 c1_i32_143
  let v245 : BitVec 32 := Scalar.addi c1_i32_142 v244
  let c1_i32_145 : BitVec 32 := 1#32
  let arg18 : BitVec 32 := Scf.iv v245 c1_i32_145 k0_t2
  let c1_i32_261 : BitVec 32 := 1#32
  let v441 : BitVec 32 := Scalar.subi arg18 c1_i32_261
  let c2_i32_262 : BitVec 32 := 2#32
  let c0_i32_263 : BitVec 32 := 0#32
  let v442 : BitVec 1 := Scalar.cmpi .eq c2_i32_262 c0_i32_263
  let c1_i32_264 : BitVec 32 := 1#32
  let v443 : BitVec 32 := Scalar.select v442 c1_i32_264 c2_i32_262
  let v444 : BitVec 32 := Scalar.remsi v441 v443
  let c0_i32_266 : BitVec 32 := 0#32
  let v446 : BitVec 1 := Scalar.cmpi .slt v444 c0_i32_266
  let c0_i32_267 : BitVec 32 := 0#32
  let v447 : BitVec 1 := Scalar.cmpi .slt v443 c0_i32_267
  let v448 : BitVec 1 := Scalar.xori v446 v447
  let c0_i32_265 : BitVec 32 := 0#32
  let v445 : BitVec 1 := Scalar.cmpi .ne v444 c0_i32_265
  let v449 : BitVec 1 := Scalar.andi v448 v445
  let v450 : BitVec 32 := Scalar.addi v444 v443
  let v451 : BitVec 32 := Scalar.select v449 v450 v444
  let v518 : Index := Scalar.indexCast v451
  let c2_308 : Index := 2#32
  let c0_309 : Index := 0#32
  let c0_310 : Index := 0#32
  ![v518.toNat, 2, 0, 0]
def k0_mult19 (i : grid0.Coords) (k0_t2 : Fin (k0_t2_loop i).trips) : BitVec 32 :=
  let arg1 : BitVec 32 := BitVec.ofNat 32 (i 1).val
  let c1_i32_142 : BitVec 32 := 1#32
  let c1_i32 : BitVec 32 := 1#32
  let v72 : BitVec 32 := Scalar.addi arg1 c1_i32
  let v241 : BitVec 32 := Scalar.subi v72 c1_i32_142
  let c1_i32_143 : BitVec 32 := 1#32
  let v243 : BitVec 32 := Scalar.divsi v241 c1_i32_143
  let v244 : BitVec 32 := Scalar.muli v243 c1_i32_143
  let v245 : BitVec 32 := Scalar.addi c1_i32_142 v244
  let c1_i32_145 : BitVec 32 := 1#32
  let arg18 : BitVec 32 := Scf.iv v245 c1_i32_145 k0_t2
  let v439 : BitVec 32 := Scalar.subi arg1 arg18
  let c1_i32_260 : BitVec 32 := 1#32
  let v440 : BitVec 32 := Scalar.addi v439 c1_i32_260
  let c256_i32_311 : BitVec 32 := 256#32
  let v521 : BitVec 32 := Scalar.muli v440 c256_i32_311
  v521
def k0_off30 (i : grid0.Coords) (k0_t2 : Fin (k0_t2_loop i).trips) : Fin 3 → Nat :=
  let c2_312 : Index := 2#32
  let arg1 : BitVec 32 := BitVec.ofNat 32 (i 1).val
  let c1_i32_142 : BitVec 32 := 1#32
  let c1_i32 : BitVec 32 := 1#32
  let v72 : BitVec 32 := Scalar.addi arg1 c1_i32
  let v241 : BitVec 32 := Scalar.subi v72 c1_i32_142
  let c1_i32_143 : BitVec 32 := 1#32
  let v243 : BitVec 32 := Scalar.divsi v241 c1_i32_143
  let v244 : BitVec 32 := Scalar.muli v243 c1_i32_143
  let v245 : BitVec 32 := Scalar.addi c1_i32_142 v244
  let c1_i32_145 : BitVec 32 := 1#32
  let arg18 : BitVec 32 := Scf.iv v245 c1_i32_145 k0_t2
  let v439 : BitVec 32 := Scalar.subi arg1 arg18
  let c1_i32_260 : BitVec 32 := 1#32
  let v440 : BitVec 32 := Scalar.addi v439 c1_i32_260
  let c256_i32_311 : BitVec 32 := 256#32
  let v521 : BitVec 32 := Scalar.muli v440 c256_i32_311
  let v522 : BitVec 32 := v521
  let v523 : Index := Scalar.indexCast v522
  let c0_313 : Index := 0#32
  ![2, v523.toNat, 0]
def k0_mult20 (i : grid0.Coords) (k0_t2 : Fin (k0_t2_loop i).trips) : BitVec 32 :=
  let arg1 : BitVec 32 := BitVec.ofNat 32 (i 1).val
  let c1_i32_142 : BitVec 32 := 1#32
  let c1_i32 : BitVec 32 := 1#32
  let v72 : BitVec 32 := Scalar.addi arg1 c1_i32
  let v241 : BitVec 32 := Scalar.subi v72 c1_i32_142
  let c1_i32_143 : BitVec 32 := 1#32
  let v243 : BitVec 32 := Scalar.divsi v241 c1_i32_143
  let v244 : BitVec 32 := Scalar.muli v243 c1_i32_143
  let v245 : BitVec 32 := Scalar.addi c1_i32_142 v244
  let c1_i32_145 : BitVec 32 := 1#32
  let arg18 : BitVec 32 := Scf.iv v245 c1_i32_145 k0_t2
  let v439 : BitVec 32 := Scalar.subi arg1 arg18
  let c1_i32_260 : BitVec 32 := 1#32
  let v440 : BitVec 32 := Scalar.addi v439 c1_i32_260
  let c256_i32_320 : BitVec 32 := 256#32
  let v535 : BitVec 32 := Scalar.muli v440 c256_i32_320
  v535
def k0_off31 (i : grid0.Coords) (k0_t2 : Fin (k0_t2_loop i).trips) : Fin 4 → Nat :=
  let c1_i32_142 : BitVec 32 := 1#32
  let arg1 : BitVec 32 := BitVec.ofNat 32 (i 1).val
  let c1_i32 : BitVec 32 := 1#32
  let v72 : BitVec 32 := Scalar.addi arg1 c1_i32
  let v241 : BitVec 32 := Scalar.subi v72 c1_i32_142
  let c1_i32_143 : BitVec 32 := 1#32
  let v243 : BitVec 32 := Scalar.divsi v241 c1_i32_143
  let v244 : BitVec 32 := Scalar.muli v243 c1_i32_143
  let v245 : BitVec 32 := Scalar.addi c1_i32_142 v244
  let c1_i32_145 : BitVec 32 := 1#32
  let arg18 : BitVec 32 := Scf.iv v245 c1_i32_145 k0_t2
  let c1_i32_261 : BitVec 32 := 1#32
  let v441 : BitVec 32 := Scalar.subi arg18 c1_i32_261
  let c2_i32_262 : BitVec 32 := 2#32
  let c0_i32_263 : BitVec 32 := 0#32
  let v442 : BitVec 1 := Scalar.cmpi .eq c2_i32_262 c0_i32_263
  let c1_i32_264 : BitVec 32 := 1#32
  let v443 : BitVec 32 := Scalar.select v442 c1_i32_264 c2_i32_262
  let v444 : BitVec 32 := Scalar.remsi v441 v443
  let c0_i32_266 : BitVec 32 := 0#32
  let v446 : BitVec 1 := Scalar.cmpi .slt v444 c0_i32_266
  let c0_i32_267 : BitVec 32 := 0#32
  let v447 : BitVec 1 := Scalar.cmpi .slt v443 c0_i32_267
  let v448 : BitVec 1 := Scalar.xori v446 v447
  let c0_i32_265 : BitVec 32 := 0#32
  let v445 : BitVec 1 := Scalar.cmpi .ne v444 c0_i32_265
  let v449 : BitVec 1 := Scalar.andi v448 v445
  let v450 : BitVec 32 := Scalar.addi v444 v443
  let v451 : BitVec 32 := Scalar.select v449 v450 v444
  let v549 : Index := Scalar.indexCast v451
  let c3_327 : Index := 3#32
  let c0_328 : Index := 0#32
  let c0_329 : Index := 0#32
  ![v549.toNat, 3, 0, 0]
def k0_mult21 (i : grid0.Coords) (k0_t2 : Fin (k0_t2_loop i).trips) : BitVec 32 :=
  let arg1 : BitVec 32 := BitVec.ofNat 32 (i 1).val
  let c1_i32_142 : BitVec 32 := 1#32
  let c1_i32 : BitVec 32 := 1#32
  let v72 : BitVec 32 := Scalar.addi arg1 c1_i32
  let v241 : BitVec 32 := Scalar.subi v72 c1_i32_142
  let c1_i32_143 : BitVec 32 := 1#32
  let v243 : BitVec 32 := Scalar.divsi v241 c1_i32_143
  let v244 : BitVec 32 := Scalar.muli v243 c1_i32_143
  let v245 : BitVec 32 := Scalar.addi c1_i32_142 v244
  let c1_i32_145 : BitVec 32 := 1#32
  let arg18 : BitVec 32 := Scf.iv v245 c1_i32_145 k0_t2
  let v439 : BitVec 32 := Scalar.subi arg1 arg18
  let c1_i32_260 : BitVec 32 := 1#32
  let v440 : BitVec 32 := Scalar.addi v439 c1_i32_260
  let c256_i32_330 : BitVec 32 := 256#32
  let v552 : BitVec 32 := Scalar.muli v440 c256_i32_330
  v552
def k0_off32 (i : grid0.Coords) (k0_t2 : Fin (k0_t2_loop i).trips) : Fin 3 → Nat :=
  let c3_331 : Index := 3#32
  let arg1 : BitVec 32 := BitVec.ofNat 32 (i 1).val
  let c1_i32_142 : BitVec 32 := 1#32
  let c1_i32 : BitVec 32 := 1#32
  let v72 : BitVec 32 := Scalar.addi arg1 c1_i32
  let v241 : BitVec 32 := Scalar.subi v72 c1_i32_142
  let c1_i32_143 : BitVec 32 := 1#32
  let v243 : BitVec 32 := Scalar.divsi v241 c1_i32_143
  let v244 : BitVec 32 := Scalar.muli v243 c1_i32_143
  let v245 : BitVec 32 := Scalar.addi c1_i32_142 v244
  let c1_i32_145 : BitVec 32 := 1#32
  let arg18 : BitVec 32 := Scf.iv v245 c1_i32_145 k0_t2
  let v439 : BitVec 32 := Scalar.subi arg1 arg18
  let c1_i32_260 : BitVec 32 := 1#32
  let v440 : BitVec 32 := Scalar.addi v439 c1_i32_260
  let c256_i32_330 : BitVec 32 := 256#32
  let v552 : BitVec 32 := Scalar.muli v440 c256_i32_330
  let v553 : BitVec 32 := v552
  let v554 : Index := Scalar.indexCast v553
  let c0_332 : Index := 0#32
  ![3, v554.toNat, 0]
def k0_mult22 (i : grid0.Coords) (k0_t2 : Fin (k0_t2_loop i).trips) : BitVec 32 :=
  let arg1 : BitVec 32 := BitVec.ofNat 32 (i 1).val
  let c1_i32_142 : BitVec 32 := 1#32
  let c1_i32 : BitVec 32 := 1#32
  let v72 : BitVec 32 := Scalar.addi arg1 c1_i32
  let v241 : BitVec 32 := Scalar.subi v72 c1_i32_142
  let c1_i32_143 : BitVec 32 := 1#32
  let v243 : BitVec 32 := Scalar.divsi v241 c1_i32_143
  let v244 : BitVec 32 := Scalar.muli v243 c1_i32_143
  let v245 : BitVec 32 := Scalar.addi c1_i32_142 v244
  let c1_i32_145 : BitVec 32 := 1#32
  let arg18 : BitVec 32 := Scf.iv v245 c1_i32_145 k0_t2
  let v439 : BitVec 32 := Scalar.subi arg1 arg18
  let c1_i32_260 : BitVec 32 := 1#32
  let v440 : BitVec 32 := Scalar.addi v439 c1_i32_260
  let c256_i32_339 : BitVec 32 := 256#32
  let v566 : BitVec 32 := Scalar.muli v440 c256_i32_339
  v566
def k0_mult23 (i : grid0.Coords) (k0_t2 : Fin (k0_t2_loop i).trips) : BitVec 32 :=
  let arg1 : BitVec 32 := BitVec.ofNat 32 (i 1).val
  let c1_i32_142 : BitVec 32 := 1#32
  let c1_i32 : BitVec 32 := 1#32
  let v72 : BitVec 32 := Scalar.addi arg1 c1_i32
  let v241 : BitVec 32 := Scalar.subi v72 c1_i32_142
  let c1_i32_143 : BitVec 32 := 1#32
  let v243 : BitVec 32 := Scalar.divsi v241 c1_i32_143
  let v244 : BitVec 32 := Scalar.muli v243 c1_i32_143
  let v245 : BitVec 32 := Scalar.addi c1_i32_142 v244
  let c1_i32_145 : BitVec 32 := 1#32
  let arg18 : BitVec 32 := Scf.iv v245 c1_i32_145 k0_t2
  let v580 : BitVec 32 := Scalar.subi arg1 arg18
  let c256_i32_352 : BitVec 32 := 256#32
  let v591 : BitVec 32 := Scalar.muli v580 c256_i32_352
  v591
def k0_off33 (i : grid0.Coords) (k0_t2 : Fin (k0_t2_loop i).trips) : Fin 2 → Nat :=
  let arg1 : BitVec 32 := BitVec.ofNat 32 (i 1).val
  let c1_i32_142 : BitVec 32 := 1#32
  let c1_i32 : BitVec 32 := 1#32
  let v72 : BitVec 32 := Scalar.addi arg1 c1_i32
  let v241 : BitVec 32 := Scalar.subi v72 c1_i32_142
  let c1_i32_143 : BitVec 32 := 1#32
  let v243 : BitVec 32 := Scalar.divsi v241 c1_i32_143
  let v244 : BitVec 32 := Scalar.muli v243 c1_i32_143
  let v245 : BitVec 32 := Scalar.addi c1_i32_142 v244
  let c1_i32_145 : BitVec 32 := 1#32
  let arg18 : BitVec 32 := Scf.iv v245 c1_i32_145 k0_t2
  let v580 : BitVec 32 := Scalar.subi arg1 arg18
  let c256_i32_352 : BitVec 32 := 256#32
  let v591 : BitVec 32 := Scalar.muli v580 c256_i32_352
  let v592 : BitVec 32 := v591
  let v593 : Index := Scalar.indexCast v592
  let c0_353 : Index := 0#32
  ![v593.toNat, 0]
def k0_mult24 (i : grid0.Coords) (k0_t2 : Fin (k0_t2_loop i).trips) : BitVec 32 :=
  let arg1 : BitVec 32 := BitVec.ofNat 32 (i 1).val
  let c1_i32_142 : BitVec 32 := 1#32
  let c1_i32 : BitVec 32 := 1#32
  let v72 : BitVec 32 := Scalar.addi arg1 c1_i32
  let v241 : BitVec 32 := Scalar.subi v72 c1_i32_142
  let c1_i32_143 : BitVec 32 := 1#32
  let v243 : BitVec 32 := Scalar.divsi v241 c1_i32_143
  let v244 : BitVec 32 := Scalar.muli v243 c1_i32_143
  let v245 : BitVec 32 := Scalar.addi c1_i32_142 v244
  let c1_i32_145 : BitVec 32 := 1#32
  let arg18 : BitVec 32 := Scf.iv v245 c1_i32_145 k0_t2
  let v580 : BitVec 32 := Scalar.subi arg1 arg18
  let c256_i32_354 : BitVec 32 := 256#32
  let v595 : BitVec 32 := Scalar.muli v580 c256_i32_354
  v595
def k0_off34 (i : grid0.Coords) (k0_t2 : Fin (k0_t2_loop i).trips) : Fin 4 → Nat :=
  let c0_356 : Index := 0#32
  let arg1 : BitVec 32 := BitVec.ofNat 32 (i 1).val
  let c1_i32_142 : BitVec 32 := 1#32
  let c1_i32 : BitVec 32 := 1#32
  let v72 : BitVec 32 := Scalar.addi arg1 c1_i32
  let v241 : BitVec 32 := Scalar.subi v72 c1_i32_142
  let c1_i32_143 : BitVec 32 := 1#32
  let v243 : BitVec 32 := Scalar.divsi v241 c1_i32_143
  let v244 : BitVec 32 := Scalar.muli v243 c1_i32_143
  let v245 : BitVec 32 := Scalar.addi c1_i32_142 v244
  let c1_i32_145 : BitVec 32 := 1#32
  let arg18 : BitVec 32 := Scf.iv v245 c1_i32_145 k0_t2
  let v580 : BitVec 32 := Scalar.subi arg1 arg18
  let v600 : Index := Scalar.indexCast v580
  let c0_357 : Index := 0#32
  let c0_358 : Index := 0#32
  ![0, v600.toNat, 0, 0]
def k0_off35 (i : grid0.Coords) (k0_t2 : Fin (k0_t2_loop i).trips) : Fin 4 → Nat :=
  let c1_i32_142 : BitVec 32 := 1#32
  let arg1 : BitVec 32 := BitVec.ofNat 32 (i 1).val
  let c1_i32 : BitVec 32 := 1#32
  let v72 : BitVec 32 := Scalar.addi arg1 c1_i32
  let v241 : BitVec 32 := Scalar.subi v72 c1_i32_142
  let c1_i32_143 : BitVec 32 := 1#32
  let v243 : BitVec 32 := Scalar.divsi v241 c1_i32_143
  let v244 : BitVec 32 := Scalar.muli v243 c1_i32_143
  let v245 : BitVec 32 := Scalar.addi c1_i32_142 v244
  let c1_i32_145 : BitVec 32 := 1#32
  let arg18 : BitVec 32 := Scf.iv v245 c1_i32_145 k0_t2
  let c2_i32_346 : BitVec 32 := 2#32
  let c0_i32_347 : BitVec 32 := 0#32
  let v581 : BitVec 1 := Scalar.cmpi .eq c2_i32_346 c0_i32_347
  let c1_i32_348 : BitVec 32 := 1#32
  let v582 : BitVec 32 := Scalar.select v581 c1_i32_348 c2_i32_346
  let v583 : BitVec 32 := Scalar.remsi arg18 v582
  let c0_i32_350 : BitVec 32 := 0#32
  let v585 : BitVec 1 := Scalar.cmpi .slt v583 c0_i32_350
  let c0_i32_351 : BitVec 32 := 0#32
  let v586 : BitVec 1 := Scalar.cmpi .slt v582 c0_i32_351
  let v587 : BitVec 1 := Scalar.xori v585 v586
  let c0_i32_349 : BitVec 32 := 0#32
  let v584 : BitVec 1 := Scalar.cmpi .ne v583 c0_i32_349
  let v588 : BitVec 1 := Scalar.andi v587 v584
  let v589 : BitVec 32 := Scalar.addi v583 v582
  let v590 : BitVec 32 := Scalar.select v588 v589 v583
  let v617 : Index := Scalar.indexCast v590
  let c0_361 : Index := 0#32
  let c0_362 : Index := 0#32
  let c0_363 : Index := 0#32
  ![v617.toNat, 0, 0, 0]
def k0_off36 (i : grid0.Coords) (k0_t2 : Fin (k0_t2_loop i).trips) : Fin 4 → Nat :=
  let c0_375 : Index := 0#32
  let arg1 : BitVec 32 := BitVec.ofNat 32 (i 1).val
  let c1_i32_142 : BitVec 32 := 1#32
  let c1_i32 : BitVec 32 := 1#32
  let v72 : BitVec 32 := Scalar.addi arg1 c1_i32
  let v241 : BitVec 32 := Scalar.subi v72 c1_i32_142
  let c1_i32_143 : BitVec 32 := 1#32
  let v243 : BitVec 32 := Scalar.divsi v241 c1_i32_143
  let v244 : BitVec 32 := Scalar.muli v243 c1_i32_143
  let v245 : BitVec 32 := Scalar.addi c1_i32_142 v244
  let c1_i32_145 : BitVec 32 := 1#32
  let arg18 : BitVec 32 := Scf.iv v245 c1_i32_145 k0_t2
  let v580 : BitVec 32 := Scalar.subi arg1 arg18
  let v640 : Index := Scalar.indexCast v580
  let c1_376 : Index := 1#32
  let c0_377 : Index := 0#32
  ![0, v640.toNat, 1, 0]
def k0_off37 (i : grid0.Coords) (k0_t2 : Fin (k0_t2_loop i).trips) : Fin 4 → Nat :=
  let c1_i32_142 : BitVec 32 := 1#32
  let arg1 : BitVec 32 := BitVec.ofNat 32 (i 1).val
  let c1_i32 : BitVec 32 := 1#32
  let v72 : BitVec 32 := Scalar.addi arg1 c1_i32
  let v241 : BitVec 32 := Scalar.subi v72 c1_i32_142
  let c1_i32_143 : BitVec 32 := 1#32
  let v243 : BitVec 32 := Scalar.divsi v241 c1_i32_143
  let v244 : BitVec 32 := Scalar.muli v243 c1_i32_143
  let v245 : BitVec 32 := Scalar.addi c1_i32_142 v244
  let c1_i32_145 : BitVec 32 := 1#32
  let arg18 : BitVec 32 := Scf.iv v245 c1_i32_145 k0_t2
  let c2_i32_346 : BitVec 32 := 2#32
  let c0_i32_347 : BitVec 32 := 0#32
  let v581 : BitVec 1 := Scalar.cmpi .eq c2_i32_346 c0_i32_347
  let c1_i32_348 : BitVec 32 := 1#32
  let v582 : BitVec 32 := Scalar.select v581 c1_i32_348 c2_i32_346
  let v583 : BitVec 32 := Scalar.remsi arg18 v582
  let c0_i32_350 : BitVec 32 := 0#32
  let v585 : BitVec 1 := Scalar.cmpi .slt v583 c0_i32_350
  let c0_i32_351 : BitVec 32 := 0#32
  let v586 : BitVec 1 := Scalar.cmpi .slt v582 c0_i32_351
  let v587 : BitVec 1 := Scalar.xori v585 v586
  let c0_i32_349 : BitVec 32 := 0#32
  let v584 : BitVec 1 := Scalar.cmpi .ne v583 c0_i32_349
  let v588 : BitVec 1 := Scalar.andi v587 v584
  let v589 : BitVec 32 := Scalar.addi v583 v582
  let v590 : BitVec 32 := Scalar.select v588 v589 v583
  let v657 : Index := Scalar.indexCast v590
  let c1_380 : Index := 1#32
  let c0_381 : Index := 0#32
  let c0_382 : Index := 0#32
  ![v657.toNat, 1, 0, 0]
def k0_off38 (i : grid0.Coords) (k0_t2 : Fin (k0_t2_loop i).trips) : Fin 4 → Nat :=
  let c0_394 : Index := 0#32
  let arg1 : BitVec 32 := BitVec.ofNat 32 (i 1).val
  let c1_i32_142 : BitVec 32 := 1#32
  let c1_i32 : BitVec 32 := 1#32
  let v72 : BitVec 32 := Scalar.addi arg1 c1_i32
  let v241 : BitVec 32 := Scalar.subi v72 c1_i32_142
  let c1_i32_143 : BitVec 32 := 1#32
  let v243 : BitVec 32 := Scalar.divsi v241 c1_i32_143
  let v244 : BitVec 32 := Scalar.muli v243 c1_i32_143
  let v245 : BitVec 32 := Scalar.addi c1_i32_142 v244
  let c1_i32_145 : BitVec 32 := 1#32
  let arg18 : BitVec 32 := Scf.iv v245 c1_i32_145 k0_t2
  let v580 : BitVec 32 := Scalar.subi arg1 arg18
  let v680 : Index := Scalar.indexCast v580
  let c2_395 : Index := 2#32
  let c0_396 : Index := 0#32
  ![0, v680.toNat, 2, 0]
def k0_off39 (i : grid0.Coords) (k0_t2 : Fin (k0_t2_loop i).trips) : Fin 4 → Nat :=
  let c1_i32_142 : BitVec 32 := 1#32
  let arg1 : BitVec 32 := BitVec.ofNat 32 (i 1).val
  let c1_i32 : BitVec 32 := 1#32
  let v72 : BitVec 32 := Scalar.addi arg1 c1_i32
  let v241 : BitVec 32 := Scalar.subi v72 c1_i32_142
  let c1_i32_143 : BitVec 32 := 1#32
  let v243 : BitVec 32 := Scalar.divsi v241 c1_i32_143
  let v244 : BitVec 32 := Scalar.muli v243 c1_i32_143
  let v245 : BitVec 32 := Scalar.addi c1_i32_142 v244
  let c1_i32_145 : BitVec 32 := 1#32
  let arg18 : BitVec 32 := Scf.iv v245 c1_i32_145 k0_t2
  let c2_i32_346 : BitVec 32 := 2#32
  let c0_i32_347 : BitVec 32 := 0#32
  let v581 : BitVec 1 := Scalar.cmpi .eq c2_i32_346 c0_i32_347
  let c1_i32_348 : BitVec 32 := 1#32
  let v582 : BitVec 32 := Scalar.select v581 c1_i32_348 c2_i32_346
  let v583 : BitVec 32 := Scalar.remsi arg18 v582
  let c0_i32_350 : BitVec 32 := 0#32
  let v585 : BitVec 1 := Scalar.cmpi .slt v583 c0_i32_350
  let c0_i32_351 : BitVec 32 := 0#32
  let v586 : BitVec 1 := Scalar.cmpi .slt v582 c0_i32_351
  let v587 : BitVec 1 := Scalar.xori v585 v586
  let c0_i32_349 : BitVec 32 := 0#32
  let v584 : BitVec 1 := Scalar.cmpi .ne v583 c0_i32_349
  let v588 : BitVec 1 := Scalar.andi v587 v584
  let v589 : BitVec 32 := Scalar.addi v583 v582
  let v590 : BitVec 32 := Scalar.select v588 v589 v583
  let v697 : Index := Scalar.indexCast v590
  let c2_399 : Index := 2#32
  let c0_400 : Index := 0#32
  let c0_401 : Index := 0#32
  ![v697.toNat, 2, 0, 0]
def k0_off40 (i : grid0.Coords) (k0_t2 : Fin (k0_t2_loop i).trips) : Fin 4 → Nat :=
  let c0_413 : Index := 0#32
  let arg1 : BitVec 32 := BitVec.ofNat 32 (i 1).val
  let c1_i32_142 : BitVec 32 := 1#32
  let c1_i32 : BitVec 32 := 1#32
  let v72 : BitVec 32 := Scalar.addi arg1 c1_i32
  let v241 : BitVec 32 := Scalar.subi v72 c1_i32_142
  let c1_i32_143 : BitVec 32 := 1#32
  let v243 : BitVec 32 := Scalar.divsi v241 c1_i32_143
  let v244 : BitVec 32 := Scalar.muli v243 c1_i32_143
  let v245 : BitVec 32 := Scalar.addi c1_i32_142 v244
  let c1_i32_145 : BitVec 32 := 1#32
  let arg18 : BitVec 32 := Scf.iv v245 c1_i32_145 k0_t2
  let v580 : BitVec 32 := Scalar.subi arg1 arg18
  let v720 : Index := Scalar.indexCast v580
  let c3_414 : Index := 3#32
  let c0_415 : Index := 0#32
  ![0, v720.toNat, 3, 0]
def k0_off41 (i : grid0.Coords) (k0_t2 : Fin (k0_t2_loop i).trips) : Fin 4 → Nat :=
  let c1_i32_142 : BitVec 32 := 1#32
  let arg1 : BitVec 32 := BitVec.ofNat 32 (i 1).val
  let c1_i32 : BitVec 32 := 1#32
  let v72 : BitVec 32 := Scalar.addi arg1 c1_i32
  let v241 : BitVec 32 := Scalar.subi v72 c1_i32_142
  let c1_i32_143 : BitVec 32 := 1#32
  let v243 : BitVec 32 := Scalar.divsi v241 c1_i32_143
  let v244 : BitVec 32 := Scalar.muli v243 c1_i32_143
  let v245 : BitVec 32 := Scalar.addi c1_i32_142 v244
  let c1_i32_145 : BitVec 32 := 1#32
  let arg18 : BitVec 32 := Scf.iv v245 c1_i32_145 k0_t2
  let c2_i32_346 : BitVec 32 := 2#32
  let c0_i32_347 : BitVec 32 := 0#32
  let v581 : BitVec 1 := Scalar.cmpi .eq c2_i32_346 c0_i32_347
  let c1_i32_348 : BitVec 32 := 1#32
  let v582 : BitVec 32 := Scalar.select v581 c1_i32_348 c2_i32_346
  let v583 : BitVec 32 := Scalar.remsi arg18 v582
  let c0_i32_350 : BitVec 32 := 0#32
  let v585 : BitVec 1 := Scalar.cmpi .slt v583 c0_i32_350
  let c0_i32_351 : BitVec 32 := 0#32
  let v586 : BitVec 1 := Scalar.cmpi .slt v582 c0_i32_351
  let v587 : BitVec 1 := Scalar.xori v585 v586
  let c0_i32_349 : BitVec 32 := 0#32
  let v584 : BitVec 1 := Scalar.cmpi .ne v583 c0_i32_349
  let v588 : BitVec 1 := Scalar.andi v587 v584
  let v589 : BitVec 32 := Scalar.addi v583 v582
  let v590 : BitVec 32 := Scalar.select v588 v589 v583
  let v737 : Index := Scalar.indexCast v590
  let c3_418 : Index := 3#32
  let c0_419 : Index := 0#32
  let c0_420 : Index := 0#32
  ![v737.toNat, 3, 0, 0]
def k0_mult25 : BitVec 32 :=
  let c0_i32_151 : BitVec 32 := 0#32
  c0_i32_151
def k0_off42 (i : grid0.Coords) : Fin 4 → Nat :=
  let arg1 : BitVec 32 := BitVec.ofNat 32 (i 1).val
  let c2_i32 : BitVec 32 := 2#32
  let c0_i32_146 : BitVec 32 := 0#32
  let v248 : BitVec 1 := Scalar.cmpi .eq c2_i32 c0_i32_146
  let c1_i32_147 : BitVec 32 := 1#32
  let v249 : BitVec 32 := Scalar.select v248 c1_i32_147 c2_i32
  let v250 : BitVec 32 := Scalar.remsi arg1 v249
  let c0_i32_149 : BitVec 32 := 0#32
  let v252 : BitVec 1 := Scalar.cmpi .slt v250 c0_i32_149
  let c0_i32_150 : BitVec 32 := 0#32
  let v253 : BitVec 1 := Scalar.cmpi .slt v249 c0_i32_150
  let v254 : BitVec 1 := Scalar.xori v252 v253
  let c0_i32_148 : BitVec 32 := 0#32
  let v251 : BitVec 1 := Scalar.cmpi .ne v250 c0_i32_148
  let v255 : BitVec 1 := Scalar.andi v254 v251
  let v256 : BitVec 32 := Scalar.addi v250 v249
  let v257 : BitVec 32 := Scalar.select v255 v256 v250
  let v261 : Index := Scalar.indexCast v257
  let c0_153 : Index := 0#32
  let c0_154 : Index := 0#32
  let c0_155 : Index := 0#32
  ![v261.toNat, 0, 0, 0]
def k0_mult26 : BitVec 32 :=
  let c0_i32_156 : BitVec 32 := 0#32
  c0_i32_156
def k0_mult27 : BitVec 32 :=
  let c0_i32_165 : BitVec 32 := 0#32
  c0_i32_165
def k0_off43 (i : grid0.Coords) : Fin 4 → Nat :=
  let arg1 : BitVec 32 := BitVec.ofNat 32 (i 1).val
  let c2_i32 : BitVec 32 := 2#32
  let c0_i32_146 : BitVec 32 := 0#32
  let v248 : BitVec 1 := Scalar.cmpi .eq c2_i32 c0_i32_146
  let c1_i32_147 : BitVec 32 := 1#32
  let v249 : BitVec 32 := Scalar.select v248 c1_i32_147 c2_i32
  let v250 : BitVec 32 := Scalar.remsi arg1 v249
  let c0_i32_149 : BitVec 32 := 0#32
  let v252 : BitVec 1 := Scalar.cmpi .slt v250 c0_i32_149
  let c0_i32_150 : BitVec 32 := 0#32
  let v253 : BitVec 1 := Scalar.cmpi .slt v249 c0_i32_150
  let v254 : BitVec 1 := Scalar.xori v252 v253
  let c0_i32_148 : BitVec 32 := 0#32
  let v251 : BitVec 1 := Scalar.cmpi .ne v250 c0_i32_148
  let v255 : BitVec 1 := Scalar.andi v254 v251
  let v256 : BitVec 32 := Scalar.addi v250 v249
  let v257 : BitVec 32 := Scalar.select v255 v256 v250
  let v290 : Index := Scalar.indexCast v257
  let c1_172 : Index := 1#32
  let c0_173 : Index := 0#32
  let c0_174 : Index := 0#32
  ![v290.toNat, 1, 0, 0]
def k0_mult28 : BitVec 32 :=
  let c0_i32_175 : BitVec 32 := 0#32
  c0_i32_175
def k0_mult29 : BitVec 32 :=
  let c0_i32_184 : BitVec 32 := 0#32
  c0_i32_184
def k0_off44 (i : grid0.Coords) : Fin 4 → Nat :=
  let arg1 : BitVec 32 := BitVec.ofNat 32 (i 1).val
  let c2_i32 : BitVec 32 := 2#32
  let c0_i32_146 : BitVec 32 := 0#32
  let v248 : BitVec 1 := Scalar.cmpi .eq c2_i32 c0_i32_146
  let c1_i32_147 : BitVec 32 := 1#32
  let v249 : BitVec 32 := Scalar.select v248 c1_i32_147 c2_i32
  let v250 : BitVec 32 := Scalar.remsi arg1 v249
  let c0_i32_149 : BitVec 32 := 0#32
  let v252 : BitVec 1 := Scalar.cmpi .slt v250 c0_i32_149
  let c0_i32_150 : BitVec 32 := 0#32
  let v253 : BitVec 1 := Scalar.cmpi .slt v249 c0_i32_150
  let v254 : BitVec 1 := Scalar.xori v252 v253
  let c0_i32_148 : BitVec 32 := 0#32
  let v251 : BitVec 1 := Scalar.cmpi .ne v250 c0_i32_148
  let v255 : BitVec 1 := Scalar.andi v254 v251
  let v256 : BitVec 32 := Scalar.addi v250 v249
  let v257 : BitVec 32 := Scalar.select v255 v256 v250
  let v319 : Index := Scalar.indexCast v257
  let c2_191 : Index := 2#32
  let c0_192 : Index := 0#32
  let c0_193 : Index := 0#32
  ![v319.toNat, 2, 0, 0]
def k0_mult30 : BitVec 32 :=
  let c0_i32_194 : BitVec 32 := 0#32
  c0_i32_194
def k0_mult31 : BitVec 32 :=
  let c0_i32_203 : BitVec 32 := 0#32
  c0_i32_203
def k0_off45 (i : grid0.Coords) : Fin 4 → Nat :=
  let arg1 : BitVec 32 := BitVec.ofNat 32 (i 1).val
  let c2_i32 : BitVec 32 := 2#32
  let c0_i32_146 : BitVec 32 := 0#32
  let v248 : BitVec 1 := Scalar.cmpi .eq c2_i32 c0_i32_146
  let c1_i32_147 : BitVec 32 := 1#32
  let v249 : BitVec 32 := Scalar.select v248 c1_i32_147 c2_i32
  let v250 : BitVec 32 := Scalar.remsi arg1 v249
  let c0_i32_149 : BitVec 32 := 0#32
  let v252 : BitVec 1 := Scalar.cmpi .slt v250 c0_i32_149
  let c0_i32_150 : BitVec 32 := 0#32
  let v253 : BitVec 1 := Scalar.cmpi .slt v249 c0_i32_150
  let v254 : BitVec 1 := Scalar.xori v252 v253
  let c0_i32_148 : BitVec 32 := 0#32
  let v251 : BitVec 1 := Scalar.cmpi .ne v250 c0_i32_148
  let v255 : BitVec 1 := Scalar.andi v254 v251
  let v256 : BitVec 32 := Scalar.addi v250 v249
  let v257 : BitVec 32 := Scalar.select v255 v256 v250
  let v348 : Index := Scalar.indexCast v257
  let c3_210 : Index := 3#32
  let c0_211 : Index := 0#32
  let c0_212 : Index := 0#32
  ![v348.toNat, 3, 0, 0]
def k0_mult32 : BitVec 32 :=
  let c0_i32_213 : BitVec 32 := 0#32
  c0_i32_213
def k0_mult33 : BitVec 32 :=
  let c0_i32_222 : BitVec 32 := 0#32
  c0_i32_222
def k0_cond2 (i : grid0.Coords) : BitVec 1 :=
  let arg1 : BitVec 32 := BitVec.ofNat 32 (i 1).val
  let c7_i32 : BitVec 32 := 7#32
  let v436 : BitVec 1 := Scalar.cmpi .eq arg1 c7_i32
  let v437 : BitVec 32 := Scalar.extui v436
  let c0_i32_259 : BitVec 32 := 0#32
  let v438 : BitVec 1 := Scalar.cmpi .ne v437 c0_i32_259
  v438

def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8x8x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S2048x3328 : Shape := ⟨2, ![2048, 3328]⟩
abbrev S8x2048 : Shape := ⟨2, ![8, 2048]⟩
abbrev S2048x1280 : Shape := ⟨2, ![2048, 1280]⟩
abbrev S2048x512 : Shape := ⟨2, ![2048, 512]⟩
abbrev S2048x8x64 : Shape := ⟨3, ![2048, 8, 64]⟩
abbrev S8x2048x64 : Shape := ⟨3, ![8, 2048, 64]⟩
abbrev S8x2048x2048 : Shape := ⟨3, ![8, 2048, 2048]⟩
abbrev S_ : Shape := ⟨0, ![]⟩
abbrev S8x2048x1 : Shape := ⟨3, ![8, 2048, 1]⟩
abbrev S8x1x2048 : Shape := ⟨3, ![8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x64x2048 : Shape := ⟨3, ![8, 64, 2048]⟩
abbrev S2x4x8x256 : Shape := ⟨4, ![2, 4, 8, 256]⟩
abbrev S2x8x4x256 : Shape := ⟨4, ![2, 8, 4, 256]⟩
abbrev S2x8x8x256 : Shape := ⟨4, ![2, 8, 8, 256]⟩

abbrev nBuf : Space → Nat
  | .hbm => 132
  | .vmem => 0
  | .smem => 0
  | _ => 0

abbrev hbmTy0_0 (i : Nat) : BufTy := match i % 128 with
  | 0 => ⟨S2048x3328, .bf16⟩
  | 1 => ⟨S8x2048, .f32⟩
  | 2 => ⟨S2048x1280, .f32⟩
  | 3 => ⟨S2048x512, .bf16⟩
  | 4 => ⟨S2048x512, .f32⟩
  | 5 => ⟨S2048x8x64, .f32⟩
  | 6 => ⟨S8x2048x64, .f32⟩
  | 7 => ⟨S2048x512, .bf16⟩
  | 8 => ⟨S2048x512, .f32⟩
  | 9 => ⟨S2048x8x64, .f32⟩
  | 10 => ⟨S8x2048x64, .f32⟩
  | 11 => ⟨S2048x512, .bf16⟩
  | 12 => ⟨S2048x512, .f32⟩
  | 13 => ⟨S2048x8x64, .f32⟩
  | 14 => ⟨S8x2048x64, .f32⟩
  | 15 => ⟨S2048x512, .f32⟩
  | 16 => ⟨S2048x8x64, .f32⟩
  | 17 => ⟨S8x2048x64, .f32⟩
  | 18 => ⟨S8x2048x2048, .f32⟩
  | 19 => ⟨S_, .f32⟩
  | 20 => ⟨S8x2048x2048, .f32⟩
  | 21 => ⟨S8x2048x2048, .f32⟩
  | 22 => ⟨S8x2048x1, .f32⟩
  | 23 => ⟨S8x2048x2048, .f32⟩
  | 24 => ⟨S8x2048x2048, .f32⟩
  | 25 => ⟨S8x1x2048, .f32⟩
  | 26 => ⟨S8x2048x2048, .f32⟩
  | 27 => ⟨S8x2048x2048, .f32⟩
  | 28 => ⟨S2048, .i32⟩
  | 29 => ⟨S1x2048, .i32⟩
  | 30 => ⟨S2048x1, .i32⟩
  | 31 => ⟨S2048x2048, .i32⟩
  | 32 => ⟨S2048x2048, .i32⟩
  | 33 => ⟨S2048x2048, .i1⟩
  | 34 => ⟨S_, .f32⟩
  | 35 => ⟨S_, .f32⟩
  | 36 => ⟨S8x2048x2048, .i1⟩
  | 37 => ⟨S8x2048x2048, .f32⟩
  | 38 => ⟨S8x2048x2048, .f32⟩
  | 39 => ⟨S_, .f32⟩
  | 40 => ⟨S8x2048x2048, .f32⟩
  | 41 => ⟨S_, .f32⟩
  | 42 => ⟨S8x2048, .f32⟩
  | 43 => ⟨S8x2048x1, .f32⟩
  | 44 => ⟨S8x2048x2048, .f32⟩
  | 45 => ⟨S8x2048x2048, .i1⟩
  | 46 => ⟨S8x2048x2048, .f32⟩
  | 47 => ⟨S_, .f32⟩
  | 48 => ⟨S8x2048, .f32⟩
  | 49 => ⟨S_, .f32⟩
  | 50 => ⟨S8x2048, .f32⟩
  | 51 => ⟨S8x2048, .f32⟩
  | 52 => ⟨S_, .f32⟩
  | 53 => ⟨S8x2048, .f32⟩
  | 54 => ⟨S8x2048, .i1⟩
  | 55 => ⟨S_, .f32⟩
  | 56 => ⟨S8x2048, .f32⟩
  | 57 => ⟨S8x2048, .i1⟩
  | 58 => ⟨S_, .f32⟩
  | 59 => ⟨S8x2048, .f32⟩
  | 60 => ⟨S_, .f32⟩
  | 61 => ⟨S8x2048, .f32⟩
  | 62 => ⟨S_, .f32⟩
  | 63 => ⟨S8x2048, .f32⟩
  | 64 => ⟨S8x2048, .f32⟩
  | 65 => ⟨S8x2048, .f32⟩
  | 66 => ⟨S8x2048x1, .f32⟩
  | 67 => ⟨S8x2048x2048, .f32⟩
  | 68 => ⟨S8x2048x2048, .f32⟩
  | 69 => ⟨S8x2048x2048, .f32⟩
  | 70 => ⟨S_, .f32⟩
  | 71 => ⟨S8x2048, .f32⟩
  | 72 => ⟨S8x2048x1, .f32⟩
  | 73 => ⟨S8x2048x2048, .f32⟩
  | 74 => ⟨S8x2048x2048, .f32⟩
  | 75 => ⟨S8x2048x1, .f32⟩
  | 76 => ⟨S_, .f32⟩
  | 77 => ⟨S8x2048x1, .f32⟩
  | 78 => ⟨S8x2048x1, .f32⟩
  | 79 => ⟨S8x2048x64, .f32⟩
  | 80 => ⟨S8x64x2048, .f32⟩
  | 81 => ⟨S8x2048x64, .f32⟩
  | 82 => ⟨S8x2048x2048, .f32⟩
  | 83 => ⟨S8x2048x2048, .f32⟩
  | 84 => ⟨S8x2048x2048, .f32⟩
  | 85 => ⟨S8x2048x2048, .f32⟩
  | 86 => ⟨S_, .f32⟩
  | 87 => ⟨S8x2048, .f32⟩
  | 88 => ⟨S8x2048x1, .f32⟩
  | 89 => ⟨S8x2048x1, .f32⟩
  | 90 => ⟨S8x2048x2048, .f32⟩
  | 91 => ⟨S8x2048x2048, .f32⟩
  | 92 => ⟨S_, .f32⟩
  | 93 => ⟨S8x2048, .f32⟩
  | 94 => ⟨S8x2048x2048, .f32⟩
  | 95 => ⟨S8x2048x2048, .f32⟩
  | 96 => ⟨S8x2048x2048, .f32⟩
  | 97 => ⟨S_, .f32⟩
  | 98 => ⟨S8x2048x2048, .f32⟩
  | 99 => ⟨S8x2048x2048, .f32⟩
  | 100 => ⟨S8x2048x2048, .f32⟩
  | 101 => ⟨S_, .f32⟩
  | 102 => ⟨S8x2048, .f32⟩
  | 103 => ⟨S8x1x2048, .f32⟩
  | 104 => ⟨S_, .f32⟩
  | 105 => ⟨S8x2048, .f32⟩
  | 106 => ⟨S_, .f32⟩
  | 107 => ⟨S8x2048, .f32⟩
  | 108 => ⟨S8x2048x1, .f32⟩
  | 109 => ⟨S_, .f32⟩
  | 110 => ⟨S8x2048, .f32⟩
  | 111 => ⟨S8x2048, .f32⟩
  | 112 => ⟨S_, .f32⟩
  | 113 => ⟨S8x2048x2048, .f32⟩
  | 114 => ⟨S8x2048x2048, .f32⟩
  | 115 => ⟨S8x2048x64, .f32⟩
  | 116 => ⟨S8x2048x64, .f32⟩
  | 117 => ⟨S8x2048, .f32⟩
  | 118 => ⟨S2x4x8x256, .f32⟩
  | 119 => ⟨S2x8x4x256, .f32⟩
  | 120 => ⟨S2048x8x64, .f32⟩
  | 121 => ⟨S2048x512, .f32⟩
  | 122 => ⟨S2048x512, .bf16⟩
  | 123 => ⟨S2048x8x64, .f32⟩
  | 124 => ⟨S2048x512, .f32⟩
  | 125 => ⟨S2048x512, .bf16⟩
  | 126 => ⟨S2048x8x64, .f32⟩
  | 127 => ⟨S2048x512, .f32⟩
  | _ => ⟨S2048x3328, .bf16⟩

abbrev hbmTy0_1 (i : Nat) : BufTy := match i % 128 with
  | 0 => ⟨S2048x512, .bf16⟩
  | 1 => ⟨S_, .i32⟩
  | 2 => ⟨S_, .f32⟩
  | 3 => ⟨S2x8x8x256, .f32⟩
  | _ => ⟨S2048x3328, .bf16⟩

abbrev hbmTy (i : Nat) : BufTy := match i / 128 with
  | 0 => hbmTy0_0 i
  | 1 => hbmTy0_1 i
  | _ => ⟨S2048x3328, .bf16⟩

abbrev bufTy : (tb : Table) → Fin (tcTables nBuf tb) → BufTy
  | .hbm, ⟨i, _⟩ => hbmTy i
  | _, _ => ⟨S2048x3328, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_cst_0 : Ref sig .tc := ⟨.hbm, 34, rfl⟩
abbrev main_call0_v0 : Ref sig .tc := ⟨.hbm, 35, rfl⟩
abbrev main_v30_1 : Ref sig .tc := ⟨.hbm, 36, rfl⟩
abbrev main_call0_v2 : Ref sig .tc := ⟨.hbm, 37, rfl⟩
abbrev main_v30_0 : Ref sig .tc := ⟨.hbm, 38, rfl⟩
abbrev main_call0_cst : Ref sig .tc := ⟨.hbm, 39, rfl⟩
abbrev main_v30_2 : Ref sig .tc := ⟨.hbm, 40, rfl⟩
abbrev main_cst_1 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_2 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_10 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_11 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_12 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_call1_cst : Ref sig .tc := ⟨.hbm, 97, rfl⟩
abbrev main_call1_v0 : Ref sig .tc := ⟨.hbm, 98, rfl⟩
abbrev main_v75 : Ref sig .tc := ⟨.hbm, 99, rfl⟩
abbrev main_v76 : Ref sig .tc := ⟨.hbm, 100, rfl⟩
abbrev main_cst_13 : Ref sig .tc := ⟨.hbm, 101, rfl⟩
abbrev main_v77 : Ref sig .tc := ⟨.hbm, 102, rfl⟩
abbrev main_v78 : Ref sig .tc := ⟨.hbm, 103, rfl⟩
abbrev main_cst_14 : Ref sig .tc := ⟨.hbm, 104, rfl⟩
abbrev main_v79 : Ref sig .tc := ⟨.hbm, 105, rfl⟩
abbrev main_cst_15 : Ref sig .tc := ⟨.hbm, 106, rfl⟩
abbrev main_v80 : Ref sig .tc := ⟨.hbm, 107, rfl⟩
abbrev main_v81 : Ref sig .tc := ⟨.hbm, 108, rfl⟩
abbrev main_cst_16 : Ref sig .tc := ⟨.hbm, 109, rfl⟩
abbrev main_v82 : Ref sig .tc := ⟨.hbm, 110, rfl⟩
abbrev main_v83 : Ref sig .tc := ⟨.hbm, 111, rfl⟩
abbrev main_cst_17 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_c : Ref sig .tc := ⟨.hbm, 129, rfl⟩
abbrev main_call2_v0 : Ref sig .tc := ⟨.hbm, 130, rfl⟩
abbrev main_v100 : Ref sig .tc := ⟨.hbm, 131, rfl⟩

abbrev nD : Nat := 1
abbrev τ : Topo := Topo.v7x

variable {F : FTy → Type} [FloatOps F]
-- ==== DwInA.lean ====
abbrev S2048x1024 : Shape := ⟨2, ![2048, 1024]⟩
abbrev S2048x3328 : Shape := ⟨2, ![2048, 3328]⟩
abbrev S1024x3328 : Shape := ⟨2, ![1024, 3328]⟩
abbrev S2048x512 : Shape := ⟨2, ![2048, 512]⟩
abbrev S2048x1664 : Shape := ⟨2, ![2048, 1664]⟩
abbrev S512x1664 : Shape := ⟨2, ![512, 1664]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x3328, .bf16⟩
  | .hbm, ⟨2, _⟩ => ⟨S1024x3328, .f32⟩
  | .local _ .vmem, ⟨0, _⟩ => ⟨S2048x512, .bf16⟩
  | .local _ .vmem, ⟨1, _⟩ => ⟨S2048x512, .bf16⟩
  | .local _ .vmem, ⟨2, _⟩ => ⟨S2048x1664, .bf16⟩
  | .local _ .vmem, ⟨3, _⟩ => ⟨S2048x1664, .bf16⟩
  | .local _ .vmem, ⟨4, _⟩ => ⟨S512x1664, .f32⟩
  | .local _ .vmem, ⟨5, _⟩ => ⟨S512x1664, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwInAReferenceIdeal.lean ====
abbrev S2048x1024 : Shape := ⟨2, ![2048, 1024]⟩
abbrev S2048x3328 : Shape := ⟨2, ![2048, 3328]⟩
abbrev S_ : Shape := ⟨0, ![]⟩
abbrev S1024x3328 : Shape := ⟨2, ![1024, 3328]⟩
abbrev S3328x1024 : Shape := ⟨2, ![3328, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x3328, .bf16⟩
  | .hbm, ⟨2, _⟩ => ⟨S_, .f32⟩
  | .hbm, ⟨3, _⟩ => ⟨S1024x3328, .f32⟩
  | .hbm, ⟨4, _⟩ => ⟨S2048x1024, .f32⟩
  | .hbm, ⟨5, _⟩ => ⟨S2048x3328, .f32⟩
  | .hbm, ⟨6, _⟩ => ⟨S2048x3328, .f32⟩
  | .hbm, ⟨7, _⟩ => ⟨S3328x1024, .f32⟩
  | .hbm, ⟨8, _⟩ => ⟨S1024x3328, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwInB.lean ====
abbrev S2048x1024 : Shape := ⟨2, ![2048, 1024]⟩
abbrev S2048x1408 : Shape := ⟨2, ![2048, 1408]⟩
abbrev S1024x1408 : Shape := ⟨2, ![1024, 1408]⟩
abbrev S2048x512 : Shape := ⟨2, ![2048, 512]⟩
abbrev S512x1408 : Shape := ⟨2, ![512, 1408]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1408, .bf16⟩
  | .hbm, ⟨2, _⟩ => ⟨S1024x1408, .f32⟩
  | .local _ .vmem, ⟨0, _⟩ => ⟨S2048x512, .bf16⟩
  | .local _ .vmem, ⟨1, _⟩ => ⟨S2048x512, .bf16⟩
  | .local _ .vmem, ⟨2, _⟩ => ⟨S2048x1408, .bf16⟩
  | .local _ .vmem, ⟨3, _⟩ => ⟨S512x1408, .f32⟩
  | .local _ .vmem, ⟨4, _⟩ => ⟨S512x1408, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwInBReferenceIdeal.lean ====
abbrev S2048x1024 : Shape := ⟨2, ![2048, 1024]⟩
abbrev S2048x1408 : Shape := ⟨2, ![2048, 1408]⟩
abbrev S_ : Shape := ⟨0, ![]⟩
abbrev S1024x1408 : Shape := ⟨2, ![1024, 1408]⟩
abbrev S1408x1024 : Shape := ⟨2, ![1408, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1408, .bf16⟩
  | .hbm, ⟨2, _⟩ => ⟨S_, .f32⟩
  | .hbm, ⟨3, _⟩ => ⟨S1024x1408, .f32⟩
  | .hbm, ⟨4, _⟩ => ⟨S2048x1024, .f32⟩
  | .hbm, ⟨5, _⟩ => ⟨S2048x1408, .f32⟩
  | .hbm, ⟨6, _⟩ => ⟨S2048x1408, .f32⟩
  | .hbm, ⟨7, _⟩ => ⟨S1408x1024, .f32⟩
  | .hbm, ⟨8, _⟩ => ⟨S1024x1408, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DhA.lean ====
abbrev S2048x3328 : Shape := ⟨2, ![2048, 3328]⟩
abbrev S1024x3328 : Shape := ⟨2, ![1024, 3328]⟩
abbrev S2048x1024 : Shape := ⟨2, ![2048, 1024]⟩
abbrev S256x3328 : Shape := ⟨2, ![256, 3328]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x3328, .bf16⟩
  | .hbm, ⟨1, _⟩ => ⟨S1024x3328, .bf16⟩
  | .hbm, ⟨2, _⟩ => ⟨S2048x1024, .f32⟩
  | .local _ .vmem, ⟨0, _⟩ => ⟨S256x3328, .bf16⟩
  | .local _ .vmem, ⟨1, _⟩ => ⟨S256x3328, .bf16⟩
  | .local _ .vmem, ⟨2, _⟩ => ⟨S1024x3328, .bf16⟩
  | .local _ .vmem, ⟨3, _⟩ => ⟨S256x1024, .f32⟩
  | .local _ .vmem, ⟨4, _⟩ => ⟨S256x1024, .f32⟩
  | _, _ => ⟨S2048x3328, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x3328 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x3328 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DhAReferenceIdeal.lean ====
abbrev S2048x3328 : Shape := ⟨2, ![2048, 3328]⟩
abbrev S1024x3328 : Shape := ⟨2, ![1024, 3328]⟩
abbrev S_ : Shape := ⟨0, ![]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x3328, .bf16⟩
  | .hbm, ⟨1, _⟩ => ⟨S1024x3328, .bf16⟩
  | .hbm, ⟨2, _⟩ => ⟨S_, .f32⟩
  | .hbm, ⟨3, _⟩ => ⟨S2048x1024, .f32⟩
  | .hbm, ⟨4, _⟩ => ⟨S1024x3328, .f32⟩
  | .hbm, ⟨5, _⟩ => ⟨S2048x3328, .f32⟩
  | .hbm, ⟨6, _⟩ => ⟨S2048x3328, .f32⟩
  | .hbm, ⟨7, _⟩ => ⟨S2048x1024, .f32⟩
  | _, _ => ⟨S2048x3328, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DhB.lean ====
abbrev S2048x1408 : Shape := ⟨2, ![2048, 1408]⟩
abbrev S1024x1408 : Shape := ⟨2, ![1024, 1408]⟩
abbrev S2048x1024 : Shape := ⟨2, ![2048, 1024]⟩
abbrev S256x1408 : Shape := ⟨2, ![256, 1408]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x1408, .bf16⟩
  | .hbm, ⟨1, _⟩ => ⟨S1024x1408, .bf16⟩
  | .hbm, ⟨2, _⟩ => ⟨S2048x1024, .f32⟩
  | .hbm, ⟨3, _⟩ => ⟨S2048x1024, .f32⟩
  | .local _ .vmem, ⟨0, _⟩ => ⟨S256x1408, .bf16⟩
  | .local _ .vmem, ⟨1, _⟩ => ⟨S256x1408, .bf16⟩
  | .local _ .vmem, ⟨2, _⟩ => ⟨S1024x1408, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DhBReferenceIdeal.lean ====
abbrev S2048x1408 : Shape := ⟨2, ![2048, 1408]⟩
abbrev S1024x1408 : Shape := ⟨2, ![1024, 1408]⟩
abbrev S2048x1024 : Shape := ⟨2, ![2048, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x1408, .bf16⟩
  | .hbm, ⟨1, _⟩ => ⟨S1024x1408, .bf16⟩
  | .hbm, ⟨2, _⟩ => ⟨S2048x1024, .f32⟩
  | .hbm, ⟨3, _⟩ => ⟨S_, .f32⟩
  | .hbm, ⟨4, _⟩ => ⟨S2048x1024, .f32⟩
  | .hbm, ⟨5, _⟩ => ⟨S1024x1408, .f32⟩
  | .hbm, ⟨6, _⟩ => ⟨S2048x1408, .f32⟩
  | .hbm, ⟨7, _⟩ => ⟨S2048x1408, .f32⟩
  | .hbm, ⟨8, _⟩ => ⟨S2048x1024, .f32⟩
  | .hbm, ⟨9, _⟩ => ⟨S2048x1024, .f32⟩
  | _, _ => ⟨S2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== DwOut.lean ====
abbrev S2048x1280 : Shape := ⟨2, ![2048, 1280]⟩
abbrev S2048x1024 : Shape := ⟨2, ![2048, 1024]⟩
abbrev S1280x1024 : Shape := ⟨2, ![1280, 1024]⟩
abbrev S2048x640 : Shape := ⟨2, ![2048, 640]⟩
abbrev S640x1024 : Shape := ⟨2, ![640, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1280, .bf16⟩
  | .hbm, ⟨1, _⟩ => ⟨S2048x1024, .bf16⟩
  | .hbm, ⟨2, _⟩ => ⟨S1280x1024, .f32⟩
  | .local _ .vmem, ⟨0, _⟩ => ⟨S2048x640, .bf16⟩
  | .local _ .vmem, ⟨1, _⟩ => ⟨S2048x640, .bf16⟩
  | .local _ .vmem, ⟨2, _⟩ => ⟨S2048x1024, .bf16⟩
  | .local _ .vmem, ⟨3, _⟩ => ⟨S640x1024, .f32⟩
  | .local _ .vmem, ⟨4, _⟩ => ⟨S640x1024, .f32⟩
  | _, _ => ⟨S2048x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwOutReferenceIdeal.lean ====
abbrev S2048x1280 : Shape := ⟨2, ![2048, 1280]⟩
abbrev S2048x1024 : Shape := ⟨2, ![2048, 1024]⟩
abbrev S_ : Shape := ⟨0, ![]⟩
abbrev S1280x1024 : Shape := ⟨2, ![1280, 1024]⟩
abbrev S1024x1280 : Shape := ⟨2, ![1024, 1280]⟩

abbrev nBuf : Space → Nat
  | .hbm => 9
  | .vmem => 0
  | .smem => 0
  | _ => 0

abbrev bufTy : (tb : Table) → Fin (tcTables nBuf tb) → BufTy
  | .hbm, ⟨0, _⟩ => ⟨S2048x1280, .bf16⟩
  | .hbm, ⟨1, _⟩ => ⟨S2048x1024, .bf16⟩
  | .hbm, ⟨2, _⟩ => ⟨S_, .f32⟩
  | .hbm, ⟨3, _⟩ => ⟨S1280x1024, .f32⟩
  | .hbm, ⟨4, _⟩ => ⟨S2048x1280, .f32⟩
  | .hbm, ⟨5, _⟩ => ⟨S2048x1024, .f32⟩
  | .hbm, ⟨6, _⟩ => ⟨S2048x1024, .f32⟩
  | .hbm, ⟨7, _⟩ => ⟨S1024x1280, .f32⟩
  | .hbm, ⟨8, _⟩ => ⟨S1280x1024, .f32⟩
  | _, _ => ⟨S2048x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InprojA.lean ====
abbrev S2048x1024 : Shape := ⟨2, ![2048, 1024]⟩
abbrev S1024x3328 : Shape := ⟨2, ![1024, 3328]⟩
abbrev S2048x3328 : Shape := ⟨2, ![2048, 3328]⟩
abbrev S256x1024 : Shape := ⟨2, ![256, 1024]⟩
abbrev S1024x1664 : Shape := ⟨2, ![1024, 1664]⟩
abbrev S256x1664 : Shape := ⟨2, ![256, 1664]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x3328, .bf16⟩
  | .hbm, ⟨2, _⟩ => ⟨S2048x3328, .bf16⟩
  | .local _ .vmem, ⟨0, _⟩ => ⟨S256x1024, .bf16⟩
  | .local _ .vmem, ⟨1, _⟩ => ⟨S256x1024, .bf16⟩
  | .local _ .vmem, ⟨2, _⟩ => ⟨S1024x1664, .bf16⟩
  | .local _ .vmem, ⟨3, _⟩ => ⟨S1024x1664, .bf16⟩
  | .local _ .vmem, ⟨4, _⟩ => ⟨S256x1664, .bf16⟩
  | .local _ .vmem, ⟨5, _⟩ => ⟨S256x1664, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InprojAReferenceIdeal.lean ====
abbrev S2048x1024 : Shape := ⟨2, ![2048, 1024]⟩
abbrev S1024x3328 : Shape := ⟨2, ![1024, 3328]⟩
abbrev S2048x3328 : Shape := ⟨2, ![2048, 3328]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x3328, .bf16⟩
  | .hbm, ⟨2, _⟩ => ⟨S2048x1024, .f32⟩
  | .hbm, ⟨3, _⟩ => ⟨S1024x3328, .f32⟩
  | .hbm, ⟨4, _⟩ => ⟨S2048x3328, .f32⟩
  | .hbm, ⟨5, _⟩ => ⟨S2048x3328, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InprojB.lean ====
abbrev S2048x1024 : Shape := ⟨2, ![2048, 1024]⟩
abbrev S1024x1408 : Shape := ⟨2, ![1024, 1408]⟩
abbrev S2048x1408 : Shape := ⟨2, ![2048, 1408]⟩
abbrev S256x1024 : Shape := ⟨2, ![256, 1024]⟩
abbrev S256x1408 : Shape := ⟨2, ![256, 1408]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1408, .bf16⟩
  | .hbm, ⟨2, _⟩ => ⟨S2048x1408, .f32⟩
  | .local _ .vmem, ⟨0, _⟩ => ⟨S256x1024, .bf16⟩
  | .local _ .vmem, ⟨1, _⟩ => ⟨S256x1024, .bf16⟩
  | .local _ .vmem, ⟨2, _⟩ => ⟨S1024x1408, .bf16⟩
  | .local _ .vmem, ⟨3, _⟩ => ⟨S256x1408, .f32⟩
  | .local _ .vmem, ⟨4, _⟩ => ⟨S256x1408, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InprojBReferenceIdeal.lean ====
abbrev S2048x1024 : Shape := ⟨2, ![2048, 1024]⟩
abbrev S1024x1408 : Shape := ⟨2, ![1024, 1408]⟩
abbrev S2048x1408 : Shape := ⟨2, ![2048, 1408]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1408, .bf16⟩
  | .hbm, ⟨2, _⟩ => ⟨S2048x1024, .f32⟩
  | .hbm, ⟨3, _⟩ => ⟨S1024x1408, .f32⟩
  | .hbm, ⟨4, _⟩ => ⟨S2048x1408, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwKv.lean ====
abbrev S256x1024 : Shape := ⟨2, ![256, 1024]⟩
abbrev S256x512 : Shape := ⟨2, ![256, 512]⟩
abbrev S1024x512 : Shape := ⟨2, ![1024, 512]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S256x512, .bf16⟩
  | .hbm, ⟨2, _⟩ => ⟨S1024x512, .f32⟩
  | .local _ .vmem, ⟨0, _⟩ => ⟨S256x1024, .bf16⟩
  | .local _ .vmem, ⟨1, _⟩ => ⟨S256x512, .bf16⟩
  | .local _ .vmem, ⟨2, _⟩ => ⟨S1024x512, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== DwKvReferenceIdeal.lean ====
abbrev S256x1024 : Shape := ⟨2, ![256, 1024]⟩
abbrev S256x512 : Shape := ⟨2, ![256, 512]⟩
abbrev S_ : Shape := ⟨0, ![]⟩
abbrev S1024x512 : Shape := ⟨2, ![1024, 512]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x512, .bf16⟩
  | .hbm, ⟨2, _⟩ => ⟨S_, .f32⟩
  | .hbm, ⟨3, _⟩ => ⟨S1024x512, .f32⟩
  | .hbm, ⟨4, _⟩ => ⟨S256x1024, .f32⟩
  | .hbm, ⟨5, _⟩ => ⟨S256x512, .f32⟩
  | .hbm, ⟨6, _⟩ => ⟨S256x512, .f32⟩
  | .hbm, ⟨7, _⟩ => ⟨S512x1024, .f32⟩
  | .hbm, ⟨8, _⟩ => ⟨S1024x512, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dmem.lean ====
abbrev S256x512 : Shape := ⟨2, ![256, 512]⟩
abbrev S1024x512 : Shape := ⟨2, ![1024, 512]⟩
abbrev S256x1024 : Shape := ⟨2, ![256, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x512, .bf16⟩
  | .hbm, ⟨1, _⟩ => ⟨S1024x512, .bf16⟩
  | .hbm, ⟨2, _⟩ => ⟨S256x1024, .f32⟩
  | .local _ .vmem, ⟨0, _⟩ => ⟨S256x512, .bf16⟩
  | .local _ .vmem, ⟨1, _⟩ => ⟨S1024x512, .bf16⟩
  | .local _ .vmem, ⟨2, _⟩ => ⟨S256x1024, .f32⟩
  | _, _ => ⟨S256x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== DmemReferenceIdeal.lean ====
abbrev S256x512 : Shape := ⟨2, ![256, 512]⟩
abbrev S1024x512 : Shape := ⟨2, ![1024, 512]⟩
abbrev S_ : Shape := ⟨0, ![]⟩
abbrev S256x1024 : Shape := ⟨2, ![256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S256x512, .bf16⟩
  | .hbm, ⟨1, _⟩ => ⟨S1024x512, .bf16⟩
  | .hbm, ⟨2, _⟩ => ⟨S_, .f32⟩
  | .hbm, ⟨3, _⟩ => ⟨S256x1024, .f32⟩
  | .hbm, ⟨4, _⟩ => ⟨S1024x512, .f32⟩
  | .hbm, ⟨5, _⟩ => ⟨S256x512, .f32⟩
  | .hbm, ⟨6, _⟩ => ⟨S256x512, .f32⟩
  | .hbm, ⟨7, _⟩ => ⟨S256x1024, .f32⟩
  | _, _ => ⟨S256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MemKv.lean ====
abbrev S256x1024 : Shape := ⟨2, ![256, 1024]⟩
abbrev S1024x512 : Shape := ⟨2, ![1024, 512]⟩
abbrev S256x512 : Shape := ⟨2, ![256, 512]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S1024x512, .bf16⟩
  | .hbm, ⟨2, _⟩ => ⟨S256x512, .bf16⟩
  | .local _ .vmem, ⟨0, _⟩ => ⟨S256x1024, .bf16⟩
  | .local _ .vmem, ⟨1, _⟩ => ⟨S1024x512, .bf16⟩
  | .local _ .vmem, ⟨2, _⟩ => ⟨S256x512, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== MemKvReferenceIdeal.lean ====
abbrev S256x1024 : Shape := ⟨2, ![256, 1024]⟩
abbrev S1024x512 : Shape := ⟨2, ![1024, 512]⟩
abbrev S256x512 : Shape := ⟨2, ![256, 512]⟩

abbrev nBuf : Space → Nat
  | .hbm => 6
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x512, .bf16⟩
  | .hbm, ⟨2, _⟩ => ⟨S256x1024, .f32⟩
  | .hbm, ⟨3, _⟩ => ⟨S1024x512, .f32⟩
  | .hbm, ⟨4, _⟩ => ⟨S256x512, .f32⟩
  | .hbm, ⟨5, _⟩ => ⟨S256x512, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutFwd.lean ====
abbrev S2048x512 : Shape := ⟨2, ![2048, 512]⟩
abbrev S2048x256 : Shape := ⟨2, ![2048, 256]⟩
abbrev S2048x1408 : Shape := ⟨2, ![2048, 1408]⟩
abbrev S1x1280 : Shape := ⟨2, ![1, 1280]⟩
abbrev S2048x1024 : Shape := ⟨2, ![2048, 1024]⟩
abbrev S1280x1024 : Shape := ⟨2, ![1280, 1024]⟩
abbrev S1280 : Shape := ⟨1, ![1280]⟩
abbrev S1280x1 : Shape := ⟨2, ![1280, 1]⟩
abbrev S_ : Shape := ⟨0, ![]⟩
abbrev S128 : Shape := ⟨1, ![128]⟩
abbrev S1x128 : Shape := ⟨2, ![1, 128]⟩
abbrev S1280x128 : Shape := ⟨2, ![1280, 128]⟩
abbrev S128x1280 : Shape := ⟨2, ![128, 1280]⟩
abbrev S2048x1280 : Shape := ⟨2, ![2048, 1280]⟩
abbrev S256x512 : Shape := ⟨2, ![256, 512]⟩
abbrev S256x256 : Shape := ⟨2, ![256, 256]⟩
abbrev S256x1280 : Shape := ⟨2, ![256, 1280]⟩
abbrev S256x1024 : Shape := ⟨2, ![256, 1024]⟩
abbrev S256x128 : Shape := ⟨2, ![256, 128]⟩

abbrev nBuf : Space → Nat
  | .hbm => 36
  | .vmem => 18
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x256, .f32⟩
  | .hbm, ⟨3, _⟩ => ⟨S2048x1408, .f32⟩
  | .hbm, ⟨4, _⟩ => ⟨S1x1280, .f32⟩
  | .hbm, ⟨5, _⟩ => ⟨S2048x1024, .f32⟩
  | .hbm, ⟨6, _⟩ => ⟨S1280x1024, .bf16⟩
  | .hbm, ⟨7, _⟩ => ⟨S1280, .i32⟩
  | .hbm, ⟨8, _⟩ => ⟨S1280x1, .i32⟩
  | .hbm, ⟨9, _⟩ => ⟨S_, .i32⟩
  | .hbm, ⟨10, _⟩ => ⟨S_, .i32⟩
  | .hbm, ⟨11, _⟩ => ⟨S1280x1, .i32⟩
  | .hbm, ⟨12, _⟩ => ⟨S1280x1, .i32⟩
  | .hbm, ⟨13, _⟩ => ⟨S1280x1, .i32⟩
  | .hbm, ⟨14, _⟩ => ⟨S_, .i32⟩
  | .hbm, ⟨15, _⟩ => ⟨S1280x1, .i32⟩
  | .hbm, ⟨16, _⟩ => ⟨S1280x1, .i1⟩
  | .hbm, ⟨17, _⟩ => ⟨S1280x1, .i32⟩
  | .hbm, ⟨18, _⟩ => ⟨S1280x1, .i32⟩
  | .hbm, ⟨19, _⟩ => ⟨S_, .i32⟩
  | .hbm, ⟨20, _⟩ => ⟨S1280x1, .i32⟩
  | .hbm, ⟨21, _⟩ => ⟨S1280x1, .i1⟩
  | .hbm, ⟨22, _⟩ => ⟨S1280x1, .i1⟩
  | .hbm, ⟨23, _⟩ => ⟨S_, .i32⟩
  | .hbm, ⟨24, _⟩ => ⟨S1280x1, .i32⟩
  | .hbm, ⟨25, _⟩ => ⟨S1280x1, .i32⟩
  | .hbm, ⟨26, _⟩ => ⟨S1280x1, .i32⟩
  | .hbm, ⟨27, _⟩ => ⟨S128, .i32⟩
  | .hbm, ⟨28, _⟩ => ⟨S1x128, .i32⟩
  | .hbm, ⟨29, _⟩ => ⟨S1280x128, .i32⟩
  | .hbm, ⟨30, _⟩ => ⟨S1280x128, .i32⟩
  | .hbm, ⟨31, _⟩ => ⟨S1280x128, .i1⟩
  | .hbm, ⟨32, _⟩ => ⟨S1280x128, .bf16⟩
  | .hbm, ⟨33, _⟩ => ⟨S128x1280, .bf16⟩
  | .hbm, ⟨34, _⟩ => ⟨S2048x1024, .f32⟩
  | .hbm, ⟨35, _⟩ => ⟨S2048x1280, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x256, .f32⟩
  | .local _ .vmem, ⟨5, _⟩ => ⟨S256x256, .f32⟩
  | .local _ .vmem, ⟨6, _⟩ => ⟨S256x1280, .f32⟩
  | .local _ .vmem, ⟨7, _⟩ => ⟨S256x1280, .f32⟩
  | .local _ .vmem, ⟨8, _⟩ => ⟨S1x1280, .f32⟩
  | .local _ .vmem, ⟨9, _⟩ => ⟨S256x1024, .f32⟩
  | .local _ .vmem, ⟨10, _⟩ => ⟨S256x1024, .f32⟩
  | .local _ .vmem, ⟨11, _⟩ => ⟨S1280x1024, .bf16⟩
  | .local _ .vmem, ⟨12, _⟩ => ⟨S1280x128, .bf16⟩
  | .local _ .vmem, ⟨13, _⟩ => ⟨S128x1280, .bf16⟩
  | .local _ .vmem, ⟨14, _⟩ => ⟨S256x1024, .f32⟩
  | .local _ .vmem, ⟨15, _⟩ => ⟨S256x1024, .f32⟩
  | .local _ .vmem, ⟨16, _⟩ => ⟨S256x1280, .bf16⟩
  | .local _ .vmem, ⟨17, _⟩ => ⟨S256x1280, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10_0 : Ref sig .tc := ⟨.hbm, 34, rfl⟩
abbrev main_v10_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1280x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1280x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1280 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1280 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutFwdReferenceIdeal.lean ====
abbrev S2048x512 : Shape := ⟨2, ![2048, 512]⟩
abbrev S2048x256 : Shape := ⟨2, ![2048, 256]⟩
abbrev S2048x1408 : Shape := ⟨2, ![2048, 1408]⟩
abbrev S1x1280 : Shape := ⟨2, ![1, 1280]⟩
abbrev S2048x1024 : Shape := ⟨2, ![2048, 1024]⟩
abbrev S1280x1024 : Shape := ⟨2, ![1280, 1024]⟩
abbrev S2048x1280 : Shape := ⟨2, ![2048, 1280]⟩
abbrev S2048x20x64 : Shape := ⟨3, ![2048, 20, 64]⟩
abbrev S_ : Shape := ⟨0, ![]⟩
abbrev S2048x20 : Shape := ⟨2, ![2048, 20]⟩
abbrev S2048x20x1 : Shape := ⟨3, ![2048, 20, 1]⟩

abbrev nBuf : Space → Nat
  | .hbm => 40
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x256, .f32⟩
  | .hbm, ⟨3, _⟩ => ⟨S2048x1408, .f32⟩
  | .hbm, ⟨4, _⟩ => ⟨S1x1280, .f32⟩
  | .hbm, ⟨5, _⟩ => ⟨S2048x1024, .f32⟩
  | .hbm, ⟨6, _⟩ => ⟨S1280x1024, .bf16⟩
  | .hbm, ⟨7, _⟩ => ⟨S2048x1280, .f32⟩
  | .hbm, ⟨8, _⟩ => ⟨S2048x20x64, .f32⟩
  | .hbm, ⟨9, _⟩ => ⟨S2048x20x64, .f32⟩
  | .hbm, ⟨10, _⟩ => ⟨S_, .f32⟩
  | .hbm, ⟨11, _⟩ => ⟨S2048x20, .f32⟩
  | .hbm, ⟨12, _⟩ => ⟨S2048x20x1, .f32⟩
  | .hbm, ⟨13, _⟩ => ⟨S_, .f32⟩
  | .hbm, ⟨14, _⟩ => ⟨S2048x20x1, .f32⟩
  | .hbm, ⟨15, _⟩ => ⟨S2048x20x1, .f32⟩
  | .hbm, ⟨16, _⟩ => ⟨S_, .f32⟩
  | .hbm, ⟨17, _⟩ => ⟨S2048x20x1, .f32⟩
  | .hbm, ⟨18, _⟩ => ⟨S2048x20x1, .f32⟩
  | .hbm, ⟨19, _⟩ => ⟨S2048x20x1, .f32⟩
  | .hbm, ⟨20, _⟩ => ⟨S2048x20x64, .f32⟩
  | .hbm, ⟨21, _⟩ => ⟨S2048x20x64, .f32⟩
  | .hbm, ⟨22, _⟩ => ⟨S2048x1280, .f32⟩
  | .hbm, ⟨23, _⟩ => ⟨S2048x1280, .f32⟩
  | .hbm, ⟨24, _⟩ => ⟨S2048x1280, .f32⟩
  | .hbm, ⟨25, _⟩ => ⟨S2048x1280, .f32⟩
  | .hbm, ⟨26, _⟩ => ⟨S2048x1280, .f32⟩
  | .hbm, ⟨27, _⟩ => ⟨S2048x1280, .f32⟩
  | .hbm, ⟨28, _⟩ => ⟨S_, .f32⟩
  | .hbm, ⟨29, _⟩ => ⟨S2048x1280, .f32⟩
  | .hbm, ⟨30, _⟩ => ⟨S2048x1280, .f32⟩
  | .hbm, ⟨31, _⟩ => ⟨S_, .f32⟩
  | .hbm, ⟨32, _⟩ => ⟨S2048x1280, .f32⟩
  | .hbm, ⟨33, _⟩ => ⟨S2048x1280, .f32⟩
  | .hbm, ⟨34, _⟩ => ⟨S2048x1280, .f32⟩
  | .hbm, ⟨35, _⟩ => ⟨S2048x1280, .f32⟩
  | .hbm, ⟨36, _⟩ => ⟨S1280x1024, .f32⟩
  | .hbm, ⟨37, _⟩ => ⟨S2048x1024, .f32⟩
  | .hbm, ⟨38, _⟩ => ⟨S2048x1024, .f32⟩
  | .hbm, ⟨39, _⟩ => ⟨S2048x1280, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩

abbrev nD : Nat := 1
abbrev τ : Topo := Topo.v7x

variable {F : FTy → Type} [FloatOps F]
-- ==== OutBwd.lean ====
abbrev S2048x1024 : Shape := ⟨2, ![2048, 1024]⟩
abbrev S2048x512 : Shape := ⟨2, ![2048, 512]⟩
abbrev S2048x256 : Shape := ⟨2, ![2048, 256]⟩
abbrev S2048x1408 : Shape := ⟨2, ![2048, 1408]⟩
abbrev S1x1280 : Shape := ⟨2, ![1, 1280]⟩
abbrev S1280x1024 : Shape := ⟨2, ![1280, 1024]⟩
abbrev S1280 : Shape := ⟨1, ![1280]⟩
abbrev S1280x1 : Shape := ⟨2, ![1280, 1]⟩
abbrev S_ : Shape := ⟨0, ![]⟩
abbrev S128 : Shape := ⟨1, ![128]⟩
abbrev S1x128 : Shape := ⟨2, ![1, 128]⟩
abbrev S1280x128 : Shape := ⟨2, ![1280, 128]⟩
abbrev S128x1280 : Shape := ⟨2, ![128, 1280]⟩
abbrev S2048x1280 : Shape := ⟨2, ![2048, 1280]⟩
abbrev S256x1024 : Shape := ⟨2, ![256, 1024]⟩
abbrev S256x512 : Shape := ⟨2, ![256, 512]⟩
abbrev S256x256 : Shape := ⟨2, ![256, 256]⟩
abbrev S256x1280 : Shape := ⟨2, ![256, 1280]⟩
abbrev S256x128 : Shape := ⟨2, ![256, 128]⟩

abbrev nBuf : Space → Nat
  | .hbm => 37
  | .vmem => 19
  | .smem => 0
  | _ => 0

abbrev bufTy : (tb : Table) → Fin (tcTables nBuf tb) → BufTy
  | .hbm, ⟨0, _⟩ => ⟨S2048x1024, .bf16⟩
  | .hbm, ⟨1, _⟩ => ⟨S2048x512, .f32⟩
  | .hbm, ⟨2, _⟩ => ⟨S2048x512, .f32⟩
  | .hbm, ⟨3, _⟩ => ⟨S2048x256, .f32⟩
  | .hbm, ⟨4, _⟩ => ⟨S2048x1408, .f32⟩
  | .hbm, ⟨5, _⟩ => ⟨S1x1280, .f32⟩
  | .hbm, ⟨6, _⟩ => ⟨S1280x1024, .bf16⟩
  | .hbm, ⟨7, _⟩ => ⟨S1280, .i32⟩
  | .hbm, ⟨8, _⟩ => ⟨S1280x1, .i32⟩
  | .hbm, ⟨9, _⟩ => ⟨S_, .i32⟩
  | .hbm, ⟨10, _⟩ => ⟨S_, .i32⟩
  | .hbm, ⟨11, _⟩ => ⟨S1280x1, .i32⟩
  | .hbm, ⟨12, _⟩ => ⟨S1280x1, .i32⟩
  | .hbm, ⟨13, _⟩ => ⟨S1280x1, .i32⟩
  | .hbm, ⟨14, _⟩ => ⟨S_, .i32⟩
  | .hbm, ⟨15, _⟩ => ⟨S1280x1, .i32⟩
  | .hbm, ⟨16, _⟩ => ⟨S1280x1, .i1⟩
  | .hbm, ⟨17, _⟩ => ⟨S1280x1, .i32⟩
  | .hbm, ⟨18, _⟩ => ⟨S1280x1, .i32⟩
  | .hbm, ⟨19, _⟩ => ⟨S_, .i32⟩
  | .hbm, ⟨20, _⟩ => ⟨S1280x1, .i32⟩
  | .hbm, ⟨21, _⟩ => ⟨S1280x1, .i1⟩
  | .hbm, ⟨22, _⟩ => ⟨S1280x1, .i1⟩
  | .hbm, ⟨23, _⟩ => ⟨S_, .i32⟩
  | .hbm, ⟨24, _⟩ => ⟨S1280x1, .i32⟩
  | .hbm, ⟨25, _⟩ => ⟨S1280x1, .i32⟩
  | .hbm, ⟨26, _⟩ => ⟨S1280x1, .i32⟩
  | .hbm, ⟨27, _⟩ => ⟨S128, .i32⟩
  | .hbm, ⟨28, _⟩ => ⟨S1x128, .i32⟩
  | .hbm, ⟨29, _⟩ => ⟨S1280x128, .i32⟩
  | .hbm, ⟨30, _⟩ => ⟨S1280x128, .i32⟩
  | .hbm, ⟨31, _⟩ => ⟨S1280x128, .i1⟩
  | .hbm, ⟨32, _⟩ => ⟨S1280x128, .bf16⟩
  | .hbm, ⟨33, _⟩ => ⟨S128x1280, .bf16⟩
  | .hbm, ⟨34, _⟩ => ⟨S2048x1280, .f32⟩
  | .hbm, ⟨35, _⟩ => ⟨S2048x1280, .bf16⟩
  | .hbm, ⟨36, _⟩ => ⟨S1x1280, .f32⟩
  | .local _ .vmem, ⟨0, _⟩ => ⟨S256x1024, .bf16⟩
  | .local _ .vmem, ⟨1, _⟩ => ⟨S256x1024, .bf16⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x256, .f32⟩
  | .local _ .vmem, ⟨7, _⟩ => ⟨S256x256, .f32⟩
  | .local _ .vmem, ⟨8, _⟩ => ⟨S256x1280, .f32⟩
  | .local _ .vmem, ⟨9, _⟩ => ⟨S256x1280, .f32⟩
  | .local _ .vmem, ⟨10, _⟩ => ⟨S1x1280, .f32⟩
  | .local _ .vmem, ⟨11, _⟩ => ⟨S1280x1024, .bf16⟩
  | .local _ .vmem, ⟨12, _⟩ => ⟨S1280x128, .bf16⟩
  | .local _ .vmem, ⟨13, _⟩ => ⟨S128x1280, .bf16⟩
  | .local _ .vmem, ⟨14, _⟩ => ⟨S256x1280, .f32⟩
  | .local _ .vmem, ⟨15, _⟩ => ⟨S256x1280, .f32⟩
  | .local _ .vmem, ⟨16, _⟩ => ⟨S256x1280, .bf16⟩
  | .local _ .vmem, ⟨17, _⟩ => ⟨S256x1280, .bf16⟩
  | .local _ .vmem, ⟨18, _⟩ => ⟨S1x1280, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10_0 : Ref sig .tc := ⟨.hbm, 34, rfl⟩
abbrev main_v10_1 : Ref sig .tc := ⟨.hbm, 35, rfl⟩
abbrev main_v10_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1280x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1280x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1280 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1280 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1280 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1280 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== OutBwdReferenceIdeal.lean ====
abbrev S2048x1024 : Shape := ⟨2, ![2048, 1024]⟩
abbrev S2048x512 : Shape := ⟨2, ![2048, 512]⟩
abbrev S2048x256 : Shape := ⟨2, ![2048, 256]⟩
abbrev S2048x1408 : Shape := ⟨2, ![2048, 1408]⟩
abbrev S1x1280 : Shape := ⟨2, ![1, 1280]⟩
abbrev S1280x1024 : Shape := ⟨2, ![1280, 1024]⟩
abbrev S2048x1280 : Shape := ⟨2, ![2048, 1280]⟩
abbrev S2048x20x64 : Shape := ⟨3, ![2048, 20, 64]⟩
abbrev S_ : Shape := ⟨0, ![]⟩
abbrev S2048x20 : Shape := ⟨2, ![2048, 20]⟩
abbrev S2048x20x1 : Shape := ⟨3, ![2048, 20, 1]⟩
abbrev S1280 : Shape := ⟨1, ![1280]⟩

abbrev nBuf : Space → Nat
  | .hbm => 80
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x512, .f32⟩
  | .hbm, ⟨2, _⟩ => ⟨S2048x512, .f32⟩
  | .hbm, ⟨3, _⟩ => ⟨S2048x256, .f32⟩
  | .hbm, ⟨4, _⟩ => ⟨S2048x1408, .f32⟩
  | .hbm, ⟨5, _⟩ => ⟨S1x1280, .f32⟩
  | .hbm, ⟨6, _⟩ => ⟨S1280x1024, .bf16⟩
  | .hbm, ⟨7, _⟩ => ⟨S2048x1280, .f32⟩
  | .hbm, ⟨8, _⟩ => ⟨S2048x1280, .f32⟩
  | .hbm, ⟨9, _⟩ => ⟨S2048x20x64, .f32⟩
  | .hbm, ⟨10, _⟩ => ⟨S2048x20x64, .f32⟩
  | .hbm, ⟨11, _⟩ => ⟨S_, .f32⟩
  | .hbm, ⟨12, _⟩ => ⟨S2048x20, .f32⟩
  | .hbm, ⟨13, _⟩ => ⟨S2048x20x1, .f32⟩
  | .hbm, ⟨14, _⟩ => ⟨S_, .f32⟩
  | .hbm, ⟨15, _⟩ => ⟨S2048x20x1, .f32⟩
  | .hbm, ⟨16, _⟩ => ⟨S2048x20x1, .f32⟩
  | .hbm, ⟨17, _⟩ => ⟨S_, .f32⟩
  | .hbm, ⟨18, _⟩ => ⟨S2048x20x1, .f32⟩
  | .hbm, ⟨19, _⟩ => ⟨S2048x20x1, .f32⟩
  | .hbm, ⟨20, _⟩ => ⟨S2048x20x1, .f32⟩
  | .hbm, ⟨21, _⟩ => ⟨S2048x20x1, .f32⟩
  | .hbm, ⟨22, _⟩ => ⟨S_, .f32⟩
  | .hbm, ⟨23, _⟩ => ⟨S2048x20x1, .f32⟩
  | .hbm, ⟨24, _⟩ => ⟨S2048x20x1, .f32⟩
  | .hbm, ⟨25, _⟩ => ⟨S2048x20x64, .f32⟩
  | .hbm, ⟨26, _⟩ => ⟨S2048x20x64, .f32⟩
  | .hbm, ⟨27, _⟩ => ⟨S2048x1280, .f32⟩
  | .hbm, ⟨28, _⟩ => ⟨S2048x1280, .f32⟩
  | .hbm, ⟨29, _⟩ => ⟨S2048x1280, .f32⟩
  | .hbm, ⟨30, _⟩ => ⟨S2048x1280, .f32⟩
  | .hbm, ⟨31, _⟩ => ⟨S2048x1280, .f32⟩
  | .hbm, ⟨32, _⟩ => ⟨S_, .f32⟩
  | .hbm, ⟨33, _⟩ => ⟨S2048x1280, .f32⟩
  | .hbm, ⟨34, _⟩ => ⟨S2048x1280, .f32⟩
  | .hbm, ⟨35, _⟩ => ⟨S_, .f32⟩
  | .hbm, ⟨36, _⟩ => ⟨S2048x1280, .f32⟩
  | .hbm, ⟨37, _⟩ => ⟨S2048x1280, .f32⟩
  | .hbm, ⟨38, _⟩ => ⟨S_, .f32⟩
  | .hbm, ⟨39, _⟩ => ⟨S2048x1280, .f32⟩
  | .hbm, ⟨40, _⟩ => ⟨S2048x1280, .f32⟩
  | .hbm, ⟨41, _⟩ => ⟨S2048x1280, .f32⟩
  | .hbm, ⟨42, _⟩ => ⟨S2048x1280, .f32⟩
  | .hbm, ⟨43, _⟩ => ⟨S2048x1280, .f32⟩
  | .hbm, ⟨44, _⟩ => ⟨S1280x1024, .f32⟩
  | .hbm, ⟨45, _⟩ => ⟨S2048x1024, .f32⟩
  | .hbm, ⟨46, _⟩ => ⟨S2048x1024, .f32⟩
  | .hbm, ⟨47, _⟩ => ⟨S2048x1280, .f32⟩
  | .hbm, ⟨48, _⟩ => ⟨S2048x1280, .f32⟩
  | .hbm, ⟨49, _⟩ => ⟨S2048x1280, .f32⟩
  | .hbm, ⟨50, _⟩ => ⟨S2048x1280, .f32⟩
  | .hbm, ⟨51, _⟩ => ⟨S2048x1280, .f32⟩
  | .hbm, ⟨52, _⟩ => ⟨S2048x1280, .f32⟩
  | .hbm, ⟨53, _⟩ => ⟨S2048x1280, .f32⟩
  | .hbm, ⟨54, _⟩ => ⟨S2048x1280, .f32⟩
  | .hbm, ⟨55, _⟩ => ⟨S_, .f32⟩
  | .hbm, ⟨56, _⟩ => ⟨S1280, .f32⟩
  | .hbm, ⟨57, _⟩ => ⟨S1x1280, .f32⟩
  | .hbm, ⟨58, _⟩ => ⟨S2048x1280, .f32⟩
  | .hbm, ⟨59, _⟩ => ⟨S2048x1280, .f32⟩
  | .hbm, ⟨60, _⟩ => ⟨S2048x20x64, .f32⟩
  | .hbm, ⟨61, _⟩ => ⟨S2048x20x64, .f32⟩
  | .hbm, ⟨62, _⟩ => ⟨S_, .f32⟩
  | .hbm, ⟨63, _⟩ => ⟨S2048x20, .f32⟩
  | .hbm, ⟨64, _⟩ => ⟨S2048x20x1, .f32⟩
  | .hbm, ⟨65, _⟩ => ⟨S2048x20x64, .f32⟩
  | .hbm, ⟨66, _⟩ => ⟨S2048x20x64, .f32⟩
  | .hbm, ⟨67, _⟩ => ⟨S2048x20x1, .f32⟩
  | .hbm, ⟨68, _⟩ => ⟨S_, .f32⟩
  | .hbm, ⟨69, _⟩ => ⟨S2048x20x1, .f32⟩
  | .hbm, ⟨70, _⟩ => ⟨S2048x20x1, .f32⟩
  | .hbm, ⟨71, _⟩ => ⟨S_, .f32⟩
  | .hbm, ⟨72, _⟩ => ⟨S2048x20, .f32⟩
  | .hbm, ⟨73, _⟩ => ⟨S2048x20x64, .f32⟩
  | .hbm, ⟨74, _⟩ => ⟨S2048x20x64, .f32⟩
  | .hbm, ⟨75, _⟩ => ⟨S2048x20x64, .f32⟩
  | .hbm, ⟨76, _⟩ => ⟨S2048x20x64, .f32⟩
  | .hbm, ⟨77, _⟩ => ⟨S2048x20x64, .f32⟩
  | .hbm, ⟨78, _⟩ => ⟨S2048x1280, .f32⟩
  | .hbm, ⟨79, _⟩ => ⟨S2048x1280, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v19_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v19_1 : Ref sig .tc := ⟨.hbm, 41, rfl⟩
abbrev main_v19_0 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v27 : Ref sig .tc := ⟨.hbm, 53, rfl⟩
abbrev main_v28 : Ref sig .tc := ⟨.hbm, 54, rfl⟩
abbrev main_cst_3 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_4 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_5 : Ref sig .tc := ⟨.hbm, 68, rfl⟩
abbrev main_v40 : Ref sig .tc := ⟨.hbm, 69, rfl⟩
abbrev main_v41 : Ref sig .tc := ⟨.hbm, 70, rfl⟩
abbrev main_cst_6 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩

abbrev nD : Nat := 1
abbrev τ : Topo := Topo.v7x

variable {F : FTy → Type} [FloatOps F]
-- ==== Proof.Offsets.lean ====
/-
  Closed forms of the offsets the gradient kernel computes: the row block a trip of the column loop works on, the half of
  the two-slot scratch it reads and the half it fills, and the half that holds block 0 when the loop is done.
-/
module

public import proofs.«01_k».proof.Proof.Gen.KernelIdeal.Loops

@[expose] public section

set_option maxRecDepth 16384

noncomputable section

namespace Cert.Proof.Fox

open Cert.KernelIdeal Cert.KernelIdeal.Gen
open Idealize.ShloMosaic Idealize.ShloMosaic.TcCoe Idealize.ShloMosaic.Tactic

/-- The column loop of row block `i` runs once per earlier block. -/
theorem trips_eq : ∀ i : grid0.Coords, (k0_t1_loop i).trips = (i 1).val := by decide +kernel
/-- The loop over what the first leaves is empty. -/
theorem trips2_eq : ∀ i : grid0.Coords, (k0_t2_loop i).trips = 0 := by decide +kernel

theorem k0_off6_eq : ∀ (i : grid0.Coords) (k : Fin (k0_t1_loop i).trips), k0_off6 i k = ![256 * ((i 1).val - k.val), 0] := by decide +kernel
instance (i : grid0.Coords) (k : Fin (k0_t1_loop i).trips) : ClosedOff (k0_off6 i k) := ⟨_, k0_off6_eq i k⟩

theorem k0_off7_eq : ∀ (i : grid0.Coords) (k : Fin (k0_t1_loop i).trips), k0_off7 i k = ![k.val % 2, 0, 0, 0] := by decide +kernel
instance (i : grid0.Coords) (k : Fin (k0_t1_loop i).trips) : ClosedOff (k0_off7 i k) := ⟨_, k0_off7_eq i k⟩

theorem k0_off9_eq : ∀ (i : grid0.Coords) (k : Fin (k0_t1_loop i).trips), k0_off9 i k = ![k.val % 2, 1, 0, 0] := by decide +kernel
instance (i : grid0.Coords) (k : Fin (k0_t1_loop i).trips) : ClosedOff (k0_off9 i k) := ⟨_, k0_off9_eq i k⟩

theorem k0_off11_eq : ∀ (i : grid0.Coords) (k : Fin (k0_t1_loop i).trips), k0_off11 i k = ![k.val % 2, 2, 0, 0] := by decide +kernel
instance (i : grid0.Coords) (k : Fin (k0_t1_loop i).trips) : ClosedOff (k0_off11 i k) := ⟨_, k0_off11_eq i k⟩

theorem k0_off13_eq : ∀ (i : grid0.Coords) (k : Fin (k0_t1_loop i).trips), k0_off13 i k = ![k.val % 2, 3, 0, 0] := by decide +kernel
instance (i : grid0.Coords) (k : Fin (k0_t1_loop i).trips) : ClosedOff (k0_off13 i k) := ⟨_, k0_off13_eq i k⟩

theorem k0_off8_eq : ∀ (i : grid0.Coords) (k : Fin (k0_t1_loop i).trips), k0_off8 i k = ![0, 256 * ((i 1).val - k.val), 0] := by decide +kernel
instance (i : grid0.Coords) (k : Fin (k0_t1_loop i).trips) : ClosedOff (k0_off8 i k) := ⟨_, k0_off8_eq i k⟩

theorem k0_off10_eq : ∀ (i : grid0.Coords) (k : Fin (k0_t1_loop i).trips), k0_off10 i k = ![1, 256 * ((i 1).val - k.val), 0] := by decide +kernel
instance (i : grid0.Coords) (k : Fin (k0_t1_loop i).trips) : ClosedOff (k0_off10 i k) := ⟨_, k0_off10_eq i k⟩

theorem k0_off12_eq : ∀ (i : grid0.Coords) (k : Fin (k0_t1_loop i).trips), k0_off12 i k = ![2, 256 * ((i 1).val - k.val), 0] := by decide +kernel
instance (i : grid0.Coords) (k : Fin (k0_t1_loop i).trips) : ClosedOff (k0_off12 i k) := ⟨_, k0_off12_eq i k⟩

theorem k0_off14_eq : ∀ (i : grid0.Coords) (k : Fin (k0_t1_loop i).trips), k0_off14 i k = ![3, 256 * ((i 1).val - k.val), 0] := by decide +kernel
instance (i : grid0.Coords) (k : Fin (k0_t1_loop i).trips) : ClosedOff (k0_off14 i k) := ⟨_, k0_off14_eq i k⟩

theorem k0_off15_eq : ∀ (i : grid0.Coords) (k : Fin (k0_t1_loop i).trips), k0_off15 i k = ![256 * ((i 1).val - k.val - 1), 0] := by decide +kernel
instance (i : grid0.Coords) (k : Fin (k0_t1_loop i).trips) : ClosedOff (k0_off15 i k) := ⟨_, k0_off15_eq i k⟩

theorem k0_off16_eq : ∀ (i : grid0.Coords) (k : Fin (k0_t1_loop i).trips), k0_off16 i k = ![0, (i 1).val - k.val - 1, 0, 0] := by decide +kernel
instance (i : grid0.Coords) (k : Fin (k0_t1_loop i).trips) : ClosedOff (k0_off16 i k) := ⟨_, k0_off16_eq i k⟩

theorem k0_off18_eq : ∀ (i : grid0.Coords) (k : Fin (k0_t1_loop i).trips), k0_off18 i k = ![0, (i 1).val - k.val - 1, 1, 0] := by decide +kernel
instance (i : grid0.Coords) (k : Fin (k0_t1_loop i).trips) : ClosedOff (k0_off18 i k) := ⟨_, k0_off18_eq i k⟩

theorem k0_off20_eq : ∀ (i : grid0.Coords) (k : Fin (k0_t1_loop i).trips), k0_off20 i k = ![0, (i 1).val - k.val - 1, 2, 0] := by decide +kernel
instance (i : grid0.Coords) (k : Fin (k0_t1_loop i).trips) : ClosedOff (k0_off20 i k) := ⟨_, k0_off20_eq i k⟩

theorem k0_off22_eq : ∀ (i : grid0.Coords) (k : Fin (k0_t1_loop i).trips), k0_off22 i k = ![0, (i 1).val - k.val - 1, 3, 0] := by decide +kernel
instance (i : grid0.Coords) (k : Fin (k0_t1_loop i).trips) : ClosedOff (k0_off22 i k) := ⟨_, k0_off22_eq i k⟩

theorem k0_off17_eq : ∀ (i : grid0.Coords) (k : Fin (k0_t1_loop i).trips), k0_off17 i k = ![(k.val + 1) % 2, 0, 0, 0] := by decide +kernel
instance (i : grid0.Coords) (k : Fin (k0_t1_loop i).trips) : ClosedOff (k0_off17 i k) := ⟨_, k0_off17_eq i k⟩

theorem k0_off19_eq : ∀ (i : grid0.Coords) (k : Fin (k0_t1_loop i).trips), k0_off19 i k = ![(k.val + 1) % 2, 1, 0, 0] := by decide +kernel
instance (i : grid0.Coords) (k : Fin (k0_t1_loop i).trips) : ClosedOff (k0_off19 i k) := ⟨_, k0_off19_eq i k⟩

theorem k0_off21_eq : ∀ (i : grid0.Coords) (k : Fin (k0_t1_loop i).trips), k0_off21 i k = ![(k.val + 1) % 2, 2, 0, 0] := by decide +kernel
instance (i : grid0.Coords) (k : Fin (k0_t1_loop i).trips) : ClosedOff (k0_off21 i k) := ⟨_, k0_off21_eq i k⟩

theorem k0_off23_eq : ∀ (i : grid0.Coords) (k : Fin (k0_t1_loop i).trips), k0_off23 i k = ![(k.val + 1) % 2, 3, 0, 0] := by decide +kernel
instance (i : grid0.Coords) (k : Fin (k0_t1_loop i).trips) : ClosedOff (k0_off23 i k) := ⟨_, k0_off23_eq i k⟩

theorem k0_off42_eq : ∀ i : grid0.Coords, k0_off42 i = ![(i 1).val % 2, 0, 0, 0] := by decide +kernel
instance (i : grid0.Coords) : ClosedOff (k0_off42 i) := ⟨_, k0_off42_eq i⟩

theorem k0_off43_eq : ∀ i : grid0.Coords, k0_off43 i = ![(i 1).val % 2, 1, 0, 0] := by decide +kernel
instance (i : grid0.Coords) : ClosedOff (k0_off43 i) := ⟨_, k0_off43_eq i⟩

theorem k0_off44_eq : ∀ i : grid0.Coords, k0_off44 i = ![(i 1).val % 2, 2, 0, 0] := by decide +kernel
instance (i : grid0.Coords) : ClosedOff (k0_off44 i) := ⟨_, k0_off44_eq i⟩

theorem k0_off45_eq : ∀ i : grid0.Coords, k0_off45 i = ![(i 1).val % 2, 3, 0, 0] := by decide +kernel
instance (i : grid0.Coords) : ClosedOff (k0_off45 i) := ⟨_, k0_off45_eq i⟩

end Cert.Proof.Fox

end
-- ==== Proof.Head.lean ====
/-
  One head's arithmetic of the gradient kernel, written once for the four heads: the probabilities of a tile, the gradient of
  its logits, the accumulations into the gradients of the keys and of the values, the column and row sums.
-/
module

public import proofs.«01_k».proof.Proof.Gen.KernelIdeal.Loops

@[expose] public section

set_option maxRecDepth 16384

noncomputable section

namespace Cert.Proof.Fox

open Cert.KernelIdeal Cert.KernelIdeal.Gen
open Idealize.ShloMosaic Idealize.ShloMosaic.TcCoe Idealize.ShloMosaic.Tactic

variable {F : FTy → Type} [FloatOps F]

/-- Head `h`'s 64 columns of a 256-column block. -/
def col (h : Fin 4) (x : Vec F S256x256 .bf16) : FVec F S256x64 .bf16 :=
  match h with
  | 0 => extractStridedSlice S256x64 ![0, 0] x slices_S256x256_o0_0_S256x64
  | 1 => extractStridedSlice S256x64 ![0, 64] x slices_S256x256_o0_64_S256x64
  | 2 => extractStridedSlice S256x64 ![0, 128] x slices_S256x256_o0_128_S256x64
  | 3 => extractStridedSlice S256x64 ![0, 192] x slices_S256x256_o0_192_S256x64

/-- What a tile of one head is computed from: the scaled query rows, their decay, their log-sum, the cotangent's rows and the
    inner products of cotangent and output. -/
structure Rows (F : FTy → Type) [FloatOps F] where
  q : FVec F S256x64 .bf16
  cq : FVec F S256x1 .f32
  lse : FVec F S256x1 .f32
  dO : FVec F S256x64 .bf16
  dl : FVec F S256x1 .f32

/-- A tile's logits: the products of queries and keys, and the difference of the decays. -/
def logitsF (w : Rows F) (k : FVec F S256x64 .bf16) (cr : Vec F S1x1x1x256 .f32) : FVec F S256x256 .f32 :=
  addf (matmul dot_S256x64_S256x64_S256x256_1_1_0_0_n_n none w.q k (constant S256x256 .f32 0x00000000#32))
    (subf (broadcastTo S256x256 w.cq broadcasts_S256x1_S256x256)
      (broadcastTo S256x256 (shapeCast S1x256 cr shapeCasts_S1x1x1x256_S1x256) broadcasts_S1x256_S256x256))

/-- Its probabilities, away from the diagonal. -/
def probF (w : Rows F) (k : FVec F S256x64 .bf16) (cr : Vec F S1x1x1x256 .f32) : FVec F S256x256 .f32 :=
  exp (subf (logitsF w k cr) (broadcastTo S256x256 w.lse broadcasts_S256x1_S256x256))

/-- The gradient of its logits from its probabilities `p`. -/
def gradF (w : Rows F) (p : FVec F S256x256 .f32) (v : FVec F S256x64 .bf16) : FVec F S256x256 .f32 :=
  mulf p (subf (matmul dot_S256x64_S256x64_S256x256_1_1_0_0_n_n none w.dO v (constant S256x256 .f32 0x00000000#32))
    (broadcastTo S256x256 w.dl broadcasts_S256x1_S256x256))

/-- A tile as the scratch holds it. -/
def slotF (x : FVec F S256x256 .f32) : FVec F S1x1x256x256 .bf16 :=
  shapeCast S1x1x256x256 (truncf .bf16 x bitsLt_bf16_f32) shapeCasts_S256x256_S1x1x256x256

/-- A tile's contribution to an accumulator's rows: the tile's transpose times `w`, added. -/
def accF (w : FVec F S256x64 .bf16) (old : Vec F S1x256x64 .f32) (s : Vec F S1x1x256x256 .bf16) : FVec F S1x256x64 .f32 :=
  shapeCast S1x256x64 (addf (shapeCast S256x64 old shapeCasts_S1x256x64_S256x64)
    (matmul dot_S256x256_S256x64_S256x64_0_0_1_1_n_n none (shapeCast S256x256 s shapeCasts_S1x1x256x256_S256x256) w
      (constant S256x64 .f32 0x00000000#32))) shapeCasts_S256x64_S1x256x64

/-- Its contribution to the gradient of the queries: the tile times the keys, added. -/
def dqF (old : FVec F S256x64 .f32) (k : FVec F S256x64 .bf16) (s : Vec F S1x1x256x256 .bf16) : FVec F S256x64 .f32 :=
  addf old (matmul dot_S256x256_S256x64_S256x64_1_0_0_1_n_n none (shapeCast S256x256 s shapeCasts_S1x1x256x256_S256x256) k
    (constant S256x64 .f32 0x00000000#32))

/-- Its column sums, added to a row of the decays' gradient. -/
def colF (d : FVec F S256x256 .f32) (old : Vec F S1x1x1x256 .f32) : FVec F S1x1x1x256 .f32 :=
  shapeCast S1x1x1x256 (addf (shapeCast S1x256 old shapeCasts_S1x1x1x256_S1x256)
    (shapeCast S1x256 (multiReduction .add [0] S256 d 0x00000000#32 reduces_S256x256_S256 (.inl rfl) rfl) shapeCasts_S256_S1x256))
    shapeCasts_S1x256_S1x1x1x256

/-- Its row sums, added to what the row has. -/
def rowF (old : FVec F S256x1 .f32) (d : FVec F S256x256 .f32) : FVec F S256x1 .f32 :=
  addf old (shapeCast S256x1 (multiReduction .add [1] S256 d 0x00000000#32 reduces_S256x256_S256_2 (.inl rfl) rfl) shapeCasts_S256_S256x1)

end Cert.Proof.Fox

end
-- ==== Proof.Loop.lean ====
/-
  The gradient kernel's loop over the earlier column blocks: one trip's stores and what it carries on, and the loop by its
  invariant, the arrays it writes named by what the trips so far have written into them.
-/
module

public import proofs.«01_k».proof.Proof.Offsets
public import proofs.«01_k».proof.Proof.Head
public import proofs.«01_k».proof.Proof.Gen.KernelIdeal.Frame

@[expose] public section

set_option maxRecDepth 16384

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the column loop carries: the four heads' row sums, then their gradients of the queries. -/
abbrev Acc (F : FTy → Type) [FloatOps F] : Type := FVec F S256x1 .f32 × FVec F S256x1 .f32 × FVec F S256x1 .f32 × FVec F S256x1 .f32 × FVec F S256x64 .f32 × FVec F S256x64 .f32 × FVec F S256x64 .f32 × FVec F S256x64 .f32

/-! ## One trip: the block before the last one scored is accumulated, the next is scored -/

section Trip

variable (w : Fin 4 → Rows F) (arg3 : Memref sig .tc .vmem S2048x256 .bf16) (arg4 : Memref sig .tc .vmem S2048x256 .bf16) (arg6 : Memref sig .tc .vmem S1x8x8x256 .f32) (arg13 : Memref sig .tc .vmem S1x8x8x256 .f32) (arg14 : Memref sig .tc .vmem S4x2048x64 .f32) (arg15 : Memref sig .tc .vmem S4x2048x64 .f32) (arg16 : Memref sig .tc .vmem S2x4x256x256 .bf16) (arg17 : Memref sig .tc .vmem S2x4x256x256 .bf16)
  (X_arg3 : BufTy.Contents (Elt F) arg3.view.ty) (X_arg4 : BufTy.Contents (Elt F) arg4.view.ty) (X_arg6 : BufTy.Contents (Elt F) arg6.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty)
  (i : grid0.Coords) (k : Fin (k0_t1_loop i).trips)

/-- The row of decays of head `h` at the block the trip scores. -/
def crow (h : Fin 4) : Vec F S1x1x1x256 .f32 :=
  match h with
  | 0 => (arg6.view.readAt (Elt F) (Rect.unit (s := S1x8x8x256) (k0_off16 i k) S1x1x1x256.size (k0_off16_inb i k)).toLoadRect X_arg6)
  | 1 => (arg6.view.readAt (Elt F) (Rect.unit (s := S1x8x8x256) (k0_off18 i k) S1x1x1x256.size (k0_off18_inb i k)).toLoadRect X_arg6)
  | 2 => (arg6.view.readAt (Elt F) (Rect.unit (s := S1x8x8x256) (k0_off20 i k) S1x1x1x256.size (k0_off20_inb i k)).toLoadRect X_arg6)
  | 3 => (arg6.view.readAt (Elt F) (Rect.unit (s := S1x8x8x256) (k0_off22 i k) S1x1x1x256.size (k0_off22_inb i k)).toLoadRect X_arg6)

/-- Head `h`'s probabilities of the block the trip scores, -/
def ptile (h : Fin 4) : FVec F S256x256 .f32 :=
  probF (w h) (col h (arg3.view.readAt (Elt F) (Rect.unit (s := S2048x256) (k0_off15 i k) S256x256.size (k0_off15_inb i k)).toLoadRect X_arg3)) (crow arg6 X_arg6 i k h)

/-- and the gradient of its logits. -/
def tile (h : Fin 4) : FVec F S256x256 .f32 :=
  gradF (w h) (ptile w arg3 arg6 X_arg3 X_arg6 i k h) (col h (arg4.view.readAt (Elt F) (Rect.unit (s := S2048x256) (k0_off15 i k) S256x256.size (k0_off15_inb i k)).toLoadRect X_arg4))

/-- The trip's stores into the decays' gradient, the last first; -/
def L13 : List (View.Piece (Elt F) S1x8x8x256 .f32) :=
  [⟨Rect.unit (s := S1x8x8x256) (k0_off22 i k) S1x1x1x256.size (k0_off22_inb i k), colF (tile w arg3 arg4 arg6 X_arg3 X_arg4 X_arg6 i k 3) (arg13.view.readAt (Elt F) (Rect.unit (s := S1x8x8x256) (k0_off22 i k) S1x1x1x256.size (k0_off22_inb i k)).toLoadRect f_arg13)⟩,
   ⟨Rect.unit (s := S1x8x8x256) (k0_off20 i k) S1x1x1x256.size (k0_off20_inb i k), colF (tile w arg3 arg4 arg6 X_arg3 X_arg4 X_arg6 i k 2) (arg13.view.readAt (Elt F) (Rect.unit (s := S1x8x8x256) (k0_off20 i k) S1x1x1x256.size (k0_off20_inb i k)).toLoadRect f_arg13)⟩,
   ⟨Rect.unit (s := S1x8x8x256) (k0_off18 i k) S1x1x1x256.size (k0_off18_inb i k), colF (tile w arg3 arg4 arg6 X_arg3 X_arg4 X_arg6 i k 1) (arg13.view.readAt (Elt F) (Rect.unit (s := S1x8x8x256) (k0_off18 i k) S1x1x1x256.size (k0_off18_inb i k)).toLoadRect f_arg13)⟩,
   ⟨Rect.unit (s := S1x8x8x256) (k0_off16 i k) S1x1x1x256.size (k0_off16_inb i k), colF (tile w arg3 arg4 arg6 X_arg3 X_arg4 X_arg6 i k 0) (arg13.view.readAt (Elt F) (Rect.unit (s := S1x8x8x256) (k0_off16 i k) S1x1x1x256.size (k0_off16_inb i k)).toLoadRect f_arg13)⟩]
/-- into the keys', -/
def L14 : List (View.Piece (Elt F) S4x2048x64 .f32) :=
  [⟨Rect.unit (s := S4x2048x64) (k0_off14 i k) S1x256x64.size (k0_off14_inb i k), accF (w 3).q (arg14.view.readAt (Elt F) (Rect.unit (s := S4x2048x64) (k0_off14 i k) S1x256x64.size (k0_off14_inb i k)).toLoadRect f_arg14) (arg17.view.readAt (Elt F) (Rect.unit (s := S2x4x256x256) (k0_off13 i k) S1x1x256x256.size (k0_off13_inb i k)).toLoadRect f_arg17)⟩,
   ⟨Rect.unit (s := S4x2048x64) (k0_off12 i k) S1x256x64.size (k0_off12_inb i k), accF (w 2).q (arg14.view.readAt (Elt F) (Rect.unit (s := S4x2048x64) (k0_off12 i k) S1x256x64.size (k0_off12_inb i k)).toLoadRect f_arg14) (arg17.view.readAt (Elt F) (Rect.unit (s := S2x4x256x256) (k0_off11 i k) S1x1x256x256.size (k0_off11_inb i k)).toLoadRect f_arg17)⟩,
   ⟨Rect.unit (s := S4x2048x64) (k0_off10 i k) S1x256x64.size (k0_off10_inb i k), accF (w 1).q (arg14.view.readAt (Elt F) (Rect.unit (s := S4x2048x64) (k0_off10 i k) S1x256x64.size (k0_off10_inb i k)).toLoadRect f_arg14) (arg17.view.readAt (Elt F) (Rect.unit (s := S2x4x256x256) (k0_off9 i k) S1x1x256x256.size (k0_off9_inb i k)).toLoadRect f_arg17)⟩,
   ⟨Rect.unit (s := S4x2048x64) (k0_off8 i k) S1x256x64.size (k0_off8_inb i k), accF (w 0).q (arg14.view.readAt (Elt F) (Rect.unit (s := S4x2048x64) (k0_off8 i k) S1x256x64.size (k0_off8_inb i k)).toLoadRect f_arg14) (arg17.view.readAt (Elt F) (Rect.unit (s := S2x4x256x256) (k0_off7 i k) S1x1x256x256.size (k0_off7_inb i k)).toLoadRect f_arg17)⟩]
/-- into the values', -/
def L15 : List (View.Piece (Elt F) S4x2048x64 .f32) :=
  [⟨Rect.unit (s := S4x2048x64) (k0_off14 i k) S1x256x64.size (k0_off14_inb i k), accF (w 3).dO (arg15.view.readAt (Elt F) (Rect.unit (s := S4x2048x64) (k0_off14 i k) S1x256x64.size (k0_off14_inb i k)).toLoadRect f_arg15) (arg16.view.readAt (Elt F) (Rect.unit (s := S2x4x256x256) (k0_off13 i k) S1x1x256x256.size (k0_off13_inb i k)).toLoadRect f_arg16)⟩,
   ⟨Rect.unit (s := S4x2048x64) (k0_off12 i k) S1x256x64.size (k0_off12_inb i k), accF (w 2).dO (arg15.view.readAt (Elt F) (Rect.unit (s := S4x2048x64) (k0_off12 i k) S1x256x64.size (k0_off12_inb i k)).toLoadRect f_arg15) (arg16.view.readAt (Elt F) (Rect.unit (s := S2x4x256x256) (k0_off11 i k) S1x1x256x256.size (k0_off11_inb i k)).toLoadRect f_arg16)⟩,
   ⟨Rect.unit (s := S4x2048x64) (k0_off10 i k) S1x256x64.size (k0_off10_inb i k), accF (w 1).dO (arg15.view.readAt (Elt F) (Rect.unit (s := S4x2048x64) (k0_off10 i k) S1x256x64.size (k0_off10_inb i k)).toLoadRect f_arg15) (arg16.view.readAt (Elt F) (Rect.unit (s := S2x4x256x256) (k0_off9 i k) S1x1x256x256.size (k0_off9_inb i k)).toLoadRect f_arg16)⟩,
   ⟨Rect.unit (s := S4x2048x64) (k0_off8 i k) S1x256x64.size (k0_off8_inb i k), accF (w 0).dO (arg15.view.readAt (Elt F) (Rect.unit (s := S4x2048x64) (k0_off8 i k) S1x256x64.size (k0_off8_inb i k)).toLoadRect f_arg15) (arg16.view.readAt (Elt F) (Rect.unit (s := S2x4x256x256) (k0_off7 i k) S1x1x256x256.size (k0_off7_inb i k)).toLoadRect f_arg16)⟩]
/-- and into the two scratch slots. -/
def L16 : List (View.Piece (Elt F) S2x4x256x256 .bf16) :=
  [⟨Rect.unit (s := S2x4x256x256) (k0_off23 i k) S1x1x256x256.size (k0_off23_inb i k), slotF (ptile w arg3 arg6 X_arg3 X_arg6 i k 3)⟩,
   ⟨Rect.unit (s := S2x4x256x256) (k0_off21 i k) S1x1x256x256.size (k0_off21_inb i k), slotF (ptile w arg3 arg6 X_arg3 X_arg6 i k 2)⟩,
   ⟨Rect.unit (s := S2x4x256x256) (k0_off19 i k) S1x1x256x256.size (k0_off19_inb i k), slotF (ptile w arg3 arg6 X_arg3 X_arg6 i k 1)⟩,
   ⟨Rect.unit (s := S2x4x256x256) (k0_off17 i k) S1x1x256x256.size (k0_off17_inb i k), slotF (ptile w arg3 arg6 X_arg3 X_arg6 i k 0)⟩]
def L17 : List (View.Piece (Elt F) S2x4x256x256 .bf16) :=
  [⟨Rect.unit (s := S2x4x256x256) (k0_off23 i k) S1x1x256x256.size (k0_off23_inb i k), slotF (tile w arg3 arg4 arg6 X_arg3 X_arg4 X_arg6 i k 3)⟩,
   ⟨Rect.unit (s := S2x4x256x256) (k0_off21 i k) S1x1x256x256.size (k0_off21_inb i k), slotF (tile w arg3 arg4 arg6 X_arg3 X_arg4 X_arg6 i k 2)⟩,
   ⟨Rect.unit (s := S2x4x256x256) (k0_off19 i k) S1x1x256x256.size (k0_off19_inb i k), slotF (tile w arg3 arg4 arg6 X_arg3 X_arg4 X_arg6 i k 1)⟩,
   ⟨Rect.unit (s := S2x4x256x256) (k0_off17 i k) S1x1x256x256.size (k0_off17_inb i k), slotF (tile w arg3 arg4 arg6 X_arg3 X_arg4 X_arg6 i k 0)⟩]

/-- What the trip carries on. -/
def next (acc : Acc F) : Acc F :=
  (rowF acc.1 (tile w arg3 arg4 arg6 X_arg3 X_arg4 X_arg6 i k 0), rowF acc.2.1 (tile w arg3 arg4 arg6 X_arg3 X_arg4 X_arg6 i k 1), rowF acc.2.2.1 (tile w arg3 arg4 arg6 X_arg3 X_arg4 X_arg6 i k 2), rowF acc.2.2.2.1 (tile w arg3 arg4 arg6 X_arg3 X_arg4 X_arg6 i k 3),
   dqF acc.2.2.2.2.1 (col 0 (arg3.view.readAt (Elt F) (Rect.unit (s := S2048x256) (k0_off6 i k) S256x256.size (k0_off6_inb i k)).toLoadRect X_arg3)) (arg17.view.readAt (Elt F) (Rect.unit (s := S2x4x256x256) (k0_off7 i k) S1x1x256x256.size (k0_off7_inb i k)).toLoadRect f_arg17), dqF acc.2.2.2.2.2.1 (col 1 (arg3.view.readAt (Elt F) (Rect.unit (s := S2048x256) (k0_off6 i k) S256x256.size (k0_off6_inb i k)).toLoadRect X_arg3)) (arg17.view.readAt (Elt F) (Rect.unit (s := S2x4x256x256) (k0_off9 i k) S1x1x256x256.size (k0_off9_inb i k)).toLoadRect f_arg17), dqF acc.2.2.2.2.2.2.1 (col 2 (arg3.view.readAt (Elt F) (Rect.unit (s := S2048x256) (k0_off6 i k) S256x256.size (k0_off6_inb i k)).toLoadRect X_arg3)) (arg17.view.readAt (Elt F) (Rect.unit (s := S2x4x256x256) (k0_off11 i k) S1x1x256x256.size (k0_off11_inb i k)).toLoadRect f_arg17), dqF acc.2.2.2.2.2.2.2 (col 3 (arg3.view.readAt (Elt F) (Rect.unit (s := S2048x256) (k0_off6 i k) S256x256.size (k0_off6_inb i k)).toLoadRect X_arg3)) (arg17.view.readAt (Elt F) (Rect.unit (s := S2x4x256x256) (k0_off13 i k) S1x1x256x256.size (k0_off13_inb i k)).toLoadRect f_arg17))

end Trip

/-! ## The trips so far -/

/-- What the loop carries and the contents of what it writes. -/
structure St (F : FTy → Type) [FloatOps F] (arg13 : Memref sig .tc .vmem S1x8x8x256 .f32) (arg14 : Memref sig .tc .vmem S4x2048x64 .f32) (arg15 : Memref sig .tc .vmem S4x2048x64 .f32) (arg16 : Memref sig .tc .vmem S2x4x256x256 .bf16) (arg17 : Memref sig .tc .vmem S2x4x256x256 .bf16) where
  acc : Acc F
  g13 : BufTy.Contents (Elt F) arg13.view.ty
  g14 : BufTy.Contents (Elt F) arg14.view.ty
  g15 : BufTy.Contents (Elt F) arg15.view.ty
  g16 : BufTy.Contents (Elt F) arg16.view.ty
  g17 : BufTy.Contents (Elt F) arg17.view.ty

/-- One trip's effect on them. -/
def St.trip (w : Fin 4 → Rows F) (arg3 : Memref sig .tc .vmem S2048x256 .bf16) (arg4 : Memref sig .tc .vmem S2048x256 .bf16) (arg6 : Memref sig .tc .vmem S1x8x8x256 .f32) {arg13 : Memref sig .tc .vmem S1x8x8x256 .f32} {arg14 : Memref sig .tc .vmem S4x2048x64 .f32} {arg15 : Memref sig .tc .vmem S4x2048x64 .f32} {arg16 : Memref sig .tc .vmem S2x4x256x256 .bf16} {arg17 : Memref sig .tc .vmem S2x4x256x256 .bf16}
    (X_arg3 : BufTy.Contents (Elt F) arg3.view.ty) (X_arg4 : BufTy.Contents (Elt F) arg4.view.ty) (X_arg6 : BufTy.Contents (Elt F) arg6.view.ty) (i : grid0.Coords) (k : Fin (k0_t1_loop i).trips) (s : St F arg13 arg14 arg15 arg16 arg17) : St F arg13 arg14 arg15 arg16 arg17 where
  acc := next w arg3 arg4 arg6 arg17 X_arg3 X_arg4 X_arg6 s.g17 i k s.acc
  g13 := arg13.view.writes (Elt F) s.g13 (L13 w arg3 arg4 arg6 arg13 X_arg3 X_arg4 X_arg6 s.g13 i k)
  g14 := arg14.view.writes (Elt F) s.g14 (L14 w arg14 arg17 s.g14 s.g17 i k)
  g15 := arg15.view.writes (Elt F) s.g15 (L15 w arg15 arg16 s.g15 s.g16 i k)
  g16 := arg16.view.writes (Elt F) s.g16 (L16 w arg3 arg6 X_arg3 X_arg6 i k)
  g17 := arg17.view.writes (Elt F) s.g17 (L17 w arg3 arg4 arg6 X_arg3 X_arg4 X_arg6 i k)

/-- Where the first `n` trips have taken them. -/
def St.after (w : Fin 4 → Rows F) (arg3 : Memref sig .tc .vmem S2048x256 .bf16) (arg4 : Memref sig .tc .vmem S2048x256 .bf16) (arg6 : Memref sig .tc .vmem S1x8x8x256 .f32) {arg13 : Memref sig .tc .vmem S1x8x8x256 .f32} {arg14 : Memref sig .tc .vmem S4x2048x64 .f32} {arg15 : Memref sig .tc .vmem S4x2048x64 .f32} {arg16 : Memref sig .tc .vmem S2x4x256x256 .bf16} {arg17 : Memref sig .tc .vmem S2x4x256x256 .bf16}
    (X_arg3 : BufTy.Contents (Elt F) arg3.view.ty) (X_arg4 : BufTy.Contents (Elt F) arg4.view.ty) (X_arg6 : BufTy.Contents (Elt F) arg6.view.ty) (i : grid0.Coords) (s : St F arg13 arg14 arg15 arg16 arg17) : ℕ → St F arg13 arg14 arg15 arg16 arg17
  | 0 => s
  | n + 1 => if h : n < (k0_t1_loop i).trips then St.trip w arg3 arg4 arg6 X_arg3 X_arg4 X_arg6 i ⟨n, h⟩ (St.after w arg3 arg4 arg6 X_arg3 X_arg4 X_arg6 i s n)
    else St.after w arg3 arg4 arg6 X_arg3 X_arg4 X_arg6 i s n

theorem St.after_succ (w : Fin 4 → Rows F) (arg3 : Memref sig .tc .vmem S2048x256 .bf16) (arg4 : Memref sig .tc .vmem S2048x256 .bf16) (arg6 : Memref sig .tc .vmem S1x8x8x256 .f32) {arg13 : Memref sig .tc .vmem S1x8x8x256 .f32} {arg14 : Memref sig .tc .vmem S4x2048x64 .f32} {arg15 : Memref sig .tc .vmem S4x2048x64 .f32} {arg16 : Memref sig .tc .vmem S2x4x256x256 .bf16} {arg17 : Memref sig .tc .vmem S2x4x256x256 .bf16}
    (X_arg3 : BufTy.Contents (Elt F) arg3.view.ty) (X_arg4 : BufTy.Contents (Elt F) arg4.view.ty) (X_arg6 : BufTy.Contents (Elt F) arg6.view.ty) (i : grid0.Coords) (s : St F arg13 arg14 arg15 arg16 arg17) (k : Fin (k0_t1_loop i).trips) :
    St.after w arg3 arg4 arg6 X_arg3 X_arg4 X_arg6 i s (k.val + 1) = St.trip w arg3 arg4 arg6 X_arg3 X_arg4 X_arg6 i k (St.after w arg3 arg4 arg6 X_arg3 X_arg4 X_arg6 i s k.val) := by
  rw [St.after, dif_pos k.isLt]

/-- The four heads' rows, from the values the kernel binds before its loop. -/
abbrev rowsOf (v10 : FVec F S256x64 .bf16) (v15 : FVec F S256x64 .bf16) (v20 : FVec F S256x64 .bf16) (v25 : FVec F S256x64 .bf16) (v46 : FVec F S256x64 .bf16) (v47 : FVec F S256x64 .bf16) (v48 : FVec F S256x64 .bf16) (v49 : FVec F S256x64 .bf16) (v27 : FVec F S256x1 .f32) (v29 : FVec F S256x1 .f32) (v31 : FVec F S256x1 .f32) (v33 : FVec F S256x1 .f32) (v35 : FVec F S256x1 .f32) (v37 : FVec F S256x1 .f32) (v39 : FVec F S256x1 .f32) (v41 : FVec F S256x1 .f32) (v54 : FVec F S256x1 .f32) (v59 : FVec F S256x1 .f32) (v64 : FVec F S256x1 .f32) (v69 : FVec F S256x1 .f32) (h : Fin 4) : Rows F :=
  match h with
  | 0 => ⟨v10, v27, v35, v46, v54⟩
  | 1 => ⟨v15, v29, v37, v47, v59⟩
  | 2 => ⟨v20, v31, v39, v48, v64⟩
  | 3 => ⟨v25, v33, v41, v49, v69⟩

section Run

variable (c : Dev nD) (i : grid0.Coords) (arg2 : Memref sig .tc .vmem S256x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1x256x256 .f32) (harg5 : arg5.IsWhole) (arg6 : Memref sig .tc .vmem S1x8x8x256 .f32) (harg6 : arg6.IsWhole) (arg7 : Memref sig .tc .vmem S256x256 .f32) (harg7 : arg7.IsWhole) (arg8 : Memref sig .tc .vmem S1x256x256 .f32) (harg8 : arg8.IsWhole) (arg9 : Memref sig .tc .vmem S256x256 .f32) (harg9 : arg9.IsWhole) (arg10 : Memref sig .tc .vmem S256x256 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S1x8x8x256 .f32) (harg13 : arg13.IsWhole) (arg14 : Memref sig .tc .vmem S4x2048x64 .f32) (harg14 : arg14.IsWhole) (arg15 : Memref sig .tc .vmem S4x2048x64 .f32) (harg15 : arg15.IsWhole) (arg16 : Memref sig .tc .vmem S2x4x256x256 .bf16) (harg16 : arg16.IsWhole) (arg17 : Memref sig .tc .vmem S2x4x256x256 .bf16) (harg17 : arg17.IsWhole) (arg1 : BitVec 32) (v10 : FVec F S256x64 .bf16) (v15 : FVec F S256x64 .bf16) (v20 : FVec F S256x64 .bf16) (v25 : FVec F S256x64 .bf16) (v27 : FVec F S256x1 .f32) (v29 : FVec F S256x1 .f32) (v31 : FVec F S256x1 .f32) (v33 : FVec F S256x1 .f32) (v35 : FVec F S256x1 .f32) (v37 : FVec F S256x1 .f32) (v39 : FVec F S256x1 .f32) (v41 : FVec F S256x1 .f32) (v46 : FVec F S256x64 .bf16) (v47 : FVec F S256x64 .bf16) (v48 : FVec F S256x64 .bf16) (v49 : FVec F S256x64 .bf16) (v54 : FVec F S256x1 .f32) (v59 : FVec F S256x1 .f32) (v64 : FVec F S256x1 .f32) (v69 : FVec F S256x1 .f32) (v70 : FVec F S256x1 .f32) (v71 : FVec F S256x64 .f32) (v72 : BitVec 32) (v80 : Vec F S256x256 .bf16) (v120 : FVec F S256x1 .f32) (v160 : FVec F S256x1 .f32) (v200 : FVec F S256x1 .f32) (v211 : FVec F S256x256 .f32)

local notation "W₀" => rowsOf v10 v15 v20 v25 v46 v47 v48 v49 v27 v29 v31 v33 v35 v37 v39 v41 v54 v59 v64 v69

/-- One trip's resources: the keys, the values and the decays it reads, and what it writes. -/
abbrev Trip (X_arg3 : BufTy.Contents (Elt F) arg3.view.ty) (X_arg4 : BufTy.Contents (Elt F) arg4.view.ty) (X_arg6 : BufTy.Contents (Elt F) arg6.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) : sProp 𝕄 :=
  iprop((arg3.view.loc (c : Thread nD τ) ↦[arg3.view.set]{fullShare} X_arg3) ∗ (arg4.view.loc (c : Thread nD τ) ↦[arg4.view.set]{fullShare} X_arg4) ∗ (arg6.view.loc (c : Thread nD τ) ↦[arg6.view.set]{fullShare} X_arg6) ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15) ∗ (arg16.view.loc (c : Thread nD τ) ↦[arg16.view.set]{fullShare} f_arg16) ∗ (arg17.view.loc (c : Thread nD τ) ↦[arg17.view.set]{fullShare} f_arg17))

set_option maxHeartbeats 1000000 in
theorem trip (X_arg3 : BufTy.Contents (Elt F) arg3.view.ty) (X_arg4 : BufTy.Contents (Elt F) arg4.view.ty) (X_arg6 : BufTy.Contents (Elt F) arg6.view.ty) (k : Fin (k0_t1_loop i).trips) (acc : Acc F) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) :
    Trip c arg3 arg4 arg6 arg13 arg14 arg15 arg16 arg17 X_arg3 X_arg4 X_arg6 f_arg13 f_arg14 f_arg15 f_arg16 f_arg17
      ⊢ wp frame (wpE (defs₀ (F := F)) Variants.none (c : Thread nD τ) none) Set.univ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v10 v15 v20 v25 v27 v29 v31 v33 v35 v37 v39 v41 v46 v47 v48 v49 v54 v59 v64 v69 v70 v71 v72 v80 v120 v160 v200 v211 k acc)
        (fun yld => iprop((arg3.view.loc (c : Thread nD τ) ↦[arg3.view.set]{fullShare} X_arg3) ∗ (arg4.view.loc (c : Thread nD τ) ↦[arg4.view.set]{fullShare} X_arg4) ∗ (arg6.view.loc (c : Thread nD τ) ↦[arg6.view.set]{fullShare} X_arg6)
            ∗ (arg13.view.loc (c : Thread nD τ) ↦[arg13.view.set]{fullShare} (arg13.view.writes (Elt F) f_arg13 (L13 W₀ arg3 arg4 arg6 arg13 X_arg3 X_arg4 X_arg6 f_arg13 i k)))
            ∗ (arg14.view.loc (c : Thread nD τ) ↦[arg14.view.set]{fullShare} (arg14.view.writes (Elt F) f_arg14 (L14 W₀ arg14 arg17 f_arg14 f_arg17 i k)))
            ∗ (arg15.view.loc (c : Thread nD τ) ↦[arg15.view.set]{fullShare} (arg15.view.writes (Elt F) f_arg15 (L15 W₀ arg15 arg16 f_arg15 f_arg16 i k)))
            ∗ (arg16.view.loc (c : Thread nD τ) ↦[arg16.view.set]{fullShare} (arg16.view.writes (Elt F) f_arg16 (L16 W₀ arg3 arg6 X_arg3 X_arg6 i k)))
            ∗ (arg17.view.loc (c : Thread nD τ) ↦[arg17.view.set]{fullShare} (arg17.view.writes (Elt F) f_arg17 (L17 W₀ arg3 arg4 arg6 X_arg3 X_arg4 X_arg6 i k)))
          ∗ ⌜yld = next W₀ arg3 arg4 arg6 arg17 X_arg3 X_arg4 X_arg6 f_arg17 i k acc⌝)) := by
  have hk : k.val < (i 1).val := lt_of_lt_of_eq k.isLt (trips_eq i)
  have hi : (i 1).val < 8 := (i 1).isLt
  unfold k0_t1_body
  iintro ⟨HR_arg3, HR_arg4, HR_arg6, HW_arg13, HW_arg14, HW_arg15, HW_arg16, HW_arg17⟩
  sl_exec
  sl_step
  isplitl [HR_arg3]; · iexact HR_arg3
  isplitl [HR_arg4]; · iexact HR_arg4
  isplitl [HR_arg6]; · iexact HR_arg6
  isplitl [HW_arg13]; · iexact HW_arg13
  isplitl [HW_arg14]; · iexact HW_arg14
  isplitl [HW_arg15]; · iexact HW_arg15
  isplitl [HW_arg16]; · iexact HW_arg16
  isplitl [HW_arg17]; · iexact HW_arg17
  ipureintro; rfl
variable {c}

set_option maxHeartbeats 1000000 in
/-- The loop by its invariant: the operands' contents, and the state after the trips so far. -/
@[instance_reducible, sl_loop] def loopInv1 {init : Acc F} {X_arg3 : BufTy.Contents (Elt F) arg3.view.ty} {X_arg4 : BufTy.Contents (Elt F) arg4.view.ty} {X_arg6 : BufTy.Contents (Elt F) arg6.view.ty} {G_arg13 : BufTy.Contents (Elt F) arg13.view.ty} {G_arg14 : BufTy.Contents (Elt F) arg14.view.ty} {G_arg15 : BufTy.Contents (Elt F) arg15.view.ty} {G_arg16 : BufTy.Contents (Elt F) arg16.view.ty} {G_arg17 : BufTy.Contents (Elt F) arg17.view.ty} :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v10 v15 v20 v25 v27 v29 v31 v33 v35 v37 v39 v41 v46 v47 v48 v49 v54 v59 v64 v69 v70 v71 v72 v80 v120 v160 v200 v211 init where
  inv k acc := iprop((arg3.view.loc (c : Thread nD τ) ↦[arg3.view.set]{fullShare} X_arg3) ∗ (arg4.view.loc (c : Thread nD τ) ↦[arg4.view.set]{fullShare} X_arg4) ∗ (arg6.view.loc (c : Thread nD τ) ↦[arg6.view.set]{fullShare} X_arg6)
    ∗ (arg13.view.loc (c : Thread nD τ) ↦[arg13.view.set]{fullShare} (St.after W₀ arg3 arg4 arg6 X_arg3 X_arg4 X_arg6 i ⟨init, G_arg13, G_arg14, G_arg15, G_arg16, G_arg17⟩ k).g13)
    ∗ (arg14.view.loc (c : Thread nD τ) ↦[arg14.view.set]{fullShare} (St.after W₀ arg3 arg4 arg6 X_arg3 X_arg4 X_arg6 i ⟨init, G_arg13, G_arg14, G_arg15, G_arg16, G_arg17⟩ k).g14)
    ∗ (arg15.view.loc (c : Thread nD τ) ↦[arg15.view.set]{fullShare} (St.after W₀ arg3 arg4 arg6 X_arg3 X_arg4 X_arg6 i ⟨init, G_arg13, G_arg14, G_arg15, G_arg16, G_arg17⟩ k).g15)
    ∗ (arg16.view.loc (c : Thread nD τ) ↦[arg16.view.set]{fullShare} (St.after W₀ arg3 arg4 arg6 X_arg3 X_arg4 X_arg6 i ⟨init, G_arg13, G_arg14, G_arg15, G_arg16, G_arg17⟩ k).g16)
    ∗ (arg17.view.loc (c : Thread nD τ) ↦[arg17.view.set]{fullShare} (St.after W₀ arg3 arg4 arg6 X_arg3 X_arg4 X_arg6 i ⟨init, G_arg13, G_arg14, G_arg15, G_arg16, G_arg17⟩ k).g17)
    ∗ ⌜acc = (St.after W₀ arg3 arg4 arg6 X_arg3 X_arg4 X_arg6 i ⟨init, G_arg13, G_arg14, G_arg15, G_arg16, G_arg17⟩ k).acc⌝)
  step k acc := by
    rw [St.after_succ]
    dsimp only [St.trip]
    generalize (St.after W₀ arg3 arg4 arg6 X_arg3 X_arg4 X_arg6 i ⟨init, G_arg13, G_arg14, G_arg15, G_arg16, G_arg17⟩ k.val) = s
    iintro ⟨HR_arg3, HR_arg4, HR_arg6, HW_arg13, HW_arg14, HW_arg15, HW_arg16, HW_arg17, %hacc⟩
    subst hacc
    iapply (wp_wand_r Idealize.ShloMosaic.frame (wpE (defs₀ (F := F)) Variants.none (c : Thread nD τ) none) Set.univ)
    isplitl [HR_arg3 HR_arg4 HR_arg6 HW_arg13 HW_arg14 HW_arg15 HW_arg16 HW_arg17]
    · iapply (trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v10 v15 v20 v25 v27 v29 v31 v33 v35 v37 v39 v41 v46 v47 v48 v49 v54 v59 v64 v69 v70 v71 v72 v80 v120 v160 v200 v211 X_arg3 X_arg4 X_arg6 k)
      unfold Trip
      isplitl [HR_arg3]; · iexact HR_arg3
      isplitl [HR_arg4]; · iexact HR_arg4
      isplitl [HR_arg6]; · iexact HR_arg6
      isplitl [HW_arg13]; · iexact HW_arg13
      isplitl [HW_arg14]; · iexact HW_arg14
      isplitl [HW_arg15]; · iexact HW_arg15
      isplitl [HW_arg16]; · iexact HW_arg16
      iexact HW_arg17
    iintro %yld ⟨HR_arg3, HR_arg4, HR_arg6, HW_arg13, HW_arg14, HW_arg15, HW_arg16, HW_arg17, %hy⟩
    subst hy
    isplitl [HR_arg3]; · iexact HR_arg3
    isplitl [HR_arg4]; · iexact HR_arg4
    isplitl [HR_arg6]; · iexact HR_arg6
    isplitl [HW_arg13]; · iexact HW_arg13
    isplitl [HW_arg14]; · iexact HW_arg14
    isplitl [HW_arg15]; · iexact HW_arg15
    isplitl [HW_arg16]; · iexact HW_arg16
    isplitl [HW_arg17]; · iexact HW_arg17
    ipureintro; rfl

/-- The loop over what the unrolled one leaves: no trip. -/
@[instance_reducible, sl_loop] def loopInv2 {v245 : BitVec 32} {init : Acc F} :
    LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v10 v15 v20 v25 v27 v29 v31 v33 v35 v37 v39 v41 v46 v47 v48 v49 v54 v59 v64 v69 v70 v71 v72 v80 v120 v160 v200 v211 v245 init where
  inv _ acc := iprop(⌜acc = init⌝)
  step k _ := absurd (lt_of_lt_of_eq k.isLt (trips2_eq i)) (Nat.not_lt_zero _)

end Run

end Cert.Proof.Fox

end
-- ==== Proof.Point.lean ====
/-
  One grid point of the gradient kernel: the diagonal block, the loop over the earlier ones, the first block accumulated, the
  results stored.
-/
module

public import proofs.«01_k».proof.Proof.Loop
public import proofs.«01_k».proof.Proof.Gen.KernelIdeal.Frame

@[expose] public section

set_option maxRecDepth 16384

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The query rows, scaled. -/
def qF (q : Vec F S256x64 .bf16) : FVec F S256x64 .bf16 :=
  truncf .bf16 (mulf (extf .f32 q bitsLt_bf16_f32) (broadcast S256x64 (Scalar.ofBits .f32 0x3E000000#32))) bitsLt_bf16_f32

/-- A column of one number a row. -/
def lane (x : Vec F S1x256x1 .f32) : FVec F S256x1 .f32 := shapeCast S256x1 x shapeCasts_S1x256x1_S256x1

/-- The inner products of the cotangent's rows and the output's. -/
def deltaF (d o : Vec F S256x64 .f32) : FVec F S256x1 .f32 :=
  shapeCast S256x1 (multiReduction .add [1] S256 (mulf d (shapeCast S256x64 o shapeCasts_S256x64_S256x64)) 0x00000000#32
    reduces_S256x64_S256 (.inl rfl) rfl) shapeCasts_S256_S256x1

/-- The probabilities of the block on the diagonal: a position after the row's has none. -/
def probD (w : Rows F) (k : FVec F S256x64 .bf16) (cr : Vec F S1x1x1x256 .f32) : FVec F S256x256 .f32 :=
  exp (subf (select (cmpi .sle (iota .tc S256x256 32 [1] iota_S256x256_d1_w32) (iota .tc S256x256 32 [0] iota_S256x256_d0_w32))
    (logitsF w k cr) (broadcast S256x256 (Scalar.ofBits .f32 0xFF800000#32))) (broadcastTo S256x256 w.lse broadcasts_S256x1_S256x256))

/-- A row of the decays' gradient less the row sums. -/
def lessF (r : FVec F S256x1 .f32) (old : Vec F S1x1x1x256 .f32) : FVec F S1x1x1x256 .f32 :=
  shapeCast S1x1x1x256 (subf (shapeCast S1x256 old shapeCasts_S1x1x1x256_S1x256)
    (extractStridedSlice S1x256 ![0, 0] (transpose S128x256 [1, 0] (broadcastTo S256x128 (shapeCast S256x1 r shapeCasts_S256x1_S256x1)
      broadcasts_S256x1_S256x128) transposes_S256x128_p1_0_S128x256) slices_S128x256_o0_0_S1x256)) shapeCasts_S1x256_S1x1x1x256

/-- Nothing summed yet. -/
def zRow : FVec F S256x1 .f32 := broadcast S256x1 (Scalar.ofBits .f32 0x00000000#32)
def zDq : FVec F S256x64 .f32 := broadcast S256x64 (Scalar.ofBits .f32 0x00000000#32)

/-! ## Before the loop -/

section Point

variable (arg2 : Memref sig .tc .vmem S256x256 .bf16) (arg3 : Memref sig .tc .vmem S2048x256 .bf16) (arg4 : Memref sig .tc .vmem S2048x256 .bf16) (arg5 : Memref sig .tc .vmem S1x256x256 .f32) (arg6 : Memref sig .tc .vmem S1x8x8x256 .f32) (arg7 : Memref sig .tc .vmem S256x256 .f32) (arg8 : Memref sig .tc .vmem S1x256x256 .f32) (arg9 : Memref sig .tc .vmem S256x256 .f32) {arg13 : Memref sig .tc .vmem S1x8x8x256 .f32} {arg14 : Memref sig .tc .vmem S4x2048x64 .f32} {arg15 : Memref sig .tc .vmem S4x2048x64 .f32} {arg16 : Memref sig .tc .vmem S2x4x256x256 .bf16} {arg17 : Memref sig .tc .vmem S2x4x256x256 .bf16} (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (i : grid0.Coords)

/-- The four heads' rows, off the point's operands. -/
def rowsIn : Fin 4 → Rows F :=
  rowsOf (qF (arg2.view.readAt (Elt F) (Rect.unit (s := S256x256) ![0, 0] S256x64.size inb_S256x256_S256x64_0_0).toLoadRect X_arg2))
    (qF (arg2.view.readAt (Elt F) (Rect.unit (s := S256x256) ![0, 64] S256x64.size inb_S256x256_S256x64_0_64).toLoadRect X_arg2))
    (qF (arg2.view.readAt (Elt F) (Rect.unit (s := S256x256) ![0, 128] S256x64.size inb_S256x256_S256x64_0_128).toLoadRect X_arg2))
    (qF (arg2.view.readAt (Elt F) (Rect.unit (s := S256x256) ![0, 192] S256x64.size inb_S256x256_S256x64_0_192).toLoadRect X_arg2))
    (truncf .bf16 (arg9.view.readAt (Elt F) (Rect.unit (s := S256x256) ![0, 0] S256x64.size inb_S256x256_S256x64_0_0).toLoadRect X_arg9) bitsLt_bf16_f32)
    (truncf .bf16 (arg9.view.readAt (Elt F) (Rect.unit (s := S256x256) ![0, 64] S256x64.size inb_S256x256_S256x64_0_64).toLoadRect X_arg9) bitsLt_bf16_f32)
    (truncf .bf16 (arg9.view.readAt (Elt F) (Rect.unit (s := S256x256) ![0, 128] S256x64.size inb_S256x256_S256x64_0_128).toLoadRect X_arg9) bitsLt_bf16_f32)
    (truncf .bf16 (arg9.view.readAt (Elt F) (Rect.unit (s := S256x256) ![0, 192] S256x64.size inb_S256x256_S256x64_0_192).toLoadRect X_arg9) bitsLt_bf16_f32)
    (lane (arg5.view.readAt (Elt F) (Rect.unit (s := S1x256x256) ![0, 0, 0] S1x256x1.size inb_S1x256x256_S1x256x1_0_0_0).toLoadRect X_arg5))
    (lane (arg5.view.readAt (Elt F) (Rect.unit (s := S1x256x256) ![0, 0, 64] S1x256x1.size inb_S1x256x256_S1x256x1_0_0_64).toLoadRect X_arg5))
    (lane (arg5.view.readAt (Elt F) (Rect.unit (s := S1x256x256) ![0, 0, 128] S1x256x1.size inb_S1x256x256_S1x256x1_0_0_128).toLoadRect X_arg5))
    (lane (arg5.view.readAt (Elt F) (Rect.unit (s := S1x256x256) ![0, 0, 192] S1x256x1.size inb_S1x256x256_S1x256x1_0_0_192).toLoadRect X_arg5))
    (lane (arg8.view.readAt (Elt F) (Rect.unit (s := S1x256x256) ![0, 0, 0] S1x256x1.size inb_S1x256x256_S1x256x1_0_0_0).toLoadRect X_arg8))
    (lane (arg8.view.readAt (Elt F) (Rect.unit (s := S1x256x256) ![0, 0, 64] S1x256x1.size inb_S1x256x256_S1x256x1_0_0_64).toLoadRect X_arg8))
    (lane (arg8.view.readAt (Elt F) (Rect.unit (s := S1x256x256) ![0, 0, 128] S1x256x1.size inb_S1x256x256_S1x256x1_0_0_128).toLoadRect X_arg8))
    (lane (arg8.view.readAt (Elt F) (Rect.unit (s := S1x256x256) ![0, 0, 192] S1x256x1.size inb_S1x256x256_S1x256x1_0_0_192).toLoadRect X_arg8))
    (deltaF (arg9.view.readAt (Elt F) (Rect.unit (s := S256x256) ![0, 0] S256x64.size inb_S256x256_S256x64_0_0).toLoadRect X_arg9) (arg7.view.readAt (Elt F) (Rect.unit (s := S256x256) ![0, 0] S256x64.size inb_S256x256_S256x64_0_0).toLoadRect X_arg7))
    (deltaF (arg9.view.readAt (Elt F) (Rect.unit (s := S256x256) ![0, 64] S256x64.size inb_S256x256_S256x64_0_64).toLoadRect X_arg9) (arg7.view.readAt (Elt F) (Rect.unit (s := S256x256) ![0, 64] S256x64.size inb_S256x256_S256x64_0_64).toLoadRect X_arg7))
    (deltaF (arg9.view.readAt (Elt F) (Rect.unit (s := S256x256) ![0, 128] S256x64.size inb_S256x256_S256x64_0_128).toLoadRect X_arg9) (arg7.view.readAt (Elt F) (Rect.unit (s := S256x256) ![0, 128] S256x64.size inb_S256x256_S256x64_0_128).toLoadRect X_arg7))
    (deltaF (arg9.view.readAt (Elt F) (Rect.unit (s := S256x256) ![0, 192] S256x64.size inb_S256x256_S256x64_0_192).toLoadRect X_arg9) (arg7.view.readAt (Elt F) (Rect.unit (s := S256x256) ![0, 192] S256x64.size inb_S256x256_S256x64_0_192).toLoadRect X_arg7))

/-- What a group's first point starts the three accumulated arrays from: zeros; a later one, what it finds. -/
def zero13 (f : BufTy.Contents (Elt F) arg13.view.ty) : BufTy.Contents (Elt F) arg13.view.ty :=
  if (i 1).val = 0 then arg13.view.writes (Elt F) f [⟨Rect.unit (s := S1x8x8x256) ![0, 0, 0, 0] S1x8x8x256.size inb_S1x8x8x256_S1x8x8x256_0_0_0_0, k0_pay88⟩] else f
def zero14 (f : BufTy.Contents (Elt F) arg14.view.ty) : BufTy.Contents (Elt F) arg14.view.ty :=
  if (i 1).val = 0 then arg14.view.writes (Elt F) f [⟨Rect.unit (s := S4x2048x64) ![0, 0, 0] S4x2048x64.size inb_S4x2048x64_S4x2048x64_0_0_0, k0_pay86⟩] else f
def zero15 (f : BufTy.Contents (Elt F) arg15.view.ty) : BufTy.Contents (Elt F) arg15.view.ty :=
  if (i 1).val = 0 then arg15.view.writes (Elt F) f [⟨Rect.unit (s := S4x2048x64) ![0, 0, 0] S4x2048x64.size inb_S4x2048x64_S4x2048x64_0_0_0, k0_pay87⟩] else f

/-- The row of decays of head `h` at the diagonal block. -/
def crowD (h : Fin 4) : Vec F S1x1x1x256 .f32 :=
  match h with
  | 0 => (arg6.view.readAt (Elt F) (Rect.unit (s := S1x8x8x256) (k0_off2 i) S1x1x1x256.size (k0_off2_inb i)).toLoadRect X_arg6)
  | 1 => (arg6.view.readAt (Elt F) (Rect.unit (s := S1x8x8x256) (k0_off3 i) S1x1x1x256.size (k0_off3_inb i)).toLoadRect X_arg6)
  | 2 => (arg6.view.readAt (Elt F) (Rect.unit (s := S1x8x8x256) (k0_off4 i) S1x1x1x256.size (k0_off4_inb i)).toLoadRect X_arg6)
  | 3 => (arg6.view.readAt (Elt F) (Rect.unit (s := S1x8x8x256) (k0_off5 i) S1x1x1x256.size (k0_off5_inb i)).toLoadRect X_arg6)

/-- Head `h`'s probabilities of the diagonal block, and the gradient of its logits. -/
def ptileD (w : Fin 4 → Rows F) (h : Fin 4) : FVec F S256x256 .f32 := probD (w h) (col h (arg3.view.readAt (Elt F) (Rect.unit (s := S2048x256) (k0_off1 i) S256x256.size (k0_off1_inb i)).toLoadRect X_arg3)) (crowD arg6 X_arg6 i h)
def tileD (w : Fin 4 → Rows F) (h : Fin 4) : FVec F S256x256 .f32 := gradF (w h) (ptileD arg3 arg6 X_arg3 X_arg6 i w h) (col h (arg4.view.readAt (Elt F) (Rect.unit (s := S2048x256) (k0_off1 i) S256x256.size (k0_off1_inb i)).toLoadRect X_arg4))

/-- What the diagonal block leaves for the loop. -/
def diag (w : Fin 4 → Rows F) (s : St F arg13 arg14 arg15 arg16 arg17) : St F arg13 arg14 arg15 arg16 arg17 where
  acc := (rowF zRow (tileD arg3 arg4 arg6 X_arg3 X_arg4 X_arg6 i w 0), rowF zRow (tileD arg3 arg4 arg6 X_arg3 X_arg4 X_arg6 i w 1), rowF zRow (tileD arg3 arg4 arg6 X_arg3 X_arg4 X_arg6 i w 2), rowF zRow (tileD arg3 arg4 arg6 X_arg3 X_arg4 X_arg6 i w 3), zDq, zDq, zDq, zDq)
  g13 := arg13.view.writes (Elt F) s.g13
    [⟨Rect.unit (s := S1x8x8x256) (k0_off5 i) S1x1x1x256.size (k0_off5_inb i), colF (tileD arg3 arg4 arg6 X_arg3 X_arg4 X_arg6 i w 3) (arg13.view.readAt (Elt F) (Rect.unit (s := S1x8x8x256) (k0_off5 i) S1x1x1x256.size (k0_off5_inb i)).toLoadRect s.g13)⟩,
   ⟨Rect.unit (s := S1x8x8x256) (k0_off4 i) S1x1x1x256.size (k0_off4_inb i), colF (tileD arg3 arg4 arg6 X_arg3 X_arg4 X_arg6 i w 2) (arg13.view.readAt (Elt F) (Rect.unit (s := S1x8x8x256) (k0_off4 i) S1x1x1x256.size (k0_off4_inb i)).toLoadRect s.g13)⟩,
   ⟨Rect.unit (s := S1x8x8x256) (k0_off3 i) S1x1x1x256.size (k0_off3_inb i), colF (tileD arg3 arg4 arg6 X_arg3 X_arg4 X_arg6 i w 1) (arg13.view.readAt (Elt F) (Rect.unit (s := S1x8x8x256) (k0_off3 i) S1x1x1x256.size (k0_off3_inb i)).toLoadRect s.g13)⟩,
   ⟨Rect.unit (s := S1x8x8x256) (k0_off2 i) S1x1x1x256.size (k0_off2_inb i), colF (tileD arg3 arg4 arg6 X_arg3 X_arg4 X_arg6 i w 0) (arg13.view.readAt (Elt F) (Rect.unit (s := S1x8x8x256) (k0_off2 i) S1x1x1x256.size (k0_off2_inb i)).toLoadRect s.g13)⟩]
  g14 := s.g14
  g15 := s.g15
  g16 := arg16.view.writes (Elt F) s.g16
    [⟨Rect.unit (s := S2x4x256x256) ![0, 3, 0, 0] S1x1x256x256.size inb_S2x4x256x256_S1x1x256x256_0_3_0_0, slotF (ptileD arg3 arg6 X_arg3 X_arg6 i w 3)⟩,
   ⟨Rect.unit (s := S2x4x256x256) ![0, 2, 0, 0] S1x1x256x256.size inb_S2x4x256x256_S1x1x256x256_0_2_0_0, slotF (ptileD arg3 arg6 X_arg3 X_arg6 i w 2)⟩,
   ⟨Rect.unit (s := S2x4x256x256) ![0, 1, 0, 0] S1x1x256x256.size inb_S2x4x256x256_S1x1x256x256_0_1_0_0, slotF (ptileD arg3 arg6 X_arg3 X_arg6 i w 1)⟩,
   ⟨Rect.unit (s := S2x4x256x256) ![0, 0, 0, 0] S1x1x256x256.size inb_S2x4x256x256_S1x1x256x256_0_0_0_0, slotF (ptileD arg3 arg6 X_arg3 X_arg6 i w 0)⟩]
  g17 := arg17.view.writes (Elt F) s.g17
    [⟨Rect.unit (s := S2x4x256x256) ![0, 3, 0, 0] S1x1x256x256.size inb_S2x4x256x256_S1x1x256x256_0_3_0_0, slotF (tileD arg3 arg4 arg6 X_arg3 X_arg4 X_arg6 i w 3)⟩,
   ⟨Rect.unit (s := S2x4x256x256) ![0, 2, 0, 0] S1x1x256x256.size inb_S2x4x256x256_S1x1x256x256_0_2_0_0, slotF (tileD arg3 arg4 arg6 X_arg3 X_arg4 X_arg6 i w 2)⟩,
   ⟨Rect.unit (s := S2x4x256x256) ![0, 1, 0, 0] S1x1x256x256.size inb_S2x4x256x256_S1x1x256x256_0_1_0_0, slotF (tileD arg3 arg4 arg6 X_arg3 X_arg4 X_arg6 i w 1)⟩,
   ⟨Rect.unit (s := S2x4x256x256) ![0, 0, 0, 0] S1x1x256x256.size inb_S2x4x256x256_S1x1x256x256_0_0_0_0, slotF (tileD arg3 arg4 arg6 X_arg3 X_arg4 X_arg6 i w 0)⟩]

/-- The first block accumulated, and the row sums taken off the diagonal block's rows. -/
def last (w : Fin 4 → Rows F) (s : St F arg13 arg14 arg15 arg16 arg17) : St F arg13 arg14 arg15 arg16 arg17 where
  acc := (s.acc.1, s.acc.2.1, s.acc.2.2.1, s.acc.2.2.2.1, dqF s.acc.2.2.2.2.1 (col 0 (arg3.view.readAt (Elt F) (Rect.unit (s := S2048x256) ![0, 0] S256x256.size inb_S2048x256_S256x256_0_0).toLoadRect X_arg3)) (arg17.view.readAt (Elt F) (Rect.unit (s := S2x4x256x256) (k0_off42 i) S1x1x256x256.size (k0_off42_inb i)).toLoadRect s.g17), dqF s.acc.2.2.2.2.2.1 (col 1 (arg3.view.readAt (Elt F) (Rect.unit (s := S2048x256) ![0, 0] S256x256.size inb_S2048x256_S256x256_0_0).toLoadRect X_arg3)) (arg17.view.readAt (Elt F) (Rect.unit (s := S2x4x256x256) (k0_off43 i) S1x1x256x256.size (k0_off43_inb i)).toLoadRect s.g17), dqF s.acc.2.2.2.2.2.2.1 (col 2 (arg3.view.readAt (Elt F) (Rect.unit (s := S2048x256) ![0, 0] S256x256.size inb_S2048x256_S256x256_0_0).toLoadRect X_arg3)) (arg17.view.readAt (Elt F) (Rect.unit (s := S2x4x256x256) (k0_off44 i) S1x1x256x256.size (k0_off44_inb i)).toLoadRect s.g17), dqF s.acc.2.2.2.2.2.2.2 (col 3 (arg3.view.readAt (Elt F) (Rect.unit (s := S2048x256) ![0, 0] S256x256.size inb_S2048x256_S256x256_0_0).toLoadRect X_arg3)) (arg17.view.readAt (Elt F) (Rect.unit (s := S2x4x256x256) (k0_off45 i) S1x1x256x256.size (k0_off45_inb i)).toLoadRect s.g17))
  g13 := arg13.view.writes (Elt F) s.g13
    [⟨Rect.unit (s := S1x8x8x256) (k0_off5 i) S1x1x1x256.size (k0_off5_inb i), lessF s.acc.2.2.2.1 (arg13.view.readAt (Elt F) (Rect.unit (s := S1x8x8x256) (k0_off5 i) S1x1x1x256.size (k0_off5_inb i)).toLoadRect s.g13)⟩,
   ⟨Rect.unit (s := S1x8x8x256) (k0_off4 i) S1x1x1x256.size (k0_off4_inb i), lessF s.acc.2.2.1 (arg13.view.readAt (Elt F) (Rect.unit (s := S1x8x8x256) (k0_off4 i) S1x1x1x256.size (k0_off4_inb i)).toLoadRect s.g13)⟩,
   ⟨Rect.unit (s := S1x8x8x256) (k0_off3 i) S1x1x1x256.size (k0_off3_inb i), lessF s.acc.2.1 (arg13.view.readAt (Elt F) (Rect.unit (s := S1x8x8x256) (k0_off3 i) S1x1x1x256.size (k0_off3_inb i)).toLoadRect s.g13)⟩,
   ⟨Rect.unit (s := S1x8x8x256) (k0_off2 i) S1x1x1x256.size (k0_off2_inb i), lessF s.acc.1 (arg13.view.readAt (Elt F) (Rect.unit (s := S1x8x8x256) (k0_off2 i) S1x1x1x256.size (k0_off2_inb i)).toLoadRect s.g13)⟩]
  g14 := arg14.view.writes (Elt F) s.g14
    [⟨Rect.unit (s := S4x2048x64) ![3, 0, 0] S1x256x64.size inb_S4x2048x64_S1x256x64_3_0_0, accF (w 3).q (arg14.view.readAt (Elt F) (Rect.unit (s := S4x2048x64) ![3, 0, 0] S1x256x64.size inb_S4x2048x64_S1x256x64_3_0_0).toLoadRect s.g14) (arg17.view.readAt (Elt F) (Rect.unit (s := S2x4x256x256) (k0_off45 i) S1x1x256x256.size (k0_off45_inb i)).toLoadRect s.g17)⟩,
   ⟨Rect.unit (s := S4x2048x64) ![2, 0, 0] S1x256x64.size inb_S4x2048x64_S1x256x64_2_0_0, accF (w 2).q (arg14.view.readAt (Elt F) (Rect.unit (s := S4x2048x64) ![2, 0, 0] S1x256x64.size inb_S4x2048x64_S1x256x64_2_0_0).toLoadRect s.g14) (arg17.view.readAt (Elt F) (Rect.unit (s := S2x4x256x256) (k0_off44 i) S1x1x256x256.size (k0_off44_inb i)).toLoadRect s.g17)⟩,
   ⟨Rect.unit (s := S4x2048x64) ![1, 0, 0] S1x256x64.size inb_S4x2048x64_S1x256x64_1_0_0, accF (w 1).q (arg14.view.readAt (Elt F) (Rect.unit (s := S4x2048x64) ![1, 0, 0] S1x256x64.size inb_S4x2048x64_S1x256x64_1_0_0).toLoadRect s.g14) (arg17.view.readAt (Elt F) (Rect.unit (s := S2x4x256x256) (k0_off43 i) S1x1x256x256.size (k0_off43_inb i)).toLoadRect s.g17)⟩,
   ⟨Rect.unit (s := S4x2048x64) ![0, 0, 0] S1x256x64.size inb_S4x2048x64_S1x256x64_0_0_0, accF (w 0).q (arg14.view.readAt (Elt F) (Rect.unit (s := S4x2048x64) ![0, 0, 0] S1x256x64.size inb_S4x2048x64_S1x256x64_0_0_0).toLoadRect s.g14) (arg17.view.readAt (Elt F) (Rect.unit (s := S2x4x256x256) (k0_off42 i) S1x1x256x256.size (k0_off42_inb i)).toLoadRect s.g17)⟩]
  g15 := arg15.view.writes (Elt F) s.g15
    [⟨Rect.unit (s := S4x2048x64) ![3, 0, 0] S1x256x64.size inb_S4x2048x64_S1x256x64_3_0_0, accF (w 3).dO (arg15.view.readAt (Elt F) (Rect.unit (s := S4x2048x64) ![3, 0, 0] S1x256x64.size inb_S4x2048x64_S1x256x64_3_0_0).toLoadRect s.g15) (arg16.view.readAt (Elt F) (Rect.unit (s := S2x4x256x256) (k0_off45 i) S1x1x256x256.size (k0_off45_inb i)).toLoadRect s.g16)⟩,
   ⟨Rect.unit (s := S4x2048x64) ![2, 0, 0] S1x256x64.size inb_S4x2048x64_S1x256x64_2_0_0, accF (w 2).dO (arg15.view.readAt (Elt F) (Rect.unit (s := S4x2048x64) ![2, 0, 0] S1x256x64.size inb_S4x2048x64_S1x256x64_2_0_0).toLoadRect s.g15) (arg16.view.readAt (Elt F) (Rect.unit (s := S2x4x256x256) (k0_off44 i) S1x1x256x256.size (k0_off44_inb i)).toLoadRect s.g16)⟩,
   ⟨Rect.unit (s := S4x2048x64) ![1, 0, 0] S1x256x64.size inb_S4x2048x64_S1x256x64_1_0_0, accF (w 1).dO (arg15.view.readAt (Elt F) (Rect.unit (s := S4x2048x64) ![1, 0, 0] S1x256x64.size inb_S4x2048x64_S1x256x64_1_0_0).toLoadRect s.g15) (arg16.view.readAt (Elt F) (Rect.unit (s := S2x4x256x256) (k0_off43 i) S1x1x256x256.size (k0_off43_inb i)).toLoadRect s.g16)⟩,
   ⟨Rect.unit (s := S4x2048x64) ![0, 0, 0] S1x256x64.size inb_S4x2048x64_S1x256x64_0_0_0, accF (w 0).dO (arg15.view.readAt (Elt F) (Rect.unit (s := S4x2048x64) ![0, 0, 0] S1x256x64.size inb_S4x2048x64_S1x256x64_0_0_0).toLoadRect s.g15) (arg16.view.readAt (Elt F) (Rect.unit (s := S2x4x256x256) (k0_off42 i) S1x1x256x256.size (k0_off42_inb i)).toLoadRect s.g16)⟩]
  g16 := s.g16
  g17 := s.g17

/-- The whole point, from what it finds. -/
def point (g_arg13 : BufTy.Contents (Elt F) arg13.view.ty) (g_arg14 : BufTy.Contents (Elt F) arg14.view.ty) (g_arg15 : BufTy.Contents (Elt F) arg15.view.ty) (g_arg16 : BufTy.Contents (Elt F) arg16.view.ty) (g_arg17 : BufTy.Contents (Elt F) arg17.view.ty) : St F arg13 arg14 arg15 arg16 arg17 :=
  last arg3 X_arg3 i (rowsIn arg2 arg5 arg7 arg8 arg9 X_arg2 X_arg5 X_arg7 X_arg8 X_arg9)
    (St.after (rowsIn arg2 arg5 arg7 arg8 arg9 X_arg2 X_arg5 X_arg7 X_arg8 X_arg9) arg3 arg4 arg6 X_arg3 X_arg4 X_arg6 i
      (diag arg3 arg4 arg6 X_arg3 X_arg4 X_arg6 i (rowsIn arg2 arg5 arg7 arg8 arg9 X_arg2 X_arg5 X_arg7 X_arg8 X_arg9) ⟨(zRow, zRow, zRow, zRow, zDq, zDq, zDq, zDq), g_arg13, g_arg14, g_arg15, g_arg16, g_arg17⟩)
      (k0_t1_loop i).trips)

end Point

/-- The gradient of the queries as the point stores it, -/
def dqOut (acc : Acc F) : FVec F S256x256 .bf16 := k0_pay1 acc.2.2.2.2.2.1 acc.2.2.2.2.2.2.1 acc.2.2.2.2.2.2.2 (k0_pay171 acc.2.2.2.2.1)

/-- and the gradients of the keys and of the values, off their accumulators. -/
def dkOut (arg14 : Memref sig .tc .vmem S4x2048x64 .f32) (g : BufTy.Contents (Elt F) arg14.view.ty) : FVec F S2048x256 .bf16 :=
  k0_pay2 (arg14.view.readAt (Elt F) (Rect.unit (s := S4x2048x64) ![0, 0, 0] S1x2048x64.size inb_S4x2048x64_S1x2048x64_0_0_0).toLoadRect g) (arg14.view.readAt (Elt F) (Rect.unit (s := S4x2048x64) ![1, 0, 0] S1x2048x64.size inb_S4x2048x64_S1x2048x64_1_0_0).toLoadRect g) (arg14.view.readAt (Elt F) (Rect.unit (s := S4x2048x64) ![2, 0, 0] S1x2048x64.size inb_S4x2048x64_S1x2048x64_2_0_0).toLoadRect g) (arg14.view.readAt (Elt F) (Rect.unit (s := S4x2048x64) ![3, 0, 0] S1x2048x64.size inb_S4x2048x64_S1x2048x64_3_0_0).toLoadRect g)
def dvOut (arg15 : Memref sig .tc .vmem S4x2048x64 .f32) (g : BufTy.Contents (Elt F) arg15.view.ty) : FVec F S2048x256 .bf16 :=
  k0_pay3 (arg15.view.readAt (Elt F) (Rect.unit (s := S4x2048x64) ![0, 0, 0] S1x2048x64.size inb_S4x2048x64_S1x2048x64_0_0_0).toLoadRect g) (arg15.view.readAt (Elt F) (Rect.unit (s := S4x2048x64) ![1, 0, 0] S1x2048x64.size inb_S4x2048x64_S1x2048x64_1_0_0).toLoadRect g) (arg15.view.readAt (Elt F) (Rect.unit (s := S4x2048x64) ![2, 0, 0] S1x2048x64.size inb_S4x2048x64_S1x2048x64_2_0_0).toLoadRect g) (arg15.view.readAt (Elt F) (Rect.unit (s := S4x2048x64) ![3, 0, 0] S1x2048x64.size inb_S4x2048x64_S1x2048x64_3_0_0).toLoadRect g)

section Run

variable (c : Dev nD) (i : grid0.Coords) (arg2 : Memref sig .tc .vmem S256x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1x256x256 .f32) (harg5 : arg5.IsWhole) (arg6 : Memref sig .tc .vmem S1x8x8x256 .f32) (harg6 : arg6.IsWhole) (arg7 : Memref sig .tc .vmem S256x256 .f32) (harg7 : arg7.IsWhole) (arg8 : Memref sig .tc .vmem S1x256x256 .f32) (harg8 : arg8.IsWhole) (arg9 : Memref sig .tc .vmem S256x256 .f32) (harg9 : arg9.IsWhole) (arg10 : Memref sig .tc .vmem S256x256 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S1x8x8x256 .f32) (harg13 : arg13.IsWhole) (arg14 : Memref sig .tc .vmem S4x2048x64 .f32) (harg14 : arg14.IsWhole) (arg15 : Memref sig .tc .vmem S4x2048x64 .f32) (harg15 : arg15.IsWhole) (arg16 : Memref sig .tc .vmem S2x4x256x256 .bf16) (harg16 : arg16.IsWhole) (arg17 : Memref sig .tc .vmem S2x4x256x256 .bf16) (harg17 : arg17.IsWhole)

set_option maxHeartbeats 1000000 in
/-- The point's start: the three accumulated arrays zeroed at a group's first point. -/
theorem start (X_arg2 : BufTy.Contents (Elt F) arg2.view.ty) (X_arg5 : BufTy.Contents (Elt F) arg5.view.ty) (f_arg13 : BufTy.Contents (Elt F) arg13.view.ty) (f_arg14 : BufTy.Contents (Elt F) arg14.view.ty) (f_arg15 : BufTy.Contents (Elt F) arg15.view.ty) :
    (iprop((arg2.view.loc (c : Thread nD τ) ↦[arg2.view.set]{fullShare} X_arg2) ∗ (arg5.view.loc (c : Thread nD τ) ↦[arg5.view.set]{fullShare} X_arg5) ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15)) : sProp 𝕄)
      ⊢ wp frame (wpE (defs₀ (F := F)) Variants.none (c : Thread nD τ) none) Set.univ (k0_part17 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
        (fun r => iprop((arg2.view.loc (c : Thread nD τ) ↦[arg2.view.set]{fullShare} X_arg2) ∗ (arg5.view.loc (c : Thread nD τ) ↦[arg5.view.set]{fullShare} X_arg5) ∗ (arg13.view.loc (c : Thread nD τ) ↦[arg13.view.set]{fullShare} (zero13 i f_arg13)) ∗ (arg14.view.loc (c : Thread nD τ) ↦[arg14.view.set]{fullShare} (zero14 i f_arg14)) ∗ (arg15.view.loc (c : Thread nD τ) ↦[arg15.view.set]{fullShare} (zero15 i f_arg15))
          ∗ ⌜r = ⟨BitVec.ofNat 32 (i 1).val, k0_pay89, k0_pay90 (arg2.view.readAt (Elt F) (Rect.unit (s := S256x256) ![0, 0] S256x64.size inb_S256x256_S256x64_0_0).toLoadRect X_arg2), k0_pay91 (arg2.view.readAt (Elt F) (Rect.unit (s := S256x256) ![0, 64] S256x64.size inb_S256x256_S256x64_0_64).toLoadRect X_arg2),
              k0_pay92 (arg2.view.readAt (Elt F) (Rect.unit (s := S256x256) ![0, 128] S256x64.size inb_S256x256_S256x64_0_128).toLoadRect X_arg2), k0_pay93 (arg2.view.readAt (Elt F) (Rect.unit (s := S256x256) ![0, 192] S256x64.size inb_S256x256_S256x64_0_192).toLoadRect X_arg2),
              k0_pay94 (arg5.view.readAt (Elt F) (Rect.unit (s := S1x256x256) ![0, 0, 0] S1x256x1.size inb_S1x256x256_S1x256x1_0_0_0).toLoadRect X_arg5), k0_pay95 (arg5.view.readAt (Elt F) (Rect.unit (s := S1x256x256) ![0, 0, 64] S1x256x1.size inb_S1x256x256_S1x256x1_0_0_64).toLoadRect X_arg5),
              k0_pay96 (arg5.view.readAt (Elt F) (Rect.unit (s := S1x256x256) ![0, 0, 128] S1x256x1.size inb_S1x256x256_S1x256x1_0_0_128).toLoadRect X_arg5)⟩⌝)) := by
  have key : ∀ n : Fin 8, (Scalar.cmpi .ne (Scalar.extui (Scalar.cmpi .eq (BitVec.ofNat 32 n.val) 0#32) : BitVec 32) 0#32 = 1#1) ↔ n.val = 0 := by decide +kernel
  have hc : (Scalar.cmpi .ne (Scalar.extui (Scalar.cmpi .eq (BitVec.ofNat 32 (i 1).val) 0#32) : BitVec 32) 0#32 = 1#1) ↔ (i 1).val = 0 := key ⟨(i 1).val, (i 1).isLt⟩
  simp only [k0_part17_eq_skeleton]; unfold k0_part17_skel
  iintro ⟨H2, H5, H13, H14, H15⟩
  by_cases h0 : (i 1).val = 0
  · have hc' := hc.mpr h0
    simp only [zero13, zero14, zero15, if_pos h0]
    sl_exec
    sl_step
    isplitl [H2]; · iexact H2
    isplitl [H5]; · iexact H5
    isplitl [H13]; · iexact H13
    isplitl [H14]; · iexact H14
    isplitl [H15]; · iexact H15
    ipureintro; rfl
  · have hc' := fun h => h0 (hc.mp h)
    simp only [zero13, zero14, zero15, if_neg h0]
    sl_exec
    sl_step
    isplitl [H2]; · iexact H2
    isplitl [H5]; · iexact H5
    isplitl [H13]; · iexact H13
    isplitl [H14]; · iexact H14
    isplitl [H15]; · iexact H15
    ipureintro; rfl

end Run

end Cert.Proof.Fox

end
-- ==== Proof.Tail.lean ====
/-
  What the gradient kernel's body does at one grid point after its loop: the first block accumulated, the row sums taken off, the
  results stored.
-/
module

public import proofs.«01_k».proof.Proof.Point
public import proofs.«01_k».proof.Proof.Gen.KernelIdeal.Frame

@[expose] public section

set_option maxRecDepth 16384

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

attribute [local irreducible] View.writes

section Run

variable (c : Dev nD) (i : grid0.Coords) (arg2 : Memref sig .tc .vmem S256x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1x256x256 .f32) (harg5 : arg5.IsWhole) (arg6 : Memref sig .tc .vmem S1x8x8x256 .f32) (harg6 : arg6.IsWhole) (arg7 : Memref sig .tc .vmem S256x256 .f32) (harg7 : arg7.IsWhole) (arg8 : Memref sig .tc .vmem S1x256x256 .f32) (harg8 : arg8.IsWhole) (arg9 : Memref sig .tc .vmem S256x256 .f32) (harg9 : arg9.IsWhole) (arg10 : Memref sig .tc .vmem S256x256 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S1x8x8x256 .f32) (harg13 : arg13.IsWhole) (arg14 : Memref sig .tc .vmem S4x2048x64 .f32) (harg14 : arg14.IsWhole) (arg15 : Memref sig .tc .vmem S4x2048x64 .f32) (harg15 : arg15.IsWhole) (arg16 : Memref sig .tc .vmem S2x4x256x256 .bf16) (harg16 : arg16.IsWhole) (arg17 : Memref sig .tc .vmem S2x4x256x256 .bf16) (harg17 : arg17.IsWhole)

/-- The last block of a group stores the keys' and the values' gradients; another stores nothing. -/
theorem flush (f_arg11 : BufTy.Contents (Elt F) arg11.view.ty) (f_arg12 : BufTy.Contents (Elt F) arg12.view.ty) (f_arg14 : BufTy.Contents (Elt F) arg14.view.ty) (f_arg15 : BufTy.Contents (Elt F) arg15.view.ty) :
    (iprop((arg11.view.loc (c : Thread nD τ) ↦[arg11.view.set]{fullShare} f_arg11) ∗ (arg12.view.loc (c : Thread nD τ) ↦[arg12.view.set]{fullShare} f_arg12) ∗ (arg14.view.loc (c : Thread nD τ) ↦[arg14.view.set]{fullShare} f_arg14) ∗ (arg15.view.loc (c : Thread nD τ) ↦[arg15.view.set]{fullShare} f_arg15)) : sProp 𝕄)
      ⊢ wp frame (wpE (defs₀ (F := F)) Variants.none (c : Thread nD τ) none) Set.univ (do
    if k0_h2 : k0_cond2 i = 1#1 then do
      let v439 : Vec F S1x2048x64 .f32 ← Prog.lift (.load arg14 (Rect.unit (s := S4x2048x64) ![0, 0, 0] S1x2048x64.size inb_S4x2048x64_S1x2048x64_0_0_0).toLoadRect (View.loadsAt_vmem h_S1x2048x64))
      let v441 : Vec F S1x2048x64 .f32 ← Prog.lift (.load arg14 (Rect.unit (s := S4x2048x64) ![1, 0, 0] S1x2048x64.size inb_S4x2048x64_S1x2048x64_1_0_0).toLoadRect (View.loadsAt_vmem h_S1x2048x64))
      let v443 : Vec F S1x2048x64 .f32 ← Prog.lift (.load arg14 (Rect.unit (s := S4x2048x64) ![2, 0, 0] S1x2048x64.size inb_S4x2048x64_S1x2048x64_2_0_0).toLoadRect (View.loadsAt_vmem h_S1x2048x64))
      let v445 : Vec F S1x2048x64 .f32 ← Prog.lift (.load arg14 (Rect.unit (s := S4x2048x64) ![3, 0, 0] S1x2048x64.size inb_S4x2048x64_S1x2048x64_3_0_0).toLoadRect (View.loadsAt_vmem h_S1x2048x64))
      let v449 : Vec F S2048x256 .bf16 ← Prog.lift (.load arg11 (Rect.unit (s := S2048x256) ![0, 0] S2048x256.size inb_S2048x256_S2048x256_0_0).toLoadRect (View.loadsAt_vmem h_S2048x256))
      Prog.lift (.store arg11 (Rect.unit (s := S2048x256) ![0, 0] S2048x256.size inb_S2048x256_S2048x256_0_0) (k0_pay2 v439 v441 v443 v445) Finset.univ (View.stores_vmem h_S2048x256 (harg11.storeExact_slice rfl _ packedbf16_S2048x256_S2048x256_0_0) (fun _ => rfl)) (.inl rfl))
      let v450 : Vec F S1x2048x64 .f32 ← Prog.lift (.load arg15 (Rect.unit (s := S4x2048x64) ![0, 0, 0] S1x2048x64.size inb_S4x2048x64_S1x2048x64_0_0_0).toLoadRect (View.loadsAt_vmem h_S1x2048x64))
      let v452 : Vec F S1x2048x64 .f32 ← Prog.lift (.load arg15 (Rect.unit (s := S4x2048x64) ![1, 0, 0] S1x2048x64.size inb_S4x2048x64_S1x2048x64_1_0_0).toLoadRect (View.loadsAt_vmem h_S1x2048x64))
      let v454 : Vec F S1x2048x64 .f32 ← Prog.lift (.load arg15 (Rect.unit (s := S4x2048x64) ![2, 0, 0] S1x2048x64.size inb_S4x2048x64_S1x2048x64_2_0_0).toLoadRect (View.loadsAt_vmem h_S1x2048x64))
      let v456 : Vec F S1x2048x64 .f32 ← Prog.lift (.load arg15 (Rect.unit (s := S4x2048x64) ![3, 0, 0] S1x2048x64.size inb_S4x2048x64_S1x2048x64_3_0_0).toLoadRect (View.loadsAt_vmem h_S1x2048x64))
      let v460 : Vec F S2048x256 .bf16 ← Prog.lift (.load arg12 (Rect.unit (s := S2048x256) ![0, 0] S2048x256.size inb_S2048x256_S2048x256_0_0).toLoadRect (View.loadsAt_vmem h_S2048x256))
      Prog.lift (.store arg12 (Rect.unit (s := S2048x256) ![0, 0] S2048x256.size inb_S2048x256_S2048x256_0_0) (k0_pay3 v450 v452 v454 v456) Finset.univ (View.stores_vmem h_S2048x256 (harg12.storeExact_slice rfl _ packedbf16_S2048x256_S2048x256_0_0) (fun _ => rfl)) (.inl rfl))
      pure ⟨⟩
    else do
      pure ⟨⟩
    pure ⟨⟩ : Prog (TpuEff nD τ sig (Elt F) Λ₀ .tc) PUnit)
        (fun _ => iprop((arg11.view.loc (c : Thread nD τ) ↦[arg11.view.set]{fullShare} (if (i 1).val = 7 then arg11.view.writes (Elt F) f_arg11 [⟨Rect.unit (s := S2048x256) ![0, 0] S2048x256.size inb_S2048x256_S2048x256_0_0, dkOut arg14 f_arg14⟩] else f_arg11))
            ∗ (arg12.view.loc (c : Thread nD τ) ↦[arg12.view.set]{fullShare} (if (i 1).val = 7 then arg12.view.writes (Elt F) f_arg12 [⟨Rect.unit (s := S2048x256) ![0, 0] S2048x256.size inb_S2048x256_S2048x256_0_0, dvOut arg15 f_arg15⟩] else f_arg12))
            ∗ (arg14.view.loc (c : Thread nD τ) ↦[arg14.view.set]{fullShare} f_arg14) ∗ (arg15.view.loc (c : Thread nD τ) ↦[arg15.view.set]{fullShare} f_arg15))) := by
  have key : ∀ i : grid0.Coords, (k0_cond2 i = 1#1) ↔ (i 1).val = 7 := by decide +kernel
  iintro ⟨H_arg11, H_arg12, H_arg14, H_arg15⟩
  by_cases h7 : (i 1).val = 7
  · have h7' := (key i).mpr h7
    simp only [if_pos h7]
    sl_exec
    sl_step
    isplitl [H_arg11]; · iexact H_arg11
    isplitl [H_arg12]; · iexact H_arg12
    isplitl [H_arg14]; · iexact H_arg14
    iexact H_arg15
  · have h7' := fun h => h7 ((key i).mp h)
    simp only [if_neg h7]
    sl_exec
    sl_step
    isplitl [H_arg11]; · iexact H_arg11
    isplitl [H_arg12]; · iexact H_arg12
    isplitl [H_arg14]; · iexact H_arg14
    iexact H_arg15

theorem tail (v10 : FVec F S256x64 .bf16) (v15 : FVec F S256x64 .bf16) (v20 : FVec F S256x64 .bf16) (v25 : FVec F S256x64 .bf16) (v46 : FVec F S256x64 .bf16) (v47 : FVec F S256x64 .bf16) (v48 : FVec F S256x64 .bf16) (v49 : FVec F S256x64 .bf16) (v27 : FVec F S256x1 .f32) (v29 : FVec F S256x1 .f32) (v31 : FVec F S256x1 .f32) (v33 : FVec F S256x1 .f32) (v35 : FVec F S256x1 .f32) (v37 : FVec F S256x1 .f32) (v39 : FVec F S256x1 .f32) (v41 : FVec F S256x1 .f32) (v54 : FVec F S256x1 .f32) (v59 : FVec F S256x1 .f32) (v64 : FVec F S256x1 .f32) (v69 : FVec F S256x1 .f32) (X_arg3 : BufTy.Contents (Elt F) arg3.view.ty) (f_arg10 : BufTy.Contents (Elt F) arg10.view.ty) (f_arg11 : BufTy.Contents (Elt F) arg11.view.ty) (f_arg12 : BufTy.Contents (Elt F) arg12.view.ty) (s : St F arg13 arg14 arg15 arg16 arg17) :
    (iprop((arg3.view.loc (c : Thread nD τ) ↦[arg3.view.set]{fullShare} X_arg3) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12) ∗ (arg13.view.loc (c : Thread nD τ) ↦[arg13.view.set]{fullShare} s.g13) ∗ (arg14.view.loc (c : Thread nD τ) ↦[arg14.view.set]{fullShare} s.g14) ∗ (arg15.view.loc (c : Thread nD τ) ↦[arg15.view.set]{fullShare} s.g15) ∗ (arg16.view.loc (c : Thread nD τ) ↦[arg16.view.set]{fullShare} s.g16) ∗ (arg17.view.loc (c : Thread nD τ) ↦[arg17.view.set]{fullShare} s.g17)) : sProp 𝕄)
      ⊢ wp frame (wpE (defs₀ (F := F)) Variants.none (c : Thread nD τ) none) Set.univ (do
    let ⟨v257, v260, v263, v277, v282⟩ : Σ' (v257 : BitVec 32) (v260 : Vec F S256x256 .bf16) (v263 : FVec F S256x256 .bf16) (v277 : BitVec 32), FVec F S256x64 .f32 ← k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 1).val) v10 v46
    let ⟨v289, v317⟩ : Σ' (v289 : FVec F S256x64 .f32), FVec F S256x64 .f32 ← k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v15 v47 s.acc.2.2.2.2.1 v257 v260 v263 v277 v282
    let ⟨v318, v347, v350, v351⟩ : Σ' (v318 : FVec F S256x64 .f32) (v347 : FVec F S256x64 .f32) (v350 : FVec F S256x256 .bf16), BitVec 32 ← k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v48 s.acc.2.2.2.2.2.1 s.acc.2.2.2.2.2.2.1 v257 v260 v317
    let v376 : FVec F S256x64 .f32 ← k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 1).val) v25 v49 s.acc.1 s.acc.2.2.2.2.2.2.2 v257 v260 v350 v351
    let v426 : FVec F S256x64 .f32 ← k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 1).val) s.acc.2.1 s.acc.2.2.1 s.acc.2.2.2.1 v289
    let v435 : Vec F S256x256 .bf16 ← Prog.lift (.load arg10 (Rect.unit (s := S256x256) ![0, 0] S256x256.size inb_S256x256_S256x256_0_0).toLoadRect (View.loadsAt_vmem h_S256x256))
    Prog.lift (.store arg10 (Rect.unit (s := S256x256) ![0, 0] S256x256.size inb_S256x256_S256x256_0_0) (k0_pay1 v318 v347 v376 v426) Finset.univ (View.stores_vmem h_S256x256 (harg10.storeExact_slice rfl _ packedbf16_S256x256_S256x256_0_0) (fun _ => rfl)) (.inl rfl))
    if k0_h2 : k0_cond2 i = 1#1 then do
      let v439 : Vec F S1x2048x64 .f32 ← Prog.lift (.load arg14 (Rect.unit (s := S4x2048x64) ![0, 0, 0] S1x2048x64.size inb_S4x2048x64_S1x2048x64_0_0_0).toLoadRect (View.loadsAt_vmem h_S1x2048x64))
      let v441 : Vec F S1x2048x64 .f32 ← Prog.lift (.load arg14 (Rect.unit (s := S4x2048x64) ![1, 0, 0] S1x2048x64.size inb_S4x2048x64_S1x2048x64_1_0_0).toLoadRect (View.loadsAt_vmem h_S1x2048x64))
      let v443 : Vec F S1x2048x64 .f32 ← Prog.lift (.load arg14 (Rect.unit (s := S4x2048x64) ![2, 0, 0] S1x2048x64.size inb_S4x2048x64_S1x2048x64_2_0_0).toLoadRect (View.loadsAt_vmem h_S1x2048x64))
      let v445 : Vec F S1x2048x64 .f32 ← Prog.lift (.load arg14 (Rect.unit (s := S4x2048x64) ![3, 0, 0] S1x2048x64.size inb_S4x2048x64_S1x2048x64_3_0_0).toLoadRect (View.loadsAt_vmem h_S1x2048x64))
      let v449 : Vec F S2048x256 .bf16 ← Prog.lift (.load arg11 (Rect.unit (s := S2048x256) ![0, 0] S2048x256.size inb_S2048x256_S2048x256_0_0).toLoadRect (View.loadsAt_vmem h_S2048x256))
      Prog.lift (.store arg11 (Rect.unit (s := S2048x256) ![0, 0] S2048x256.size inb_S2048x256_S2048x256_0_0) (k0_pay2 v439 v441 v443 v445) Finset.univ (View.stores_vmem h_S2048x256 (harg11.storeExact_slice rfl _ packedbf16_S2048x256_S2048x256_0_0) (fun _ => rfl)) (.inl rfl))
      let v450 : Vec F S1x2048x64 .f32 ← Prog.lift (.load arg15 (Rect.unit (s := S4x2048x64) ![0, 0, 0] S1x2048x64.size inb_S4x2048x64_S1x2048x64_0_0_0).toLoadRect (View.loadsAt_vmem h_S1x2048x64))
      let v452 : Vec F S1x2048x64 .f32 ← Prog.lift (.load arg15 (Rect.unit (s := S4x2048x64) ![1, 0, 0] S1x2048x64.size inb_S4x2048x64_S1x2048x64_1_0_0).toLoadRect (View.loadsAt_vmem h_S1x2048x64))
      let v454 : Vec F S1x2048x64 .f32 ← Prog.lift (.load arg15 (Rect.unit (s := S4x2048x64) ![2, 0, 0] S1x2048x64.size inb_S4x2048x64_S1x2048x64_2_0_0).toLoadRect (View.loadsAt_vmem h_S1x2048x64))
      let v456 : Vec F S1x2048x64 .f32 ← Prog.lift (.load arg15 (Rect.unit (s := S4x2048x64) ![3, 0, 0] S1x2048x64.size inb_S4x2048x64_S1x2048x64_3_0_0).toLoadRect (View.loadsAt_vmem h_S1x2048x64))
      let v460 : Vec F S2048x256 .bf16 ← Prog.lift (.load arg12 (Rect.unit (s := S2048x256) ![0, 0] S2048x256.size inb_S2048x256_S2048x256_0_0).toLoadRect (View.loadsAt_vmem h_S2048x256))
      Prog.lift (.store arg12 (Rect.unit (s := S2048x256) ![0, 0] S2048x256.size inb_S2048x256_S2048x256_0_0) (k0_pay3 v450 v452 v454 v456) Finset.univ (View.stores_vmem h_S2048x256 (harg12.storeExact_slice rfl _ packedbf16_S2048x256_S2048x256_0_0) (fun _ => rfl)) (.inl rfl))
      pure ⟨⟩
    else do
      pure ⟨⟩
    pure ⟨⟩ : Prog (TpuEff nD τ sig (Elt F) Λ₀ .tc) PUnit)
        (fun _ => iprop((arg3.view.loc (c : Thread nD τ) ↦[arg3.view.set]{fullShare} X_arg3)
            ∗ (arg10.view.loc (c : Thread nD τ) ↦[arg10.view.set]{fullShare} (arg10.view.writes (Elt F) f_arg10 [⟨Rect.unit (s := S256x256) ![0, 0] S256x256.size inb_S256x256_S256x256_0_0, dqOut (last arg3 X_arg3 i (rowsOf v10 v15 v20 v25 v46 v47 v48 v49 v27 v29 v31 v33 v35 v37 v39 v41 v54 v59 v64 v69) s).acc⟩]))
            ∗ (arg11.view.loc (c : Thread nD τ) ↦[arg11.view.set]{fullShare} (if (i 1).val = 7 then arg11.view.writes (Elt F) f_arg11 [⟨Rect.unit (s := S2048x256) ![0, 0] S2048x256.size inb_S2048x256_S2048x256_0_0, dkOut arg14 (last arg3 X_arg3 i (rowsOf v10 v15 v20 v25 v46 v47 v48 v49 v27 v29 v31 v33 v35 v37 v39 v41 v54 v59 v64 v69) s).g14⟩] else f_arg11))
            ∗ (arg12.view.loc (c : Thread nD τ) ↦[arg12.view.set]{fullShare} (if (i 1).val = 7 then arg12.view.writes (Elt F) f_arg12 [⟨Rect.unit (s := S2048x256) ![0, 0] S2048x256.size inb_S2048x256_S2048x256_0_0, dvOut arg15 (last arg3 X_arg3 i (rowsOf v10 v15 v20 v25 v46 v47 v48 v49 v27 v29 v31 v33 v35 v37 v39 v41 v54 v59 v64 v69) s).g15⟩] else f_arg12))
            ∗ (arg13.view.loc (c : Thread nD τ) ↦[arg13.view.set]{fullShare} (last arg3 X_arg3 i (rowsOf v10 v15 v20 v25 v46 v47 v48 v49 v27 v29 v31 v33 v35 v37 v39 v41 v54 v59 v64 v69) s).g13)
            ∗ (arg14.view.loc (c : Thread nD τ) ↦[arg14.view.set]{fullShare} (last arg3 X_arg3 i (rowsOf v10 v15 v20 v25 v46 v47 v48 v49 v27 v29 v31 v33 v35 v37 v39 v41 v54 v59 v64 v69) s).g14)
            ∗ (arg15.view.loc (c : Thread nD τ) ↦[arg15.view.set]{fullShare} (last arg3 X_arg3 i (rowsOf v10 v15 v20 v25 v46 v47 v48 v49 v27 v29 v31 v33 v35 v37 v39 v41 v54 v59 v64 v69) s).g15)
            ∗ (arg16.view.loc (c : Thread nD τ) ↦[arg16.view.set]{fullShare} (last arg3 X_arg3 i (rowsOf v10 v15 v20 v25 v46 v47 v48 v49 v27 v29 v31 v33 v35 v37 v39 v41 v54 v59 v64 v69) s).g16)
            ∗ (arg17.view.loc (c : Thread nD τ) ↦[arg17.view.set]{fullShare} (last arg3 X_arg3 i (rowsOf v10 v15 v20 v25 v46 v47 v48 v49 v27 v29 v31 v33 v35 v37 v39 v41 v54 v59 v64 v69) s).g17))) := by
  have hi : (i 1).val < 8 := (i 1).isLt
  iintro ⟨H_arg3, H_arg10, H_arg11, H_arg12, H_arg13, H_arg14, H_arg15, H_arg16, H_arg17⟩
  set_option sl_exec.stopBefore "k0_cond2" in sl_exec
  iapply (wp_wand_r Idealize.ShloMosaic.frame (wpE (defs₀ (F := F)) Variants.none (c : Thread nD τ) none) Set.univ)
  isplitl [H_arg11 H_arg12 H_arg14 H_arg15]
  · iapply (flush (F := F) c i arg11 harg11 arg12 harg12 arg14 arg15)
    isplitl [H_arg11]; · iexact H_arg11
    isplitl [H_arg12]; · iexact H_arg12
    isplitl [H_arg14]; · iexact H_arg14
    iexact H_arg15
  iintro %r ⟨H_arg11, H_arg12, H_arg14, H_arg15⟩
  isplitl [H_arg3]; · iexact H_arg3
  isplitl [H_arg10]; · iexact H_arg10
  isplitl [H_arg11]; · iexact H_arg11
  isplitl [H_arg12]; · iexact H_arg12
  isplitl [H_arg13]; · iexact H_arg13
  isplitl [H_arg14]; · iexact H_arg14
  isplitl [H_arg15]; · iexact H_arg15
  isplitl [H_arg16]; · iexact H_arg16
  iexact H_arg17

end Run

end Cert.Proof.Fox

end
-- ==== Proof.PointRun.lean ====
/-
  The run of the gradient kernel's body at one grid point, both of its conditionals decided by the point.
-/
module

public import proofs.«01_k».proof.Proof.Tail
public import proofs.«01_k».proof.Proof.Gen.KernelIdeal.Frame

@[expose] public section

set_option maxRecDepth 16384

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

attribute [local irreducible] View.writes

section Run

variable (c : Dev nD) (i : grid0.Coords) (arg2 : Memref sig .tc .vmem S256x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1x256x256 .f32) (harg5 : arg5.IsWhole) (arg6 : Memref sig .tc .vmem S1x8x8x256 .f32) (harg6 : arg6.IsWhole) (arg7 : Memref sig .tc .vmem S256x256 .f32) (harg7 : arg7.IsWhole) (arg8 : Memref sig .tc .vmem S1x256x256 .f32) (harg8 : arg8.IsWhole) (arg9 : Memref sig .tc .vmem S256x256 .f32) (harg9 : arg9.IsWhole) (arg10 : Memref sig .tc .vmem S256x256 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S1x8x8x256 .f32) (harg13 : arg13.IsWhole) (arg14 : Memref sig .tc .vmem S4x2048x64 .f32) (harg14 : arg14.IsWhole) (arg15 : Memref sig .tc .vmem S4x2048x64 .f32) (harg15 : arg15.IsWhole) (arg16 : Memref sig .tc .vmem S2x4x256x256 .bf16) (harg16 : arg16.IsWhole) (arg17 : Memref sig .tc .vmem S2x4x256x256 .bf16) (harg17 : arg17.IsWhole)

set_option maxHeartbeats 1000000 in
theorem point_run (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) :
    (iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12) ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15) ∗ (arg16.view.loc (c : Thread nD τ) ↦[arg16.view.set]{fullShare} f_arg16) ∗ (arg17.view.loc (c : Thread nD τ) ↦[arg17.view.set]{fullShare} f_arg17)) : sProp 𝕄)
      ⊢ wp frame (wpE (defs₀ (F := F)) Variants.none (c : Thread nD τ) none) Set.univ (cc0_fox_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
        (fun _ => iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9)
            ∗ (arg10.view.loc (c : Thread nD τ) ↦[arg10.view.set]{fullShare} (arg10.view.writes (Elt F) f_arg10 [⟨Rect.unit (s := S256x256) ![0, 0] S256x256.size inb_S256x256_S256x256_0_0, dqOut (point arg2 arg3 arg4 arg5 arg6 arg7 arg8 arg9 X_arg2 X_arg3 X_arg4 X_arg5 X_arg6 X_arg7 X_arg8 X_arg9 i (zero13 i f_arg13) (zero14 i f_arg14) (zero15 i f_arg15) f_arg16 f_arg17).acc⟩]))
            ∗ (arg11.view.loc (c : Thread nD τ) ↦[arg11.view.set]{fullShare} (if (i 1).val = 7 then arg11.view.writes (Elt F) f_arg11 [⟨Rect.unit (s := S2048x256) ![0, 0] S2048x256.size inb_S2048x256_S2048x256_0_0, dkOut arg14 (point arg2 arg3 arg4 arg5 arg6 arg7 arg8 arg9 X_arg2 X_arg3 X_arg4 X_arg5 X_arg6 X_arg7 X_arg8 X_arg9 i (zero13 i f_arg13) (zero14 i f_arg14) (zero15 i f_arg15) f_arg16 f_arg17).g14⟩] else f_arg11))
            ∗ (arg12.view.loc (c : Thread nD τ) ↦[arg12.view.set]{fullShare} (if (i 1).val = 7 then arg12.view.writes (Elt F) f_arg12 [⟨Rect.unit (s := S2048x256) ![0, 0] S2048x256.size inb_S2048x256_S2048x256_0_0, dvOut arg15 (point arg2 arg3 arg4 arg5 arg6 arg7 arg8 arg9 X_arg2 X_arg3 X_arg4 X_arg5 X_arg6 X_arg7 X_arg8 X_arg9 i (zero13 i f_arg13) (zero14 i f_arg14) (zero15 i f_arg15) f_arg16 f_arg17).g15⟩] else f_arg12))
            ∗ (arg13.view.loc (c : Thread nD τ) ↦[arg13.view.set]{fullShare} (point arg2 arg3 arg4 arg5 arg6 arg7 arg8 arg9 X_arg2 X_arg3 X_arg4 X_arg5 X_arg6 X_arg7 X_arg8 X_arg9 i (zero13 i f_arg13) (zero14 i f_arg14) (zero15 i f_arg15) f_arg16 f_arg17).g13)
            ∗ (arg14.view.loc (c : Thread nD τ) ↦[arg14.view.set]{fullShare} (point arg2 arg3 arg4 arg5 arg6 arg7 arg8 arg9 X_arg2 X_arg3 X_arg4 X_arg5 X_arg6 X_arg7 X_arg8 X_arg9 i (zero13 i f_arg13) (zero14 i f_arg14) (zero15 i f_arg15) f_arg16 f_arg17).g14)
            ∗ (arg15.view.loc (c : Thread nD τ) ↦[arg15.view.set]{fullShare} (point arg2 arg3 arg4 arg5 arg6 arg7 arg8 arg9 X_arg2 X_arg3 X_arg4 X_arg5 X_arg6 X_arg7 X_arg8 X_arg9 i (zero13 i f_arg13) (zero14 i f_arg14) (zero15 i f_arg15) f_arg16 f_arg17).g15)
            ∗ (arg16.view.loc (c : Thread nD τ) ↦[arg16.view.set]{fullShare} (point arg2 arg3 arg4 arg5 arg6 arg7 arg8 arg9 X_arg2 X_arg3 X_arg4 X_arg5 X_arg6 X_arg7 X_arg8 X_arg9 i (zero13 i f_arg13) (zero14 i f_arg14) (zero15 i f_arg15) f_arg16 f_arg17).g16)
            ∗ (arg17.view.loc (c : Thread nD τ) ↦[arg17.view.set]{fullShare} (point arg2 arg3 arg4 arg5 arg6 arg7 arg8 arg9 X_arg2 X_arg3 X_arg4 X_arg5 X_arg6 X_arg7 X_arg8 X_arg9 i (zero13 i f_arg13) (zero14 i f_arg14) (zero15 i f_arg15) f_arg16 f_arg17).g17))) := by
  have key : ∀ i : grid0.Coords, (k0_cond2 i = 1#1) ↔ (i 1).val = 7 := by decide +kernel
  have hi : (i 1).val < 8 := (i 1).isLt
  simp only [cc0_fox_bwd_eq_skeleton]; unfold cc0_fox_bwd_skel
  iintro ⟨H_arg2, H_arg3, H_arg4, H_arg5, H_arg6, H_arg7, H_arg8, H_arg9, H_arg10, H_arg11, H_arg12, H_arg13, H_arg14, H_arg15, H_arg16, H_arg17⟩
  rw [wp_bind]
  iapply (wp_wand_r Idealize.ShloMosaic.frame (wpE (defs₀ (F := F)) Variants.none (c : Thread nD τ) none) Set.univ)
  isplitl [H_arg2 H_arg5 H_arg13 H_arg14 H_arg15]
  · iapply (start (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg5 f_arg13 f_arg14 f_arg15)
    isplitl [H_arg2]; · iexact H_arg2
    isplitl [H_arg5]; · iexact H_arg5
    isplitl [H_arg13]; · iexact H_arg13
    isplitl [H_arg14]; · iexact H_arg14
    iexact H_arg15
  iintro %r ⟨H_arg2, H_arg5, H_arg13, H_arg14, H_arg15, %hr⟩
  subst hr
  generalize zero13 i f_arg13 = g_arg13
  generalize zero14 i f_arg14 = g_arg14
  generalize zero15 i f_arg15 = g_arg15
  set_option sl_exec.stopBefore "k0_part24" in sl_exec
  iapply (wp_wand_r Idealize.ShloMosaic.frame (wpE (defs₀ (F := F)) Variants.none (c : Thread nD τ) none) Set.univ)
  isplitl [H_arg3 H_arg10 H_arg11 H_arg12 H_arg13 H_arg14 H_arg15 H_arg16 H_arg17]
  · iapply (tail (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
      (qF (arg2.view.readAt (Elt F) (Rect.unit (s := S256x256) ![0, 0] S256x64.size inb_S256x256_S256x64_0_0).toLoadRect X_arg2))
      (qF (arg2.view.readAt (Elt F) (Rect.unit (s := S256x256) ![0, 64] S256x64.size inb_S256x256_S256x64_0_64).toLoadRect X_arg2))
      (qF (arg2.view.readAt (Elt F) (Rect.unit (s := S256x256) ![0, 128] S256x64.size inb_S256x256_S256x64_0_128).toLoadRect X_arg2))
      (qF (arg2.view.readAt (Elt F) (Rect.unit (s := S256x256) ![0, 192] S256x64.size inb_S256x256_S256x64_0_192).toLoadRect X_arg2))
      (truncf .bf16 (arg9.view.readAt (Elt F) (Rect.unit (s := S256x256) ![0, 0] S256x64.size inb_S256x256_S256x64_0_0).toLoadRect X_arg9) bitsLt_bf16_f32)
      (truncf .bf16 (arg9.view.readAt (Elt F) (Rect.unit (s := S256x256) ![0, 64] S256x64.size inb_S256x256_S256x64_0_64).toLoadRect X_arg9) bitsLt_bf16_f32)
      (truncf .bf16 (arg9.view.readAt (Elt F) (Rect.unit (s := S256x256) ![0, 128] S256x64.size inb_S256x256_S256x64_0_128).toLoadRect X_arg9) bitsLt_bf16_f32)
      (truncf .bf16 (arg9.view.readAt (Elt F) (Rect.unit (s := S256x256) ![0, 192] S256x64.size inb_S256x256_S256x64_0_192).toLoadRect X_arg9) bitsLt_bf16_f32)
      (lane (arg5.view.readAt (Elt F) (Rect.unit (s := S1x256x256) ![0, 0, 0] S1x256x1.size inb_S1x256x256_S1x256x1_0_0_0).toLoadRect X_arg5))
      (lane (arg5.view.readAt (Elt F) (Rect.unit (s := S1x256x256) ![0, 0, 64] S1x256x1.size inb_S1x256x256_S1x256x1_0_0_64).toLoadRect X_arg5))
      (lane (arg5.view.readAt (Elt F) (Rect.unit (s := S1x256x256) ![0, 0, 128] S1x256x1.size inb_S1x256x256_S1x256x1_0_0_128).toLoadRect X_arg5))
      (lane (arg5.view.readAt (Elt F) (Rect.unit (s := S1x256x256) ![0, 0, 192] S1x256x1.size inb_S1x256x256_S1x256x1_0_0_192).toLoadRect X_arg5))
      (lane (arg8.view.readAt (Elt F) (Rect.unit (s := S1x256x256) ![0, 0, 0] S1x256x1.size inb_S1x256x256_S1x256x1_0_0_0).toLoadRect X_arg8))
      (lane (arg8.view.readAt (Elt F) (Rect.unit (s := S1x256x256) ![0, 0, 64] S1x256x1.size inb_S1x256x256_S1x256x1_0_0_64).toLoadRect X_arg8))
      (lane (arg8.view.readAt (Elt F) (Rect.unit (s := S1x256x256) ![0, 0, 128] S1x256x1.size inb_S1x256x256_S1x256x1_0_0_128).toLoadRect X_arg8))
      (lane (arg8.view.readAt (Elt F) (Rect.unit (s := S1x256x256) ![0, 0, 192] S1x256x1.size inb_S1x256x256_S1x256x1_0_0_192).toLoadRect X_arg8))
      (deltaF (arg9.view.readAt (Elt F) (Rect.unit (s := S256x256) ![0, 0] S256x64.size inb_S256x256_S256x64_0_0).toLoadRect X_arg9) (arg7.view.readAt (Elt F) (Rect.unit (s := S256x256) ![0, 0] S256x64.size inb_S256x256_S256x64_0_0).toLoadRect X_arg7))
      (deltaF (arg9.view.readAt (Elt F) (Rect.unit (s := S256x256) ![0, 64] S256x64.size inb_S256x256_S256x64_0_64).toLoadRect X_arg9) (arg7.view.readAt (Elt F) (Rect.unit (s := S256x256) ![0, 64] S256x64.size inb_S256x256_S256x64_0_64).toLoadRect X_arg7))
      (deltaF (arg9.view.readAt (Elt F) (Rect.unit (s := S256x256) ![0, 128] S256x64.size inb_S256x256_S256x64_0_128).toLoadRect X_arg9) (arg7.view.readAt (Elt F) (Rect.unit (s := S256x256) ![0, 128] S256x64.size inb_S256x256_S256x64_0_128).toLoadRect X_arg7))
      (deltaF (arg9.view.readAt (Elt F) (Rect.unit (s := S256x256) ![0, 192] S256x64.size inb_S256x256_S256x64_0_192).toLoadRect X_arg9) (arg7.view.readAt (Elt F) (Rect.unit (s := S256x256) ![0, 192] S256x64.size inb_S256x256_S256x64_0_192).toLoadRect X_arg7))
      X_arg3 f_arg10 f_arg11 f_arg12
      (St.after (rowsIn arg2 arg5 arg7 arg8 arg9 X_arg2 X_arg5 X_arg7 X_arg8 X_arg9) arg3 arg4 arg6 X_arg3 X_arg4 X_arg6 i
        (diag arg3 arg4 arg6 X_arg3 X_arg4 X_arg6 i (rowsIn arg2 arg5 arg7 arg8 arg9 X_arg2 X_arg5 X_arg7 X_arg8 X_arg9) ⟨(zRow, zRow, zRow, zRow, zDq, zDq, zDq, zDq), g_arg13, g_arg14, g_arg15, f_arg16, f_arg17⟩)
        (k0_t1_loop i).trips))
    isplitl [H_arg3]; · iexact H_arg3
    isplitl [H_arg10]; · iexact H_arg10
    isplitl [H_arg11]; · iexact H_arg11
    isplitl [H_arg12]; · iexact H_arg12
    isplitl [H_arg13]; · iexact H_arg13
    isplitl [H_arg14]; · iexact H_arg14
    isplitl [H_arg15]; · iexact H_arg15
    isplitl [H_arg16]; · iexact H_arg16
    iexact H_arg17
  iintro %r ⟨H_arg3, H_arg10, H_arg11, H_arg12, H_arg13, H_arg14, H_arg15, H_arg16, H_arg17⟩
  isplitl [H_arg2]; · iexact H_arg2
  isplitl [H_arg3]; · iexact H_arg3
  isplitl [H_arg4]; · iexact H_arg4
  isplitl [H_arg5]; · iexact H_arg5
  isplitl [H_arg6]; · iexact H_arg6
  isplitl [H_arg7]; · iexact H_arg7
  isplitl [H_arg8]; · iexact H_arg8
  isplitl [H_arg9]; · iexact H_arg9
  isplitl [H_arg10]; · iexact H_arg10
  isplitl [H_arg11]; · iexact H_arg11
  isplitl [H_arg12]; · iexact H_arg12
  isplitl [H_arg13]; · iexact H_arg13
  isplitl [H_arg14]; · iexact H_arg14
  isplitl [H_arg15]; · iexact H_arg15
  isplitl [H_arg16]; · iexact H_arg16
  iexact H_arg17

end Run

end Cert.Proof.Fox

end
-- ==== Proof.Blocks.lean ====
/-
  The arrays the gradient kernel reads and writes, block by block: what a load of one block reads, and what four stores, one a
  head, leave of each block.
-/
module

public import proofs.«01_k».proof.Proof.Point
public import Idealize.ShloMosaic.Lib.VecWindow

@[expose] public section

set_option maxRecDepth 16384

noncomputable section

namespace Cert.Proof.Fox

open Cert.KernelIdeal Cert.KernelIdeal.Gen
open Idealize.ShloMosaic Idealize.ShloMosaic.TcCoe Idealize.ShloMosaic.Tactic

variable {F : FTy → Type} [FloatOps F]

theorem kvb_inb (h : Fin 4) (j : ℕ) : ∀ a, (![h.val, 256 * (j % 8), 0] : Fin 3 → ℕ) a + S1x256x64.size a ≤ S4x2048x64.size a := by
  have hj : j % 8 < 8 := Nat.mod_lt _ (by decide)
  have hh := h.isLt
  intro a
  match a with
  | 0 => show h.val + 1 ≤ 4; omega
  | 1 => show 256 * (j % 8) + 256 ≤ 2048; omega
  | 2 => show 0 + 64 ≤ 64; omega

theorem csb_inb (j : ℕ) (h : Fin 4) : ∀ a, (![0, j % 8, h.val, 0] : Fin 4 → ℕ) a + S1x1x1x256.size a ≤ S1x8x8x256.size a := by
  have hj : j % 8 < 8 := Nat.mod_lt _ (by decide)
  have hh := h.isLt
  intro a
  match a with
  | 0 => show 0 + 1 ≤ 1; omega
  | 1 => show j % 8 + 1 ≤ 8; omega
  | 2 => show h.val + 1 ≤ 8; omega
  | 3 => show 0 + 256 ≤ 256; omega

theorem slot_inb (b : ℕ) (h : Fin 4) : ∀ a, (![b % 2, h.val, 0, 0] : Fin 4 → ℕ) a + S1x1x256x256.size a ≤ S2x4x256x256.size a := by
  have hj : b % 2 < 2 := Nat.mod_lt _ (by decide)
  have hh := h.isLt
  intro a
  match a with
  | 0 => show b % 2 + 1 ≤ 2; omega
  | 1 => show h.val + 1 ≤ 4; omega
  | 2 => show 0 + 256 ≤ 256; omega
  | 3 => show 0 + 256 ≤ 256; omega

theorem rowb_inb (j : ℕ) : ∀ a, (![256 * (j % 8), 0] : Fin 2 → ℕ) a + S256x256.size a ≤ S2048x256.size a := by
  have hj : j % 8 < 8 := Nat.mod_lt _ (by decide)
  intro a
  match a with
  | 0 => show 256 * (j % 8) + 256 ≤ 2048; omega
  | 1 => show 0 + 256 ≤ 256; omega

/-- Head `h`'s rows of block `j` of an accumulator, -/
def kvb (x : Vec F S4x2048x64 .f32) (h : Fin 4) (j : ℕ) : Vec F S1x256x64 .f32 :=
  VecWindow.window x ![h.val, 256 * (j % 8), 0] S1x256x64.size (kvb_inb h j)
/-- its row of the decays at block `j`, -/
def csb (x : Vec F S1x8x8x256 .f32) (j : ℕ) (h : Fin 4) : Vec F S1x1x1x256 .f32 :=
  VecWindow.window x ![0, j % 8, h.val, 0] S1x1x1x256.size (csb_inb j h)
/-- its tile in half `b` of a two-slot scratch, -/
def slot (x : Vec F S2x4x256x256 .bf16) (b : ℕ) (h : Fin 4) : Vec F S1x1x256x256 .bf16 :=
  VecWindow.window x ![b % 2, h.val, 0, 0] S1x1x256x256.size (slot_inb b h)
/-- and the rows of block `j` of the keys or of the values. -/
def rowb (x : Vec F S2048x256 .bf16) (j : ℕ) : Vec F S256x256 .bf16 :=
  VecWindow.window x ![256 * (j % 8), 0] S256x256.size (rowb_inb j)

section Read

variable {sig' : RefSig} {κ : Kind} {sp : Space}

theorem read_kvb (v : View sig' κ sp S4x2048x64 .f32) (f : v.ty.Contents (Elt F)) {off : Fin 3 → ℕ} (inb : ∀ a, off a + S1x256x64.size a ≤ S4x2048x64.size a)
    (h : Fin 4) (j : ℕ) (e : off = ![h.val, 256 * j, 0]) (hj : j < 8) :
    v.readAt (Elt F) (Rect.unit (s := S4x2048x64) off S1x256x64.size inb).toLoadRect f = kvb (v.read (Elt F) f) h j :=
  v.readAt_unit f inb (e.trans (by rw [Nat.mod_eq_of_lt hj])) _

theorem read_csb (v : View sig' κ sp S1x8x8x256 .f32) (f : v.ty.Contents (Elt F)) {off : Fin 4 → ℕ} (inb : ∀ a, off a + S1x1x1x256.size a ≤ S1x8x8x256.size a)
    (h : Fin 4) (j : ℕ) (e : off = ![0, j, h.val, 0]) (hj : j < 8) :
    v.readAt (Elt F) (Rect.unit (s := S1x8x8x256) off S1x1x1x256.size inb).toLoadRect f = csb (v.read (Elt F) f) j h :=
  v.readAt_unit f inb (e.trans (by rw [Nat.mod_eq_of_lt hj])) _

theorem read_slot (v : View sig' κ sp S2x4x256x256 .bf16) (f : v.ty.Contents (Elt F)) {off : Fin 4 → ℕ} (inb : ∀ a, off a + S1x1x256x256.size a ≤ S2x4x256x256.size a)
    (h : Fin 4) (b : ℕ) (e : off = ![b % 2, h.val, 0, 0]) :
    v.readAt (Elt F) (Rect.unit (s := S2x4x256x256) off S1x1x256x256.size inb).toLoadRect f = slot (v.read (Elt F) f) b h :=
  v.readAt_unit f inb e _

theorem read_rowb (v : View sig' κ sp S2048x256 .bf16) (f : v.ty.Contents (Elt F)) {off : Fin 2 → ℕ} (inb : ∀ a, off a + S256x256.size a ≤ S2048x256.size a)
    (j : ℕ) (e : off = ![256 * j, 0]) (hj : j < 8) :
    v.readAt (Elt F) (Rect.unit (s := S2048x256) off S256x256.size inb).toLoadRect f = rowb (v.read (Elt F) f) j :=
  v.readAt_unit f inb (e.trans (by rw [Nat.mod_eq_of_lt hj])) _

/-- One store, read: the payload put over what the earlier stores left. -/
theorem read_put {s : Shape} {e : EltTy} (v : View sig' κ sp s e) (f : v.ty.Contents (Elt F)) {off off' size : Fin s.rank → ℕ}
    (inb : ∀ a, off a + size a ≤ s.size a) (w : (Rect.unit off size inb).shape.Idx → Elt F e) (L : List (View.Piece (Elt F) s e)) (h : off = off') :
    v.read (Elt F) (v.writes (Elt F) f (⟨Rect.unit off size inb, w⟩ :: L)) = VecWindow.put (v.read (Elt F) (v.writes (Elt F) f L)) off' size w :=
  funext fun y => v.read_writes_cons_unit f inb w L y h

/-- The four heads' stores into block `j₀` of an accumulator. -/
theorem kvb_writes (v : View sig' κ sp S4x2048x64 .f32) (f : v.ty.Contents (Elt F)) {o₀ o₁ o₂ o₃ : Fin 3 → ℕ}
    (b₀ : ∀ a, o₀ a + S1x256x64.size a ≤ S4x2048x64.size a) (b₁ : ∀ a, o₁ a + S1x256x64.size a ≤ S4x2048x64.size a)
    (b₂ : ∀ a, o₂ a + S1x256x64.size a ≤ S4x2048x64.size a) (b₃ : ∀ a, o₃ a + S1x256x64.size a ≤ S4x2048x64.size a)
    (w : Fin 4 → Vec F S1x256x64 .f32) (j₀ : ℕ) (hj₀ : j₀ < 8)
    (e₀ : o₀ = ![0, 256 * j₀, 0]) (e₁ : o₁ = ![1, 256 * j₀, 0]) (e₂ : o₂ = ![2, 256 * j₀, 0]) (e₃ : o₃ = ![3, 256 * j₀, 0])
    (h : Fin 4) (j : ℕ) (hj : j < 8) :
    kvb (v.read (Elt F) (v.writes (Elt F) f [⟨Rect.unit (s := S4x2048x64) o₃ S1x256x64.size b₃, w 3⟩, ⟨Rect.unit (s := S4x2048x64) o₂ S1x256x64.size b₂, w 2⟩,
      ⟨Rect.unit (s := S4x2048x64) o₁ S1x256x64.size b₁, w 1⟩, ⟨Rect.unit (s := S4x2048x64) o₀ S1x256x64.size b₀, w 0⟩])) h j
      = if j = j₀ then w h else kvb (v.read (Elt F) f) h j := by
  rw [read_put v f b₃ _ _ e₃, read_put v f b₂ _ _ e₂, read_put v f b₁ _ _ e₁, read_put v f b₀ _ _ e₀, View.writes_nil]
  generalize v.read (Elt F) f = x
  by_cases hjj : j = j₀
  · rw [if_pos hjj]
    have e : ∀ k : Fin 4, (![k.val, 256 * j₀, 0] : Fin 3 → ℕ) = ![k.val, 256 * (j % 8), 0] := fun k => by rw [hjj, Nat.mod_eq_of_lt hj₀]
    have f0 := e 0; have f1 := e 1; have f2 := e 2; have f3 := e 3
    simp only [Fin.val_zero, Fin.val_one, Fin.val_two, show (3 : Fin 4).val = 3 from rfl] at f0 f1 f2 f3
    rw [f0, f1, f2, f3]
    unfold kvb
    match h with
    | 3 => exact VecWindow.window_put_same _ _ _ _ _
    | 2 => rw [VecWindow.window_put_of_disjoint _ _ _ _ _ _ _ 0 (Or.inl (Nat.le_of_ble_eq_true rfl))]; exact VecWindow.window_put_same _ _ _ _ _
    | 1 => rw [VecWindow.window_put_of_disjoint _ _ _ _ _ _ _ 0 (Or.inl (Nat.le_of_ble_eq_true rfl)), VecWindow.window_put_of_disjoint _ _ _ _ _ _ _ 0 (Or.inl (Nat.le_of_ble_eq_true rfl))]
           exact VecWindow.window_put_same _ _ _ _ _
    | 0 => rw [VecWindow.window_put_of_disjoint _ _ _ _ _ _ _ 0 (Or.inl (Nat.le_of_ble_eq_true rfl)), VecWindow.window_put_of_disjoint _ _ _ _ _ _ _ 0 (Or.inl (Nat.le_of_ble_eq_true rfl)),
             VecWindow.window_put_of_disjoint _ _ _ _ _ _ _ 0 (Or.inl (Nat.le_of_ble_eq_true rfl))]
           exact VecWindow.window_put_same _ _ _ _ _
  · rw [if_neg hjj]
    have hd : 256 * (j % 8) + 256 ≤ 256 * j₀ ∨ 256 * j₀ + 256 ≤ 256 * (j % 8) := by omega
    unfold kvb
    rw [VecWindow.window_put_of_disjoint _ _ _ _ _ _ _ 1 hd, VecWindow.window_put_of_disjoint _ _ _ _ _ _ _ 1 hd,
      VecWindow.window_put_of_disjoint _ _ _ _ _ _ _ 1 hd, VecWindow.window_put_of_disjoint _ _ _ _ _ _ _ 1 hd]

/-- Their stores into row `j₀` of the decays' gradient. -/
theorem csb_writes (v : View sig' κ sp S1x8x8x256 .f32) (f : v.ty.Contents (Elt F)) {o₀ o₁ o₂ o₃ : Fin 4 → ℕ}
    (b₀ : ∀ a, o₀ a + S1x1x1x256.size a ≤ S1x8x8x256.size a) (b₁ : ∀ a, o₁ a + S1x1x1x256.size a ≤ S1x8x8x256.size a)
    (b₂ : ∀ a, o₂ a + S1x1x1x256.size a ≤ S1x8x8x256.size a) (b₃ : ∀ a, o₃ a + S1x1x1x256.size a ≤ S1x8x8x256.size a)
    (w : Fin 4 → Vec F S1x1x1x256 .f32) (j₀ : ℕ) (hj₀ : j₀ < 8)
    (e₀ : o₀ = ![0, j₀, 0, 0]) (e₁ : o₁ = ![0, j₀, 1, 0]) (e₂ : o₂ = ![0, j₀, 2, 0]) (e₃ : o₃ = ![0, j₀, 3, 0])
    (j : ℕ) (h : Fin 4) (hj : j < 8) :
    csb (v.read (Elt F) (v.writes (Elt F) f [⟨Rect.unit (s := S1x8x8x256) o₃ S1x1x1x256.size b₃, w 3⟩, ⟨Rect.unit (s := S1x8x8x256) o₂ S1x1x1x256.size b₂, w 2⟩,
      ⟨Rect.unit (s := S1x8x8x256) o₁ S1x1x1x256.size b₁, w 1⟩, ⟨Rect.unit (s := S1x8x8x256) o₀ S1x1x1x256.size b₀, w 0⟩])) j h
      = if j = j₀ then w h else csb (v.read (Elt F) f) j h := by
  rw [read_put v f b₃ _ _ e₃, read_put v f b₂ _ _ e₂, read_put v f b₁ _ _ e₁, read_put v f b₀ _ _ e₀, View.writes_nil]
  generalize v.read (Elt F) f = x
  by_cases hjj : j = j₀
  · rw [if_pos hjj]
    have e : ∀ k : Fin 4, (![0, j₀, k.val, 0] : Fin 4 → ℕ) = ![0, j % 8, k.val, 0] := fun k => by rw [hjj, Nat.mod_eq_of_lt hj₀]
    have f0 := e 0; have f1 := e 1; have f2 := e 2; have f3 := e 3
    simp only [Fin.val_zero, Fin.val_one, Fin.val_two, show (3 : Fin 4).val = 3 from rfl] at f0 f1 f2 f3
    rw [f0, f1, f2, f3]
    unfold csb
    match h with
    | 3 => exact VecWindow.window_put_same _ _ _ _ _
    | 2 => rw [VecWindow.window_put_of_disjoint _ _ _ _ _ _ _ 2 (Or.inl (Nat.le_of_ble_eq_true rfl))]; exact VecWindow.window_put_same _ _ _ _ _
    | 1 => rw [VecWindow.window_put_of_disjoint _ _ _ _ _ _ _ 2 (Or.inl (Nat.le_of_ble_eq_true rfl)), VecWindow.window_put_of_disjoint _ _ _ _ _ _ _ 2 (Or.inl (Nat.le_of_ble_eq_true rfl))]
           exact VecWindow.window_put_same _ _ _ _ _
    | 0 => rw [VecWindow.window_put_of_disjoint _ _ _ _ _ _ _ 2 (Or.inl (Nat.le_of_ble_eq_true rfl)), VecWindow.window_put_of_disjoint _ _ _ _ _ _ _ 2 (Or.inl (Nat.le_of_ble_eq_true rfl)),
             VecWindow.window_put_of_disjoint _ _ _ _ _ _ _ 2 (Or.inl (Nat.le_of_ble_eq_true rfl))]
           exact VecWindow.window_put_same _ _ _ _ _
  · rw [if_neg hjj]
    have hd : j % 8 + 1 ≤ j₀ ∨ j₀ + 1 ≤ j % 8 := by omega
    unfold csb
    rw [VecWindow.window_put_of_disjoint _ _ _ _ _ _ _ 1 hd, VecWindow.window_put_of_disjoint _ _ _ _ _ _ _ 1 hd,
      VecWindow.window_put_of_disjoint _ _ _ _ _ _ _ 1 hd, VecWindow.window_put_of_disjoint _ _ _ _ _ _ _ 1 hd]

/-- Their stores into one half of a two-slot scratch, read back. -/
theorem slot_writes (v : View sig' κ sp S2x4x256x256 .bf16) (f : v.ty.Contents (Elt F)) {o₀ o₁ o₂ o₃ : Fin 4 → ℕ}
    (b₀ : ∀ a, o₀ a + S1x1x256x256.size a ≤ S2x4x256x256.size a) (b₁ : ∀ a, o₁ a + S1x1x256x256.size a ≤ S2x4x256x256.size a)
    (b₂ : ∀ a, o₂ a + S1x1x256x256.size a ≤ S2x4x256x256.size a) (b₃ : ∀ a, o₃ a + S1x1x256x256.size a ≤ S2x4x256x256.size a)
    (w : Fin 4 → Vec F S1x1x256x256 .bf16) (b : ℕ)
    (e₀ : o₀ = ![b % 2, 0, 0, 0]) (e₁ : o₁ = ![b % 2, 1, 0, 0]) (e₂ : o₂ = ![b % 2, 2, 0, 0]) (e₃ : o₃ = ![b % 2, 3, 0, 0])
    (h : Fin 4) :
    slot (v.read (Elt F) (v.writes (Elt F) f [⟨Rect.unit (s := S2x4x256x256) o₃ S1x1x256x256.size b₃, w 3⟩, ⟨Rect.unit (s := S2x4x256x256) o₂ S1x1x256x256.size b₂, w 2⟩,
      ⟨Rect.unit (s := S2x4x256x256) o₁ S1x1x256x256.size b₁, w 1⟩, ⟨Rect.unit (s := S2x4x256x256) o₀ S1x1x256x256.size b₀, w 0⟩])) b h = w h := by
  rw [read_put v f b₃ _ _ e₃, read_put v f b₂ _ _ e₂, read_put v f b₁ _ _ e₁, read_put v f b₀ _ _ e₀, View.writes_nil]
  generalize v.read (Elt F) f = x
  unfold slot
  match h with
  | 3 => exact VecWindow.window_put_same _ _ _ _ _
  | 2 => rw [VecWindow.window_put_of_disjoint _ _ _ _ _ _ _ 1 (Or.inl (Nat.le_of_ble_eq_true rfl))]; exact VecWindow.window_put_same _ _ _ _ _
  | 1 => rw [VecWindow.window_put_of_disjoint _ _ _ _ _ _ _ 1 (Or.inl (Nat.le_of_ble_eq_true rfl)), VecWindow.window_put_of_disjoint _ _ _ _ _ _ _ 1 (Or.inl (Nat.le_of_ble_eq_true rfl))]
         exact VecWindow.window_put_same _ _ _ _ _
  | 0 => rw [VecWindow.window_put_of_disjoint _ _ _ _ _ _ _ 1 (Or.inl (Nat.le_of_ble_eq_true rfl)), VecWindow.window_put_of_disjoint _ _ _ _ _ _ _ 1 (Or.inl (Nat.le_of_ble_eq_true rfl)),
           VecWindow.window_put_of_disjoint _ _ _ _ _ _ _ 1 (Or.inl (Nat.le_of_ble_eq_true rfl))]
         exact VecWindow.window_put_same _ _ _ _ _

end Read

/-! ## The point, block by block -/

/-- What a point's tiles are computed from. -/
structure Ops (F : FTy → Type) [FloatOps F] where
  w : Fin 4 → Rows F
  kb : ℕ → Vec F S256x256 .bf16
  vb : ℕ → Vec F S256x256 .bf16
  cr : ℕ → Fin 4 → Vec F S1x1x1x256 .f32

namespace Ops

variable (o : Ops F) (i : ℕ)

/-- Head `h`'s probabilities of row block `i` at column block `j`, masked on the diagonal, -/
def pt (j : ℕ) (h : Fin 4) : FVec F S256x256 .f32 :=
  if j = i then probD (o.w h) (col h (o.kb j)) (o.cr j h) else probF (o.w h) (col h (o.kb j)) (o.cr j h)
/-- and the gradient of its logits. -/
def dt (j : ℕ) (h : Fin 4) : FVec F S256x256 .f32 := gradF (o.w h) (o.pt i j h) (col h (o.vb j))
/-- The row sums over the column blocks from the diagonal's down, -/
def rows (h : Fin 4) : ℕ → FVec F S256x1 .f32
  | 0 => rowF zRow (o.dt i i h)
  | n + 1 => rowF (rows h n) (o.dt i (i - (n + 1)) h)
/-- and the gradient of the queries. -/
def dq (h : Fin 4) : ℕ → FVec F S256x64 .f32
  | 0 => zDq
  | n + 1 => dqF (dq h n) (col h (o.kb (i - n))) (slotF (o.dt i (i - n) h))
/-- What the point makes of the keys' gradient, -/
def dk (old : Fin 4 → ℕ → Vec F S1x256x64 .f32) (h : Fin 4) (j : ℕ) : Vec F S1x256x64 .f32 :=
  if j ≤ i then accF (o.w h).q (old h j) (slotF (o.dt i j h)) else old h j
/-- of the values' -/
def dv (old : Fin 4 → ℕ → Vec F S1x256x64 .f32) (h : Fin 4) (j : ℕ) : Vec F S1x256x64 .f32 :=
  if j ≤ i then accF (o.w h).dO (old h j) (slotF (o.pt i j h)) else old h j
/-- and of the decays'. -/
def cs (old : ℕ → Fin 4 → Vec F S1x1x1x256 .f32) (j : ℕ) (h : Fin 4) : Vec F S1x1x1x256 .f32 :=
  if j < i then colF (o.dt i j h) (old j h) else if j = i then lessF (o.rows i h i) (colF (o.dt i i h) (old i h)) else old j h

end Ops

end Cert.Proof.Fox

end
-- ==== Proof.Inv.lean ====
/-
  What the gradient kernel's loop has done after so many column blocks, block by block, and what the whole point does.
-/
module

public import proofs.«01_k».proof.Proof.Blocks

@[expose] public section

set_option maxRecDepth 16384

noncomputable section

namespace Cert.Proof.Fox

open Cert.KernelIdeal Cert.KernelIdeal.Gen
open Idealize.ShloMosaic Idealize.ShloMosaic.TcCoe Idealize.ShloMosaic.Tactic

variable {F : FTy → Type} [FloatOps F]

/-- A point's operands, off the buffers it reads. -/
def opsOf (w : Fin 4 → Rows F) (arg3 : Memref sig .tc .vmem S2048x256 .bf16) (arg4 : Memref sig .tc .vmem S2048x256 .bf16) (arg6 : Memref sig .tc .vmem S1x8x8x256 .f32) (X_arg3 : BufTy.Contents (Elt F) arg3.view.ty) (X_arg4 : BufTy.Contents (Elt F) arg4.view.ty) (X_arg6 : BufTy.Contents (Elt F) arg6.view.ty) : Ops F :=
  ⟨w, rowb (arg3.view.read (Elt F) X_arg3), rowb (arg4.view.read (Elt F) X_arg4), csb (arg6.view.read (Elt F) X_arg6)⟩

section Inv

variable (w : Fin 4 → Rows F) (arg3 : Memref sig .tc .vmem S2048x256 .bf16) (arg4 : Memref sig .tc .vmem S2048x256 .bf16) (arg6 : Memref sig .tc .vmem S1x8x8x256 .f32) {arg13 : Memref sig .tc .vmem S1x8x8x256 .f32} {arg14 : Memref sig .tc .vmem S4x2048x64 .f32} {arg15 : Memref sig .tc .vmem S4x2048x64 .f32} {arg16 : Memref sig .tc .vmem S2x4x256x256 .bf16} {arg17 : Memref sig .tc .vmem S2x4x256x256 .bf16} (X_arg3 : BufTy.Contents (Elt F) arg3.view.ty) (X_arg4 : BufTy.Contents (Elt F) arg4.view.ty) (X_arg6 : BufTy.Contents (Elt F) arg6.view.ty) (i : grid0.Coords)

theorem crowD_eq (h : Fin 4) : crowD arg6 X_arg6 i h = csb (arg6.view.read (Elt F) X_arg6) (i 1).val h := by
  have hi : (i 1).val < 8 := (i 1).isLt
  match h with
  | 0 => exact read_csb arg6.view X_arg6 (k0_off2_inb i) 0 _ (k0_off2_eq i) hi
  | 1 => exact read_csb arg6.view X_arg6 (k0_off3_inb i) 1 _ (k0_off3_eq i) hi
  | 2 => exact read_csb arg6.view X_arg6 (k0_off4_inb i) 2 _ (k0_off4_eq i) hi
  | 3 => exact read_csb arg6.view X_arg6 (k0_off5_inb i) 3 _ (k0_off5_eq i) hi

theorem ptileD_eq (h : Fin 4) : ptileD arg3 arg6 X_arg3 X_arg6 i w h = (opsOf w arg3 arg4 arg6 X_arg3 X_arg4 X_arg6).pt (i 1).val (i 1).val h := by
  have hi : (i 1).val < 8 := (i 1).isLt
  unfold ptileD Ops.pt opsOf
  rw [if_pos rfl, crowD_eq, read_rowb arg3.view X_arg3 (k0_off1_inb i) (i 1).val (k0_off1_eq i) hi]

theorem tileD_eq (h : Fin 4) : tileD arg3 arg4 arg6 X_arg3 X_arg4 X_arg6 i w h = (opsOf w arg3 arg4 arg6 X_arg3 X_arg4 X_arg6).dt (i 1).val (i 1).val h := by
  have hi : (i 1).val < 8 := (i 1).isLt
  unfold tileD Ops.dt
  rw [ptileD_eq w arg3 arg4 arg6 X_arg3 X_arg4 X_arg6, read_rowb arg4.view X_arg4 (k0_off1_inb i) (i 1).val (k0_off1_eq i) hi]
  rfl

variable (k : Fin (k0_t1_loop i).trips)

theorem trip_lt : k.val < (i 1).val := lt_of_lt_of_eq k.isLt (trips_eq i)

theorem crow_eq (h : Fin 4) : crow arg6 X_arg6 i k h = csb (arg6.view.read (Elt F) X_arg6) ((i 1).val - k.val - 1) h := by
  have hi : (i 1).val - k.val - 1 < 8 := lt_of_le_of_lt (by omega) (i 1).isLt
  match h with
  | 0 => exact read_csb arg6.view X_arg6 (k0_off16_inb i k) 0 _ (k0_off16_eq i k) hi
  | 1 => exact read_csb arg6.view X_arg6 (k0_off18_inb i k) 1 _ (k0_off18_eq i k) hi
  | 2 => exact read_csb arg6.view X_arg6 (k0_off20_inb i k) 2 _ (k0_off20_eq i k) hi
  | 3 => exact read_csb arg6.view X_arg6 (k0_off22_inb i k) 3 _ (k0_off22_eq i k) hi

theorem ptile_eq (h : Fin 4) : ptile w arg3 arg6 X_arg3 X_arg6 i k h = (opsOf w arg3 arg4 arg6 X_arg3 X_arg4 X_arg6).pt (i 1).val ((i 1).val - (k.val + 1)) h := by
  have hk := trip_lt i k
  have hi : (i 1).val - k.val - 1 < 8 := lt_of_le_of_lt (by omega) (i 1).isLt
  unfold ptile Ops.pt opsOf
  rw [if_neg (by omega), crow_eq, read_rowb arg3.view X_arg3 (k0_off15_inb i k) ((i 1).val - k.val - 1) (k0_off15_eq i k) hi, Nat.sub_sub]

theorem tile_eq (h : Fin 4) : tile w arg3 arg4 arg6 X_arg3 X_arg4 X_arg6 i k h = (opsOf w arg3 arg4 arg6 X_arg3 X_arg4 X_arg6).dt (i 1).val ((i 1).val - (k.val + 1)) h := by
  have hi : (i 1).val - k.val - 1 < 8 := lt_of_le_of_lt (by omega) (i 1).isLt
  unfold tile Ops.dt
  rw [ptile_eq w arg3 arg4 arg6 X_arg3 X_arg4 X_arg6, read_rowb arg4.view X_arg4 (k0_off15_inb i k) ((i 1).val - k.val - 1) (k0_off15_eq i k) hi, Nat.sub_sub]
  rfl

end Inv

/-- After `n` trips of row block `i`: the sums over the blocks so far; the tile last scored, in the scratch; the accumulators
    with every earlier one added; the column sums with it too. -/
structure Inv (o : Ops F) (i n : ℕ) {arg13 : Memref sig .tc .vmem S1x8x8x256 .f32} {arg14 : Memref sig .tc .vmem S4x2048x64 .f32} {arg15 : Memref sig .tc .vmem S4x2048x64 .f32} {arg16 : Memref sig .tc .vmem S2x4x256x256 .bf16} {arg17 : Memref sig .tc .vmem S2x4x256x256 .bf16} (x13 : Vec F S1x8x8x256 .f32) (x14 x15 : Vec F S4x2048x64 .f32) (s : St F arg13 arg14 arg15 arg16 arg17) : Prop where
  acc : s.acc = (o.rows i 0 n, o.rows i 1 n, o.rows i 2 n, o.rows i 3 n, o.dq i 0 n, o.dq i 1 n, o.dq i 2 n, o.dq i 3 n)
  p : ∀ h, slot (arg16.view.read (Elt F) s.g16) n h = slotF (o.pt i (i - n) h)
  d : ∀ h, slot (arg17.view.read (Elt F) s.g17) n h = slotF (o.dt i (i - n) h)
  k : ∀ h j, j < 8 → kvb (arg14.view.read (Elt F) s.g14) h j = if i - n < j ∧ j ≤ i then accF (o.w h).q (kvb x14 h j) (slotF (o.dt i j h)) else kvb x14 h j
  v : ∀ h j, j < 8 → kvb (arg15.view.read (Elt F) s.g15) h j = if i - n < j ∧ j ≤ i then accF (o.w h).dO (kvb x15 h j) (slotF (o.pt i j h)) else kvb x15 h j
  c : ∀ j h, j < 8 → csb (arg13.view.read (Elt F) s.g13) j h = if i - n ≤ j ∧ j ≤ i then colF (o.dt i j h) (csb x13 j h) else csb x13 j h

attribute [local irreducible] View.writes View.read slot csb kvb slotF accF colF lessF rowF dqF Ops.pt Ops.dt

section Steps

variable (w : Fin 4 → Rows F) (arg3 : Memref sig .tc .vmem S2048x256 .bf16) (arg4 : Memref sig .tc .vmem S2048x256 .bf16) (arg6 : Memref sig .tc .vmem S1x8x8x256 .f32) {arg13 : Memref sig .tc .vmem S1x8x8x256 .f32} {arg14 : Memref sig .tc .vmem S4x2048x64 .f32} {arg15 : Memref sig .tc .vmem S4x2048x64 .f32} {arg16 : Memref sig .tc .vmem S2x4x256x256 .bf16} {arg17 : Memref sig .tc .vmem S2x4x256x256 .bf16} (X_arg3 : BufTy.Contents (Elt F) arg3.view.ty) (X_arg4 : BufTy.Contents (Elt F) arg4.view.ty) (X_arg6 : BufTy.Contents (Elt F) arg6.view.ty) (i : grid0.Coords)

/-- The diagonal block establishes it. -/
theorem inv_diag (s : St F arg13 arg14 arg15 arg16 arg17) (hs : s.acc = (zRow, zRow, zRow, zRow, zDq, zDq, zDq, zDq)) :
    Inv (opsOf w arg3 arg4 arg6 X_arg3 X_arg4 X_arg6) (i 1).val 0 (arg13.view.read (Elt F) s.g13) (arg14.view.read (Elt F) s.g14) (arg15.view.read (Elt F) s.g15)
      (diag arg3 arg4 arg6 X_arg3 X_arg4 X_arg6 i w s) := by
  have hi : (i 1).val < 8 := (i 1).isLt
  have r0 := read_csb arg13.view s.g13 (k0_off2_inb i) 0 (i 1).val (k0_off2_eq i) hi
  have r1 := read_csb arg13.view s.g13 (k0_off3_inb i) 1 (i 1).val (k0_off3_eq i) hi
  have r2 := read_csb arg13.view s.g13 (k0_off4_inb i) 2 (i 1).val (k0_off4_eq i) hi
  have r3 := read_csb arg13.view s.g13 (k0_off5_inb i) 3 (i 1).val (k0_off5_eq i) hi
  unfold diag
  simp only [ptileD_eq w arg3 arg4 arg6 X_arg3 X_arg4 X_arg6, tileD_eq w arg3 arg4 arg6 X_arg3 X_arg4 X_arg6, r0, r1, r2, r3]
  refine ⟨rfl, fun h => ?_, fun h => ?_, fun h j hj => ?_, fun h j hj => ?_, fun j h hj => ?_⟩
  · exact (slot_writes arg16.view s.g16 _ _ _ _ (fun h => slotF ((opsOf w arg3 arg4 arg6 X_arg3 X_arg4 X_arg6).pt (i 1).val (i 1).val h)) 0 rfl rfl rfl rfl h)
  · exact (slot_writes arg17.view s.g17 _ _ _ _ (fun h => slotF ((opsOf w arg3 arg4 arg6 X_arg3 X_arg4 X_arg6).dt (i 1).val (i 1).val h)) 0 rfl rfl rfl rfl h)
  · rw [if_neg (by omega)]
  · rw [if_neg (by omega)]
  · refine (csb_writes arg13.view s.g13 _ _ _ _ (fun h => colF ((opsOf w arg3 arg4 arg6 X_arg3 X_arg4 X_arg6).dt (i 1).val (i 1).val h) (csb (arg13.view.read (Elt F) s.g13) (i 1).val h)) (i 1).val hi
      (k0_off2_eq i) (k0_off3_eq i) (k0_off4_eq i) (k0_off5_eq i) j h hj).trans ?_
    by_cases hji : j = (i 1).val
    · rw [if_pos hji, if_pos (by omega), hji]
    · rw [if_neg hji, if_neg (by omega)]

/-- A trip extends it by a block. -/
theorem inv_trip (k : Fin (k0_t1_loop i).trips) {x13 : Vec F S1x8x8x256 .f32} {x14 x15 : Vec F S4x2048x64 .f32} (s : St F arg13 arg14 arg15 arg16 arg17)
    (hs : Inv (opsOf w arg3 arg4 arg6 X_arg3 X_arg4 X_arg6) (i 1).val k.val x13 x14 x15 s) :
    Inv (opsOf w arg3 arg4 arg6 X_arg3 X_arg4 X_arg6) (i 1).val (k.val + 1) x13 x14 x15 (St.trip w arg3 arg4 arg6 X_arg3 X_arg4 X_arg6 i k s) := by
  have hi : (i 1).val < 8 := (i 1).isLt
  have hk := trip_lt i k
  have hc : (i 1).val - k.val - 1 < 8 := by omega
  have hb : (i 1).val - k.val < 8 := by omega
  have rc0 := read_csb arg13.view s.g13 (k0_off16_inb i k) 0 ((i 1).val - k.val - 1) (k0_off16_eq i k) hc
  have rc1 := read_csb arg13.view s.g13 (k0_off18_inb i k) 1 ((i 1).val - k.val - 1) (k0_off18_eq i k) hc
  have rc2 := read_csb arg13.view s.g13 (k0_off20_inb i k) 2 ((i 1).val - k.val - 1) (k0_off20_eq i k) hc
  have rc3 := read_csb arg13.view s.g13 (k0_off22_inb i k) 3 ((i 1).val - k.val - 1) (k0_off22_eq i k) hc
  have rk0 := read_kvb arg14.view s.g14 (k0_off8_inb i k) 0 ((i 1).val - k.val) (k0_off8_eq i k) hb
  have rk1 := read_kvb arg14.view s.g14 (k0_off10_inb i k) 1 ((i 1).val - k.val) (k0_off10_eq i k) hb
  have rk2 := read_kvb arg14.view s.g14 (k0_off12_inb i k) 2 ((i 1).val - k.val) (k0_off12_eq i k) hb
  have rk3 := read_kvb arg14.view s.g14 (k0_off14_inb i k) 3 ((i 1).val - k.val) (k0_off14_eq i k) hb
  have rv0 := read_kvb arg15.view s.g15 (k0_off8_inb i k) 0 ((i 1).val - k.val) (k0_off8_eq i k) hb
  have rv1 := read_kvb arg15.view s.g15 (k0_off10_inb i k) 1 ((i 1).val - k.val) (k0_off10_eq i k) hb
  have rv2 := read_kvb arg15.view s.g15 (k0_off12_inb i k) 2 ((i 1).val - k.val) (k0_off12_eq i k) hb
  have rv3 := read_kvb arg15.view s.g15 (k0_off14_inb i k) 3 ((i 1).val - k.val) (k0_off14_eq i k) hb
  have rp0 := read_slot arg16.view s.g16 (k0_off7_inb i k) 0 k.val (k0_off7_eq i k)
  have rp1 := read_slot arg16.view s.g16 (k0_off9_inb i k) 1 k.val (k0_off9_eq i k)
  have rp2 := read_slot arg16.view s.g16 (k0_off11_inb i k) 2 k.val (k0_off11_eq i k)
  have rp3 := read_slot arg16.view s.g16 (k0_off13_inb i k) 3 k.val (k0_off13_eq i k)
  have rd0 := read_slot arg17.view s.g17 (k0_off7_inb i k) 0 k.val (k0_off7_eq i k)
  have rd1 := read_slot arg17.view s.g17 (k0_off9_inb i k) 1 k.val (k0_off9_eq i k)
  have rd2 := read_slot arg17.view s.g17 (k0_off11_inb i k) 2 k.val (k0_off11_eq i k)
  have rd3 := read_slot arg17.view s.g17 (k0_off13_inb i k) 3 k.val (k0_off13_eq i k)
  have r3 := read_rowb arg3.view X_arg3 (k0_off6_inb i k) ((i 1).val - k.val) (k0_off6_eq i k) hb
  unfold St.trip next L13 L14 L15 L16 L17
  simp only [ptile_eq w arg3 arg4 arg6 X_arg3 X_arg4 X_arg6, tile_eq w arg3 arg4 arg6 X_arg3 X_arg4 X_arg6, r3,
    rc0, rc1, rc2, rc3, rk0, rk1, rk2, rk3, rv0, rv1, rv2, rv3, rp0, rp1, rp2, rp3, rd0, rd1, rd2, rd3, hs.acc, hs.p, hs.d]
  refine ⟨rfl, fun h => ?_, fun h => ?_, fun h j hj => ?_, fun h j hj => ?_, fun j h hj => ?_⟩
  · exact (slot_writes arg16.view s.g16 _ _ _ _ (fun h => slotF ((opsOf w arg3 arg4 arg6 X_arg3 X_arg4 X_arg6).pt (i 1).val ((i 1).val - (k.val + 1)) h)) (k.val + 1)
      (k0_off17_eq i k) (k0_off19_eq i k) (k0_off21_eq i k) (k0_off23_eq i k) h)
  · exact (slot_writes arg17.view s.g17 _ _ _ _ (fun h => slotF ((opsOf w arg3 arg4 arg6 X_arg3 X_arg4 X_arg6).dt (i 1).val ((i 1).val - (k.val + 1)) h)) (k.val + 1)
      (k0_off17_eq i k) (k0_off19_eq i k) (k0_off21_eq i k) (k0_off23_eq i k) h)
  · refine (kvb_writes arg14.view s.g14 _ _ _ _ (fun h => accF (w h).q (kvb (arg14.view.read (Elt F) s.g14) h ((i 1).val - k.val))
      (slotF ((opsOf w arg3 arg4 arg6 X_arg3 X_arg4 X_arg6).dt (i 1).val ((i 1).val - k.val) h))) ((i 1).val - k.val) hb
      (k0_off8_eq i k) (k0_off10_eq i k) (k0_off12_eq i k) (k0_off14_eq i k) h j hj).trans ?_
    by_cases hji : j = (i 1).val - k.val
    · rw [if_pos hji, if_pos (by omega), hs.k h _ hb, if_neg (by omega), hji]; rfl
    · rw [if_neg hji, hs.k h j hj]
      by_cases hg : (i 1).val - k.val < j ∧ j ≤ (i 1).val
      · rw [if_pos hg, if_pos (by omega)]
      · rw [if_neg hg, if_neg (by omega)]
  · refine (kvb_writes arg15.view s.g15 _ _ _ _ (fun h => accF (w h).dO (kvb (arg15.view.read (Elt F) s.g15) h ((i 1).val - k.val))
      (slotF ((opsOf w arg3 arg4 arg6 X_arg3 X_arg4 X_arg6).pt (i 1).val ((i 1).val - k.val) h))) ((i 1).val - k.val) hb
      (k0_off8_eq i k) (k0_off10_eq i k) (k0_off12_eq i k) (k0_off14_eq i k) h j hj).trans ?_
    by_cases hji : j = (i 1).val - k.val
    · rw [if_pos hji, if_pos (by omega), hs.v h _ hb, if_neg (by omega), hji]; rfl
    · rw [if_neg hji, hs.v h j hj]
      by_cases hg : (i 1).val - k.val < j ∧ j ≤ (i 1).val
      · rw [if_pos hg, if_pos (by omega)]
      · rw [if_neg hg, if_neg (by omega)]
  · refine (csb_writes arg13.view s.g13 _ _ _ _ (fun h => colF ((opsOf w arg3 arg4 arg6 X_arg3 X_arg4 X_arg6).dt (i 1).val ((i 1).val - (k.val + 1)) h)
      (csb (arg13.view.read (Elt F) s.g13) ((i 1).val - k.val - 1) h)) ((i 1).val - k.val - 1) hc
      (k0_off16_eq i k) (k0_off18_eq i k) (k0_off20_eq i k) (k0_off22_eq i k) j h hj).trans ?_
    by_cases hji : j = (i 1).val - k.val - 1
    · rw [if_pos hji, if_pos (by omega), hs.c _ h hc, if_neg (by omega), hji, Nat.sub_sub]
    · rw [if_neg hji, hs.c j h hj]
      by_cases hg : (i 1).val - k.val ≤ j ∧ j ≤ (i 1).val
      · rw [if_pos hg, if_pos (by omega)]
      · rw [if_neg hg, if_neg (by omega)]

/-- It holds after every trip. -/
theorem inv_after (s : St F arg13 arg14 arg15 arg16 arg17) {x13 : Vec F S1x8x8x256 .f32} {x14 x15 : Vec F S4x2048x64 .f32}
    (hs : Inv (opsOf w arg3 arg4 arg6 X_arg3 X_arg4 X_arg6) (i 1).val 0 x13 x14 x15 s) : ∀ n, n ≤ (k0_t1_loop i).trips →
    Inv (opsOf w arg3 arg4 arg6 X_arg3 X_arg4 X_arg6) (i 1).val n x13 x14 x15 (St.after w arg3 arg4 arg6 X_arg3 X_arg4 X_arg6 i s n)
  | 0, _ => hs
  | n + 1, h => by
    rw [show St.after w arg3 arg4 arg6 X_arg3 X_arg4 X_arg6 i s (n + 1) = _ from St.after_succ w arg3 arg4 arg6 X_arg3 X_arg4 X_arg6 i s ⟨n, h⟩]
    exact inv_trip w arg3 arg4 arg6 X_arg3 X_arg4 X_arg6 i ⟨n, h⟩ _ (inv_after s hs n (by omega))

/-- The whole point: what it leaves of the queries' sums, and of each block of the accumulators. -/
structure Done (o : Ops F) (i : ℕ) (x13 : Vec F S1x8x8x256 .f32) (x14 x15 : Vec F S4x2048x64 .f32) (s : St F arg13 arg14 arg15 arg16 arg17) : Prop where
  q : s.acc.2.2.2.2 = (o.dq i 0 (i + 1), o.dq i 1 (i + 1), o.dq i 2 (i + 1), o.dq i 3 (i + 1))
  k : ∀ h j, j < 8 → kvb (arg14.view.read (Elt F) s.g14) h j = o.dk i (kvb x14) h j
  v : ∀ h j, j < 8 → kvb (arg15.view.read (Elt F) s.g15) h j = o.dv i (kvb x15) h j
  c : ∀ j h, j < 8 → csb (arg13.view.read (Elt F) s.g13) j h = o.cs i (csb x13) j h

theorem done_last {x13 : Vec F S1x8x8x256 .f32} {x14 x15 : Vec F S4x2048x64 .f32} (s : St F arg13 arg14 arg15 arg16 arg17)
    (hs : Inv (opsOf w arg3 arg4 arg6 X_arg3 X_arg4 X_arg6) (i 1).val (i 1).val x13 x14 x15 s) :
    Done (opsOf w arg3 arg4 arg6 X_arg3 X_arg4 X_arg6) (i 1).val x13 x14 x15 (last arg3 X_arg3 i w s) := by
  have hi : (i 1).val < 8 := (i 1).isLt
  have h0 : (0 : ℕ) < 8 := by decide
  have rc0 := read_csb arg13.view s.g13 (k0_off2_inb i) 0 (i 1).val (k0_off2_eq i) hi
  have rc1 := read_csb arg13.view s.g13 (k0_off3_inb i) 1 (i 1).val (k0_off3_eq i) hi
  have rc2 := read_csb arg13.view s.g13 (k0_off4_inb i) 2 (i 1).val (k0_off4_eq i) hi
  have rc3 := read_csb arg13.view s.g13 (k0_off5_inb i) 3 (i 1).val (k0_off5_eq i) hi
  have rk0 := read_kvb arg14.view s.g14 inb_S4x2048x64_S1x256x64_0_0_0 0 0 rfl h0
  have rk1 := read_kvb arg14.view s.g14 inb_S4x2048x64_S1x256x64_1_0_0 1 0 rfl h0
  have rk2 := read_kvb arg14.view s.g14 inb_S4x2048x64_S1x256x64_2_0_0 2 0 rfl h0
  have rk3 := read_kvb arg14.view s.g14 inb_S4x2048x64_S1x256x64_3_0_0 3 0 rfl h0
  have rv0 := read_kvb arg15.view s.g15 inb_S4x2048x64_S1x256x64_0_0_0 0 0 rfl h0
  have rv1 := read_kvb arg15.view s.g15 inb_S4x2048x64_S1x256x64_1_0_0 1 0 rfl h0
  have rv2 := read_kvb arg15.view s.g15 inb_S4x2048x64_S1x256x64_2_0_0 2 0 rfl h0
  have rv3 := read_kvb arg15.view s.g15 inb_S4x2048x64_S1x256x64_3_0_0 3 0 rfl h0
  have rp0 := read_slot arg16.view s.g16 (k0_off42_inb i) 0 (i 1).val (k0_off42_eq i)
  have rp1 := read_slot arg16.view s.g16 (k0_off43_inb i) 1 (i 1).val (k0_off43_eq i)
  have rp2 := read_slot arg16.view s.g16 (k0_off44_inb i) 2 (i 1).val (k0_off44_eq i)
  have rp3 := read_slot arg16.view s.g16 (k0_off45_inb i) 3 (i 1).val (k0_off45_eq i)
  have rd0 := read_slot arg17.view s.g17 (k0_off42_inb i) 0 (i 1).val (k0_off42_eq i)
  have rd1 := read_slot arg17.view s.g17 (k0_off43_inb i) 1 (i 1).val (k0_off43_eq i)
  have rd2 := read_slot arg17.view s.g17 (k0_off44_inb i) 2 (i 1).val (k0_off44_eq i)
  have rd3 := read_slot arg17.view s.g17 (k0_off45_inb i) 3 (i 1).val (k0_off45_eq i)
  have r3 := read_rowb arg3.view X_arg3 inb_S2048x256_S256x256_0_0 0 rfl h0
  unfold last
  simp only [r3, rc0, rc1, rc2, rc3, rk0, rk1, rk2, rk3, rv0, rv1, rv2, rv3, rp0, rp1, rp2, rp3, rd0, rd1, rd2, rd3, hs.acc, hs.p, hs.d, Nat.sub_self]
  refine ⟨?_, fun h j hj => ?_, fun h j hj => ?_, fun j h hj => ?_⟩
  · simp only [Ops.dq, Nat.sub_self]; rfl
  · refine (kvb_writes arg14.view s.g14 _ _ _ _ (fun h => accF (w h).q (kvb (arg14.view.read (Elt F) s.g14) h 0)
      (slotF ((opsOf w arg3 arg4 arg6 X_arg3 X_arg4 X_arg6).dt (i 1).val 0 h))) 0 h0 rfl rfl rfl rfl h j hj).trans ?_
    unfold Ops.dk
    by_cases hji : j = 0
    · rw [if_pos hji, if_pos (by omega), hs.k h _ h0, if_neg (by omega), hji]; rfl
    · rw [if_neg hji, hs.k h j hj]
      by_cases hg : j ≤ (i 1).val
      · rw [if_pos hg, if_pos (by omega)]
      · rw [if_neg hg, if_neg (by omega)]
  · refine (kvb_writes arg15.view s.g15 _ _ _ _ (fun h => accF (w h).dO (kvb (arg15.view.read (Elt F) s.g15) h 0)
      (slotF ((opsOf w arg3 arg4 arg6 X_arg3 X_arg4 X_arg6).pt (i 1).val 0 h))) 0 h0 rfl rfl rfl rfl h j hj).trans ?_
    unfold Ops.dv
    by_cases hji : j = 0
    · rw [if_pos hji, if_pos (by omega), hs.v h _ h0, if_neg (by omega), hji]; rfl
    · rw [if_neg hji, hs.v h j hj]
      by_cases hg : j ≤ (i 1).val
      · rw [if_pos hg, if_pos (by omega)]
      · rw [if_neg hg, if_neg (by omega)]
  · refine (csb_writes arg13.view s.g13 _ _ _ _ (fun h => lessF ((opsOf w arg3 arg4 arg6 X_arg3 X_arg4 X_arg6).rows (i 1).val h (i 1).val)
      (csb (arg13.view.read (Elt F) s.g13) (i 1).val h)) (i 1).val hi
      (k0_off2_eq i) (k0_off3_eq i) (k0_off4_eq i) (k0_off5_eq i) j h hj).trans ?_
    unfold Ops.cs
    by_cases hji : j = (i 1).val
    · rw [if_pos hji, if_neg (by omega), if_pos hji, hs.c _ h hi, if_pos (by omega)]
    · rw [if_neg hji, hs.c j h hj]
      by_cases hg : j < (i 1).val
      · rw [if_pos hg, if_pos (by omega)]
      · rw [if_neg hg, if_neg hji, if_neg (by omega)]

end Steps

end Cert.Proof.Fox

end
-- ==== Proof.Data.lean ====
/-
  What the gradient kernel's group of points has accumulated before each point, block by block, from the blocks it reads alone.
-/
module

public import proofs.«01_k».proof.Proof.Inv
public import Idealize.ShloMosaic.Lib.ValueIdxCoords

@[expose] public section

set_option maxRecDepth 16384

noncomputable section

namespace Cert.Proof.Fox

open Cert.KernelIdeal Cert.KernelIdeal.Gen
open Idealize.ShloMosaic Idealize.ShloMosaic.TcCoe Idealize.ShloMosaic.Tactic

variable {F : FTy → Type} [FloatOps F]

/-! ## The rows of the decays' gradient no head owns -/

section Rest

variable {sig' : RefSig} {κ : Kind} {sp : Space}

/-- The four heads' stores leave the other four rows of every block. -/
theorem csb_writes_rest (v : View sig' κ sp S1x8x8x256 .f32) (f : v.ty.Contents (Elt F)) {o₀ o₁ o₂ o₃ : Fin 4 → ℕ}
    (b₀ : ∀ a, o₀ a + S1x1x1x256.size a ≤ S1x8x8x256.size a) (b₁ : ∀ a, o₁ a + S1x1x1x256.size a ≤ S1x8x8x256.size a)
    (b₂ : ∀ a, o₂ a + S1x1x1x256.size a ≤ S1x8x8x256.size a) (b₃ : ∀ a, o₃ a + S1x1x1x256.size a ≤ S1x8x8x256.size a)
    (w₀ w₁ w₂ w₃ : Vec F S1x1x1x256 .f32) (j₀ : ℕ)
    (e₀ : o₀ = ![0, j₀, 0, 0]) (e₁ : o₁ = ![0, j₀, 1, 0]) (e₂ : o₂ = ![0, j₀, 2, 0]) (e₃ : o₃ = ![0, j₀, 3, 0])
    (y : S1x8x8x256.Idx) (hy : 4 ≤ (y 2).val) :
    v.read (Elt F) (v.writes (Elt F) f [⟨Rect.unit (s := S1x8x8x256) o₃ S1x1x1x256.size b₃, w₃⟩, ⟨Rect.unit (s := S1x8x8x256) o₂ S1x1x1x256.size b₂, w₂⟩,
      ⟨Rect.unit (s := S1x8x8x256) o₁ S1x1x1x256.size b₁, w₁⟩, ⟨Rect.unit (s := S1x8x8x256) o₀ S1x1x1x256.size b₀, w₀⟩]) y
      = v.read (Elt F) f y := by
  rw [read_put v f b₃ _ _ e₃, read_put v f b₂ _ _ e₂, read_put v f b₁ _ _ e₁, read_put v f b₀ _ _ e₀, View.writes_nil]
  generalize v.read (Elt F) f = x
  have key : ∀ (k : ℕ) (hk : k < 4) (z : S1x8x8x256.Idx → Elt F .f32) (w : Vec F S1x1x1x256 .f32),
      VecWindow.put z (![0, j₀, k, 0] : Fin 4 → ℕ) S1x1x1x256.size w y = z y := fun k hk z w => by
    unfold VecWindow.put
    exact dif_neg fun h => by
      have h2 : (y 2).val < k + 1 := (h 2).2
      omega
  exact (key 3 (by decide) _ _).trans ((key 2 (by decide) _ _).trans ((key 1 (by decide) _ _).trans (key 0 (by decide) _ _)))

end Rest

section Steps

variable (w : Fin 4 → Rows F) (arg3 : Memref sig .tc .vmem S2048x256 .bf16) (arg4 : Memref sig .tc .vmem S2048x256 .bf16) (arg6 : Memref sig .tc .vmem S1x8x8x256 .f32) {arg13 : Memref sig .tc .vmem S1x8x8x256 .f32} {arg14 : Memref sig .tc .vmem S4x2048x64 .f32} {arg15 : Memref sig .tc .vmem S4x2048x64 .f32} {arg16 : Memref sig .tc .vmem S2x4x256x256 .bf16} {arg17 : Memref sig .tc .vmem S2x4x256x256 .bf16} (X_arg3 : BufTy.Contents (Elt F) arg3.view.ty) (X_arg4 : BufTy.Contents (Elt F) arg4.view.ty) (X_arg6 : BufTy.Contents (Elt F) arg6.view.ty) (i : grid0.Coords) (y : S1x8x8x256.Idx) (hy : 4 ≤ (y 2).val)
include hy

attribute [local irreducible] View.writes View.read

theorem rest_diag (s : St F arg13 arg14 arg15 arg16 arg17) :
    arg13.view.read (Elt F) (diag arg3 arg4 arg6 X_arg3 X_arg4 X_arg6 i w s).g13 y = arg13.view.read (Elt F) s.g13 y := by
  unfold diag
  exact csb_writes_rest arg13.view s.g13 _ _ _ _ _ _ _ _ (i 1).val (k0_off2_eq i) (k0_off3_eq i) (k0_off4_eq i) (k0_off5_eq i) y hy

theorem rest_trip (k : Fin (k0_t1_loop i).trips) (s : St F arg13 arg14 arg15 arg16 arg17) :
    arg13.view.read (Elt F) (St.trip w arg3 arg4 arg6 X_arg3 X_arg4 X_arg6 i k s).g13 y = arg13.view.read (Elt F) s.g13 y := by
  unfold St.trip next L13
  exact csb_writes_rest arg13.view s.g13 _ _ _ _ _ _ _ _ ((i 1).val - k.val - 1)
      (k0_off16_eq i k) (k0_off18_eq i k) (k0_off20_eq i k) (k0_off22_eq i k) y hy

theorem rest_after (s : St F arg13 arg14 arg15 arg16 arg17) : ∀ n, n ≤ (k0_t1_loop i).trips →
    arg13.view.read (Elt F) (St.after w arg3 arg4 arg6 X_arg3 X_arg4 X_arg6 i s n).g13 y = arg13.view.read (Elt F) s.g13 y
  | 0, _ => rfl
  | n + 1, h => by
    rw [show St.after w arg3 arg4 arg6 X_arg3 X_arg4 X_arg6 i s (n + 1) = _ from St.after_succ w arg3 arg4 arg6 X_arg3 X_arg4 X_arg6 i s ⟨n, h⟩]
    exact (rest_trip w arg3 arg4 arg6 X_arg3 X_arg4 X_arg6 i y hy ⟨n, h⟩ _).trans (rest_after s n (by omega))

theorem rest_last (s : St F arg13 arg14 arg15 arg16 arg17) :
    arg13.view.read (Elt F) (last arg3 X_arg3 i w s).g13 y = arg13.view.read (Elt F) s.g13 y := by
  unfold last
  exact csb_writes_rest arg13.view s.g13 _ _ _ _ _ _ _ _ (i 1).val (k0_off2_eq i) (k0_off3_eq i) (k0_off4_eq i) (k0_off5_eq i) y hy

end Steps

/-! ## A point from the blocks it reads -/

/-- The four heads' rows. -/
def rowsV (q : Vec F S256x256 .bf16) (cc : Vec F S1x256x256 .f32) (o : Vec F S256x256 .f32) (lse : Vec F S1x256x256 .f32) (dO : Vec F S256x256 .f32) :
    Fin 4 → Rows F :=
  rowsOf (qF (VecWindow.window q ![0, 0] S256x64.size inb_S256x256_S256x64_0_0)) (qF (VecWindow.window q ![0, 64] S256x64.size inb_S256x256_S256x64_0_64)) (qF (VecWindow.window q ![0, 128] S256x64.size inb_S256x256_S256x64_0_128)) (qF (VecWindow.window q ![0, 192] S256x64.size inb_S256x256_S256x64_0_192))
    (truncf .bf16 (VecWindow.window dO ![0, 0] S256x64.size inb_S256x256_S256x64_0_0) bitsLt_bf16_f32) (truncf .bf16 (VecWindow.window dO ![0, 64] S256x64.size inb_S256x256_S256x64_0_64) bitsLt_bf16_f32) (truncf .bf16 (VecWindow.window dO ![0, 128] S256x64.size inb_S256x256_S256x64_0_128) bitsLt_bf16_f32) (truncf .bf16 (VecWindow.window dO ![0, 192] S256x64.size inb_S256x256_S256x64_0_192) bitsLt_bf16_f32)
    (lane (VecWindow.window cc ![0, 0, 0] S1x256x1.size inb_S1x256x256_S1x256x1_0_0_0)) (lane (VecWindow.window cc ![0, 0, 64] S1x256x1.size inb_S1x256x256_S1x256x1_0_0_64)) (lane (VecWindow.window cc ![0, 0, 128] S1x256x1.size inb_S1x256x256_S1x256x1_0_0_128)) (lane (VecWindow.window cc ![0, 0, 192] S1x256x1.size inb_S1x256x256_S1x256x1_0_0_192))
    (lane (VecWindow.window lse ![0, 0, 0] S1x256x1.size inb_S1x256x256_S1x256x1_0_0_0)) (lane (VecWindow.window lse ![0, 0, 64] S1x256x1.size inb_S1x256x256_S1x256x1_0_0_64)) (lane (VecWindow.window lse ![0, 0, 128] S1x256x1.size inb_S1x256x256_S1x256x1_0_0_128)) (lane (VecWindow.window lse ![0, 0, 192] S1x256x1.size inb_S1x256x256_S1x256x1_0_0_192))
    (deltaF (VecWindow.window dO ![0, 0] S256x64.size inb_S256x256_S256x64_0_0) (VecWindow.window o ![0, 0] S256x64.size inb_S256x256_S256x64_0_0)) (deltaF (VecWindow.window dO ![0, 64] S256x64.size inb_S256x256_S256x64_0_64) (VecWindow.window o ![0, 64] S256x64.size inb_S256x256_S256x64_0_64)) (deltaF (VecWindow.window dO ![0, 128] S256x64.size inb_S256x256_S256x64_0_128) (VecWindow.window o ![0, 128] S256x64.size inb_S256x256_S256x64_0_128)) (deltaF (VecWindow.window dO ![0, 192] S256x64.size inb_S256x256_S256x64_0_192) (VecWindow.window o ![0, 192] S256x64.size inb_S256x256_S256x64_0_192))

/-- A point's operands. -/
def opsV (q : Vec F S256x256 .bf16) (k v : Vec F S2048x256 .bf16) (cc : Vec F S1x256x256 .f32) (cr : Vec F S1x8x8x256 .f32)
    (o : Vec F S256x256 .f32) (lse : Vec F S1x256x256 .f32) (dO : Vec F S256x256 .f32) : Ops F :=
  ⟨rowsV q cc o lse dO, rowb k, rowb v, csb cr⟩

section Point

variable (arg2 : Memref sig .tc .vmem S256x256 .bf16) (arg3 : Memref sig .tc .vmem S2048x256 .bf16) (arg4 : Memref sig .tc .vmem S2048x256 .bf16) (arg5 : Memref sig .tc .vmem S1x256x256 .f32) (arg6 : Memref sig .tc .vmem S1x8x8x256 .f32) (arg7 : Memref sig .tc .vmem S256x256 .f32) (arg8 : Memref sig .tc .vmem S1x256x256 .f32) (arg9 : Memref sig .tc .vmem S256x256 .f32) {arg13 : Memref sig .tc .vmem S1x8x8x256 .f32} {arg14 : Memref sig .tc .vmem S4x2048x64 .f32} {arg15 : Memref sig .tc .vmem S4x2048x64 .f32} {arg16 : Memref sig .tc .vmem S2x4x256x256 .bf16} {arg17 : Memref sig .tc .vmem S2x4x256x256 .bf16} (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (i : grid0.Coords)

theorem rowsIn_eq : rowsIn arg2 arg5 arg7 arg8 arg9 X_arg2 X_arg5 X_arg7 X_arg8 X_arg9
    = rowsV (arg2.view.read (Elt F) X_arg2) (arg5.view.read (Elt F) X_arg5) (arg7.view.read (Elt F) X_arg7) (arg8.view.read (Elt F) X_arg8) (arg9.view.read (Elt F) X_arg9) := rfl

/-- The whole point, block by block. -/
theorem point_done (g13 : BufTy.Contents (Elt F) arg13.view.ty) (g14 : BufTy.Contents (Elt F) arg14.view.ty) (g15 : BufTy.Contents (Elt F) arg15.view.ty)
    (g16 : BufTy.Contents (Elt F) arg16.view.ty) (g17 : BufTy.Contents (Elt F) arg17.view.ty) :
    Done (opsV (arg2.view.read (Elt F) X_arg2) (arg3.view.read (Elt F) X_arg3) (arg4.view.read (Elt F) X_arg4) (arg5.view.read (Elt F) X_arg5)
        (arg6.view.read (Elt F) X_arg6) (arg7.view.read (Elt F) X_arg7) (arg8.view.read (Elt F) X_arg8) (arg9.view.read (Elt F) X_arg9)) (i 1).val
      (arg13.view.read (Elt F) g13) (arg14.view.read (Elt F) g14) (arg15.view.read (Elt F) g15)
      (point arg2 arg3 arg4 arg5 arg6 arg7 arg8 arg9 X_arg2 X_arg3 X_arg4 X_arg5 X_arg6 X_arg7 X_arg8 X_arg9 i g13 g14 g15 g16 g17) := by
  unfold point
  rw [rowsIn_eq]
  have h := inv_after (rowsV (arg2.view.read (Elt F) X_arg2) (arg5.view.read (Elt F) X_arg5) (arg7.view.read (Elt F) X_arg7) (arg8.view.read (Elt F) X_arg8) (arg9.view.read (Elt F) X_arg9))
    arg3 arg4 arg6 X_arg3 X_arg4 X_arg6 i _ (inv_diag (rowsV (arg2.view.read (Elt F) X_arg2) (arg5.view.read (Elt F) X_arg5) (arg7.view.read (Elt F) X_arg7) (arg8.view.read (Elt F) X_arg8) (arg9.view.read (Elt F) X_arg9))
      arg3 arg4 arg6 X_arg3 X_arg4 X_arg6 i (⟨(zRow, zRow, zRow, zRow, zDq, zDq, zDq, zDq), g13, g14, g15, g16, g17⟩ : St F arg13 arg14 arg15 arg16 arg17) rfl) (k0_t1_loop i).trips le_rfl
  have h' := h
  nth_rewrite 1 [trips_eq i] at h'
  exact done_last _ arg3 arg4 arg6 X_arg3 X_arg4 X_arg6 i _ h'

/-- It leaves the rows no head owns. -/
theorem point_rest (g13 : BufTy.Contents (Elt F) arg13.view.ty) (g14 : BufTy.Contents (Elt F) arg14.view.ty) (g15 : BufTy.Contents (Elt F) arg15.view.ty)
    (g16 : BufTy.Contents (Elt F) arg16.view.ty) (g17 : BufTy.Contents (Elt F) arg17.view.ty) (y : S1x8x8x256.Idx) (hy : 4 ≤ (y 2).val) :
    arg13.view.read (Elt F) (point arg2 arg3 arg4 arg5 arg6 arg7 arg8 arg9 X_arg2 X_arg3 X_arg4 X_arg5 X_arg6 X_arg7 X_arg8 X_arg9 i g13 g14 g15 g16 g17).g13 y = arg13.view.read (Elt F) g13 y := by
  unfold point
  refine (rest_last _ arg3 X_arg3 i y hy _).trans ((rest_after _ arg3 arg4 arg6 X_arg3 X_arg4 X_arg6 i y hy _ _ le_rfl).trans ?_)
  exact rest_diag _ arg3 arg4 arg6 X_arg3 X_arg4 X_arg6 i y hy _

end Point

/-! ## The arrays back from their blocks -/

/-- A head's accumulator from its blocks. -/
def headV (B : ℕ → Vec F S1x256x64 .f32) : Vec F S1x2048x64 .f32 :=
  fun x => B ((x 1).val / 256) (ValueIdx.ix3 (0 : Fin 1) (⟨(x 1).val % 256, Nat.mod_lt _ (by decide)⟩ : Fin 256) (x 2))

theorem headV_eq (X : Vec F S4x2048x64 .f32) (h : Fin 4) (B : ℕ → Vec F S1x256x64 .f32) (hB : ∀ j, j < 8 → kvb X h j = B j)
    (inb : ∀ a, (![h.val, 0, 0] : Fin 3 → ℕ) a + S1x2048x64.size a ≤ S4x2048x64.size a) :
    VecWindow.window X ![h.val, 0, 0] S1x2048x64.size inb = headV B := by
  funext x
  have h1 : (x 1).val < 2048 := (x 1).isLt
  have hj : (x 1).val / 256 < 8 := by omega
  unfold headV
  rw [← hB _ hj]
  unfold kvb VecWindow.window
  refine congrArg X (funext fun a => Fin.ext ?_)
  match a with
  | 0 => show h.val + 1 * (x 0).val = h.val + 1 * 0
         have : (x 0).val < 1 := (x 0).isLt
         omega
  | 1 => show 0 + 1 * (x 1).val = 256 * ((x 1).val / 256 % 8) + 1 * ((x 1).val % 256); omega
  | 2 => show 0 + 1 * (x 2).val = 0 + 1 * (x 2).val; rfl

/-- The decays' gradient from its rows: a head's from its blocks, the others `z`. -/
def decayV (C : ℕ → Fin 4 → Vec F S1x1x1x256 .f32) (z : Elt F .f32) : Vec F S1x8x8x256 .f32 :=
  fun y => if h : (y 2).val < 4 then C (y 1).val ⟨(y 2).val, h⟩ (ValueIdx.ix4 (0 : Fin 1) (0 : Fin 1) (0 : Fin 1) (y 3)) else z

theorem decayV_eq (X : Vec F S1x8x8x256 .f32) (C : ℕ → Fin 4 → Vec F S1x1x1x256 .f32) (z : Elt F .f32) (hC : ∀ j h, j < 8 → csb X j h = C j h)
    (hz : ∀ y : S1x8x8x256.Idx, 4 ≤ (y 2).val → X y = z) : X = decayV C z := by
  funext y
  unfold decayV
  by_cases h : (y 2).val < 4
  · have h1 : (y 1).val < 8 := (y 1).isLt
    rw [dif_pos h, ← hC _ _ h1]
    unfold csb VecWindow.window
    refine congrArg X (funext fun a => Fin.ext ?_)
    match a with
    | 0 => show (y 0).val = 0 + 1 * 0
           have : (y 0).val < 1 := (y 0).isLt
           omega
    | 1 => show (y 1).val = (y 1).val % 8 + 1 * 0; omega
    | 2 => show (y 2).val = (y 2).val + 1 * 0; omega
    | 3 => show (y 3).val = 0 + 1 * (y 3).val; omega
  · rw [dif_neg h]; exact hz y (by omega)

theorem csb_decayV (C : ℕ → Fin 4 → Vec F S1x1x1x256 .f32) (z : Elt F .f32) (j : ℕ) (h : Fin 4) (hj : j < 8) : csb (decayV C z) j h = C j h := by
  funext x
  have h0 : (x 0).val < 1 := (x 0).isLt
  have h1 : (x 1).val < 1 := (x 1).isLt
  have h2 : (x 2).val < 1 := (x 2).isLt
  have e0 : (x 0).val = 0 := by omega
  have e1 : (x 1).val = 0 := by omega
  have e2 : (x 2).val = 0 := by omega
  unfold csb VecWindow.window decayV
  have a1 : ((Rect.unit (s := S1x8x8x256) ![0, j % 8, h.val, 0] S1x1x1x256.size (csb_inb j h)).emb x 1).val = j := by
    show j % 8 + 1 * (x 1).val = j; omega
  have a2 : ((Rect.unit (s := S1x8x8x256) ![0, j % 8, h.val, 0] S1x1x1x256.size (csb_inb j h)).emb x 2).val = h.val := by
    show h.val + 1 * (x 2).val = h.val; omega
  rw [dif_pos (by rw [a2]; exact h.isLt)]
  rw [a1]
  have hh : (⟨((Rect.unit (s := S1x8x8x256) ![0, j % 8, h.val, 0] S1x1x1x256.size (csb_inb j h)).emb x 2).val, by rw [a2]; exact h.isLt⟩ : Fin 4) = h := Fin.ext a2
  rw [hh]
  refine congrArg (C j h) (funext fun a => Fin.ext ?_)
  match a with
  | 0 => show 0 = (x 0).val; omega
  | 1 => show 0 = (x 1).val; omega
  | 2 => show 0 = (x 2).val; omega
  | 3 => show 0 + 1 * (x 3).val = (x 3).val; omega

theorem decayV_rest (C : ℕ → Fin 4 → Vec F S1x1x1x256 .f32) (z : Elt F .f32) (y : S1x8x8x256.Idx) (hy : 4 ≤ (y 2).val) : decayV C z y = z :=
  dif_neg (by omega)

/-! ## Before each point of the grid -/

section Grid

variable (m : (ℓ : Loc nD τ sig) → Buf (Elt F) ℓ) (c : Dev nD)

/-- What point `t` reads. -/
def opsAt (t : Fin cfg0.N) : Ops F :=
  opsV (iblk m c 0 t) (iblk m c 1 t) (iblk m c 2 t) (iblk m c 3 t) (iblk m c 4 t) (iblk m c 5 t) (iblk m c 6 t) (iblk m c 7 t)

/-- The same at any number. -/
def opsN (t : ℕ) : Ops F := opsAt m c ⟨t % 16, lt_of_lt_of_eq (Nat.mod_lt _ (by decide)) N_0.symm⟩

theorem opsN_eq (t : Fin cfg0.N) : opsN m c t.val = opsAt m c t := by
  unfold opsN
  congr 1
  exact Fin.ext (Nat.mod_eq_of_lt (lt_of_lt_of_eq t.isLt N_0))

theorem coord1 : ∀ t : Fin cfg0.N, (grid0.coords t 1).val = t.val % 8 := by decide +kernel

/-- The rows no head owns. -/
def zRest : Elt F .f32 := Scalar.ofBits .f32 0x00000000#32

/-- The keys' accumulator before point `t`: zeros at a group's first, -/
def kStart (K : Fin 4 → ℕ → Vec F S1x256x64 .f32) (t : ℕ) : Fin 4 → ℕ → Vec F S1x256x64 .f32 := if t % 8 = 0 then kvb k0_pay86 else K
/-- the values', -/
def vStart (K : Fin 4 → ℕ → Vec F S1x256x64 .f32) (t : ℕ) : Fin 4 → ℕ → Vec F S1x256x64 .f32 := if t % 8 = 0 then kvb k0_pay87 else K
/-- the decays'. -/
def cStart (C : ℕ → Fin 4 → Vec F S1x1x1x256 .f32) (t : ℕ) : ℕ → Fin 4 → Vec F S1x1x1x256 .f32 := if t % 8 = 0 then csb k0_pay88 else C

/-- The keys' accumulator after the first `t` points, -/
def dkN : ℕ → Fin 4 → ℕ → Vec F S1x256x64 .f32
  | 0 => kvb k0_pay86
  | t + 1 => (opsN m c t).dk (t % 8) (kStart (dkN t) t)
/-- the values', -/
def dvN : ℕ → Fin 4 → ℕ → Vec F S1x256x64 .f32
  | 0 => kvb k0_pay87
  | t + 1 => (opsN m c t).dv (t % 8) (vStart (dvN t) t)
/-- the decays'. -/
def csN : ℕ → ℕ → Fin 4 → Vec F S1x1x1x256 .f32
  | 0 => csb k0_pay88
  | t + 1 => (opsN m c t).cs (t % 8) (cStart (csN t) t)

/-- What point `t` leaves in the four results' buffers: the queries' gradient, -/
def dqV (t : Fin cfg0.N) : Vec F S256x256 .bf16 :=
  k0_pay1 ((opsAt m c t).dq (t.val % 8) 1 (t.val % 8 + 1)) ((opsAt m c t).dq (t.val % 8) 2 (t.val % 8 + 1)) ((opsAt m c t).dq (t.val % 8) 3 (t.val % 8 + 1))
    (k0_pay171 ((opsAt m c t).dq (t.val % 8) 0 (t.val % 8 + 1)))
/-- the keys', stored at a group's last point, -/
def dkV (t : Fin cfg0.N) : Vec F S2048x256 .bf16 :=
  k0_pay2 (headV (dkN m c (t.val + 1) 0)) (headV (dkN m c (t.val + 1) 1)) (headV (dkN m c (t.val + 1) 2)) (headV (dkN m c (t.val + 1) 3))
/-- the values', -/
def dvV (t : Fin cfg0.N) : Vec F S2048x256 .bf16 :=
  k0_pay3 (headV (dvN m c (t.val + 1) 0)) (headV (dvN m c (t.val + 1) 1)) (headV (dvN m c (t.val + 1) 2)) (headV (dvN m c (t.val + 1) 3))
/-- the decays'. -/
def csV (n : ℕ) : Vec F S1x8x8x256 .f32 := decayV (csN m c n) zRest

end Grid

end Cert.Proof.Fox

end
-- ==== Proof.Owns.lean ====
/-
  One grid point of the gradient kernel by what its buffers hold, the region's proof data, and the body at every point.
-/
module

public import proofs.«01_k».proof.Proof.PointRun
public import proofs.«01_k».proof.Proof.Data

@[expose] public section

set_option maxRecDepth 16384

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-! ## What a point finds -/

section Found

variable (i : grid0.Coords)

theorem read_zero14 (arg14 : Memref sig .tc .vmem S4x2048x64 .f32) (f : BufTy.Contents (Elt F) arg14.view.ty) :
    arg14.view.read (Elt F) (zero14 i f) = if (i 1).val = 0 then k0_pay86 else arg14.view.read (Elt F) f := by
  unfold zero14
  by_cases h : (i 1).val = 0
  · rw [if_pos h, if_pos h]; exact View.read_writes_full arg14.view f _ _ _
  · rw [if_neg h, if_neg h]

theorem read_zero15 (arg15 : Memref sig .tc .vmem S4x2048x64 .f32) (f : BufTy.Contents (Elt F) arg15.view.ty) :
    arg15.view.read (Elt F) (zero15 i f) = if (i 1).val = 0 then k0_pay87 else arg15.view.read (Elt F) f := by
  unfold zero15
  by_cases h : (i 1).val = 0
  · rw [if_pos h, if_pos h]; exact View.read_writes_full arg15.view f _ _ _
  · rw [if_neg h, if_neg h]

theorem read_zero13 (arg13 : Memref sig .tc .vmem S1x8x8x256 .f32) (f : BufTy.Contents (Elt F) arg13.view.ty) :
    arg13.view.read (Elt F) (zero13 i f) = if (i 1).val = 0 then k0_pay88 else arg13.view.read (Elt F) f := by
  unfold zero13
  by_cases h : (i 1).val = 0
  · rw [if_pos h, if_pos h]; exact View.read_writes_full arg13.view f _ _ _
  · rw [if_neg h, if_neg h]

end Found

/-- A point's sums over the keys depend on the blocks it finds alone, -/
theorem dk_congr (o : Ops F) (i : ℕ) (A B : Fin 4 → ℕ → Vec F S1x256x64 .f32) (h : ∀ h j, j < 8 → A h j = B h j) (k : Fin 4) (j : ℕ) (hj : j < 8) :
    o.dk i A k j = o.dk i B k j := by
  unfold Ops.dk; rw [h k j hj]
/-- its sums over the values, -/
theorem dv_congr (o : Ops F) (i : ℕ) (A B : Fin 4 → ℕ → Vec F S1x256x64 .f32) (h : ∀ h j, j < 8 → A h j = B h j) (k : Fin 4) (j : ℕ) (hj : j < 8) :
    o.dv i A k j = o.dv i B k j := by
  unfold Ops.dv; rw [h k j hj]
/-- and the decays'. -/
theorem cs_congr (o : Ops F) (i : ℕ) (hi : i < 8) (A B : ℕ → Fin 4 → Vec F S1x1x1x256 .f32) (h : ∀ j h, j < 8 → A j h = B j h) (j : ℕ) (k : Fin 4) (hj : j < 8) :
    o.cs i A j k = o.cs i B j k := by
  unfold Ops.cs; rw [h j k hj, h i k hi]

theorem pay88_rest (y : S1x8x8x256.Idx) : (k0_pay88 (F := F)) y = zRest := rfl

theorem dqOut_eq (acc : Acc F) {a b c d : FVec F S256x64 .f32} (h : acc.2.2.2.2 = (a, b, c, d)) : dqOut acc = k0_pay1 b c d (k0_pay171 a) := by
  unfold dqOut; rw [h]

theorem dkOut_eq (arg14 : Memref sig .tc .vmem S4x2048x64 .f32) (g : BufTy.Contents (Elt F) arg14.view.ty) (K : Fin 4 → ℕ → Vec F S1x256x64 .f32)
    (h : ∀ k j, j < 8 → kvb (arg14.view.read (Elt F) g) k j = K k j) : dkOut arg14 g = (k0_pay2 (headV (K 0)) (headV (K 1)) (headV (K 2)) (headV (K 3))) := by
  unfold dkOut
  rw [← headV_eq (arg14.view.read (Elt F) g) 0 (K 0) (h 0) inb_S4x2048x64_S1x2048x64_0_0_0, ← headV_eq (arg14.view.read (Elt F) g) 1 (K 1) (h 1) inb_S4x2048x64_S1x2048x64_1_0_0,
    ← headV_eq (arg14.view.read (Elt F) g) 2 (K 2) (h 2) inb_S4x2048x64_S1x2048x64_2_0_0, ← headV_eq (arg14.view.read (Elt F) g) 3 (K 3) (h 3) inb_S4x2048x64_S1x2048x64_3_0_0]
  rfl

theorem dvOut_eq (arg15 : Memref sig .tc .vmem S4x2048x64 .f32) (g : BufTy.Contents (Elt F) arg15.view.ty) (K : Fin 4 → ℕ → Vec F S1x256x64 .f32)
    (h : ∀ k j, j < 8 → kvb (arg15.view.read (Elt F) g) k j = K k j) : dvOut arg15 g = (k0_pay3 (headV (K 0)) (headV (K 1)) (headV (K 2)) (headV (K 3))) := by
  unfold dvOut
  rw [← headV_eq (arg15.view.read (Elt F) g) 0 (K 0) (h 0) inb_S4x2048x64_S1x2048x64_0_0_0, ← headV_eq (arg15.view.read (Elt F) g) 1 (K 1) (h 1) inb_S4x2048x64_S1x2048x64_1_0_0,
    ← headV_eq (arg15.view.read (Elt F) g) 2 (K 2) (h 2) inb_S4x2048x64_S1x2048x64_2_0_0, ← headV_eq (arg15.view.read (Elt F) g) 3 (K 3) (h 3) inb_S4x2048x64_S1x2048x64_3_0_0]
  rfl

section Owns

variable (c : Dev nD) (i : grid0.Coords) (arg2 : Memref sig .tc .vmem S256x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1x256x256 .f32) (harg5 : arg5.IsWhole) (arg6 : Memref sig .tc .vmem S1x8x8x256 .f32) (harg6 : arg6.IsWhole) (arg7 : Memref sig .tc .vmem S256x256 .f32) (harg7 : arg7.IsWhole) (arg8 : Memref sig .tc .vmem S1x256x256 .f32) (harg8 : arg8.IsWhole) (arg9 : Memref sig .tc .vmem S256x256 .f32) (harg9 : arg9.IsWhole) (arg10 : Memref sig .tc .vmem S256x256 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S1x8x8x256 .f32) (harg13 : arg13.IsWhole) (arg14 : Memref sig .tc .vmem S4x2048x64 .f32) (harg14 : arg14.IsWhole) (arg15 : Memref sig .tc .vmem S4x2048x64 .f32) (harg15 : arg15.IsWhole) (arg16 : Memref sig .tc .vmem S2x4x256x256 .bf16) (harg16 : arg16.IsWhole) (arg17 : Memref sig .tc .vmem S2x4x256x256 .bf16) (harg17 : arg17.IsWhole)

set_option maxHeartbeats 1000000 in
/-- The whole point, from what its buffers hold to what it leaves in them: the accumulators by their blocks `K`, `V`, `C` after
    a group's first point, whatever they hold at it. -/
theorem point_owns (x2 : Vec F S256x256 .bf16) (x3 : Vec F S2048x256 .bf16) (x4 : Vec F S2048x256 .bf16) (x5 : Vec F S1x256x256 .f32) (x6 : Vec F S1x8x8x256 .f32) (x7 : Vec F S256x256 .f32) (x8 : Vec F S1x256x256 .f32) (x9 : Vec F S256x256 .f32) (x10 : Vec F S256x256 .bf16) (x11 : Vec F S2048x256 .bf16) (x12 : Vec F S2048x256 .bf16) (x13 : Vec F S1x8x8x256 .f32) (x14 : Vec F S4x2048x64 .f32) (x15 : Vec F S4x2048x64 .f32) (x16 : Vec F S2x4x256x256 .bf16) (x17 : Vec F S2x4x256x256 .bf16) (K V : Fin 4 → ℕ → Vec F S1x256x64 .f32) (C : ℕ → Fin 4 → Vec F S1x1x1x256 .f32)
    (hK : (i 1).val ≠ 0 → ∀ h j, j < 8 → kvb x14 h j = K h j) (hV : (i 1).val ≠ 0 → ∀ h j, j < 8 → kvb x15 h j = V h j) (hC : (i 1).val ≠ 0 → x13 = decayV C zRest) :
    (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17) : sProp 𝕄)
      ⊢ wp frame (wpE (defs₀ (F := F)) Variants.none (c : Thread nD τ) none) Set.univ (cc0_fox_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
        (fun _ => iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ owns (c : Thread nD τ) arg10 fullShare (k0_pay1 (((opsV x2 x3 x4 x5 x6 x7 x8 x9)).dq (i 1).val 1 ((i 1).val + 1)) (((opsV x2 x3 x4 x5 x6 x7 x8 x9)).dq (i 1).val 2 ((i 1).val + 1)) (((opsV x2 x3 x4 x5 x6 x7 x8 x9)).dq (i 1).val 3 ((i 1).val + 1)) (k0_pay171 (((opsV x2 x3 x4 x5 x6 x7 x8 x9)).dq (i 1).val 0 ((i 1).val + 1))))
            ∗ owns (c : Thread nD τ) arg11 fullShare (if (i 1).val = 7 then (k0_pay2 (headV ((((opsV x2 x3 x4 x5 x6 x7 x8 x9)).dk (i 1).val (if (i 1).val = 0 then kvb k0_pay86 else K)) 0)) (headV ((((opsV x2 x3 x4 x5 x6 x7 x8 x9)).dk (i 1).val (if (i 1).val = 0 then kvb k0_pay86 else K)) 1)) (headV ((((opsV x2 x3 x4 x5 x6 x7 x8 x9)).dk (i 1).val (if (i 1).val = 0 then kvb k0_pay86 else K)) 2)) (headV ((((opsV x2 x3 x4 x5 x6 x7 x8 x9)).dk (i 1).val (if (i 1).val = 0 then kvb k0_pay86 else K)) 3))) else x11)
            ∗ owns (c : Thread nD τ) arg12 fullShare (if (i 1).val = 7 then (k0_pay3 (headV ((((opsV x2 x3 x4 x5 x6 x7 x8 x9)).dv (i 1).val (if (i 1).val = 0 then kvb k0_pay87 else V)) 0)) (headV ((((opsV x2 x3 x4 x5 x6 x7 x8 x9)).dv (i 1).val (if (i 1).val = 0 then kvb k0_pay87 else V)) 1)) (headV ((((opsV x2 x3 x4 x5 x6 x7 x8 x9)).dv (i 1).val (if (i 1).val = 0 then kvb k0_pay87 else V)) 2)) (headV ((((opsV x2 x3 x4 x5 x6 x7 x8 x9)).dv (i 1).val (if (i 1).val = 0 then kvb k0_pay87 else V)) 3))) else x12)
            ∗ owns (c : Thread nD τ) arg13 fullShare (decayV (((opsV x2 x3 x4 x5 x6 x7 x8 x9)).cs (i 1).val (if (i 1).val = 0 then csb k0_pay88 else C)) zRest)
            ∗ ∃ (y14 y15 : Vec F S4x2048x64 .f32) (y16 y17 : Vec F S2x4x256x256 .bf16), ⌜(∀ h j, j < 8 → kvb y14 h j = (((opsV x2 x3 x4 x5 x6 x7 x8 x9)).dk (i 1).val (if (i 1).val = 0 then kvb k0_pay86 else K)) h j) ∧ ∀ h j, j < 8 → kvb y15 h j = (((opsV x2 x3 x4 x5 x6 x7 x8 x9)).dv (i 1).val (if (i 1).val = 0 then kvb k0_pay87 else V)) h j⌝ ∗ owns (c : Thread nD τ) arg14 fullShare y14 ∗ owns (c : Thread nD τ) arg15 fullShare y15 ∗ owns (c : Thread nD τ) arg16 fullShare y16 ∗ owns (c : Thread nD τ) arg17 fullShare y17)) := by
  have hi : (i 1).val < 8 := (i 1).isLt
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩⟩
  iapply (wp_wand_r Idealize.ShloMosaic.frame (wpE (defs₀ (F := F)) Variants.none (c : Thread nD τ) none) Set.univ)
  isplitl [H2 H3 H4 H5 H6 H7 H8 H9 H10 H11 H12 H13 H14 H15 H16 H17]
  · iapply (point_run (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  have D := point_done arg2 arg3 arg4 arg5 arg6 arg7 arg8 arg9 f2 f3 f4 f5 f6 f7 f8 f9 i (zero13 i f13) (zero14 i f14) (zero15 i f15) f16 f17
  have E := point_rest arg2 arg3 arg4 arg5 arg6 arg7 arg8 arg9 f2 f3 f4 f5 f6 f7 f8 f9 i (zero13 i f13) (zero14 i f14) (zero15 i f15) f16 f17
  rw [read_zero14, read_zero15, read_zero13] at D
  rw [read_zero13] at E
  rw [hf2, hf3, hf4, hf5, hf6, hf7, hf8, hf9, hf14, hf15, hf13] at D
  rw [hf13] at E
  generalize (point arg2 arg3 arg4 arg5 arg6 arg7 arg8 arg9 f2 f3 f4 f5 f6 f7 f8 f9 i (zero13 i f13) (zero14 i f14) (zero15 i f15) f16 f17) = P at D E ⊢
  have eK : ∀ h j, j < 8 → kvb (arg14.view.read (Elt F) P.g14) h j = (((opsV x2 x3 x4 x5 x6 x7 x8 x9)).dk (i 1).val (if (i 1).val = 0 then kvb k0_pay86 else K)) h j := fun h j hj => by
    rw [D.k h j hj]
    refine dk_congr _ _ _ _ (fun h j hj => ?_) h j hj
    by_cases h0 : (i 1).val = 0
    · rw [if_pos h0, if_pos h0]
    · rw [if_neg h0, if_neg h0]; exact hK h0 h j hj
  have eV : ∀ h j, j < 8 → kvb (arg15.view.read (Elt F) P.g15) h j = (((opsV x2 x3 x4 x5 x6 x7 x8 x9)).dv (i 1).val (if (i 1).val = 0 then kvb k0_pay87 else V)) h j := fun h j hj => by
    rw [D.v h j hj]
    refine dv_congr _ _ _ _ (fun h j hj => ?_) h j hj
    by_cases h0 : (i 1).val = 0
    · rw [if_pos h0, if_pos h0]
    · rw [if_neg h0, if_neg h0]; exact hV h0 h j hj
  have eC : arg13.view.read (Elt F) P.g13 = decayV (((opsV x2 x3 x4 x5 x6 x7 x8 x9)).cs (i 1).val (if (i 1).val = 0 then csb k0_pay88 else C)) zRest := by
    refine decayV_eq _ _ _ (fun j h hj => ?_) (fun y hy => ?_)
    · rw [D.c j h hj]
      refine cs_congr _ _ hi _ _ (fun j h hj => ?_) j h hj
      by_cases h0 : (i 1).val = 0
      · rw [if_pos h0, if_pos h0]
      · rw [if_neg h0, if_neg h0, hC h0]; exact csb_decayV C zRest j h hj
    · rw [E y hy]
      by_cases h0 : (i 1).val = 0
      · rw [if_pos h0]; exact pay88_rest y
      · rw [if_neg h0, hC h0]; exact decayV_rest C zRest y hy
  have eQ := dqOut_eq P.acc D.q
  have eKo := dkOut_eq arg14 P.g14 _ eK
  have eVo := dvOut_eq arg15 P.g15 _ eV
  iintro %r ⟨H2, H3, H4, H5, H6, H7, H8, H9, H10, H11, H12, H13, H14, H15, H16, H17⟩
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists f9; isplitr; · ipureintro; exact hf9
    iexact H9
  isplitl [H10]
  · iexists _; isplitr; swap; · iexact H10
    ipureintro; exact (View.read_writes_full arg10.view f10 _ _ _).trans eQ
  isplitl [H11]
  · iexists _; isplitr; swap; · iexact H11
    ipureintro
    by_cases h7 : (i 1).val = 7
    · rw [if_pos h7, if_pos h7]; exact (View.read_writes_full arg11.view f11 _ _ _).trans eKo
    · rw [if_neg h7, if_neg h7]; exact hf11
  isplitl [H12]
  · iexists _; isplitr; swap; · iexact H12
    ipureintro
    by_cases h7 : (i 1).val = 7
    · rw [if_pos h7, if_pos h7]; exact (View.read_writes_full arg12.view f12 _ _ _).trans eVo
    · rw [if_neg h7, if_neg h7]; exact hf12
  isplitl [H13]
  · iexists _; isplitr; swap; · iexact H13
    ipureintro; exact eC
  iexists (arg14.view.read (Elt F) P.g14), (arg15.view.read (Elt F) P.g15), (arg16.view.read (Elt F) P.g16), (arg17.view.read (Elt F) P.g17)
  isplitr; · ipureintro; exact ⟨eK, eV⟩
  isplitl [H14]
  · iexists _; isplitr; swap; · iexact H14
    ipureintro; rfl
  isplitl [H15]
  · iexists _; isplitr; swap; · iexact H15
    ipureintro; rfl
  isplitl [H16]
  · iexists _; isplitr; swap; · iexact H16
    ipureintro; rfl
  iexists _; isplitr; swap; · iexact H17
  ipureintro; rfl

end Owns

end Cert.Proof.Fox

end
-- ==== Proof.Run.lean ====
/-
  The region's proof data, the body at every point, and the run of the program.
-/
module

public import proofs.«01_k».proof.Proof.Owns

@[expose] public section

set_option maxRecDepth 16384

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the accumulators hold before point `n`, unless it opens a group. -/
def Held (c : Dev nD) (n : ℕ) (f14 f15 : Vec F S4x2048x64 .f32) : Prop :=
  n % 8 ≠ 0 → (∀ h j, j < 8 → kvb f14 h j = dkN m c n h j) ∧ ∀ h j, j < 8 → kvb f15 h j = dvN m c n h j

/-- The region's invariant before point `n`: the accumulators as the points before left them, the other scratch at anything. -/
def PhiS (c : Dev nD) (n : ℕ) (h : n ≤ cfg0.N) : sProp 𝕄 :=
  iprop(∃ (f14 f15 : Vec F S4x2048x64 .f32) (f16 f17 : Vec F S2x4x256x256 .bf16), ⌜Held m c n f14 f15⌝ ∗ (owns (c : Thread nD τ) (Memref.whole cc0_scratch0) fullShare f14 ∗ owns (c : Thread nD τ) (Memref.whole cc0_scratch1) fullShare f15 ∗ owns (c : Thread nD τ) (Memref.whole cc0_scratch2) fullShare f16 ∗ owns (c : Thread nD τ) (Memref.whole cc0_scratch3) fullShare f17) ∗ ∃ r, prngReg c r)

/-- The region's proof data: the arrays as the region finds them; after a point each input's buffer at its block, each result's at
    what the point leaves. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => dqV m c t
    | 9 => dkV m c t
    | 10 => dvV m c t
    | 11 => csV m c (t.val + 1)
  Φ t := PhiS m c t.val (Nat.le_of_lt_succ t.isLt)
  q w := Pipeline.shareOf spec0 w
  owed _ := 0

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem before_0 (c : Dev nD) (t : Fin cfg0.N) (d) : (dats m 0 c).before 0 t d = iblk m c 0 t :=
  before0_0_of m (dats m 0 c) (by dsimp only [dats]) (fun _ => by dsimp only [dats]) t d
theorem before_1 (c : Dev nD) (t : Fin cfg0.N) (d) : (dats m 0 c).before 1 t d = iblk m c 1 t :=
  before0_1_of m (dats m 0 c) (by dsimp only [dats]) (fun _ => by dsimp only [dats]) t d
theorem before_2 (c : Dev nD) (t : Fin cfg0.N) (d) : (dats m 0 c).before 2 t d = iblk m c 2 t :=
  before0_2_of m (dats m 0 c) (by dsimp only [dats]) (fun _ => by dsimp only [dats]) t d
theorem before_3 (c : Dev nD) (t : Fin cfg0.N) (d) : (dats m 0 c).before 3 t d = iblk m c 3 t :=
  before0_3_of m (dats m 0 c) (by dsimp only [dats]) (fun _ => by dsimp only [dats]) t d
theorem before_4 (c : Dev nD) (t : Fin cfg0.N) (d) : (dats m 0 c).before 4 t d = iblk m c 4 t :=
  before0_4_of m (dats m 0 c) (by dsimp only [dats]) (fun _ => by dsimp only [dats]) t d
theorem before_5 (c : Dev nD) (t : Fin cfg0.N) (d) : (dats m 0 c).before 5 t d = iblk m c 5 t :=
  before0_5_of m (dats m 0 c) (by dsimp only [dats]) (fun _ => by dsimp only [dats]) t d
theorem before_6 (c : Dev nD) (t : Fin cfg0.N) (d) : (dats m 0 c).before 6 t d = iblk m c 6 t :=
  before0_6_of m (dats m 0 c) (by dsimp only [dats]) (fun _ => by dsimp only [dats]) t d
theorem before_7 (c : Dev nD) (t : Fin cfg0.N) (d) : (dats m 0 c).before 7 t d = iblk m c 7 t :=
  before0_7_of m (dats m 0 c) (by dsimp only [dats]) (fun _ => by dsimp only [dats]) t d

/-- The decays' buffer, past a group's first point, holds what the point before left. -/
theorem before_11 (c : Dev nD) (t : Fin cfg0.N) (h : t.val % 8 ≠ 0) (d) : (dats m 0 c).before 11 t d = csV m c t.val := by
  have ht : t.val ≠ 0 := fun e => h (by rw [e])
  have hf : (cfg0.win 11).flush ⟨t.val - 1, Nat.lt_of_le_of_lt (Nat.sub_le _ _) t.isLt⟩ = false := by
    rw [Bool.eq_false_iff]
    intro e
    have : (t.val - 1) % 8 = 7 := (flush0_11 _).mp e
    omega
  rw [(dats m 0 c).before_out_kept 11 rfl t ht hf (fun _ => rfl) (fun _ _ => rfl) d]
  show csV m c (t.val - 1 + 1) = _
  rw [Nat.sub_add_cancel (Nat.pos_of_ne_zero ht)]

theorem idle_9 : ∀ t : Fin cfg0.N, idle0 9 (grid0.coords t) = decide (t.val % 8 ≠ 7) :=
  (by decide +kernel : ∀ t : Fin grid0.N, (!(k0_cond2 (grid0.coords t) == 1#1)) = decide (t.val % 8 ≠ 7))

/-! ## The body at a point -/

def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)))

def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ (match cfg0.idle 9 (cfg0.grid.coords t) with | true => (match (cfg0.win 9).flush t with | false => iprop(∃ d, owns (c : Thread nD τ) (st0_9 t) fullShare ((dats m 0 c).before 9 t d)) | true => owns (c : Thread nD τ) (st0_9 t) fullShare ((dats m 0 c).after 9 t)) | false => owns (c : Thread nD τ) (st0_9 t) fullShare ((dats m 0 c).after 9 t)) ∗ (match cfg0.idle 10 (cfg0.grid.coords t) with | true => (match (cfg0.win 10).flush t with | false => iprop(∃ d, owns (c : Thread nD τ) (st0_10 t) fullShare ((dats m 0 c).before 10 t d)) | true => owns (c : Thread nD τ) (st0_10 t) fullShare ((dats m 0 c).after 10 t)) | false => owns (c : Thread nD τ) (st0_10 t) fullShare ((dats m 0 c).after 10 t)) ∗ owns (c : Thread nD τ) (st0_11 t) fullShare ((dats m 0 c).after 11 t))

theorem kStart_dkN (c : Dev nD) (t : Fin cfg0.N) :
    (opsAt m c t).dk (t.val % 8) (if t.val % 8 = 0 then kvb k0_pay86 else dkN m c t.val) = dkN m c (t.val + 1) := by
  rw [← opsN_eq m c t]; rfl
theorem vStart_dvN (c : Dev nD) (t : Fin cfg0.N) :
    (opsAt m c t).dv (t.val % 8) (if t.val % 8 = 0 then kvb k0_pay87 else dvN m c t.val) = dvN m c (t.val + 1) := by
  rw [← opsN_eq m c t]; rfl
theorem cStart_csN (c : Dev nD) (t : Fin cfg0.N) :
    (opsAt m c t).cs (t.val % 8) (if t.val % 8 = 0 then csb k0_pay88 else csN m c t.val) = csN m c (t.val + 1) := by
  rw [← opsN_eq m c t]; rfl

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.succ = PhiS m c (t.val + 1) t.isLt from rfl, PhiS_castSucc m c t]
  simp only [before_0, before_1, before_2, before_3, before_4, before_5, before_6, before_7]
  unfold PhiS
  iintro ⟨⟨%f14, %f15, %f16, %f17, %hh, ⟨S14, S15, S16, S17⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (wp_wand_r Idealize.ShloMosaic.frame (wpE (defs₀ (F := F)) Variants.none (c : Thread nD τ) none) Set.univ)
  isplitl [H0 H1 H2 H3 H4 H5 H6 H7 H8 H9 H10 H11 S14 S15 S16 S17]
  · iapply (point_owns (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _)
      (iblk m c 0 t) (iblk m c 1 t) (iblk m c 2 t) (iblk m c 3 t) (iblk m c 4 t) (iblk m c 5 t) (iblk m c 6 t) (iblk m c 7 t) ((dats m 0 c).before 8 t d8) ((dats m 0 c).before 9 t d9) ((dats m 0 c).before 10 t d10) ((dats m 0 c).before 11 t d11) f14 f15 f16 f17 (dkN m c t.val) (dvN m c t.val) (csN m c t.val)
      (fun h => (hh (by rw [coord1] at h; exact h)).1) (fun h => (hh (by rw [coord1] at h; exact h)).2)
      (fun h => before_11 m c t (by rw [coord1] at h; exact h) d11))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S14]; · iexact S14
    isplitl [S15]; · iexact S15
    isplitl [S16]; · iexact S16
    iexact S17
  rw [coord1, show opsV (iblk m c 0 t) (iblk m c 1 t) (iblk m c 2 t) (iblk m c 3 t) (iblk m c 4 t) (iblk m c 5 t) (iblk m c 6 t) (iblk m c 7 t) = opsAt m c t from rfl, kStart_dkN, vStart_dvN, cStart_csN, idle_9]
  iintro %r ⟨H0, H1, H2, H3, H4, H5, H6, H7, H8, H9, H10, H11, %g14, %g15, %g16, %g17, %hg, S14, S15, S16, S17⟩
  isplitl [S14 S15 S16 S17 Hg]
  · iexists g14, g15, g16, g17
    isplitr; · ipureintro; exact fun _ => hg
    isplitl [S14 S15 S16 S17]
    · isplitl [S14]; · iexact S14
      isplitl [S15]; · iexact S15
      isplitl [S16]; · iexact S16
      iexact S17
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · by_cases h7 : t.val % 8 = 7
    · rw [if_pos h7, show decide (t.val % 8 ≠ 7) = false from decide_eq_false (fun h => h h7)]
      iexact H9
    · rw [if_neg h7, show decide (t.val % 8 ≠ 7) = true from decide_eq_true h7,
        show (win0 9).flush t = false from Bool.eq_false_iff.mpr (fun e => h7 ((flush0_9 t).mp e))]
      iexists d9
      iexact H9
  isplitl [H10]
  · by_cases h7 : t.val % 8 = 7
    · rw [if_pos h7, show decide (t.val % 8 ≠ 7) = false from decide_eq_false (fun h => h h7)]
      iexact H10
    · rw [if_neg h7, show decide (t.val % 8 ≠ 7) = true from decide_eq_true h7,
        show (win0 10).flush t = false from Bool.eq_false_iff.mpr (fun e => h7 ((flush0_10 t).mp e))]
      iexists d10
      iexact H10
  iexact H11

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem hin (c : Dev nD) : Pipeline.ΦA spec0 c ⊢ (dats m 0 c).Φ 0 := by
  rw [show (dats m 0 c).Φ 0 = PhiS m c 0 (Nat.zero_le _) from rfl]
  unfold PhiS Pipeline.ΦA
  rw [scopedRest0_eq]
  iintro ⟨⟨⟨%f14, S14⟩, ⟨%f15, S15⟩, ⟨%f16, S16⟩, ⟨%f17, S17⟩⟩, Hg⟩
  iexists f14, f15, f16, f17
  isplitr; · ipureintro; exact fun h => absurd rfl h
  isplitl [S14 S15 S16 S17]
  · isplitl [S14]; · rw [owns_whole]; iexact S14
    isplitl [S15]; · rw [owns_whole]; iexact S15
    isplitl [S16]; · rw [owns_whole]; iexact S16
    rw [owns_whole]; iexact S17
  iexact Hg

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  unfold PhiS Pipeline.ΦA
  rw [scopedRest0_eq]
  simp only [owns_whole]
  iintro ⟨%f14, %f15, %f16, %f17, -, ⟨S14, S15, S16, S17⟩, Hg⟩
  isplitl [S14 S15 S16 S17]
  · isplitl [S14]; · iexists f14; iexact S14
    isplitl [S15]; · iexists f15; iexact S15
    isplitl [S16]; · iexists f16; iexact S16
    iexists f17; iexact S17
  iexact Hg

/-- Every weakly fair run of the program ends, with each array at what the points left of it, every other array as the region found
    it, and no semaphore counted. -/
theorem run_main : θ_run (defs (F := F)) (onTc (τ := τ) (main (F := F))) (s₀ m ρ)
    (fun r => Pipeline.FramePost cfgs (dats m) 0 (V m) r ∧ r.2.sem = fun _ => 0) :=
  Pipeline.θ_run_frame_track_shared cfgs (dats m) (0 : Fin 1) launch₀0 defs₀ Variants.none m ρ (main (F := F))
    (fun c => (body_obligation m c).loose) (fun _ _ _ => rfl) (fun _ _ => rfl) (V m) (hmain m Variants.none) (fun _ _ => rfl)
    (hin m) (hout m) (Q' := fun r => Pipeline.FramePost cfgs (dats m) 0 (V m) r ∧ r.2.sem = fun _ => 0) (hQ' := fun _ h => h)

end Cert.Proof.Fox

end
-- ==== Proof.Same.lean ====
/-
  The two programs' function tables and host sequences are the same text.
-/
module

public import proofs.«01_k».proof.Kernel
public import proofs.«01_k».proof.KernelIdeal
public import proofs.«01_k».proof.Proof.Gen.Kernel
public import proofs.«01_k».proof.Proof.Gen.KernelIdeal

@[expose] public section

set_option maxHeartbeats 1000000

noncomputable section

namespace Cert.Proof.Fox

open Idealize.ShloMosaic Idealize.ShloMosaic.TcCoe

variable {F : FTy → Type} [FloatOps F]

theorem bodies_same : @Cert.Kernel.cc0_fox_bwd F _ _ = @Cert.KernelIdeal.cc0_fox_bwd F _ _ := id rfl

theorem mains_same : Cert.Kernel.main (F := F) = Cert.KernelIdeal.main (F := F) := id rfl

theorem tables_same : Cert.Kernel.defs₀ (F := F) = Cert.KernelIdeal.defs₀ (F := F) := by
  funext k
  cases k
  · unfold Cert.Kernel.defs₀ Cert.KernelIdeal.defs₀
    rw [Defs.onTc_tc, Defs.onTc_tc]
    funext ℓ a
    obtain ⟨n, hn⟩ := ℓ
    cases n with
    | zero => exact id rfl
    | succ n => exact absurd hn (by omega)
  all_goals exact id rfl

theorem defs_same : Cert.Kernel.defs (F := F) = Cert.KernelIdeal.defs (F := F) := by
  unfold Cert.Kernel.defs Cert.KernelIdeal.defs
  exact congrArg (Idealize.ShloMosaic.Pipeline.defs (Cert.KernelIdeal.pcfgs (F := F))) tables_same

end Cert.Proof.Fox

end
-- ==== Proof.Math.lean ====
/- The attention and its gradient over the reals: the formulas both programs are shown to compute, and the identities that
   join their two ways of writing them. -/
module

public import Idealize.ShloMosaic.Lib.Pointwise
public import Idealize.ShloMosaic.Lib.WordCmp

@[expose] public section

set_option maxRecDepth 16384

noncomputable section

namespace Cert.Proof.Fox

open Idealize.ShloMosaic

/-! ## Sums of reals among the extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

theorem exp_coe (x : ℝ) : Ideal.exp (x : EReal) = ((Real.exp x : ℝ) : EReal) := rfl
theorem exp_bot : Ideal.exp (⊥ : EReal) = 0 := rfl

theorem log_coe (x : ℝ) (hx : 0 < x) : Ideal.log (x : EReal) = ((Real.log x : ℝ) : EReal) := by
  show (if x ≤ 0 then (⊥ : EReal) else (Real.log x : EReal)) = _
  rw [if_neg (not_le.mpr hx)]

theorem lit_eighth : Ideal.ofBits .f32 0x3E000000#32 = ((1 / 8 : ℝ) : EReal) := by
  simp [Ideal.ofBits, Ideal.ieee, -EReal.coe_mul]
  norm_num

theorem lit_bot : Ideal.ofBits .f32 0xFF800000#32 = (⊥ : EReal) := by simp [Ideal.ofBits, Ideal.ieee]

/-- The causal mask picks by the order of the positions. -/
theorem select_sle {α : Type} {n : ℕ} (hn : n ≤ 2048) (s t : Fin n) (x y : α) :
    Scalar.select (IntOp.cmpi .sle (BitVec.ofNat 32 s.val) (BitVec.ofNat 32 t.val)) x y = if s ≤ t then x else y := by
  have hs := s.isLt
  have ht := t.isLt
  unfold Scalar.select
  exact if_congr ((WordCmp.cmpi_sle_ofNat_eq_one_iff (by omega) (by omega)).trans Iff.rfl) rfl rfl

/-- The positions in blocks of 256. -/
def row (j : ℕ) (r : Fin 256) : Fin 2048 := ⟨256 * (j % 8) + r.val, by have := r.isLt; have := Nat.mod_lt j (show 0 < 8 by decide); omega⟩

theorem row_val {j : ℕ} (hj : j < 8) (r : Fin 256) : (row j r).val = 256 * j + r.val := by
  unfold row
  simp only [Nat.mod_eq_of_lt hj]

theorem row_div_mod (s : Fin 2048) : row (s.val / 256) ⟨s.val % 256, Nat.mod_lt _ (by decide)⟩ = s := by
  have := s.isLt
  refine Fin.ext ?_
  rw [row_val (by omega)]
  show 256 * (s.val / 256) + s.val % 256 = s.val
  omega

theorem sum_rows (f : Fin 2048 → ℝ) : ∑ j ∈ Finset.range 8, ∑ r : Fin 256, f (row j r) = ∑ s : Fin 2048, f s := by
  rw [Finset.sum_range (f := fun j => ∑ r : Fin 256, f (row j r)), ← Fintype.sum_prod_type']
  refine Fintype.sum_equiv (finProdFinEquiv.trans (finCongr (by norm_num))) _ _ fun x => congrArg f (Fin.ext ?_)
  rw [row_val x.1.isLt]
  simp [finProdFinEquiv]
  omega

/-! ## The attention -/

/-- The queries, keys, values and cotangent of each head, and its decays. -/
structure Arg where
  Q : Fin 8 → Fin 2048 → Fin 64 → ℝ
  K : Fin 8 → Fin 2048 → Fin 64 → ℝ
  V : Fin 8 → Fin 2048 → Fin 64 → ℝ
  D : Fin 8 → Fin 2048 → Fin 64 → ℝ
  C : Fin 8 → Fin 2048 → ℝ

namespace Arg

variable (a : Arg) (h : Fin 8) (t s : Fin 2048) (d : Fin 64)

def S : ℝ := (∑ d, a.Q h t d * a.K h s d) * (1 / 8) + a.C h t - a.C h s
/-- The masked logits. -/
def lg : EReal := if s ≤ t then ((a.S h t s : ℝ) : EReal) else ⊥
def M : ℝ := (Finset.univ.fold max ⊥ (fun s => a.lg h t s) : EReal).toReal
def E : ℝ := if s ≤ t then Real.exp (a.S h t s - a.M h t) else 0
def L : ℝ := ∑ s, a.E h t s
def P : ℝ := a.E h t s / a.L h t
def LSE : ℝ := a.M h t + Real.log (a.L h t)
def O : ℝ := ∑ s, a.P h t s * a.V h s d
def DP : ℝ := ∑ d, a.D h t d * a.V h s d
def DEL : ℝ := ∑ d, a.D h t d * a.O h t d
def DS : ℝ := a.P h t s * (a.DP h t s - a.DEL h t)
def DQ : ℝ := (∑ s, a.DS h t s * a.K h s d) * (1 / 8)
def DK : ℝ := ∑ t, a.DS h t s * (a.Q h t d * (1 / 8))
def DV : ℝ := ∑ t, a.P h t s * a.D h t d
def NC : ℝ := ∑ t, a.DS h t s - ∑ s', a.DS h s s'

theorem coe_M : ((a.M h t : ℝ) : EReal) = Finset.univ.fold max ⊥ (fun s => a.lg h t s) := by
  have hb : ∀ s, a.lg h t s < ⊤ := fun s => by
    unfold lg; split
    · exact EReal.coe_lt_top _
    · exact bot_lt_top
  refine EReal.coe_toReal (ne_of_lt ?_) (ne_of_gt ?_)
  · exact (Finset.fold_max_lt ⊤).mpr ⟨bot_lt_top, fun s _ => hb s⟩
  · refine lt_of_lt_of_le (b := a.lg h t t) ?_ ((Finset.le_fold_max _).mpr (.inr ⟨t, Finset.mem_univ _, le_refl _⟩))
    unfold lg; rw [if_pos (le_refl t)]; exact EReal.bot_lt_coe _

theorem L_pos : 0 < a.L h t := by
  refine Finset.sum_pos' (fun s _ => ?_) ⟨t, Finset.mem_univ _, ?_⟩
  · unfold E; split
    · exact (Real.exp_pos _).le
    · exact le_refl _
  · unfold E; rw [if_pos (le_refl t)]; exact Real.exp_pos _

theorem L_ne : a.L h t ≠ 0 := (a.L_pos h t).ne'

theorem exp_lg : Ideal.exp (a.lg h t s - (a.M h t : EReal)) = ((a.E h t s : ℝ) : EReal) := by
  unfold lg E
  split
  · rw [← EReal.coe_sub, exp_coe]
  · rw [EReal.bot_sub, exp_bot, EReal.coe_zero]

theorem exp_lse : Ideal.exp (a.lg h t s - (a.LSE h t : EReal)) = ((a.P h t s : ℝ) : EReal) := by
  unfold lg P E LSE
  split
  · rw [← EReal.coe_sub, exp_coe, ← sub_sub, Real.exp_sub _ (Real.log _), Real.exp_log (a.L_pos h t)]
  · rw [EReal.bot_sub, exp_bot, zero_div, EReal.coe_zero]

theorem P_zero (hs : ¬ s ≤ t) : a.P h t s = 0 := by unfold P E; rw [if_neg hs, zero_div]
theorem DS_zero (hs : ¬ s ≤ t) : a.DS h t s = 0 := by unfold DS; rw [a.P_zero h t s hs, zero_mul]

/-- The inner product of cotangent and output is the mean of the probabilities' gradients. -/
theorem DEL_eq : a.DEL h t = ∑ s, a.P h t s * a.DP h t s := by
  unfold DEL O DP
  simp only [Finset.mul_sum]
  rw [Finset.sum_comm]
  exact Finset.sum_congr rfl fun s _ => Finset.sum_congr rfl fun d _ => by ring

/-- The gradient of the logits as the softmax's two operands give it. -/
theorem DS_eq : a.DS h t s = if s ≤ t then (a.DP h t s / a.L h t + -(∑ s', a.DP h t s' * (1 / (a.L h t * a.L h t)) * a.E h t s')) * a.E h t s else 0 := by
  split
  · have hl := a.L_ne h t
    have e : ∑ s', a.DP h t s' * (1 / (a.L h t * a.L h t)) * a.E h t s' = a.DEL h t / a.L h t := by
      rw [DEL_eq, Finset.sum_div]
      exact Finset.sum_congr rfl fun s _ => by unfold P; field_simp
    rw [e]; unfold DS P; field_simp; try ring
  · next hs => exact a.DS_zero h t s hs

end Arg

/-! ## The arguments -/

abbrev Acts : Type := FVec Ideal ⟨2, ![2048, 3328]⟩ .bf16
abbrev Decs : Type := FVec Ideal ⟨2, ![8, 2048]⟩ .f32
abbrev Cots : Type := FVec Ideal ⟨2, ![2048, 1280]⟩ .f32

/-- Component `d` of head `h` among columns that begin at `b`. -/
def lane64 (n b : ℕ) (hb : b + 512 ≤ n) (h : Fin 8) (d : Fin 64) : Fin n := ⟨b + (h.val * 64 + d.val), by have := h.isLt; have := d.isLt; omega⟩

/-- The attention's operands as the arguments hold them. -/
def argOf (X : Acts) (C : Decs) (Y : Cots) : Arg where
  Q h t d := EReal.toReal (X (ix2 t (lane64 3328 1536 (by decide) h d)))
  K h t d := EReal.toReal (X (ix2 t (lane64 3328 2048 (by decide) h d)))
  V h t d := EReal.toReal (X (ix2 t (lane64 3328 2560 (by decide) h d)))
  D h t d := EReal.toReal (Y (ix2 t (lane64 1280 512 (by decide) h d)))
  C h t := EReal.toReal (C (ix2 h t))

/-- Every element is finite. -/
def IsReal {s : Shape} {φ : FTy} (X : FVec Ideal s φ) : Prop := ∀ i, X i = ((EReal.toReal (X i) : ℝ) : EReal)

section Input

variable (X : Acts) (C : Decs) (Y : Cots)

theorem q_of (hX : IsReal X) (h : Fin 8) (t : Fin 2048) (d : Fin 64) (j : Fin 3328) (hj : j.val = 1536 + (h.val * 64 + d.val)) :
    X (ix2 t j) = (((argOf X C Y).Q h t d : ℝ) : EReal) := by
  have e : j = lane64 3328 1536 (by decide) h d := Fin.ext hj
  subst e; exact hX _
theorem k_of (hX : IsReal X) (h : Fin 8) (t : Fin 2048) (d : Fin 64) (j : Fin 3328) (hj : j.val = 2048 + (h.val * 64 + d.val)) :
    X (ix2 t j) = (((argOf X C Y).K h t d : ℝ) : EReal) := by
  have e : j = lane64 3328 2048 (by decide) h d := Fin.ext hj
  subst e; exact hX _
theorem v_of (hX : IsReal X) (h : Fin 8) (t : Fin 2048) (d : Fin 64) (j : Fin 3328) (hj : j.val = 2560 + (h.val * 64 + d.val)) :
    X (ix2 t j) = (((argOf X C Y).V h t d : ℝ) : EReal) := by
  have e : j = lane64 3328 2560 (by decide) h d := Fin.ext hj
  subst e; exact hX _
theorem d_of (hY : IsReal Y) (h : Fin 8) (t : Fin 2048) (d : Fin 64) (j : Fin 1280) (hj : j.val = 512 + (h.val * 64 + d.val)) :
    Y (ix2 t j) = (((argOf X C Y).D h t d : ℝ) : EReal) := by
  have e : j = lane64 1280 512 (by decide) h d := Fin.ext hj
  subst e; exact hY _
theorem c_of (hC : IsReal C) (h : Fin 8) (t : Fin 2048) : C (ix2 h t) = (((argOf X C Y).C h t : ℝ) : EReal) := hC _

end Input

end Cert.Proof.Fox

end
-- ==== Proof.KerStages.lean ====
/- What the host prepares for the gradient kernel: the attention's output, its log-sums and the decays' two layouts, stage by stage. -/
module

public import proofs.«01_k».proof.Proof.Math
public import proofs.«01_k».proof.Proof.Gen.KernelIdeal.Frame
public import Idealize.ShloMosaic.Lib.StableHlo.Run

@[expose] public section

set_option maxRecDepth 16384

noncomputable section

namespace Cert.Proof.Fox.Ker

open Cert.KernelIdeal Cert.KernelIdeal.Gen
open Idealize.ShloMosaic Idealize.ShloMosaic.TcCoe Idealize.ShloMosaic.StableHlo

/-! ## The stages -/

def q (X : Acts) : FVec Ideal S8x2048x64 .f32 :=
  transpose S8x2048x64 [1, 0, 2] (shapeCast S2048x8x64 (extf .f32 (extractStridedSlice S2048x512 ![0, 1536] X slices_S2048x3328_S2048x512_0_1536) bitsLt_bf16_f32) shapeCasts_S2048x512_S2048x8x64) transposes_S2048x8x64_S8x2048x64_1_0_2
def k (X : Acts) : FVec Ideal S8x2048x64 .f32 :=
  transpose S8x2048x64 [1, 0, 2] (shapeCast S2048x8x64 (extf .f32 (extractStridedSlice S2048x512 ![0, 2048] X slices_S2048x3328_S2048x512_0_2048) bitsLt_bf16_f32) shapeCasts_S2048x512_S2048x8x64) transposes_S2048x8x64_S8x2048x64_1_0_2
def v (X : Acts) : FVec Ideal S8x2048x64 .f32 :=
  transpose S8x2048x64 [1, 0, 2] (shapeCast S2048x8x64 (extf .f32 (extractStridedSlice S2048x512 ![0, 2560] X slices_S2048x3328_S2048x512_0_2560) bitsLt_bf16_f32) shapeCasts_S2048x512_S2048x8x64) transposes_S2048x8x64_S8x2048x64_1_0_2
def mask : IVec S8x2048x2048 1 :=
  broadcastInDim S8x2048x2048 ![1, 2] bcast_S2048x2048_S8x2048x2048_1_2 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))
def lg (X : Acts) (C : Decs) : FVec Ideal S8x2048x2048 .f32 :=
  select mask (subf (addf (mulf (Host.dotGeneral dot_S8x2048x64_S8x2048x64_S8x2048x2048_2_2_1_1_0_0 none (q X) (k X)) (broadcastInDim S8x2048x2048 ![] bcast_S_S8x2048x2048 (constant S_ .f32 0x3E000000#32)))
    (broadcastInDim S8x2048x2048 ![0, 1, 2] bcast_S8x2048x1_S8x2048x2048_0_1_2 (broadcastInDim S8x2048x1 ![0, 1] bcast_S8x2048_S8x2048x1_0_1 C)))
    (broadcastInDim S8x2048x2048 ![0, 1, 2] bcast_S8x1x2048_S8x2048x2048_0_1_2 (broadcastInDim S8x1x2048 ![0, 2] bcast_S8x2048_S8x1x2048_0_2 C)))
    (broadcastInDim S8x2048x2048 ![] bcast_S_S8x2048x2048 (id (constant S_ .f32 0xFF800000#32)))
def mx0 (X : Acts) (C : Decs) : FVec Ideal S8x2048 .f32 :=
  Host.reduce FloatOps.maximumf (lg X C) (constant S_ .f32 0xFF800000#32) reducesTo_S8x2048x2048_S8x2048_d2 h_S_
def mx (X : Acts) (C : Decs) : FVec Ideal S8x2048x1 .f32 :=
  broadcastInDim S8x2048x1 ![0, 1] bcast_S8x2048_S8x2048x1_0_1 (mx0 X C)
def e (X : Acts) (C : Decs) : FVec Ideal S8x2048x2048 .f32 :=
  Host.exp (subf (lg X C) (broadcastInDim S8x2048x2048 ![0, 1, 2] bcast_S8x2048x1_S8x2048x2048_0_1_2 (mx X C)))
def l (X : Acts) (C : Decs) : FVec Ideal S8x2048x1 .f32 :=
  broadcastInDim S8x2048x1 ![0, 1] bcast_S8x2048_S8x2048x1_0_1 (Host.reduceAdd (e X C) (constant S_ .f32 0x00000000#32) reducesTo_S8x2048x2048_S8x2048_d2 h_S_)
def p (X : Acts) (C : Decs) : FVec Ideal S8x2048x2048 .f32 :=
  Host.divf (e X C) (broadcastInDim S8x2048x2048 ![0, 1, 2] bcast_S8x2048x1_S8x2048x2048_0_1_2 (l X C))
/-- The output, heads side by side. -/
def o (X : Acts) (C : Decs) : FVec Ideal S2048x512 .f32 :=
  shapeCast S2048x512 (transpose S2048x8x64 [1, 0, 2] (Host.dotGeneral dot_S8x2048x2048_S8x2048x64_S8x2048x64_2_1_1_2_0_0 none (p X C) (v X)) transposes_S8x2048x64_S2048x8x64_1_0_2) shapeCasts_S2048x8x64_S2048x512
/-- A number a head and a position, over the lanes of its head. -/
def lanes (x : FVec Ideal S8x2048 .f32) : FVec Ideal S2x2048x256 .f32 :=
  shapeCast S2x2048x256 (broadcastInDim S2x2048x4x64 ![0, 1, 2] bcast_S2x2048x4_S2x2048x4x64_0_1_2
    (transpose S2x2048x4 [1, 0, 2] (shapeCast S2048x2x4 (transpose S2048x8 [1, 0] x transposes_S8x2048_S2048x8_1_0) shapeCasts_S2048x8_S2048x2x4) transposes_S2048x2x4_S2x2048x4_1_0_2))
    shapeCasts_S2x2048x4x64_S2x2048x256
def lse (X : Acts) (C : Decs) : FVec Ideal S8x2048 .f32 :=
  shapeCast S8x2048 (addf (mx X C) (Host.log (l X C))) shapeCasts_S8x2048x1_S8x2048
/-- The decays in rows, each group of heads by blocks of positions. -/
def crow (C : Decs) : FVec Ideal S2x8x8x256 .f32 :=
  pad S2x8x8x256 ![0, 0, 0, 0] ![0, 0, 4, 0] ![0, 0, 0, 0]
    (transpose S2x8x4x256 [1, 0, 2, 3] (shapeCast S8x2x4x256 (transpose S8x8x256 [1, 0, 2] (shapeCast S8x8x256 C shapeCasts_S8x2048_S8x8x256) transposes_S8x8x256_S8x8x256_1_0_2) shapeCasts_S8x8x256_S8x2x4x256) transposes_S8x2x4x256_S2x8x4x256_1_0_2_3)
    (sitofp .f32 (constantI S_ 32 0#32)) pads_S2x8x4x256_S2x8x8x256_000_000_040_000 h_S_

section Entry

variable (m : (ℓ : Loc nD τ sig) → Buf (Elt Ideal) ℓ) (c : Dev nD)

set_option maxHeartbeats 8000000 in
theorem V_cc : V m c main_v4 = lanes (m ((c : Thread nD τ).loc main_arg1)) := by
  unfold V
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp <;> rfl

set_option maxHeartbeats 8000000 in
theorem V_cr : V m c main_v9 = crow (m ((c : Thread nD τ).loc main_arg1)) := by
  unfold V
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp <;> rfl

set_option maxHeartbeats 8000000 in
theorem V_o : V m c main_v49 = o (m ((c : Thread nD τ).loc main_arg0)) (m ((c : Thread nD τ).loc main_arg1)) := by
  unfold V
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp <;> rfl

set_option maxHeartbeats 8000000 in
theorem V_lse : V m c main_v57 = lanes (lse (m ((c : Thread nD τ).loc main_arg0)) (m ((c : Thread nD τ).loc main_arg1))) := by
  unfold V
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp <;> rfl

end Entry

end Cert.Proof.Fox.Ker

end
-- ==== Proof.KerValue.lean ====
/- What the host prepares for the gradient kernel, at an index: the real formulas of `Arg`. -/
module

public import proofs.«01_k».proof.Proof.KerStages

@[expose] public section

set_option maxRecDepth 16384

noncomputable section

namespace Cert.Proof.Fox.Ker

open Cert.KernelIdeal Cert.KernelIdeal.Gen
open Idealize.ShloMosaic Idealize.ShloMosaic.TcCoe

/-! ## Read at an index -/

/-- The largest of a row. -/
theorem reduce_max (x : FVec Ideal S8x2048x2048 .f32) (h : Fin 8) (t : Fin 2048) :
    (Host.reduce FloatOps.maximumf x (constant S_ .f32 0xFF800000#32) reducesTo_S8x2048x2048_S8x2048_d2 h_S_ : FVec Ideal S8x2048 .f32) (ix2 h t)
      = Finset.univ.fold max ⊥ (fun s : Fin 2048 => (x (ix3 h t s) : EReal)) := by
  pointwise
  rw [lit_bot]

theorem squeeze (x y : FVec Ideal S8x2048x1 .f32) (h : Fin 8) (t : Fin 2048) :
    shapeCast S8x2048 (addf x (Host.log y)) shapeCasts_S8x2048x1_S8x2048 (ix2 h t) = (x (ix3 h t 0) + Ideal.log (y (ix3 h t 0)) : EReal) := by
  pointwise

section Read

variable (X : Acts) (C : Decs) (Y : Cots) (hX : IsReal X) (hC : IsReal C) (hY : IsReal Y)
  (h : Fin 8) (t s : Fin 2048) (d : Fin 64)

section Xs
include hX

theorem q_apply : q X (ix3 h t d) = (((argOf X C Y).Q h t d : ℝ) : EReal) := by
  pointwise [q]
  exact q_of X C Y hX h t d _ rfl
theorem k_apply : k X (ix3 h t d) = (((argOf X C Y).K h t d : ℝ) : EReal) := by
  pointwise [k]
  exact k_of X C Y hX h t d _ rfl
theorem v_apply : v X (ix3 h t d) = (((argOf X C Y).V h t d : ℝ) : EReal) := by
  pointwise [v]
  exact v_of X C Y hX h t d _ rfl
end Xs

theorem mask_apply {α : Type} (x y : α) : Scalar.select (mask (ix3 h t s)) x y = if s ≤ t then x else y := by
  rw [← select_sle (le_refl 2048)]
  pointwise [mask]

include hX hC

theorem lg_apply : lg X C (ix3 h t s) = (argOf X C Y).lg h t s := by
  pointwise [lg]
  rw [mask_apply, show (id (constant (F := Ideal) S_ .f32 0xFF800000#32) ix0 : EReal) = ⊥ from lit_bot, lit_eighth]
  simp only [q_apply X C Y hX, k_apply X C Y hX, c_of X C Y hC, ← EReal.coe_mul, ← EReal.coe_sub, ← coe_sum, ← EReal.coe_add]
  rfl

theorem mx0_apply : mx0 X C (ix2 h t) = (((argOf X C Y).M h t : ℝ) : EReal) := by
  unfold mx0
  rw [Arg.coe_M, reduce_max]
  simp only [lg_apply X C Y hX hC]

theorem mx_apply : mx X C (ix3 h t 0) = (((argOf X C Y).M h t : ℝ) : EReal) := by
  rw [← mx0_apply X C Y hX hC]
  pointwise [mx]

theorem e_apply : e X C (ix3 h t s) = (((argOf X C Y).E h t s : ℝ) : EReal) := by
  rw [← Arg.exp_lg]
  pointwise [e]
  rw [lg_apply X C Y hX hC, mx_apply X C Y hX hC]

theorem l_apply : l X C (ix3 h t 0) = (((argOf X C Y).L h t : ℝ) : EReal) := by
  pointwise [l]
  simp only [e_apply X C Y hX hC, ← coe_sum]
  rfl

theorem p_apply : p X C (ix3 h t s) = (((argOf X C Y).P h t s : ℝ) : EReal) := by
  pointwise [p]
  rw [e_apply X C Y hX hC, l_apply X C Y hX hC, div_coe _ _ (Arg.L_ne _ _ _)]
  rfl

theorem o_apply (j : Fin 512) : o X C (ix2 t j)
    = (((argOf X C Y).O ⟨j.val / 64, by have := j.isLt; omega⟩ t ⟨j.val % 64, Nat.mod_lt _ (by decide)⟩ : ℝ) : EReal) := by
  pointwise [o]
  simp only [p_apply X C Y hX hC, v_apply X C Y hX, ← EReal.coe_mul, ← coe_sum]
  rfl

theorem lse_apply : lse X C (ix2 h t) = (((argOf X C Y).LSE h t : ℝ) : EReal) := by
  unfold lse Arg.LSE
  rw [squeeze, mx_apply X C Y hX hC, l_apply X C Y hX hC, log_coe _ (Arg.L_pos _ _ _), ← EReal.coe_add]

end Read

theorem lanes_apply (x : FVec Ideal S8x2048 .f32) (p : Fin 2) (t : Fin 2048) (j : Fin 256) :
    lanes x (ix3 p t j) = x (ix2 ⟨p.val * 4 + j.val / 64, by have := p.isLt; have := j.isLt; omega⟩ t) := by
  pointwise [lanes]

theorem crow_apply (C : Decs) (p : Fin 2) (j : Fin 8) (h : Fin 8) (hh : h.val < 4) (r : Fin 256) :
    crow C (ix4 p j h r) = C (ix2 ⟨p.val * 4 + h.val, by have := p.isLt; omega⟩ (row j.val r)) := by
  pointwise [crow]
  rw [dif_pos hh]
  have e : (⟨j.val * 256 + r.val, by have := j.isLt; have := r.isLt; omega⟩ : Fin 2048) = row j.val r :=
    Fin.ext (by rw [row_val j.isLt]; show j.val * 256 + r.val = _; omega)
  rw [e]

end Cert.Proof.Fox.Ker

end
-- ==== Proof.Tile.lean ====
/- A tile's arithmetic over the extended reals: at finite operands, every number a point computes is a real of `Arg`. -/
module

public import proofs.«01_k».proof.Proof.Math
public import proofs.«01_k».proof.Proof.Blocks

@[expose] public section

set_option maxRecDepth 16384

noncomputable section

namespace Cert.Proof.Fox

open Cert.KernelIdeal Cert.KernelIdeal.Gen
open Idealize.ShloMosaic Idealize.ShloMosaic.TcCoe

/-- A point's operands are those of row block `i` of the heads `g`. -/
structure Good (a : Arg) (g : Fin 4 → Fin 8) (i : ℕ) (o : Ops Ideal) : Prop where
  q : ∀ h r d, (o.w h).q (ix2 r d) = ((a.Q (g h) (row i r) d * (1 / 8) : ℝ) : EReal)
  cq : ∀ h r, (o.w h).cq (ix2 r 0) = ((a.C (g h) (row i r) : ℝ) : EReal)
  lse : ∀ h r, (o.w h).lse (ix2 r 0) = ((a.LSE (g h) (row i r) : ℝ) : EReal)
  dO : ∀ h r d, (o.w h).dO (ix2 r d) = ((a.D (g h) (row i r) d : ℝ) : EReal)
  dl : ∀ h r, (o.w h).dl (ix2 r 0) = ((a.DEL (g h) (row i r) : ℝ) : EReal)
  k : ∀ h j r d, col h (o.kb j) (ix2 r d) = ((a.K (g h) (row j r) d : ℝ) : EReal)
  v : ∀ h j r d, col h (o.vb j) (ix2 r d) = ((a.V (g h) (row j r) d : ℝ) : EReal)
  cr : ∀ j h r, o.cr j h (ix4 0 0 0 r) = ((a.C (g h) (row j r) : ℝ) : EReal)

theorem logitsF_apply (w : Rows Ideal) (k : FVec Ideal S256x64 .bf16) (cr : Vec Ideal S1x1x1x256 .f32) (r s : Fin 256) :
    logitsF w k cr (ix2 r s) = (∑ d : Fin 64, w.q (ix2 r d) * k (ix2 s d)) + (w.cq (ix2 r 0) - cr (ix4 0 0 0 s)) := by
  pointwise [logitsF]

theorem probF_apply (w : Rows Ideal) (k : FVec Ideal S256x64 .bf16) (cr : Vec Ideal S1x1x1x256 .f32) (r s : Fin 256) :
    probF w k cr (ix2 r s) = Ideal.exp (logitsF w k cr (ix2 r s) - w.lse (ix2 r 0)) := by
  pointwise [probF]

theorem probD_apply (w : Rows Ideal) (k : FVec Ideal S256x64 .bf16) (cr : Vec Ideal S1x1x1x256 .f32) (r s : Fin 256) :
    probD w k cr (ix2 r s) = Ideal.exp ((if s ≤ r then logitsF w k cr (ix2 r s) else ⊥) - w.lse (ix2 r 0)) := by
  pointwise [probD]
  rw [select_sle (by decide), lit_bot]

theorem gradF_apply (w : Rows Ideal) (p : FVec Ideal S256x256 .f32) (v : FVec Ideal S256x64 .bf16) (r s : Fin 256) :
    gradF w p v (ix2 r s) = p (ix2 r s) * ((∑ d : Fin 64, w.dO (ix2 r d) * v (ix2 s d)) - w.dl (ix2 r 0)) := by
  pointwise [gradF]

theorem accF_apply (w : FVec Ideal S256x64 .bf16) (old : Vec Ideal S1x256x64 .f32) (x : FVec Ideal S256x256 .f32) (s : Fin 256) (d : Fin 64) :
    accF w old (slotF x) (ix3 0 s d) = old (ix3 0 s d) + ∑ r : Fin 256, x (ix2 r s) * w (ix2 r d) := by
  pointwise [accF, slotF]

theorem dqF_apply (old : FVec Ideal S256x64 .f32) (k : FVec Ideal S256x64 .bf16) (x : FVec Ideal S256x256 .f32) (r : Fin 256) (d : Fin 64) :
    dqF old k (slotF x) (ix2 r d) = old (ix2 r d) + ∑ s : Fin 256, x (ix2 r s) * k (ix2 s d) := by
  pointwise [dqF, slotF]

theorem colF_apply (x : FVec Ideal S256x256 .f32) (old : Vec Ideal S1x1x1x256 .f32) (s : Fin 256) :
    colF x old (ix4 0 0 0 s) = old (ix4 0 0 0 s) + ∑ r : Fin 256, x (ix2 r s) := by
  pointwise [colF]

theorem rowF_apply (old : FVec Ideal S256x1 .f32) (x : FVec Ideal S256x256 .f32) (r : Fin 256) :
    rowF old x (ix2 r 0) = old (ix2 r 0) + ∑ s : Fin 256, x (ix2 r s) := by
  pointwise [rowF]

theorem lessF_apply (x : FVec Ideal S256x1 .f32) (old : Vec Ideal S1x1x1x256 .f32) (s : Fin 256) :
    lessF x old (ix4 0 0 0 s) = old (ix4 0 0 0 s) - x (ix2 s 0) := by
  pointwise [lessF]

/-! ## A point's numbers -/

theorem row_le {i j : ℕ} (hi : i < 8) (hj : j < 8) (r s : Fin 256) : row j s ≤ row i r ↔ j < i ∨ j = i ∧ s ≤ r := by
  have := r.isLt
  have := s.isLt
  rw [Fin.le_def, Fin.le_def, row_val hi, row_val hj]
  omega

namespace Good

variable {a : Arg} {g : Fin 4 → Fin 8} {i : ℕ} {o : Ops Ideal} (G : Good a g i o) (hi : i < 8)
include G

theorem logits (j : ℕ) (h : Fin 4) (r s : Fin 256) :
    logitsF (o.w h) (col h (o.kb j)) (o.cr j h) (ix2 r s) = ((a.S (g h) (row i r) (row j s) : ℝ) : EReal) := by
  rw [logitsF_apply]
  simp only [G.q, G.k, G.cq, G.cr, ← EReal.coe_mul, ← EReal.coe_sub, ← coe_sum, ← EReal.coe_add]
  congr 1
  unfold Arg.S
  rw [Finset.sum_mul, add_sub_assoc]
  congr 1
  exact Finset.sum_congr rfl fun d _ => by ring

include hi

theorem pt {j : ℕ} (hj : j ≤ i) (h : Fin 4) (r s : Fin 256) :
    o.pt i j h (ix2 r s) = ((a.P (g h) (row i r) (row j s) : ℝ) : EReal) := by
  unfold Ops.pt
  rw [← Arg.exp_lse]
  unfold Arg.lg
  rcases hj.eq_or_lt with rfl | hj
  · rw [if_pos rfl, probD_apply, G.logits, G.lse]
    exact congrArg (fun e : EReal => Ideal.exp (e - ((a.LSE (g h) (row j r) : ℝ) : EReal)))
      (if_congr (by rw [row_le hi hi]; simp) rfl rfl)
  · rw [if_neg hj.ne, probF_apply, G.logits, G.lse, if_pos ((row_le hi (hj.trans hi) r s).mpr (.inl hj))]

theorem dt {j : ℕ} (hj : j ≤ i) (h : Fin 4) (r s : Fin 256) :
    o.dt i j h (ix2 r s) = ((a.DS (g h) (row i r) (row j s) : ℝ) : EReal) := by
  unfold Ops.dt
  rw [gradF_apply, G.pt hi hj]
  simp only [G.dO, G.v, G.dl, ← EReal.coe_mul, ← EReal.coe_sub, ← coe_sum]
  rfl

theorem rows (h : Fin 4) (r : Fin 256) (n : ℕ) (hn : n ≤ i) :
    o.rows i h n (ix2 r 0) = ((∑ l ∈ Finset.range (n + 1), ∑ s, a.DS (g h) (row i r) (row (i - l) s) : ℝ) : EReal) := by
  induction n with
  | zero =>
    unfold Ops.rows
    rw [rowF_apply]
    simp only [G.dt hi (le_refl i), ← coe_sum, zero_add, Finset.sum_range_one, Nat.sub_zero]
    rw [show zRow (F := Ideal) (ix2 r 0) = (0 : EReal) from Ideal.ofBits_zero_f32, zero_add]
  | succ n ih =>
    unfold Ops.rows
    rw [rowF_apply, ih (by omega), Finset.sum_range_succ _ (n + 1), EReal.coe_add]
    simp only [G.dt hi (Nat.sub_le i (n + 1)), ← coe_sum]

theorem dq (h : Fin 4) (r : Fin 256) (d : Fin 64) (n : ℕ) (hn : n ≤ i + 1) :
    o.dq i h n (ix2 r d)
      = ((∑ l ∈ Finset.range n, ∑ s, a.DS (g h) (row i r) (row (i - l) s) * a.K (g h) (row (i - l) s) d : ℝ) : EReal) := by
  induction n with
  | zero =>
    rw [Finset.sum_range_zero]
    exact Ideal.ofBits_zero_f32
  | succ n ih =>
    unfold Ops.dq
    rw [dqF_apply, ih (by omega), Finset.sum_range_succ _ n, EReal.coe_add]
    simp only [G.dt hi (Nat.sub_le i n), G.k, ← EReal.coe_mul, ← coe_sum]

omit G in
/-- Blocks from the diagonal's down are all the blocks, where those above it hold nothing. -/
theorem reflect (f : ℕ → ℝ) (hf : ∀ j, i < j → j < 8 → f j = 0) : ∑ l ∈ Finset.range (i + 1), f (i - l) = ∑ j ∈ Finset.range 8, f j := by
  have e := Finset.sum_range_reflect f (i + 1)
  rw [Nat.add_sub_cancel] at e
  rw [e]
  refine Finset.sum_subset (fun x hx => ?_) fun x hx hx' => hf x ?_ (Finset.mem_range.mp hx)
  · rw [Finset.mem_range] at hx ⊢; omega
  · rw [Finset.mem_range] at hx'; omega

omit G in
theorem above (a : Arg) (g : Fin 8) {j : ℕ} (hj : j < 8) (h : i < j) (r s : Fin 256) : a.DS g (row i r) (row j s) = 0 :=
  a.DS_zero _ _ _ (by rw [row_le hi hj]; omega)

omit G in
theorem aboveP (a : Arg) (g : Fin 8) {j : ℕ} (hj : j < 8) (h : i < j) (r s : Fin 256) : a.P g (row i r) (row j s) = 0 :=
  a.P_zero _ _ _ (by rw [row_le hi hj]; omega)

theorem rows_all (h : Fin 4) (r : Fin 256) : o.rows i h i (ix2 r 0) = ((∑ s, a.DS (g h) (row i r) s : ℝ) : EReal) := by
  rw [G.rows hi h r i (le_refl i), reflect hi (fun j => ∑ s, a.DS (g h) (row i r) (row j s))
    (fun j hj h8 => Finset.sum_eq_zero fun s _ => above hi a _ h8 hj r s), sum_rows]

theorem dq_all (h : Fin 4) (r : Fin 256) (d : Fin 64) :
    o.dq i h (i + 1) (ix2 r d) = ((∑ s, a.DS (g h) (row i r) s * a.K (g h) s d : ℝ) : EReal) := by
  rw [G.dq hi h r d (i + 1) (le_refl _), reflect hi (fun j => ∑ s, a.DS (g h) (row i r) (row j s) * a.K (g h) (row j s) d)
    (fun j hj h8 => Finset.sum_eq_zero fun s _ => by rw [above hi a _ h8 hj r s, zero_mul]),
    sum_rows fun s => a.DS (g h) (row i r) s * a.K (g h) s d]

theorem dk (old : Fin 4 → ℕ → Vec Ideal S1x256x64 .f32) (h : Fin 4) {j : ℕ} (hj : j < 8) (s : Fin 256) (d : Fin 64) (x : ℝ)
    (hx : old h j (ix3 0 s d) = (x : EReal)) : o.dk i old h j (ix3 0 s d)
      = ((x + ∑ r, a.DS (g h) (row i r) (row j s) * (a.Q (g h) (row i r) d * (1 / 8)) : ℝ) : EReal) := by
  unfold Ops.dk
  split
  · next hle =>
    rw [accF_apply, hx]
    simp only [G.dt hi hle, G.q, ← EReal.coe_mul, ← coe_sum, ← EReal.coe_add]
  · next hle =>
    rw [hx, Finset.sum_eq_zero fun r _ => by rw [above hi a _ hj (by omega) r s, zero_mul], add_zero]

theorem dv (old : Fin 4 → ℕ → Vec Ideal S1x256x64 .f32) (h : Fin 4) {j : ℕ} (hj : j < 8) (s : Fin 256) (d : Fin 64) (x : ℝ)
    (hx : old h j (ix3 0 s d) = (x : EReal)) : o.dv i old h j (ix3 0 s d)
      = ((x + ∑ r, a.P (g h) (row i r) (row j s) * a.D (g h) (row i r) d : ℝ) : EReal) := by
  unfold Ops.dv
  split
  · next hle =>
    rw [accF_apply, hx]
    simp only [G.pt hi hle, G.dO, ← EReal.coe_mul, ← coe_sum, ← EReal.coe_add]
  · next hle =>
    rw [hx, Finset.sum_eq_zero fun r _ => by rw [aboveP hi a _ hj (by omega) r s, zero_mul], add_zero]

theorem cs (old : ℕ → Fin 4 → Vec Ideal S1x1x1x256 .f32) (h : Fin 4) {j : ℕ} (hj : j < 8) (s : Fin 256) (x : ℝ)
    (hx : old j h (ix4 0 0 0 s) = (x : EReal)) : o.cs i old j h (ix4 0 0 0 s)
      = ((x + ∑ r, a.DS (g h) (row i r) (row j s) - (if j = i then ∑ s', a.DS (g h) (row j s) s' else 0) : ℝ) : EReal) := by
  unfold Ops.cs
  rcases lt_trichotomy j i with hlt | rfl | hgt
  · rw [if_pos hlt, if_neg hlt.ne, colF_apply, hx]
    simp only [G.dt hi hlt.le, ← coe_sum, ← EReal.coe_add, sub_zero]
  · rw [if_neg (lt_irrefl j), if_pos rfl, if_pos rfl, lessF_apply, colF_apply, hx, G.rows_all hi]
    simp only [G.dt hi (le_refl j), ← coe_sum, ← EReal.coe_add, ← EReal.coe_sub]
  · rw [if_neg (by omega), if_neg (by omega), if_neg (by omega), hx,
      Finset.sum_eq_zero fun r _ => above hi a _ hj hgt r s, add_zero, sub_zero]

end Good

end Cert.Proof.Fox

end
-- ==== Proof.KerGood.lean ====
/- The blocks a point reads, at an index, and with them the reals its operands are. -/
module

public import proofs.«01_k».proof.Proof.KerValue
public import proofs.«01_k».proof.Proof.Tile
public import proofs.«01_k».proof.Proof.Data
public import Idealize.ShloMosaic.Lib.Pipeline.ValueKit

@[expose] public section

set_option maxRecDepth 16384

noncomputable section

namespace Cert.Proof.Fox

open Cert.KernelIdeal Cert.KernelIdeal.Gen
open Idealize.ShloMosaic Idealize.ShloMosaic.TcCoe

/-! ## Windows of a block, at an index -/

section Windows

variable {α : Type}

theorem win64_apply (x : S256x256.Idx → α) (b : ℕ) (inb : ∀ a, (![0, b] : Fin 2 → ℕ) a + S256x64.size a ≤ S256x256.size a) (r : Fin 256) (d : Fin 64) :
    VecWindow.window x ![0, b] S256x64.size inb (ix2 r d)
      = x (ix2 r ⟨b + d.val, by have : b + 64 ≤ 256 := inb 1; have := d.isLt; omega⟩) := by
  unfold VecWindow.window
  refine congrArg x (funext fun a => Fin.ext ?_)
  match a with
  | 0 => show 0 + 1 * r.val = r.val; omega
  | 1 => show b + 1 * d.val = b + d.val; omega

theorem win1_apply (x : S1x256x256.Idx → α) (b : ℕ) (inb : ∀ a, (![0, 0, b] : Fin 3 → ℕ) a + S1x256x1.size a ≤ S1x256x256.size a) (r : Fin 256) :
    VecWindow.window x ![0, 0, b] S1x256x1.size inb (ix3 0 r 0)
      = x (ix3 0 r ⟨b, by have : b + 1 ≤ 256 := inb 2; omega⟩) := by
  unfold VecWindow.window
  refine congrArg x (funext fun a => Fin.ext ?_)
  match a with
  | 0 => show 0 + 1 * 0 = 0; rfl
  | 1 => show 0 + 1 * r.val = r.val; omega
  | 2 => show b + 1 * 0 = b; omega

end Windows

theorem rowb_apply (x : Vec Ideal S2048x256 .bf16) (j : ℕ) (r d : Fin 256) : rowb x j (ix2 r d) = x (ix2 (row j r) d) := by
  unfold rowb VecWindow.window
  refine congrArg x (funext fun a => Fin.ext ?_)
  match a with
  | 0 => show 256 * (j % 8) + 1 * r.val = 256 * (j % 8) + r.val; omega
  | 1 => show 0 + 1 * d.val = d.val; omega

theorem csb_apply (x : Vec Ideal S1x8x8x256 .f32) (j : ℕ) (h : Fin 4) (r : Fin 256) :
    csb x j h (ix4 0 0 0 r) = x (ix4 0 ⟨j % 8, Nat.mod_lt _ (by decide)⟩ ⟨h.val, by have := h.isLt; omega⟩ r) := by
  unfold csb VecWindow.window
  refine congrArg x (funext fun a => Fin.ext ?_)
  match a with
  | 0 => show 0 + 1 * 0 = 0; rfl
  | 1 => show j % 8 + 1 * 0 = j % 8; omega
  | 2 => show h.val + 1 * 0 = h.val; omega
  | 3 => show 0 + 1 * r.val = r.val; omega

theorem row_mod (j : ℕ) (r : Fin 256) : row (j % 8) r = row j r := Fin.ext (by
  show 256 * (j % 8 % 8) + r.val = 256 * (j % 8) + r.val; rw [Nat.mod_mod])

/-! ## What the rows are computed by -/

theorem qF_apply (x : Vec Ideal S256x64 .bf16) (r : Fin 256) (d : Fin 64) : qF x (ix2 r d) = (x (ix2 r d) * ((1 / 8 : ℝ) : EReal) : EReal) := by
  rw [← lit_eighth]
  pointwise [qF]

theorem lane_apply (x : Vec Ideal S1x256x1 .f32) (r : Fin 256) : lane x (ix2 r 0) = x (ix3 0 r 0) := by
  pointwise [lane]

theorem deltaF_apply (x y : Vec Ideal S256x64 .f32) (r : Fin 256) : deltaF x y (ix2 r 0) = (∑ d : Fin 64, x (ix2 r d) * y (ix2 r d) : EReal) := by
  pointwise [deltaF]

theorem col_apply (h : Fin 4) (x : Vec Ideal S256x256 .bf16) (r : Fin 256) (d : Fin 64) :
    col h x (ix2 r d) = x (ix2 r ⟨64 * h.val + d.val, by have := h.isLt; have := d.isLt; omega⟩) := by
  match h with
  | 0 => pointwise [col]
  | 1 => pointwise [col]
  | 2 => pointwise [col]
  | 3 => pointwise [col]

/-! ## A point's operands from what its blocks hold -/

section Blocks

variable {a : Arg} {g : Fin 4 → Fin 8} {i : ℕ}
  {q : Vec Ideal S256x256 .bf16} {k v : Vec Ideal S2048x256 .bf16} {cc : Vec Ideal S1x256x256 .f32} {cr : Vec Ideal S1x8x8x256 .f32}
  {o : Vec Ideal S256x256 .f32} {lse : Vec Ideal S1x256x256 .f32} {dO : Vec Ideal S256x256 .f32}

theorem good_of
    (hq : ∀ (h : Fin 4) (r : Fin 256) (d : Fin 64) (l : Fin 256), l.val = 64 * h.val + d.val → q (ix2 r l) = ((a.Q (g h) (row i r) d : ℝ) : EReal))
    (hk : ∀ (h : Fin 4) (s : Fin 2048) (d : Fin 64) (l : Fin 256), l.val = 64 * h.val + d.val → k (ix2 s l) = ((a.K (g h) s d : ℝ) : EReal))
    (hv : ∀ (h : Fin 4) (s : Fin 2048) (d : Fin 64) (l : Fin 256), l.val = 64 * h.val + d.val → v (ix2 s l) = ((a.V (g h) s d : ℝ) : EReal))
    (hcc : ∀ (h : Fin 4) (r l : Fin 256), l.val = 64 * h.val → cc (ix3 0 r l) = ((a.C (g h) (row i r) : ℝ) : EReal))
    (hcr : ∀ (j : Fin 8) (h : Fin 4) (r : Fin 256) (l : Fin 8), l.val = h.val → cr (ix4 0 j l r) = ((a.C (g h) (row j r) : ℝ) : EReal))
    (ho : ∀ (h : Fin 4) (r : Fin 256) (d : Fin 64) (l : Fin 256), l.val = 64 * h.val + d.val → o (ix2 r l) = ((a.O (g h) (row i r) d : ℝ) : EReal))
    (hl : ∀ (h : Fin 4) (r l : Fin 256), l.val = 64 * h.val → lse (ix3 0 r l) = ((a.LSE (g h) (row i r) : ℝ) : EReal))
    (hd : ∀ (h : Fin 4) (r : Fin 256) (d : Fin 64) (l : Fin 256), l.val = 64 * h.val + d.val → dO (ix2 r l) = ((a.D (g h) (row i r) d : ℝ) : EReal)) :
    Good a g i (opsV q k v cc cr o lse dO) where
  q h r d := by
    rw [EReal.coe_mul]
    match h with
    | 0 => refine (qF_apply _ r d).trans ?_; rw [win64_apply, hq 0 r d _ rfl]
    | 1 => refine (qF_apply _ r d).trans ?_; rw [win64_apply, hq 1 r d _ rfl]
    | 2 => refine (qF_apply _ r d).trans ?_; rw [win64_apply, hq 2 r d _ rfl]
    | 3 => refine (qF_apply _ r d).trans ?_; rw [win64_apply, hq 3 r d _ rfl]
  cq h r := by
    match h with
    | 0 => show lane (VecWindow.window cc ![0, 0, 0] S1x256x1.size inb_S1x256x256_S1x256x1_0_0_0) (ix2 r 0) = _; rw [lane_apply, win1_apply, hcc 0 r _ rfl]
    | 1 => show lane (VecWindow.window cc ![0, 0, 64] S1x256x1.size inb_S1x256x256_S1x256x1_0_0_64) (ix2 r 0) = _; rw [lane_apply, win1_apply, hcc 1 r _ rfl]
    | 2 => show lane (VecWindow.window cc ![0, 0, 128] S1x256x1.size inb_S1x256x256_S1x256x1_0_0_128) (ix2 r 0) = _; rw [lane_apply, win1_apply, hcc 2 r _ rfl]
    | 3 => show lane (VecWindow.window cc ![0, 0, 192] S1x256x1.size inb_S1x256x256_S1x256x1_0_0_192) (ix2 r 0) = _; rw [lane_apply, win1_apply, hcc 3 r _ rfl]
  lse h r := by
    match h with
    | 0 => show lane (VecWindow.window lse ![0, 0, 0] S1x256x1.size inb_S1x256x256_S1x256x1_0_0_0) (ix2 r 0) = _; rw [lane_apply, win1_apply, hl 0 r _ rfl]
    | 1 => show lane (VecWindow.window lse ![0, 0, 64] S1x256x1.size inb_S1x256x256_S1x256x1_0_0_64) (ix2 r 0) = _; rw [lane_apply, win1_apply, hl 1 r _ rfl]
    | 2 => show lane (VecWindow.window lse ![0, 0, 128] S1x256x1.size inb_S1x256x256_S1x256x1_0_0_128) (ix2 r 0) = _; rw [lane_apply, win1_apply, hl 2 r _ rfl]
    | 3 => show lane (VecWindow.window lse ![0, 0, 192] S1x256x1.size inb_S1x256x256_S1x256x1_0_0_192) (ix2 r 0) = _; rw [lane_apply, win1_apply, hl 3 r _ rfl]
  dO h r d := by
    match h with
    | 0 => exact (win64_apply dO 0 _ r d).trans (hd 0 r d _ rfl)
    | 1 => exact (win64_apply dO 64 _ r d).trans (hd 1 r d _ rfl)
    | 2 => exact (win64_apply dO 128 _ r d).trans (hd 2 r d _ rfl)
    | 3 => exact (win64_apply dO 192 _ r d).trans (hd 3 r d _ rfl)
  dl h r := by
    unfold Arg.DEL
    rw [coe_sum]
    match h with
    | 0 => refine (deltaF_apply _ _ r).trans ?_; exact (Finset.sum_congr rfl fun d _ => by rw [win64_apply, win64_apply, hd 0 r d _ rfl, ho 0 r d _ rfl, EReal.coe_mul])
    | 1 => refine (deltaF_apply _ _ r).trans ?_; exact (Finset.sum_congr rfl fun d _ => by rw [win64_apply, win64_apply, hd 1 r d _ rfl, ho 1 r d _ rfl, EReal.coe_mul])
    | 2 => refine (deltaF_apply _ _ r).trans ?_; exact (Finset.sum_congr rfl fun d _ => by rw [win64_apply, win64_apply, hd 2 r d _ rfl, ho 2 r d _ rfl, EReal.coe_mul])
    | 3 => refine (deltaF_apply _ _ r).trans ?_; exact (Finset.sum_congr rfl fun d _ => by rw [win64_apply, win64_apply, hd 3 r d _ rfl, ho 3 r d _ rfl, EReal.coe_mul])
  k h j r d := by
    rw [col_apply]
    exact (rowb_apply k j r _).trans (hk h _ d _ rfl)
  v h j r d := by
    rw [col_apply]
    exact (rowb_apply v j r _).trans (hv h _ d _ rfl)
  cr j h r := by
    refine (csb_apply cr j h r).trans ((hcr _ h r _ rfl).trans ?_)
    rw [row_mod]

end Blocks

/-! ## The blocks of a point -/

theorem idx : ∀ t : Fin cfg0.N, win0_0.index t = ![t.val % 8, 6 + t.val / 8] ∧ win0_1.index t = ![0, 8 + t.val / 8] ∧ win0_2.index t = ![0, 10 + t.val / 8]
    ∧ win0_3.index t = ![t.val / 8, t.val % 8, 0] ∧ win0_4.index t = ![t.val / 8, 0, 0, 0] ∧ win0_5.index t = ![t.val % 8, t.val / 8]
    ∧ win0_6.index t = ![t.val / 8, t.val % 8, 0] ∧ win0_7.index t = ![t.val % 8, 2 + t.val / 8]
    ∧ win0_8.index t = ![t.val % 8, t.val / 8] ∧ win0_9.index t = ![0, t.val / 8] ∧ win0_10.index t = ![0, t.val / 8]
    ∧ win0_11.index t = ![t.val / 8, 0, 0, 0] ∧ t.val / 8 < 2 :=
  (by decide +kernel : ∀ t : Fin grid0.N, _)

section Point

variable (m : (ℓ : Loc nD τ sig) → Buf (Elt Ideal) ℓ) (c : Dev nD) (t : Fin cfg0.N)

theorem grp (t : Fin cfg0.N) : t.val / 8 < 2 := (idx t).2.2.2.2.2.2.2.2.2.2.2.2

/-- The group's head `h`. -/
def hd (t : Fin cfg0.N) (h : Fin 4) : Fin 8 := ⟨t.val / 8 * 4 + h.val, by have := grp t; have := h.isLt; omega⟩

theorem blk_q (r l : Fin 256) : (iblk m c 0 t : Vec Ideal S256x256 .bf16) (ix2 r l)
    = (m ((c : Thread nD τ).loc main_arg0) : Acts) (ix2 (row (t.val % 8) r) ⟨1536 + t.val / 8 * 256 + l.val, by have := grp t; have := l.isLt; omega⟩) := by
  have hr : (row (t.val % 8) r).val = 256 * (t.val % 8) + r.val := row_val (Nat.mod_lt _ (by decide)) r
  blk_ext [iblk, V, idx t]

theorem blk_k (s : Fin 2048) (l : Fin 256) : (iblk m c 1 t : Vec Ideal S2048x256 .bf16) (ix2 s l)
    = (m ((c : Thread nD τ).loc main_arg0) : Acts) (ix2 s ⟨2048 + t.val / 8 * 256 + l.val, by have := grp t; have := l.isLt; omega⟩) := by
  blk_ext [iblk, V, idx t]

theorem blk_v (s : Fin 2048) (l : Fin 256) : (iblk m c 2 t : Vec Ideal S2048x256 .bf16) (ix2 s l)
    = (m ((c : Thread nD τ).loc main_arg0) : Acts) (ix2 s ⟨2560 + t.val / 8 * 256 + l.val, by have := grp t; have := l.isLt; omega⟩) := by
  blk_ext [iblk, V, idx t]

theorem blk_do (r l : Fin 256) : (iblk m c 7 t : Vec Ideal S256x256 .f32) (ix2 r l)
    = (m ((c : Thread nD τ).loc main_arg2) : Cots) (ix2 (row (t.val % 8) r) ⟨512 + t.val / 8 * 256 + l.val, by have := grp t; have := l.isLt; omega⟩) := by
  have hr : (row (t.val % 8) r).val = 256 * (t.val % 8) + r.val := row_val (Nat.mod_lt _ (by decide)) r
  blk_ext [iblk, V, idx t]

theorem blk_cc (r l : Fin 256) : (iblk m c 3 t : Vec Ideal S1x256x256 .f32) (ix3 0 r l)
    = (V m c main_v4 : FVec Ideal S2x2048x256 .f32) (ix3 ⟨t.val / 8, grp t⟩ (row (t.val % 8) r) l) := by
  have hr : (row (t.val % 8) r).val = 256 * (t.val % 8) + r.val := row_val (Nat.mod_lt _ (by decide)) r
  blk_ext [iblk, idx t]

theorem read_lse (A : FVec Ideal S2x2048x256 .f32) (t : Fin cfg0.N) (r l : Fin 256) :
    (((cfg0.win 6).blk t).view.read (Elt Ideal) A : Vec Ideal S1x256x256 .f32) (ix3 0 r l) = A (ix3 ⟨t.val / 8, grp t⟩ (row (t.val % 8) r) l) := by
  have hr : (row (t.val % 8) r).val = 256 * (t.val % 8) + r.val := row_val (Nat.mod_lt _ (by decide)) r
  blk_ext [idx t]

theorem blk_lse (r l : Fin 256) : (iblk m c 6 t : Vec Ideal S1x256x256 .f32) (ix3 0 r l)
    = (V m c main_v57 : FVec Ideal S2x2048x256 .f32) (ix3 ⟨t.val / 8, grp t⟩ (row (t.val % 8) r) l) :=
  read_lse (V m c main_v57) t r l

theorem blk_o (r l : Fin 256) : (iblk m c 5 t : Vec Ideal S256x256 .f32) (ix2 r l)
    = (V m c main_v49 : FVec Ideal S2048x512 .f32) (ix2 (row (t.val % 8) r) ⟨t.val / 8 * 256 + l.val, by have := grp t; have := l.isLt; omega⟩) := by
  have hr : (row (t.val % 8) r).val = 256 * (t.val % 8) + r.val := row_val (Nat.mod_lt _ (by decide)) r
  blk_ext [iblk, idx t]

theorem blk_cr (j l : Fin 8) (r : Fin 256) : (iblk m c 4 t : Vec Ideal S1x8x8x256 .f32) (ix4 0 j l r)
    = (V m c main_v9 : FVec Ideal S2x8x8x256 .f32) (ix4 ⟨t.val / 8, grp t⟩ j l r) := by
  blk_ext [iblk, idx t]

/-- The point's operands are the reals the arguments give. -/
theorem good (hX : @IsReal ⟨2, ![2048, 3328]⟩ .bf16 (m ((c : Thread nD τ).loc main_arg0))) (hC : @IsReal ⟨2, ![8, 2048]⟩ .f32 (m ((c : Thread nD τ).loc main_arg1)))
    (hY : @IsReal ⟨2, ![2048, 1280]⟩ .f32 (m ((c : Thread nD τ).loc main_arg2))) :
    Good (argOf (m ((c : Thread nD τ).loc main_arg0)) (m ((c : Thread nD τ).loc main_arg1)) (m ((c : Thread nD τ).loc main_arg2))) (hd t) (t.val % 8) (opsAt m c t) := by
  have hp := grp t
  unfold opsAt
  refine good_of ?_ ?_ ?_ ?_ ?_ ?_ ?_ ?_
  · intro h r d l e
    exact (blk_q m c t r l).trans (q_of _ _ _ hX (hd t h) _ d _ (by show 1536 + t.val / 8 * 256 + l.val = 1536 + ((t.val / 8 * 4 + h.val) * 64 + d.val); omega))
  · intro h s d l e
    exact (blk_k m c t s l).trans (k_of _ _ _ hX (hd t h) _ d _ (by show 2048 + t.val / 8 * 256 + l.val = 2048 + ((t.val / 8 * 4 + h.val) * 64 + d.val); omega))
  · intro h s d l e
    exact (blk_v m c t s l).trans (v_of _ _ _ hX (hd t h) _ d _ (by show 2560 + t.val / 8 * 256 + l.val = 2560 + ((t.val / 8 * 4 + h.val) * 64 + d.val); omega))
  · intro h r l e
    refine (blk_cc m c t r l).trans ?_
    rw [Ker.V_cc, Ker.lanes_apply, c_of _ _ (m ((c : Thread nD τ).loc main_arg2)) hC]
    have e' : (⟨t.val / 8 * 4 + l.val / 64, by have := l.isLt; omega⟩ : Fin 8) = hd t h := Fin.ext (by show t.val / 8 * 4 + l.val / 64 = t.val / 8 * 4 + h.val; omega)
    exact congrArg (fun z => ((Arg.C _ z _ : ℝ) : EReal)) e'
  · intro j h r l e
    refine (blk_cr m c t j l r).trans ?_
    rw [Ker.V_cr, Ker.crow_apply _ _ _ _ (by have := h.isLt; omega), c_of _ _ (m ((c : Thread nD τ).loc main_arg2)) hC]
    have e' : (⟨t.val / 8 * 4 + l.val, by have := h.isLt; omega⟩ : Fin 8) = hd t h := Fin.ext (by show t.val / 8 * 4 + l.val = t.val / 8 * 4 + h.val; omega)
    exact congrArg (fun z => ((Arg.C _ z _ : ℝ) : EReal)) e'
  · intro h r d l e
    refine (blk_o m c t r l).trans ?_
    rw [Ker.V_o, Ker.o_apply _ _ (m ((c : Thread nD τ).loc main_arg2)) hX hC]
    have hdl := d.isLt
    exact congrArg₂ (fun z y => ((Arg.O _ z _ y : ℝ) : EReal))
      (Fin.ext (by show (t.val / 8 * 256 + l.val) / 64 = t.val / 8 * 4 + h.val; omega))
      (Fin.ext (by show (t.val / 8 * 256 + l.val) % 64 = d.val; omega))
  · intro h r l e
    refine (blk_lse m c t r l).trans ?_
    rw [Ker.V_lse, Ker.lanes_apply, Ker.lse_apply _ _ (m ((c : Thread nD τ).loc main_arg2)) hX hC]
    have e' : (⟨t.val / 8 * 4 + l.val / 64, by have := l.isLt; omega⟩ : Fin 8) = hd t h := Fin.ext (by show t.val / 8 * 4 + l.val / 64 = t.val / 8 * 4 + h.val; omega)
    exact congrArg (fun z => ((Arg.LSE _ z _ : ℝ) : EReal)) e'
  · intro h r d l e
    exact (blk_do m c t r l).trans (d_of _ _ _ hY (hd t h) _ d _ (by show 512 + t.val / 8 * 256 + l.val = 512 + ((t.val / 8 * 4 + h.val) * 64 + d.val); omega))

end Point

end Cert.Proof.Fox

end
-- ==== Proof.KerAcc.lean ====
/- What a group of points has accumulated, as reals: sums over the row blocks the group has come to. -/
module

public import proofs.«01_k».proof.Proof.KerGood

@[expose] public section

set_option maxRecDepth 16384

noncomputable section

namespace Cert.Proof.Fox

open Cert.KernelIdeal Cert.KernelIdeal.Gen
open Idealize.ShloMosaic Idealize.ShloMosaic.TcCoe

/-- What adds `u` of a point's group and row block at every point, from zero at a group's first, holds the sum over the row blocks so far. -/
theorem accum (f : ℕ → EReal) (u : ℕ → ℕ → ℝ)
    (hf : ∀ t, t < 16 → ∀ x : ℝ, (t % 8 = 0 → x = 0) → (t % 8 ≠ 0 → f t = (x : EReal)) → f (t + 1) = ((x + u (t / 8) (t % 8) : ℝ) : EReal)) :
    ∀ t, t < 16 → f (t + 1) = ((∑ i ∈ Finset.range (t % 8 + 1), u (t / 8) i : ℝ) : EReal) := by
  intro t
  induction t with
  | zero =>
    intro ht
    rw [hf 0 ht 0 (fun _ => rfl) (fun h => absurd rfl h)]
    simp
  | succ t ih =>
    intro ht
    by_cases h : (t + 1) % 8 = 0
    · rw [hf (t + 1) ht 0 (fun _ => rfl) (fun h' => absurd h h'), h]
      simp
    · have e1 : (t + 1) / 8 = t / 8 := by omega
      have e2 : (t + 1) % 8 = t % 8 + 1 := by omega
      rw [hf (t + 1) ht _ (fun h' => absurd h' h) (fun _ => ih (by omega)), e1, e2, Finset.sum_range_succ _ (t % 8 + 1)]

theorem kvb_zero86 (h : Fin 4) (j : ℕ) (x) : kvb (F := Ideal) (k0_pay86 (F := Ideal)) h j x = ((0 : ℝ) : EReal) := by
  rw [EReal.coe_zero]; exact Ideal.ofBits_zero_f32
theorem kvb_zero87 (h : Fin 4) (j : ℕ) (x) : kvb (F := Ideal) (k0_pay87 (F := Ideal)) h j x = ((0 : ℝ) : EReal) := by
  rw [EReal.coe_zero]; exact Ideal.ofBits_zero_f32
theorem csb_zero88 (j : ℕ) (h : Fin 4) (x) : csb (F := Ideal) (k0_pay88 (F := Ideal)) j h x = ((0 : ℝ) : EReal) := by
  rw [EReal.coe_zero]; exact Ideal.ofBits_zero_f32

/-- Group `p`'s head `h`. -/
def hp (p : ℕ) (h : Fin 4) : Fin 8 := ⟨p % 2 * 4 + h.val, by have := h.isLt; omega⟩

theorem hd_eq (t : Fin cfg0.N) : hd t = hp (t.val / 8) := funext fun h => Fin.ext (by
  have := grp t
  show t.val / 8 * 4 + h.val = t.val / 8 % 2 * 4 + h.val
  rw [Nat.mod_eq_of_lt this])

section Group

variable (m : (ℓ : Loc nD τ sig) → Buf (Elt Ideal) ℓ) (c : Dev nD)

/-- The reals of the launch. -/
def argM : Arg := argOf (m ((c : Thread nD τ).loc main_arg0)) (m ((c : Thread nD τ).loc main_arg1)) (m ((c : Thread nD τ).loc main_arg2))

variable (hX : @IsReal ⟨2, ![2048, 3328]⟩ .bf16 (m ((c : Thread nD τ).loc main_arg0))) (hC : @IsReal ⟨2, ![8, 2048]⟩ .f32 (m ((c : Thread nD τ).loc main_arg1)))
  (hY : @IsReal ⟨2, ![2048, 1280]⟩ .f32 (m ((c : Thread nD τ).loc main_arg2)))
include hX hC hY

theorem goodN (t : ℕ) (ht : t < 16) : Good (argM m c) (hp (t / 8)) (t % 8) (opsN m c t) := by
  have hN : t < cfg0.N := lt_of_lt_of_eq ht N_0.symm
  have e := opsN_eq m c ⟨t, hN⟩
  have G := good m c ⟨t, hN⟩ hX hC hY
  rw [hd_eq, ← e] at G
  exact G

variable (h : Fin 4) (j : ℕ) (hj : j < 8) (s : Fin 256) (d : Fin 64)
include hj

theorem dkN_apply (t : ℕ) (ht : t < 16) : dkN m c (t + 1) h j (ix3 0 s d)
    = ((∑ i ∈ Finset.range (t % 8 + 1), ∑ r, (argM m c).DS (hp (t / 8) h) (row i r) (row j s) * ((argM m c).Q (hp (t / 8) h) (row i r) d * (1 / 8)) : ℝ) : EReal) := by
  refine accum (fun n => dkN m c n h j (ix3 0 s d))
    (fun p i => ∑ r, (argM m c).DS (hp p h) (row i r) (row j s) * ((argM m c).Q (hp p h) (row i r) d * (1 / 8))) (fun n hn x h0 h1 => ?_) t ht
  refine (goodN m c hX hC hY n hn).dk (Nat.mod_lt _ (by decide)) _ h hj s d x ?_
  unfold kStart
  by_cases hz : n % 8 = 0
  · rw [if_pos hz, h0 hz]; exact kvb_zero86 h j _
  · rw [if_neg hz]; exact h1 hz

theorem dvN_apply (t : ℕ) (ht : t < 16) : dvN m c (t + 1) h j (ix3 0 s d)
    = ((∑ i ∈ Finset.range (t % 8 + 1), ∑ r, (argM m c).P (hp (t / 8) h) (row i r) (row j s) * (argM m c).D (hp (t / 8) h) (row i r) d : ℝ) : EReal) := by
  refine accum (fun n => dvN m c n h j (ix3 0 s d))
    (fun p i => ∑ r, (argM m c).P (hp p h) (row i r) (row j s) * (argM m c).D (hp p h) (row i r) d) (fun n hn x h0 h1 => ?_) t ht
  refine (goodN m c hX hC hY n hn).dv (Nat.mod_lt _ (by decide)) _ h hj s d x ?_
  unfold vStart
  by_cases hz : n % 8 = 0
  · rw [if_pos hz, h0 hz]; exact kvb_zero87 h j _
  · rw [if_neg hz]; exact h1 hz

theorem csN_apply (t : ℕ) (ht : t < 16) : csN m c (t + 1) j h (ix4 0 0 0 s)
    = ((∑ i ∈ Finset.range (t % 8 + 1), (∑ r, (argM m c).DS (hp (t / 8) h) (row i r) (row j s)
        - (if j = i then ∑ s', (argM m c).DS (hp (t / 8) h) (row j s) s' else 0)) : ℝ) : EReal) := by
  refine accum (fun n => csN m c n j h (ix4 0 0 0 s))
    (fun p i => ∑ r, (argM m c).DS (hp p h) (row i r) (row j s) - (if j = i then ∑ s', (argM m c).DS (hp p h) (row j s) s' else 0)) (fun n hn x h0 h1 => ?_) t ht
  beta_reduce
  rw [← add_sub_assoc]
  refine (goodN m c hX hC hY n hn).cs (Nat.mod_lt _ (by decide)) _ h hj s x ?_
  unfold cStart
  by_cases hz : n % 8 = 0
  · rw [if_pos hz, h0 hz]; exact csb_zero88 j h _
  · rw [if_neg hz]; exact h1 hz

/-! ## At a group's last point -/

theorem dkN_last (t : ℕ) (ht : t < 16) (hl : t % 8 = 7) : dkN m c (t + 1) h j (ix3 0 s d) = (((argM m c).DK (hp (t / 8) h) (row j s) d : ℝ) : EReal) := by
  rw [dkN_apply m c hX hC hY h j hj s d t ht, hl,
    sum_rows fun z => (argM m c).DS (hp (t / 8) h) z (row j s) * ((argM m c).Q (hp (t / 8) h) z d * (1 / 8))]
  rfl

theorem dvN_last (t : ℕ) (ht : t < 16) (hl : t % 8 = 7) : dvN m c (t + 1) h j (ix3 0 s d) = (((argM m c).DV (hp (t / 8) h) (row j s) d : ℝ) : EReal) := by
  rw [dvN_apply m c hX hC hY h j hj s d t ht, hl,
    sum_rows fun z => (argM m c).P (hp (t / 8) h) z (row j s) * (argM m c).D (hp (t / 8) h) z d]
  rfl

theorem csN_last (t : ℕ) (ht : t < 16) (hl : t % 8 = 7) : csN m c (t + 1) j h (ix4 0 0 0 s) = (((argM m c).NC (hp (t / 8) h) (row j s) : ℝ) : EReal) := by
  rw [csN_apply m c hX hC hY h j hj s t ht, hl, Finset.sum_sub_distrib,
    sum_rows fun z => (argM m c).DS (hp (t / 8) h) z (row j s), Finset.sum_ite_eq, if_pos (Finset.mem_range.mpr hj)]
  rfl

end Group

end Cert.Proof.Fox

end
-- ==== Proof.KerOut.lean ====
/- What the points leave in the results' buffers, at an index. -/
module

public import proofs.«01_k».proof.Proof.KerAcc
public import Idealize.ShloMosaic.Lib.Pointwise.IndexBridge

@[expose] public section

set_option maxRecDepth 16384

noncomputable section

namespace Cert.Proof.Fox

open Cert.KernelIdeal Cert.KernelIdeal.Gen
open Idealize.ShloMosaic Idealize.ShloMosaic.TcCoe

/-- Four columns of 64 side by side, read. -/
theorem pick {α : Type} (f : Fin 4 → Fin 64 → α) (h : Fin 4) (d : Fin 64) (l : Fin 256) (hl : l.val = 64 * h.val + d.val) :
    (if h0 : l.val < 64 then f 0 ⟨l.val, h0⟩
      else if h1 : l.val - 64 < 64 then f 1 ⟨l.val - 64, h1⟩
        else if h2 : l.val - 64 - 64 < 64 then f 2 ⟨l.val - 64 - 64, h2⟩
          else f 3 ⟨l.val - 64 - 64 - 64, by have := l.isLt; omega⟩) = f h d := by
  have hd := d.isLt
  match h with
  | 0 =>
    have e : l.val = d.val := by simpa using hl
    rw [dif_pos (by omega)]; exact congrArg (f 0) (Fin.ext e)
  | 1 =>
    have e : l.val = 64 + d.val := by simpa using hl
    rw [dif_neg (by omega), dif_pos (by omega)]; exact congrArg (f 1) (Fin.ext (by show l.val - 64 = d.val; omega))
  | 2 =>
    have e : l.val = 128 + d.val := hl
    rw [dif_neg (by omega), dif_neg (by omega), dif_pos (by omega)]; exact congrArg (f 2) (Fin.ext (by show l.val - 64 - 64 = d.val; omega))
  | 3 =>
    have e : l.val = 192 + d.val := hl
    rw [dif_neg (by omega), dif_neg (by omega), dif_neg (by omega)]; exact congrArg (f 3) (Fin.ext (by show l.val - 64 - 64 - 64 = d.val; omega))

theorem pay1_apply (x : Fin 4 → FVec Ideal S256x64 .f32) (h : Fin 4) (r : Fin 256) (d : Fin 64) (l : Fin 256) (hl : l.val = 64 * h.val + d.val) :
    k0_pay1 (x 1) (x 2) (x 3) (k0_pay171 (x 0)) (ix2 r l) = (x h (ix2 r d) * ((1 / 8 : ℝ) : EReal) : EReal) := by
  rw [← lit_eighth]
  pointwise [k0_pay1, k0_pay171]
  exact pick (fun h d => (x h (ix2 r d) * Scalar.ofBits (F := Ideal) .f32 0x3E000000#32 : EReal)) h d l hl

theorem headV_apply (B : ℕ → Vec Ideal S1x256x64 .f32) (s : Fin 2048) (d : Fin 64) :
    headV B (ix3 0 s d) = B (s.val / 256) (ix3 0 ⟨s.val % 256, Nat.mod_lt _ (by decide)⟩ d) := by
  simp only [ix3_eq_valueIdx]
  rfl

theorem pay2_apply (x : Fin 4 → Vec Ideal S1x2048x64 .f32) (h : Fin 4) (r : Fin 2048) (d : Fin 64) (l : Fin 256) (hl : l.val = 64 * h.val + d.val) :
    k0_pay2 (x 0) (x 1) (x 2) (x 3) (ix2 r l) = x h (ix3 0 r d) := by
  pointwise [k0_pay2]
  exact pick (fun h d => x h (ix3 0 r d)) h d l hl

theorem pay3_apply (x : Fin 4 → Vec Ideal S1x2048x64 .f32) (h : Fin 4) (r : Fin 2048) (d : Fin 64) (l : Fin 256) (hl : l.val = 64 * h.val + d.val) :
    k0_pay3 (x 0) (x 1) (x 2) (x 3) (ix2 r l) = x h (ix3 0 r d) := by
  pointwise [k0_pay3]
  exact pick (fun h d => x h (ix3 0 r d)) h d l hl

theorem decayV_apply (C : ℕ → Fin 4 → Vec Ideal S1x1x1x256 .f32) (z : Elt Ideal .f32) (j l : Fin 8) (r : Fin 256) :
    decayV C z (ix4 0 j l r) = if h : l.val < 4 then C j.val ⟨l.val, h⟩ (ix4 0 0 0 r) else z := by
  simp only [ix4_eq_valueIdx]
  rfl

end Cert.Proof.Fox

end
-- ==== Proof.RefStages.lean ====
/- The reference's composed terms, stage by stage. -/
module

public import proofs.«01_k».proof.Proof.Math
public import proofs.«01_k».proof.Proof.Gen.ReferenceIdeal.Run

@[expose] public section

set_option maxRecDepth 16384

noncomputable section

namespace Cert.Proof.Fox.Ref

open Cert.ReferenceIdeal Cert.ReferenceIdeal.Gen
open Idealize.ShloMosaic Idealize.ShloMosaic.TcCoe

/-! ## The stages -/

def q (X : Acts) : FVec Ideal S8x2048x64 .f32 :=
  transpose S8x2048x64 [1, 0, 2] (shapeCast S2048x8x64 (extf .f32 (extractStridedSlice S2048x512 ![0, 1536] X slices_S2048x3328_S2048x512_0_1536) bitsLt_bf16_f32) shapeCasts_S2048x512_S2048x8x64) transposes_S2048x8x64_S8x2048x64_1_0_2
def k (X : Acts) : FVec Ideal S8x2048x64 .f32 :=
  transpose S8x2048x64 [1, 0, 2] (shapeCast S2048x8x64 (extf .f32 (extractStridedSlice S2048x512 ![0, 2048] X slices_S2048x3328_S2048x512_0_2048) bitsLt_bf16_f32) shapeCasts_S2048x512_S2048x8x64) transposes_S2048x8x64_S8x2048x64_1_0_2
def v (X : Acts) : FVec Ideal S8x2048x64 .f32 :=
  transpose S8x2048x64 [1, 0, 2] (shapeCast S2048x8x64 (extf .f32 (extractStridedSlice S2048x512 ![0, 2560] X slices_S2048x3328_S2048x512_0_2560) bitsLt_bf16_f32) shapeCasts_S2048x512_S2048x8x64) transposes_S2048x8x64_S8x2048x64_1_0_2
def ct (Y : Cots) : FVec Ideal S8x2048x64 .f32 :=
  transpose S8x2048x64 [1, 0, 2] (shapeCast S2048x8x64 (extractStridedSlice S2048x512 ![0, 512] Y slices_S2048x1280_S2048x512_0_512) shapeCasts_S2048x512_S2048x8x64) transposes_S2048x8x64_S8x2048x64_1_0_2
def mask : IVec S8x2048x2048 1 :=
  broadcastInDim S8x2048x2048 ![1, 2] bcast_S2048x2048_S8x2048x2048_1_2 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))
def lg (X : Acts) (C : Decs) : FVec Ideal S8x2048x2048 .f32 :=
  select mask (subf (addf (mulf (Host.dotGeneral dot_S8x2048x64_S8x2048x64_S8x2048x2048_2_2_1_1_0_0 none (q X) (k X)) (broadcastInDim S8x2048x2048 ![] bcast_S_S8x2048x2048 (constant S_ .f32 0x3E000000#32)))
    (broadcastInDim S8x2048x2048 ![0, 1, 2] bcast_S8x2048x1_S8x2048x2048_0_1_2 (broadcastInDim S8x2048x1 ![0, 1] bcast_S8x2048_S8x2048x1_0_1 C)))
    (broadcastInDim S8x2048x2048 ![0, 1, 2] bcast_S8x1x2048_S8x2048x2048_0_1_2 (broadcastInDim S8x1x2048 ![0, 2] bcast_S8x2048_S8x1x2048_0_2 C)))
    (broadcastInDim S8x2048x2048 ![] bcast_S_S8x2048x2048 (id (constant S_ .f32 0xFF800000#32)))
def mx (X : Acts) (C : Decs) : FVec Ideal S8x2048 .f32 :=
  maximumf (broadcastInDim S8x2048 ![] bcast_S_S8x2048 (constant S_ .f32 0xFF800000#32)) (Host.reduce FloatOps.maximumf (lg X C) (constant S_ .f32 0xFF800000#32) reducesTo_S8x2048x2048_S8x2048_d2 h_S_)
def e (X : Acts) (C : Decs) : FVec Ideal S8x2048x2048 .f32 :=
  Host.exp (subf (lg X C) (broadcastInDim S8x2048x2048 ![0, 1, 2] bcast_S8x2048x1_S8x2048x2048_0_1_2 (broadcastInDim S8x2048x1 ![0, 1] bcast_S8x2048_S8x2048x1_0_1 (mx X C))))
def l (X : Acts) (C : Decs) : FVec Ideal S8x2048x1 .f32 :=
  broadcastInDim S8x2048x1 ![0, 1] bcast_S8x2048_S8x2048x1_0_1 (Host.reduceAdd (e X C) (constant S_ .f32 0x00000000#32) reducesTo_S8x2048x2048_S8x2048_d2 h_S_)
def p (X : Acts) (C : Decs) : FVec Ideal S8x2048x2048 .f32 :=
  Host.divf (e X C) (broadcastInDim S8x2048x2048 ![0, 1, 2] bcast_S8x2048x1_S8x2048x2048_0_1_2 (l X C))
def dp (X : Acts) (Y : Cots) : FVec Ideal S8x2048x2048 .f32 :=
  Host.dotGeneral dot_S8x2048x64_S8x2048x64_S8x2048x2048_2_2_1_1_0_0 none (ct Y) (v X)
def dl (X : Acts) (C : Decs) (Y : Cots) : FVec Ideal S8x2048x1 .f32 :=
  Host.negf (shapeCast S8x2048x1 (Host.reduceAdd (mulf (mulf (dp X Y) (broadcastInDim S8x2048x2048 ![0, 1, 2] bcast_S8x2048x1_S8x2048x2048_0_1_2
    (Host.divf (broadcastInDim S8x2048x1 ![] bcast_S_S8x2048x1 (constant S_ .f32 0x3F800000#32)) (mulf (l X C) (l X C))))) (e X C))
    (constant S_ .f32 0x00000000#32) reducesTo_S8x2048x2048_S8x2048_d2 h_S_) shapeCasts_S8x2048_S8x2048x1)
def ds (X : Acts) (C : Decs) (Y : Cots) : FVec Ideal S8x2048x2048 .f32 :=
  select mask (mulf (addf (Host.divf (dp X Y) (broadcastInDim S8x2048x2048 ![0, 1, 2] bcast_S8x2048x1_S8x2048x2048_0_1_2 (l X C)))
    (broadcastInDim S8x2048x2048 ![0, 1] bcast_S8x2048_S8x2048x2048_0_1 (Host.reduceAdd (dl X C Y) (constant S_ .f32 0x00000000#32) reducesTo_S8x2048x1_S8x2048_d2 h_S_))) (e X C))
    (broadcastInDim S8x2048x2048 ![] bcast_S_S8x2048x2048 (constant S_ .f32 0x00000000#32))
def dss (X : Acts) (C : Decs) (Y : Cots) : FVec Ideal S8x2048x2048 .f32 :=
  mulf (ds X C Y) (broadcastInDim S8x2048x2048 ![] bcast_S_S8x2048x2048 (constant S_ .f32 0x3E000000#32))
def dc (X : Acts) (C : Decs) (Y : Cots) : FVec Ideal S8x2048 .f32 :=
  addf (Host.reduceAdd (shapeCast S8x1x2048 (Host.reduceAdd (Host.negf (ds X C Y)) (constant S_ .f32 0x00000000#32) reducesTo_S8x2048x2048_S8x2048_d1 h_S_) shapeCasts_S8x2048_S8x1x2048)
      (constant S_ .f32 0x00000000#32) reducesTo_S8x1x2048_S8x2048_d1 h_S_)
    (Host.reduceAdd (shapeCast S8x2048x1 (Host.reduceAdd (ds X C Y) (constant S_ .f32 0x00000000#32) reducesTo_S8x2048x2048_S8x2048_d2 h_S_) shapeCasts_S8x2048_S8x2048x1)
      (constant S_ .f32 0x00000000#32) reducesTo_S8x2048x1_S8x2048_d2 h_S_)
/-- The heads side by side, rounded. -/
def out (x : FVec Ideal S8x2048x64 .f32) : FVec Ideal S2048x512 .bf16 :=
  truncf .bf16 (shapeCast S2048x512 (transpose S2048x8x64 [1, 0, 2] x transposes_S8x2048x64_S2048x8x64_1_0_2) shapeCasts_S2048x8x64_S2048x512) bitsLt_bf16_f32
def dq (X : Acts) (C : Decs) (Y : Cots) : FVec Ideal S2048x512 .bf16 :=
  out (Host.dotGeneral dot_S8x2048x2048_S8x2048x64_S8x2048x64_2_1_1_2_0_0 none (dss X C Y) (k X))
def dk (X : Acts) (C : Decs) (Y : Cots) : FVec Ideal S2048x512 .bf16 :=
  out (Host.dotGeneral dot_S8x2048x2048_S8x2048x64_S8x2048x64_1_1_2_2_0_0 none (dss X C Y) (q X))
def dv (X : Acts) (C : Decs) (Y : Cots) : FVec Ideal S2048x512 .bf16 :=
  out (transpose S8x2048x64 [0, 2, 1] (Host.dotGeneral dot_S8x2048x64_S8x2048x2048_S8x64x2048_1_1_2_2_0_0 none (ct Y) (p X C)) transposes_S8x64x2048_S8x2048x64_0_2_1)
def cs (X : Acts) (C : Decs) (Y : Cots) : FVec Ideal S2x8x8x256 .f32 :=
  pad S2x8x8x256 ![0, 0, 0, 0] ![0, 0, 4, 0] ![0, 0, 0, 0]
    (transpose S2x8x4x256 [0, 2, 1, 3] (shapeCast S2x4x8x256 (Host.negf (dc X C Y)) shapeCasts_S8x2048_S2x4x8x256) transposes_S2x4x8x256_S2x8x4x256_0_2_1_3)
    (sitofp .f32 (constantI S_ 32 0#32)) pads_S2x8x4x256_S2x8x8x256_000_000_040_000 h_S_

section Results

variable (m : (ℓ : Loc nD τ sig) → Buf (Elt Ideal) ℓ) (c : Dev nD)

theorem res_dq : Value.res_out0 m c = dq (m ((c.tc : Thread nD τ).loc main_arg0)) (m ((c.tc : Thread nD τ).loc main_arg1)) (m ((c.tc : Thread nD τ).loc main_arg2)) := by
  unfold Value.res_out0 Value.res_main_v93; rfl
theorem res_dk : Value.res_out1 m c = dk (m ((c.tc : Thread nD τ).loc main_arg0)) (m ((c.tc : Thread nD τ).loc main_arg1)) (m ((c.tc : Thread nD τ).loc main_arg2)) := by
  unfold Value.res_out1 Value.res_main_v96; rfl
theorem res_dv : Value.res_out2 m c = dv (m ((c.tc : Thread nD τ).loc main_arg0)) (m ((c.tc : Thread nD τ).loc main_arg1)) (m ((c.tc : Thread nD τ).loc main_arg2)) := by
  unfold Value.res_out2 Value.res_main_v99; rfl
theorem res_cs : Value.res_out3 m c = cs (m ((c.tc : Thread nD τ).loc main_arg0)) (m ((c.tc : Thread nD τ).loc main_arg1)) (m ((c.tc : Thread nD τ).loc main_arg2)) := by
  unfold Value.res_out3 Value.res_main_v100; rfl

end Results

end Cert.Proof.Fox.Ref

end
-- ==== Proof.RefValue.lean ====
/- The reference's results at an index: every stage read as the real formulas of `Arg`. -/
module

public import proofs.«01_k».proof.Proof.RefStages

@[expose] public section

set_option maxRecDepth 16384

noncomputable section

namespace Cert.Proof.Fox.Ref

open Cert.ReferenceIdeal Cert.ReferenceIdeal.Gen
open Idealize.ShloMosaic Idealize.ShloMosaic.TcCoe

/-! ## Read at an index -/

theorem sitofp_zero : (FloatOps.sitofp (F := Ideal) .f32 (0#32) : EReal) = 0 := by
  show (((0#32 : BitVec 32).toInt : ℝ) : EReal) = 0
  simp

/-- The largest of a row. -/
theorem reduce_max (x : FVec Ideal S8x2048x2048 .f32) (h : Fin 8) (t : Fin 2048) :
    (Host.reduce FloatOps.maximumf x (constant S_ .f32 0xFF800000#32) reducesTo_S8x2048x2048_S8x2048_d2 h_S_ : FVec Ideal S8x2048 .f32) (ix2 h t)
      = Finset.univ.fold max ⊥ (fun s : Fin 2048 => (x (ix3 h t s) : EReal)) := by
  pointwise
  rw [lit_bot]

theorem broadcast_bot (j : S8x2048.Idx) :
    (broadcastInDim S8x2048 ![] bcast_S_S8x2048 (constant (F := Ideal) S_ .f32 0xFF800000#32) j : EReal) = ⊥ := by
  pointwise
  rw [lit_bot]

section Read

variable (X : Acts) (C : Decs) (Y : Cots) (hX : IsReal X) (hC : IsReal C) (hY : IsReal Y)
  (h : Fin 8) (t s : Fin 2048) (d : Fin 64)

section Xs
include hX

theorem q_apply : q X (ix3 h t d) = (((argOf X C Y).Q h t d : ℝ) : EReal) := by
  pointwise [q]
  exact q_of X C Y hX h t d _ rfl
theorem k_apply : k X (ix3 h t d) = (((argOf X C Y).K h t d : ℝ) : EReal) := by
  pointwise [k]
  exact k_of X C Y hX h t d _ rfl
theorem v_apply : v X (ix3 h t d) = (((argOf X C Y).V h t d : ℝ) : EReal) := by
  pointwise [v]
  exact v_of X C Y hX h t d _ rfl
end Xs

include hY in
theorem ct_apply : ct Y (ix3 h t d) = (((argOf X C Y).D h t d : ℝ) : EReal) := by
  pointwise [ct]
  exact d_of X C Y hY h t d _ rfl

theorem mask_apply {α : Type} (x y : α) : Scalar.select (mask (ix3 h t s)) x y = if s ≤ t then x else y := by
  rw [← select_sle (le_refl 2048)]
  pointwise [mask]

include hX hC

theorem lg_apply : lg X C (ix3 h t s) = (argOf X C Y).lg h t s := by
  pointwise [lg]
  rw [mask_apply, show (id (constant (F := Ideal) S_ .f32 0xFF800000#32) ix0 : EReal) = ⊥ from lit_bot, lit_eighth]
  simp only [q_apply X C Y hX, k_apply X C Y hX, c_of X C Y hC, ← EReal.coe_mul, ← EReal.coe_sub, ← coe_sum, ← EReal.coe_add]
  rfl

theorem mx_apply : mx X C (ix2 h t) = (((argOf X C Y).M h t : ℝ) : EReal) := by
  unfold mx
  rw [Arg.coe_M, maximumf_apply, broadcast_bot, reduce_max]
  simp only [lg_apply X C Y hX hC]
  exact max_bot_left _

theorem e_apply : e X C (ix3 h t s) = (((argOf X C Y).E h t s : ℝ) : EReal) := by
  rw [← Arg.exp_lg]
  pointwise [e]
  rw [lg_apply X C Y hX hC, mx_apply X C Y hX hC]

theorem l_apply : l X C (ix3 h t 0) = (((argOf X C Y).L h t : ℝ) : EReal) := by
  pointwise [l]
  simp only [e_apply X C Y hX hC, ← coe_sum]
  rfl

theorem p_apply : p X C (ix3 h t s) = (((argOf X C Y).P h t s : ℝ) : EReal) := by
  pointwise [p]
  rw [e_apply X C Y hX hC, l_apply X C Y hX hC, div_coe _ _ (Arg.L_ne _ _ _)]
  rfl

omit hC in
include hY in
theorem dp_apply : dp X Y (ix3 h t s) = (((argOf X C Y).DP h t s : ℝ) : EReal) := by
  pointwise [dp]
  simp only [ct_apply X C Y hY, v_apply X C Y hX, ← EReal.coe_mul, ← coe_sum]
  rfl

include hY

theorem dl_apply : dl X C Y (ix3 h t 0)
    = ((-(∑ s', (argOf X C Y).DP h t s' * (1 / ((argOf X C Y).L h t * (argOf X C Y).L h t)) * (argOf X C Y).E h t s') : ℝ) : EReal) := by
  pointwise [dl]
  rw [l_apply X C Y hX hC, ← EReal.coe_mul, ← EReal.coe_one, div_coe _ _ (mul_ne_zero (Arg.L_ne _ _ _) (Arg.L_ne _ _ _))]
  simp only [dp_apply X C Y hX hY, e_apply X C Y hX hC, ← EReal.coe_mul, ← coe_sum, ← EReal.coe_neg]

theorem ds_apply : ds X C Y (ix3 h t s) = (((argOf X C Y).DS h t s : ℝ) : EReal) := by
  rw [Arg.DS_eq]
  pointwise [ds]
  rw [mask_apply, Fin.sum_univ_one, dl_apply X C Y hX hC hY, l_apply X C Y hX hC, dp_apply X C Y hX hY, e_apply X C Y hX hC, div_coe _ _ (Arg.L_ne _ _ _),
    ← EReal.coe_add, ← EReal.coe_mul]
  split <;> rfl

theorem dss_apply : dss X C Y (ix3 h t s) = (((argOf X C Y).DS h t s * (1 / 8) : ℝ) : EReal) := by
  pointwise [dss]
  rw [ds_apply X C Y hX hC hY, lit_eighth, ← EReal.coe_mul]

theorem dq_apply (j : Fin 512) : dq X C Y (ix2 t j)
    = (((argOf X C Y).DQ ⟨j.val / 64, by have := j.isLt; omega⟩ t ⟨j.val % 64, Nat.mod_lt _ (by decide)⟩ : ℝ) : EReal) := by
  pointwise [dq, out]
  simp only [dss_apply X C Y hX hC hY, k_apply X C Y hX, ← EReal.coe_mul, ← coe_sum]
  congr 1
  unfold Arg.DQ
  rw [Finset.sum_mul]
  exact Finset.sum_congr rfl fun s _ => by ring

theorem dk_apply (j : Fin 512) : dk X C Y (ix2 t j)
    = (((argOf X C Y).DK ⟨j.val / 64, by have := j.isLt; omega⟩ t ⟨j.val % 64, Nat.mod_lt _ (by decide)⟩ : ℝ) : EReal) := by
  pointwise [dk, out]
  simp only [dss_apply X C Y hX hC hY, q_apply X C Y hX, ← EReal.coe_mul, ← coe_sum]
  congr 1
  unfold Arg.DK
  exact Finset.sum_congr rfl fun s _ => by ring

theorem dv_apply (j : Fin 512) : dv X C Y (ix2 t j)
    = (((argOf X C Y).DV ⟨j.val / 64, by have := j.isLt; omega⟩ t ⟨j.val % 64, Nat.mod_lt _ (by decide)⟩ : ℝ) : EReal) := by
  pointwise [dv, out]
  simp only [ct_apply X C Y hY, p_apply X C Y hX hC, ← EReal.coe_mul, ← coe_sum]
  congr 1
  unfold Arg.DV
  exact Finset.sum_congr rfl fun s _ => by ring

theorem dc_apply : dc X C Y (ix2 h s) = ((-(argOf X C Y).NC h s : ℝ) : EReal) := by
  pointwise [dc]
  simp only [ds_apply X C Y hX hC hY, ← EReal.coe_neg, ← coe_sum, ← EReal.coe_add]
  congr 1
  unfold Arg.NC
  rw [Fin.sum_univ_one, Fin.sum_univ_one, Finset.sum_neg_distrib]
  ring

theorem cs_apply (y0 : Fin 2) (y1 y2 : Fin 8) (y3 : Fin 256) : cs X C Y (ix4 y0 y1 y2 y3)
    = if hy : y2.val < 4 then (((argOf X C Y).NC ⟨4 * y0.val + y2.val, by have := y0.isLt; omega⟩ (row y1.val y3) : ℝ) : EReal) else 0 := by
  pointwise [cs]
  split
  · next hy =>
    rw [dc_apply X C Y hX hC hY, ← EReal.coe_neg, neg_neg]
    have e1 : (⟨y0.val * 4 + y2.val, by have := y0.isLt; omega⟩ : Fin 8) = ⟨4 * y0.val + y2.val, by have := y0.isLt; omega⟩ := Fin.ext (by show y0.val * 4 + y2.val = 4 * y0.val + y2.val; omega)
    have e2 : (⟨y1.val * 256 + y3.val, by have := y1.isLt; have := y3.isLt; omega⟩ : Fin 2048) = row y1.val y3 :=
      Fin.ext (by rw [row_val y1.isLt]; show y1.val * 256 + y3.val = _; omega)
    rw [← e1, ← e2]
  · exact sitofp_zero

end Read

end Cert.Proof.Fox.Ref

end
-- ==== Proof.KerFinal.lean ====
/- The results' arrays after the run: the reference's gradients of the same arguments. -/
module

public import proofs.«01_k».proof.Proof.KerOut
public import proofs.«01_k».proof.Proof.RefValue
public import proofs.«01_k».proof.Proof.Run

@[expose] public section

set_option maxRecDepth 16384

noncomputable section

namespace Cert.Proof.Fox

open Cert.KernelIdeal Cert.KernelIdeal.Gen
open Idealize.ShloMosaic Idealize.ShloMosaic.TcCoe

theorem head_eq (t : Fin cfg0.N) (l : Fin 256) (z : Fin 8) (hz : z.val = (t.val / 8 * 256 + l.val) / 64) :
    z = hp (t.val / 8) ⟨l.val / 64, by have := l.isLt; omega⟩ := Fin.ext (by
  have := grp t
  show z.val = t.val / 8 % 2 * 4 + l.val / 64
  omega)

/-- The accumulated results leave at a group's last point. -/
theorem flush_last : ∀ t : Fin cfg0.N, ((cfg0.win 9).flush t = true → t.val % 8 = 7) ∧ ((cfg0.win 10).flush t = true → t.val % 8 = 7)
    ∧ ((cfg0.win 11).flush t = true → t.val % 8 = 7) := by decide +kernel

section Final

variable (m : (ℓ : Loc nD τ sig) → Buf (Elt Ideal) ℓ) (c : Dev nD)

abbrev argX : Acts := m ((c : Thread nD τ).loc main_arg0)
abbrev argC : Decs := m ((c : Thread nD τ).loc main_arg1)
abbrev argY : Cots := m ((c : Thread nD τ).loc main_arg2)

variable (hX : @IsReal ⟨2, ![2048, 3328]⟩ .bf16 (m ((c : Thread nD τ).loc main_arg0))) (hC : @IsReal ⟨2, ![8, 2048]⟩ .f32 (m ((c : Thread nD τ).loc main_arg1)))
  (hY : @IsReal ⟨2, ![2048, 1280]⟩ .f32 (m ((c : Thread nD τ).loc main_arg2)))
include hX hC hY

theorem dqV_apply (t : Fin cfg0.N) (r l : Fin 256) (a : Fin 2048) (b : Fin 512) (ha : a.val = t.val % 8 * 256 + r.val) (hb : b.val = t.val / 8 * 256 + l.val) :
    dqV m c t (ix2 r l) = Ref.dq (argX m c) (argC m c) (argY m c) (ix2 a b) := by
  have ht : t.val < 16 := lt_of_lt_of_eq t.isLt N_0
  have hl := l.isLt
  have G := goodN m c hX hC hY t.val ht
  rw [opsN_eq] at G
  rw [Ref.dq_apply (argX m c) (argC m c) (argY m c) hX hC hY]
  unfold dqV
  rw [pay1_apply (fun h => (opsAt m c t).dq (t.val % 8) h (t.val % 8 + 1)) ⟨l.val / 64, by omega⟩ r ⟨l.val % 64, Nat.mod_lt _ (by decide)⟩ l (by show l.val = 64 * (l.val / 64) + l.val % 64; omega),
    G.dq_all (Nat.mod_lt _ (by decide)), ← EReal.coe_mul]
  have e1 : a = row (t.val % 8) r := Fin.ext (by rw [row_val (Nat.mod_lt _ (by decide))]; omega)
  have e2 := head_eq t l ⟨b.val / 64, by have := b.isLt; omega⟩ (by show b.val / 64 = _; omega)
  have e3 : (⟨b.val % 64, Nat.mod_lt _ (by decide)⟩ : Fin 64) = ⟨l.val % 64, Nat.mod_lt _ (by decide)⟩ := Fin.ext (by show b.val % 64 = l.val % 64; omega)
  rw [e1, e2, e3]
  rfl

theorem dqV_at (t : Fin cfg0.N) (y : S256x256.Idx) (i : S2048x512.Idx) (h0 : (i 0).val = t.val % 8 * 256 + (y 0).val) (h1 : (i 1).val = t.val / 8 * 256 + (y 1).val) :
    dqV m c t y = Ref.dq (argX m c) (argC m c) (argY m c) i := by
  idx_vars y
  idx_vars i
  exact dqV_apply m c hX hC hY t _ _ _ _ h0 h1

theorem final_dq : (dats m 0 c).arrAt 8 cfg0.N = Ref.dq (argX m c) (argC m c) (argY m c) := by
  refine (dats m 0 c).arrAt_eq_of_covers 8 _ (by decide +kernel) fun t hf y => ?_
  blk_simp [idx t]
  refine Eq.trans ?_ (dqV_at m c hX hC hY t y _ ?_ ?_)
  · dsimp only [dats]
  · blk_simp [idx t]
  · blk_simp [idx t]

theorem dkV_apply (t : Fin cfg0.N) (hlast : t.val % 8 = 7) (s : Fin 2048) (l : Fin 256) (b : Fin 512) (hb : b.val = t.val / 8 * 256 + l.val) :
    dkV m c t (ix2 s l) = Ref.dk (argX m c) (argC m c) (argY m c) (ix2 s b) := by
  have ht : t.val < 16 := lt_of_lt_of_eq t.isLt N_0
  have hl := l.isLt
  have hs := s.isLt
  rw [Ref.dk_apply (argX m c) (argC m c) (argY m c) hX hC hY]
  unfold dkV
  rw [pay2_apply (fun h => headV (dkN m c (t.val + 1) h)) ⟨l.val / 64, by omega⟩ s ⟨l.val % 64, Nat.mod_lt _ (by decide)⟩ l (by show l.val = 64 * (l.val / 64) + l.val % 64; omega),
    headV_apply, dkN_last m c hX hC hY _ (s.val / 256) (by omega) ⟨s.val % 256, Nat.mod_lt _ (by decide)⟩ _ t.val ht hlast, row_div_mod]
  have e2 := head_eq t l ⟨b.val / 64, by have := b.isLt; omega⟩ (by show b.val / 64 = _; omega)
  have e3 : (⟨b.val % 64, Nat.mod_lt _ (by decide)⟩ : Fin 64) = ⟨l.val % 64, Nat.mod_lt _ (by decide)⟩ := Fin.ext (by show b.val % 64 = l.val % 64; omega)
  rw [e2, e3]
  rfl

theorem dkV_at (t : Fin cfg0.N) (hlast : t.val % 8 = 7) (y : S2048x256.Idx) (i : S2048x512.Idx) (h0 : (i 0).val = (y 0).val) (h1 : (i 1).val = t.val / 8 * 256 + (y 1).val) :
    dkV m c t y = Ref.dk (argX m c) (argC m c) (argY m c) i := by
  idx_vars y
  idx_vars i
  obtain rfl := Fin.ext h0
  exact dkV_apply m c hX hC hY t hlast _ _ _ h1

theorem final_dk : (dats m 0 c).arrAt 9 cfg0.N = Ref.dk (argX m c) (argC m c) (argY m c) := by
  refine (dats m 0 c).arrAt_eq_of_covers 9 _ (by decide +kernel) fun t hf y => ?_
  have hlast := (flush_last t).1 hf
  blk_simp [idx t]
  refine Eq.trans ?_ (dkV_at m c hX hC hY t hlast y _ ?_ ?_)
  · dsimp only [dats]
  · blk_simp [idx t]
  · blk_simp [idx t]

theorem dvV_apply (t : Fin cfg0.N) (hlast : t.val % 8 = 7) (s : Fin 2048) (l : Fin 256) (b : Fin 512) (hb : b.val = t.val / 8 * 256 + l.val) :
    dvV m c t (ix2 s l) = Ref.dv (argX m c) (argC m c) (argY m c) (ix2 s b) := by
  have ht : t.val < 16 := lt_of_lt_of_eq t.isLt N_0
  have hl := l.isLt
  have hs := s.isLt
  rw [Ref.dv_apply (argX m c) (argC m c) (argY m c) hX hC hY]
  unfold dvV
  rw [pay3_apply (fun h => headV (dvN m c (t.val + 1) h)) ⟨l.val / 64, by omega⟩ s ⟨l.val % 64, Nat.mod_lt _ (by decide)⟩ l (by show l.val = 64 * (l.val / 64) + l.val % 64; omega),
    headV_apply, dvN_last m c hX hC hY _ (s.val / 256) (by omega) ⟨s.val % 256, Nat.mod_lt _ (by decide)⟩ _ t.val ht hlast, row_div_mod]
  have e2 := head_eq t l ⟨b.val / 64, by have := b.isLt; omega⟩ (by show b.val / 64 = _; omega)
  have e3 : (⟨b.val % 64, Nat.mod_lt _ (by decide)⟩ : Fin 64) = ⟨l.val % 64, Nat.mod_lt _ (by decide)⟩ := Fin.ext (by show b.val % 64 = l.val % 64; omega)
  rw [e2, e3]
  rfl

theorem dvV_at (t : Fin cfg0.N) (hlast : t.val % 8 = 7) (y : S2048x256.Idx) (i : S2048x512.Idx) (h0 : (i 0).val = (y 0).val) (h1 : (i 1).val = t.val / 8 * 256 + (y 1).val) :
    dvV m c t y = Ref.dv (argX m c) (argC m c) (argY m c) i := by
  idx_vars y
  idx_vars i
  obtain rfl := Fin.ext h0
  exact dvV_apply m c hX hC hY t hlast _ _ _ h1

theorem final_dv : (dats m 0 c).arrAt 10 cfg0.N = Ref.dv (argX m c) (argC m c) (argY m c) := by
  refine (dats m 0 c).arrAt_eq_of_covers 10 _ (by decide +kernel) fun t hf y => ?_
  have hlast := (flush_last t).2.1 hf
  blk_simp [idx t]
  refine Eq.trans ?_ (dvV_at m c hX hC hY t hlast y _ ?_ ?_)
  · dsimp only [dats]
  · blk_simp [idx t]
  · blk_simp [idx t]

theorem csV_apply (t : Fin cfg0.N) (hlast : t.val % 8 = 7) (p : Fin 2) (j l : Fin 8) (r : Fin 256) (hp' : p.val = t.val / 8) :
    csV m c (t.val + 1) (ix4 0 j l r) = Ref.cs (argX m c) (argC m c) (argY m c) (ix4 p j l r) := by
  have ht : t.val < 16 := lt_of_lt_of_eq t.isLt N_0
  have hpp := p.isLt
  rw [Ref.cs_apply (argX m c) (argC m c) (argY m c) hX hC hY]
  unfold csV
  rw [decayV_apply]
  split
  · next h =>
    rw [csN_last m c hX hC hY ⟨l.val, h⟩ j.val j.isLt r t.val ht hlast]
    have e : (⟨4 * p.val + l.val, by omega⟩ : Fin 8) = hp (t.val / 8) ⟨l.val, h⟩ := Fin.ext (by show 4 * p.val + l.val = t.val / 8 % 2 * 4 + l.val; omega)
    rw [e]
    rfl
  · exact Ideal.ofBits_zero_f32

theorem csV_at (t : Fin cfg0.N) (hlast : t.val % 8 = 7) (y : S1x8x8x256.Idx) (i : S2x8x8x256.Idx) (h0 : (i 0).val = t.val / 8) (h1 : (i 1).val = (y 1).val)
    (h2 : (i 2).val = (y 2).val) (h3 : (i 3).val = (y 3).val) :
    csV m c (t.val + 1) y = Ref.cs (argX m c) (argC m c) (argY m c) i := by
  idx_vars y
  idx_vars i
  obtain rfl : i1 = y1 := Fin.ext h1
  obtain rfl : i2 = y2 := Fin.ext h2
  obtain rfl : i3 = y3 := Fin.ext h3
  obtain rfl : y0 = 0 := Subsingleton.elim _ _
  exact csV_apply m c hX hC hY t hlast _ _ _ _ h0

theorem final_cs : (dats m 0 c).arrAt 11 cfg0.N = Ref.cs (argX m c) (argC m c) (argY m c) := by
  refine (dats m 0 c).arrAt_eq_of_covers 11 _ (by decide +kernel) fun t hf y => ?_
  have hlast := (flush_last t).2.2 hf
  blk_simp [idx t]
  refine Eq.trans ?_ (csV_at m c hX hC hY t hlast y _ ?_ ?_ ?_ ?_)
  · dsimp only [dats]
  · blk_simp [idx t]
  · blk_simp [idx t]
  · blk_simp [idx t]
  · blk_simp [idx t]

end Final

end Cert.Proof.Fox

end
-- ==== Proof.Finite.lean ====
/- The precondition, read: every element of the arguments is a real. -/
module

public import proofs.«01_k».proof.Pre_finite
public import proofs.«01_k».proof.Proof.Math
public import Idealize.ShloMosaic.Lib.ReduceAll

@[expose] public section

set_option maxRecDepth 16384

noncomputable section

namespace Cert.Proof.Fox

open Idealize.ShloMosaic

theorem facts_finite : Cert.Pre_finite.Facts where
  bcast_S_S2048x3328 := by decide
  reducesTo_S2048x3328_S_d0_1 := by decide
  h_S_ := by decide
  bcast_S_S8x2048 := by decide
  reducesTo_S8x2048_S_d0_1 := by decide
  bcast_S_S2048x1280 := by decide
  reducesTo_S2048x1280_S_d0_1 := by decide

theorem lit_top : Ideal.ofBits .f32 0x7F800000#32 = (⊤ : EReal) := by simp [Ideal.ofBits, Ideal.ieee]
theorem lit_top_bf16 : Ideal.ofBits .bf16 0x7F80#16 = (⊤ : EReal) := by simp [Ideal.ofBits, Ideal.ieee]

theorem real_of (x : EReal) (e : Ideal.cmp .olt (max x (-x)) ⊤ = 1#1) : x = ((x.toReal : ℝ) : EReal) := by
  have h : max x (-x) < ⊤ := by
    by_contra h
    have e' : Ideal.cmp .olt (max x (-x)) ⊤ = 0#1 := by unfold Ideal.cmp; simp [h]
    rw [e'] at e
    exact absurd e (by decide)
  refine (EReal.coe_toReal (fun hx => ?_) (fun hx => ?_)).symm
  · rw [hx] at h; exact absurd h (by simp)
  · rw [hx] at h; exact absurd h (by simp)

instance : Subsingleton (Cert.Pre_finite.S_).Idx := ⟨fun _ _ => funext fun a => nomatch a⟩

theorem isReal_of (hf : Cert.Pre_finite.Facts) (X : Acts) (C : Decs) (Y : Cots) (e : Cert.Pre_finite.fn (F := Ideal) X C Y = fun _ => 1#1) :
    IsReal X ∧ IsReal C ∧ IsReal Y := by
  have e0 := congrFun e ix0
  unfold Cert.Pre_finite.fn at e0
  obtain ⟨e1, eY⟩ := IntOp.andi_eq_one.1 e0
  obtain ⟨eX, eC⟩ := IntOp.andi_eq_one.1 e1
  refine ⟨fun i => real_of _ ?_, fun i => real_of _ ?_, fun i => real_of _ ?_⟩
  · rw [← lit_top_bf16]; exact Host.reduce_andi_all _ _ _ _ _ eX i
  · rw [← lit_top]; exact Host.reduce_andi_all _ _ _ _ _ eC i
  · rw [← lit_top]; exact Host.reduce_andi_all _ _ _ _ _ eY i

end Cert.Proof.Fox

end
-- ==== Proof.ProdDwInA.lean ====
/- The gradient of the input projection's weights, its columns of the attentions' q, k and v: a point stores the product of a block
   of h's columns with a block of dpa's, and these blocks tile the reference's product. -/
module

public import proofs.«01_k».proof.Defs
public import proofs.«01_k».proof.Proof.Gen.DwInAIdeal.Value
public import proofs.«01_k».proof.Proof.Gen.DwInAReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Fox.DwInA

open Cert.DwInAIdeal Cert.DwInAIdeal.Gen

variable (m : (ℓ : Loc nD τ sig) → Buf (Elt Ideal) ℓ)

/-- What the reference computes of the two arguments. -/
abbrev product (h : FVec Ideal S2048x1024 .bf16) (g : FVec Ideal S2048x3328 .bf16) : FVec Ideal S1024x3328 .f32 :=
  transpose S1024x3328 [1, 0] (Host.dotGeneral Cert.DwInAReferenceIdeal.dot_S2048x3328_S2048x1024_S3328x1024_0_0_1_1_n_n none
    (extf .f32 g Cert.DwInAReferenceIdeal.Gen.bitsLt_bf16_f32) (extf .f32 h Cert.DwInAReferenceIdeal.Gen.bitsLt_bf16_f32))
    Cert.DwInAReferenceIdeal.Gen.transposes_S3328x1024_S1024x3328_1_0

/-- The blocks of the windows, at every point of the grid. -/
theorem idx : ∀ t : Fin cfg0.N, win0_0.index t = ![0, (grid0.coords t 1).val] ∧ win0_1.index t = ![0, (grid0.coords t 0).val]
    ∧ win0_2.index t = ![(grid0.coords t 1).val, (grid0.coords t 0).val] :=
  (by decide +kernel : ∀ t : Fin grid0.N, _)

/-- What a point stores is the reference's block there. -/
theorem point (c : Dev nD) (t : Fin cfg0.N) (y) : k0_pay1 (iblk m c 0 t) (iblk m c 1 t) y
    = product (m ((c : Thread nD τ).loc main_arg0)) (m ((c : Thread nD τ).loc main_arg1)) (((cfg0.win 2).blk t).view.emb y) := by
  pointwise [k0_pay1, product]
  refine Finset.sum_congr rfl fun k _ => ?_
  rw [mul_comm]
  blk_point [iblk, V, idx t]

/-- The blocks tile the array. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The kernel's result is the reference's, whatever the arguments are. -/
theorem equal : Cert.algebraic_DwInAIdeal_DwInAReferenceIdeal := by
  intro m g m' g' _ hargs
  refine ⟨fun c => product (m ((c : Thread nD τ).loc main_arg0)) (m ((c : Thread nD τ).loc main_arg1)), ?_, ?_⟩
  · exact (θ_run defs _ _).mono (fun _ h c => ⟨(h c).1.trans (final m c), (h c).2⟩) (Value.run_blocks m g)
  · refine (θ_run Cert.DwInAReferenceIdeal.defs _ _).mono (fun r h c => ?_) (Cert.DwInAReferenceIdeal.Value.run m' g')
    obtain ⟨h0, ha⟩ := h c
    refine ⟨h0.trans ?_, ha⟩
    rw [(hargs c).1, (hargs c).2]

end Fox.DwInA

end
-- ==== Proof.ProdDwInB.lean ====
/- The gradient of the input projection's weights, its columns of the gate and of the forget logits: a point stores the product of a
   block of h's columns with all of dpb, and these blocks tile the reference's product. -/
module

public import proofs.«01_k».proof.Defs
public import proofs.«01_k».proof.Proof.Gen.DwInBIdeal.Value
public import proofs.«01_k».proof.Proof.Gen.DwInBReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Fox.DwInB

open Cert.DwInBIdeal Cert.DwInBIdeal.Gen

variable (m : (ℓ : Loc nD τ sig) → Buf (Elt Ideal) ℓ)

/-- What the reference computes of the two arguments. -/
abbrev product (h : FVec Ideal S2048x1024 .bf16) (g : FVec Ideal S2048x1408 .bf16) : FVec Ideal S1024x1408 .f32 :=
  transpose S1024x1408 [1, 0] (Host.dotGeneral Cert.DwInBReferenceIdeal.dot_S2048x1408_S2048x1024_S1408x1024_0_0_1_1_n_n none
    (extf .f32 g Cert.DwInBReferenceIdeal.Gen.bitsLt_bf16_f32) (extf .f32 h Cert.DwInBReferenceIdeal.Gen.bitsLt_bf16_f32))
    Cert.DwInBReferenceIdeal.Gen.transposes_S1408x1024_S1024x1408_1_0

/-- The blocks of the windows, at every point of the grid. -/
theorem idx : ∀ t : Fin cfg0.N, win0_0.index t = ![0, (grid0.coords t 1).val] ∧ win0_1.index t = ![0, (grid0.coords t 0).val]
    ∧ win0_2.index t = ![(grid0.coords t 1).val, (grid0.coords t 0).val] :=
  (by decide +kernel : ∀ t : Fin grid0.N, _)

/-- What a point stores is the reference's block there. -/
theorem point (c : Dev nD) (t : Fin cfg0.N) (y) : k0_pay1 (iblk m c 0 t) (iblk m c 1 t) y
    = product (m ((c : Thread nD τ).loc main_arg0)) (m ((c : Thread nD τ).loc main_arg1)) (((cfg0.win 2).blk t).view.emb y) := by
  pointwise [k0_pay1, product]
  refine Finset.sum_congr rfl fun k _ => ?_
  rw [mul_comm]
  blk_point [iblk, V, idx t]

/-- The blocks tile the array. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The kernel's result is the reference's, whatever the arguments are. -/
theorem equal : Cert.algebraic_DwInBIdeal_DwInBReferenceIdeal := by
  intro m g m' g' _ hargs
  refine ⟨fun c => product (m ((c : Thread nD τ).loc main_arg0)) (m ((c : Thread nD τ).loc main_arg1)), ?_, ?_⟩
  · exact (θ_run defs _ _).mono (fun _ h c => ⟨(h c).1.trans (final m c), (h c).2⟩) (Value.run_blocks m g)
  · refine (θ_run Cert.DwInBReferenceIdeal.defs _ _).mono (fun r h c => ?_) (Cert.DwInBReferenceIdeal.Value.run m' g')
    obtain ⟨h0, ha⟩ := h c
    refine ⟨h0.trans ?_, ha⟩
    rw [(hargs c).1, (hargs c).2]

end Fox.DwInB

end
-- ==== Proof.ProdDhA.lean ====
/- The gradient of the normalised tokens through the projection's columns of q, k and v: a point stores the product of a block of
   dpa's rows with the weights, and these blocks tile the reference's product. -/
module

public import proofs.«01_k».proof.Defs
public import proofs.«01_k».proof.Proof.Gen.DhAIdeal.Value
public import proofs.«01_k».proof.Proof.Gen.DhAReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Fox.DhA

open Cert.DhAIdeal Cert.DhAIdeal.Gen

variable (m : (ℓ : Loc nD τ sig) → Buf (Elt Ideal) ℓ)

/-- What the reference computes of the two arguments. -/
abbrev product (g : FVec Ideal S2048x3328 .bf16) (w : FVec Ideal S1024x3328 .bf16) : FVec Ideal S2048x1024 .f32 :=
  Host.dotGeneral Cert.DhAReferenceIdeal.dot_S2048x3328_S1024x3328_S2048x1024_1_1_0_0_n_n none
    (extf .f32 g Cert.DhAReferenceIdeal.Gen.bitsLt_bf16_f32) (extf .f32 w Cert.DhAReferenceIdeal.Gen.bitsLt_bf16_f32)

/-- The blocks of the windows, at every point of the grid. -/
theorem idx : ∀ t : Fin cfg0.N, win0_0.index t = ![(grid0.coords t 1).val, 0] ∧ win0_1.index t = ![(grid0.coords t 0).val, 0]
    ∧ win0_2.index t = ![(grid0.coords t 1).val, (grid0.coords t 0).val] :=
  (by decide +kernel : ∀ t : Fin grid0.N, _)

/-- What a point stores is the reference's block there. -/
theorem point (c : Dev nD) (t : Fin cfg0.N) (y) : k0_pay1 (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, idx t]

/-- The blocks tile the array. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The kernel's result is the reference's, whatever the arguments are. -/
theorem equal : Cert.algebraic_DhAIdeal_DhAReferenceIdeal := by
  intro m g m' g' _ hargs
  refine ⟨fun c => product (m ((c : Thread nD τ).loc main_arg0)) (m ((c : Thread nD τ).loc main_arg1)), ?_, ?_⟩
  · exact (θ_run defs _ _).mono (fun _ h c => ⟨(h c).1.trans (final m c), (h c).2⟩) (Value.run_blocks m g)
  · refine (θ_run Cert.DhAReferenceIdeal.defs _ _).mono (fun r h c => ?_) (Cert.DhAReferenceIdeal.Value.run m' g')
    obtain ⟨h0, ha⟩ := h c
    refine ⟨h0.trans ?_, ha⟩
    rw [(hargs c).1, (hargs c).2]

end Fox.DhA

end
-- ==== Proof.ProdDhB.lean ====
/- The gradient of the normalised tokens through the columns of the gate and of the forget logits, added to what it is so far: a point
   stores a block of rows of the sum, and these blocks tile the reference's. -/
module

public import proofs.«01_k».proof.Defs
public import proofs.«01_k».proof.Proof.Gen.DhBIdeal.Value
public import proofs.«01_k».proof.Proof.Gen.DhBReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Fox.DhB

open Cert.DhBIdeal Cert.DhBIdeal.Gen

variable (m : (ℓ : Loc nD τ sig) → Buf (Elt Ideal) ℓ)

/-- What the reference computes of the three arguments. -/
abbrev product (g : FVec Ideal S2048x1408 .bf16) (w : FVec Ideal S1024x1408 .bf16) (dh : FVec Ideal S2048x1024 .f32) : FVec Ideal S2048x1024 .f32 :=
  addf dh (Host.dotGeneral Cert.DhBReferenceIdeal.dot_S2048x1408_S1024x1408_S2048x1024_1_1_0_0_n_n none
    (extf .f32 g Cert.DhBReferenceIdeal.Gen.bitsLt_bf16_f32) (extf .f32 w Cert.DhBReferenceIdeal.Gen.bitsLt_bf16_f32))

/-- The blocks of the windows, at every point of the grid. -/
theorem idx : ∀ t : Fin cfg0.N, win0_0.index t = ![(grid0.coords t 1).val, 0] ∧ win0_1.index t = ![(grid0.coords t 0).val, 0]
    ∧ win0_2.index t = ![(grid0.coords t 1).val, (grid0.coords t 0).val]
    ∧ win0_3.index t = ![(grid0.coords t 1).val, (grid0.coords t 0).val] :=
  (by decide +kernel : ∀ t : Fin grid0.N, _)

/-- What a point stores is the reference's block there. -/
theorem point (c : Dev nD) (t : Fin cfg0.N) (y) : k0_pay1 (iblk m c 0 t) (iblk m c 1 t) (iblk m c 2 t) y
    = product (m ((c : Thread nD τ).loc main_arg0)) (m ((c : Thread nD τ).loc main_arg1)) (m ((c : Thread nD τ).loc main_arg2)) (((cfg0.win 3).blk t).view.emb y) := by
  pointwise [k0_pay1, product]
  rw [add_comm]
  blk_point [iblk, V, idx t]

/-- The blocks tile the array. -/
theorem final (c : Dev nD) : (dats m 0 c).arrAt 3 cfg0.N
    = product (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

/-- The kernel's result is the reference's, whatever the arguments are. -/
theorem equal : Cert.algebraic_DhBIdeal_DhBReferenceIdeal := by
  intro m g m' g' _ hargs
  refine ⟨fun c => product (m ((c : Thread nD τ).loc main_arg0)) (m ((c : Thread nD τ).loc main_arg1)) (m ((c : Thread nD τ).loc main_arg2)), ?_, ?_⟩
  · exact (θ_run defs _ _).mono (fun _ h c => ⟨(h c).1.trans (final m c), (h c).2⟩) (Value.run_blocks m g)
  · refine (θ_run Cert.DhBReferenceIdeal.defs _ _).mono (fun r h c => ?_) (Cert.DhBReferenceIdeal.Value.run m' g')
    obtain ⟨h0, ha⟩ := h c
    refine ⟨h0.trans ?_, ha⟩
    rw [(hargs c).1, (hargs c).2.1, (hargs c).2.2]

end Fox.DhB

end
-- ==== Proof.ProdDwOut.lean ====
/- The gradient of the output projection's weights: a point stores the product of a block of y's columns with the residual stream's
   gradient, and these blocks tile the reference's product. -/
module

public import proofs.«01_k».proof.Defs
public import proofs.«01_k».proof.Proof.Gen.DwOutIdeal.Value
public import proofs.«01_k».proof.Proof.Gen.DwOutReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Fox.DwOut

open Cert.DwOutIdeal Cert.DwOutIdeal.Gen

variable (m : (ℓ : Loc nD τ sig) → Buf (Elt Ideal) ℓ)

/-- What the reference computes of the two arguments. -/
abbrev product (h : FVec Ideal S2048x1280 .bf16) (g : FVec Ideal S2048x1024 .bf16) : FVec Ideal S1280x1024 .f32 :=
  transpose S1280x1024 [1, 0] (Host.dotGeneral Cert.DwOutReferenceIdeal.dot_S2048x1024_S2048x1280_S1024x1280_0_0_1_1_n_n none
    (extf .f32 g Cert.DwOutReferenceIdeal.Gen.bitsLt_bf16_f32) (extf .f32 h Cert.DwOutReferenceIdeal.Gen.bitsLt_bf16_f32))
    Cert.DwOutReferenceIdeal.Gen.transposes_S1024x1280_S1280x1024_1_0

/-- The blocks of the windows, at every point of the grid. -/
theorem idx : ∀ t : Fin cfg0.N, win0_0.index t = ![0, (grid0.coords t 1).val] ∧ win0_1.index t = ![0, (grid0.coords t 0).val]
    ∧ win0_2.index t = ![(grid0.coords t 1).val, (grid0.coords t 0).val] :=
  (by decide +kernel : ∀ t : Fin grid0.N, _)

/-- What a point stores is the reference's block there. -/
theorem point (c : Dev nD) (t : Fin cfg0.N) (y) : k0_pay1 (iblk m c 0 t) (iblk m c 1 t) y
    = product (m ((c : Thread nD τ).loc main_arg0)) (m ((c : Thread nD τ).loc main_arg1)) (((cfg0.win 2).blk t).view.emb y) := by
  pointwise [k0_pay1, product]
  refine Finset.sum_congr rfl fun k _ => ?_
  rw [mul_comm]
  blk_point [iblk, V, idx t]

/-- The blocks tile the array. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The kernel's result is the reference's, whatever the arguments are. -/
theorem equal : Cert.algebraic_DwOutIdeal_DwOutReferenceIdeal := by
  intro m g m' g' _ hargs
  refine ⟨fun c => product (m ((c : Thread nD τ).loc main_arg0)) (m ((c : Thread nD τ).loc main_arg1)), ?_, ?_⟩
  · exact (θ_run defs _ _).mono (fun _ h c => ⟨(h c).1.trans (final m c), (h c).2⟩) (Value.run_blocks m g)
  · refine (θ_run Cert.DwOutReferenceIdeal.defs _ _).mono (fun r h c => ?_) (Cert.DwOutReferenceIdeal.Value.run m' g')
    obtain ⟨h0, ha⟩ := h c
    refine ⟨h0.trans ?_, ha⟩
    rw [(hargs c).1, (hargs c).2]

end Fox.DwOut

end
-- ==== Proof.ProdInprojA.lean ====
/- The input projection's columns of the attentions' q, k and v: a point stores the product of a block of h's rows with a block of
   the weights' columns, and these blocks tile the reference's product. -/
module

public import proofs.«01_k».proof.Defs
public import proofs.«01_k».proof.Proof.Gen.InprojAIdeal.Value
public import proofs.«01_k».proof.Proof.Gen.InprojAReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Fox.InprojA

open Cert.InprojAIdeal Cert.InprojAIdeal.Gen

variable (m : (ℓ : Loc nD τ sig) → Buf (Elt Ideal) ℓ)

/-- What the reference computes of the two arguments. -/
abbrev product (h : FVec Ideal S2048x1024 .bf16) (w : FVec Ideal S1024x3328 .bf16) : FVec Ideal S2048x3328 .bf16 :=
  truncf .bf16 (Host.dotGeneral Cert.InprojAReferenceIdeal.dot_S2048x1024_S1024x3328_S2048x3328_1_0_0_1_n_n none
    (extf .f32 h Cert.InprojAReferenceIdeal.Gen.bitsLt_bf16_f32) (extf .f32 w Cert.InprojAReferenceIdeal.Gen.bitsLt_bf16_f32))
    Cert.InprojAReferenceIdeal.Gen.bitsLt_bf16_f32

/-- The blocks of the windows, at every point of the grid. -/
theorem idx : ∀ t : Fin cfg0.N, win0_0.index t = ![(grid0.coords t 1).val, 0] ∧ win0_1.index t = ![0, (grid0.coords t 0).val]
    ∧ win0_2.index t = ![(grid0.coords t 1).val, (grid0.coords t 0).val] :=
  (by decide +kernel : ∀ t : Fin grid0.N, _)

/-- What a point stores is the reference's block there. -/
theorem point (c : Dev nD) (t : Fin cfg0.N) (y) : k0_pay1 (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, idx t]

/-- The blocks tile the array. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The kernel's result is the reference's, whatever the arguments are. -/
theorem equal : Cert.algebraic_InprojAIdeal_InprojAReferenceIdeal := by
  intro m g m' g' _ hargs
  refine ⟨fun c => product (m ((c : Thread nD τ).loc main_arg0)) (m ((c : Thread nD τ).loc main_arg1)), ?_, ?_⟩
  · exact (θ_run defs _ _).mono (fun _ h c => ⟨(h c).1.trans (final m c), (h c).2⟩) (Value.run_blocks m g)
  · refine (θ_run Cert.InprojAReferenceIdeal.defs _ _).mono (fun r h c => ?_) (Cert.InprojAReferenceIdeal.Value.run m' g')
    obtain ⟨h0, ha⟩ := h c
    refine ⟨h0.trans ?_, ha⟩
    rw [(hargs c).1, (hargs c).2]

end Fox.InprojA

end
-- ==== Proof.ProdInprojB.lean ====
/- The input projection's columns of the gate and of the forget logits: a point stores the product of a block of h's rows with the
   weights, and these blocks tile the reference's product. -/
module

public import proofs.«01_k».proof.Defs
public import proofs.«01_k».proof.Proof.Gen.InprojBIdeal.Value
public import proofs.«01_k».proof.Proof.Gen.InprojBReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Fox.InprojB

open Cert.InprojBIdeal Cert.InprojBIdeal.Gen

variable (m : (ℓ : Loc nD τ sig) → Buf (Elt Ideal) ℓ)

/-- What the reference computes of the two arguments. -/
abbrev product (h : FVec Ideal S2048x1024 .bf16) (w : FVec Ideal S1024x1408 .bf16) : FVec Ideal S2048x1408 .f32 :=
  Host.dotGeneral Cert.InprojBReferenceIdeal.dot_S2048x1024_S1024x1408_S2048x1408_1_0_0_1_n_n none
    (extf .f32 h Cert.InprojBReferenceIdeal.Gen.bitsLt_bf16_f32) (extf .f32 w Cert.InprojBReferenceIdeal.Gen.bitsLt_bf16_f32)

/-- The blocks of the windows, at every point of the grid. -/
theorem idx : ∀ t : Fin cfg0.N, win0_0.index t = ![(grid0.coords t 1).val, 0] ∧ win0_1.index t = ![0, (grid0.coords t 0).val]
    ∧ win0_2.index t = ![(grid0.coords t 1).val, (grid0.coords t 0).val] :=
  (by decide +kernel : ∀ t : Fin grid0.N, _)

/-- What a point stores is the reference's block there. -/
theorem point (c : Dev nD) (t : Fin cfg0.N) (y) : k0_pay1 (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, idx t]

/-- The blocks tile the array. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The kernel's result is the reference's, whatever the arguments are. -/
theorem equal : Cert.algebraic_InprojBIdeal_InprojBReferenceIdeal := by
  intro m g m' g' _ hargs
  refine ⟨fun c => product (m ((c : Thread nD τ).loc main_arg0)) (m ((c : Thread nD τ).loc main_arg1)), ?_, ?_⟩
  · exact (θ_run defs _ _).mono (fun _ h c => ⟨(h c).1.trans (final m c), (h c).2⟩) (Value.run_blocks m g)
  · refine (θ_run Cert.InprojBReferenceIdeal.defs _ _).mono (fun r h c => ?_) (Cert.InprojBReferenceIdeal.Value.run m' g')
    obtain ⟨h0, ha⟩ := h c
    refine ⟨h0.trans ?_, ha⟩
    rw [(hargs c).1, (hargs c).2]

end Fox.InprojB

end
-- ==== Proof.ProdDwKv.lean ====
/- The gradient of the memory projection's weights, in one point: the product of mem's columns with all of dmkv. -/
module

public import proofs.«01_k».proof.Defs
public import proofs.«01_k».proof.Proof.Gen.DwKvIdeal.Value
public import proofs.«01_k».proof.Proof.Gen.DwKvReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Fox.DwKv

open Cert.DwKvIdeal Cert.DwKvIdeal.Gen

variable (m : (ℓ : Loc nD τ sig) → Buf (Elt Ideal) ℓ)

/-- What the reference computes of the two arguments. -/
abbrev product (h : FVec Ideal S256x1024 .bf16) (g : FVec Ideal S256x512 .bf16) : FVec Ideal S1024x512 .f32 :=
  transpose S1024x512 [1, 0] (Host.dotGeneral Cert.DwKvReferenceIdeal.dot_S256x512_S256x1024_S512x1024_0_0_1_1_n_n none
    (extf .f32 g Cert.DwKvReferenceIdeal.Gen.bitsLt_bf16_f32) (extf .f32 h Cert.DwKvReferenceIdeal.Gen.bitsLt_bf16_f32))
    Cert.DwKvReferenceIdeal.Gen.transposes_S512x1024_S1024x512_1_0

/-- The blocks of the windows, at every point of the grid. -/
theorem idx : ∀ t : Fin cfg0.N, win0_0.index t = ![0, (grid0.coords t 1).val] ∧ win0_1.index t = ![0, (grid0.coords t 0).val]
    ∧ win0_2.index t = ![(grid0.coords t 1).val, (grid0.coords t 0).val] :=
  (by decide +kernel : ∀ t : Fin grid0.N, _)

/-- What a point stores is the reference's block there. -/
theorem point (c : Dev nD) (t : Fin cfg0.N) (y) : k0_pay1 (iblk m c 0 t) (iblk m c 1 t) y
    = product (m ((c : Thread nD τ).loc main_arg0)) (m ((c : Thread nD τ).loc main_arg1)) (((cfg0.win 2).blk t).view.emb y) := by
  pointwise [k0_pay1, product]
  refine Finset.sum_congr rfl fun k _ => ?_
  rw [mul_comm]
  blk_point [iblk, V, idx t]

/-- The blocks tile the array. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The kernel's result is the reference's, whatever the arguments are. -/
theorem equal : Cert.algebraic_DwKvIdeal_DwKvReferenceIdeal := by
  intro m g m' g' _ hargs
  refine ⟨fun c => product (m ((c : Thread nD τ).loc main_arg0)) (m ((c : Thread nD τ).loc main_arg1)), ?_, ?_⟩
  · exact (θ_run defs _ _).mono (fun _ h c => ⟨(h c).1.trans (final m c), (h c).2⟩) (Value.run_blocks m g)
  · refine (θ_run Cert.DwKvReferenceIdeal.defs _ _).mono (fun r h c => ?_) (Cert.DwKvReferenceIdeal.Value.run m' g')
    obtain ⟨h0, ha⟩ := h c
    refine ⟨h0.trans ?_, ha⟩
    rw [(hargs c).1, (hargs c).2]

end Fox.DwKv

end
-- ==== Proof.ProdDmem.lean ====
/- The gradient of the normalised memory tokens, in one point: the product of dmkv with the weights' rows. -/
module

public import proofs.«01_k».proof.Defs
public import proofs.«01_k».proof.Proof.Gen.DmemIdeal.Value
public import proofs.«01_k».proof.Proof.Gen.DmemReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Fox.Dmem

open Cert.DmemIdeal Cert.DmemIdeal.Gen

variable (m : (ℓ : Loc nD τ sig) → Buf (Elt Ideal) ℓ)

/-- What the reference computes of the two arguments. -/
abbrev product (g : FVec Ideal S256x512 .bf16) (w : FVec Ideal S1024x512 .bf16) : FVec Ideal S256x1024 .f32 :=
  Host.dotGeneral Cert.DmemReferenceIdeal.dot_S256x512_S1024x512_S256x1024_1_1_0_0_n_n none
    (extf .f32 g Cert.DmemReferenceIdeal.Gen.bitsLt_bf16_f32) (extf .f32 w Cert.DmemReferenceIdeal.Gen.bitsLt_bf16_f32)

/-- The blocks of the windows, at every point of the grid. -/
theorem idx : ∀ t : Fin cfg0.N, win0_0.index t = ![(grid0.coords t 1).val, 0] ∧ win0_1.index t = ![(grid0.coords t 0).val, 0]
    ∧ win0_2.index t = ![(grid0.coords t 1).val, (grid0.coords t 0).val] :=
  (by decide +kernel : ∀ t : Fin grid0.N, _)

/-- What a point stores is the reference's block there. -/
theorem point (c : Dev nD) (t : Fin cfg0.N) (y) : k0_pay1 (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, idx t]

/-- The blocks tile the array. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The kernel's result is the reference's, whatever the arguments are. -/
theorem equal : Cert.algebraic_DmemIdeal_DmemReferenceIdeal := by
  intro m g m' g' _ hargs
  refine ⟨fun c => product (m ((c : Thread nD τ).loc main_arg0)) (m ((c : Thread nD τ).loc main_arg1)), ?_, ?_⟩
  · exact (θ_run defs _ _).mono (fun _ h c => ⟨(h c).1.trans (final m c), (h c).2⟩) (Value.run_blocks m g)
  · refine (θ_run Cert.DmemReferenceIdeal.defs _ _).mono (fun r h c => ?_) (Cert.DmemReferenceIdeal.Value.run m' g')
    obtain ⟨h0, ha⟩ := h c
    refine ⟨h0.trans ?_, ha⟩
    rw [(hargs c).1, (hargs c).2]

end Fox.Dmem

end
-- ==== Proof.ProdMemKv.lean ====
/- The memory projection, in one point: the product of mem with the weights. -/
module

public import proofs.«01_k».proof.Defs
public import proofs.«01_k».proof.Proof.Gen.MemKvIdeal.Value
public import proofs.«01_k».proof.Proof.Gen.MemKvReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Fox.MemKv

open Cert.MemKvIdeal Cert.MemKvIdeal.Gen

variable (m : (ℓ : Loc nD τ sig) → Buf (Elt Ideal) ℓ)

/-- What the reference computes of the two arguments. -/
abbrev product (h : FVec Ideal S256x1024 .bf16) (w : FVec Ideal S1024x512 .bf16) : FVec Ideal S256x512 .bf16 :=
  truncf .bf16 (Host.dotGeneral Cert.MemKvReferenceIdeal.dot_S256x1024_S1024x512_S256x512_1_0_0_1_n_n none
    (extf .f32 h Cert.MemKvReferenceIdeal.Gen.bitsLt_bf16_f32) (extf .f32 w Cert.MemKvReferenceIdeal.Gen.bitsLt_bf16_f32))
    Cert.MemKvReferenceIdeal.Gen.bitsLt_bf16_f32

/-- The blocks of the windows, at every point of the grid. -/
theorem idx : ∀ t : Fin cfg0.N, win0_0.index t = ![(grid0.coords t 1).val, 0] ∧ win0_1.index t = ![0, (grid0.coords t 0).val]
    ∧ win0_2.index t = ![(grid0.coords t 1).val, (grid0.coords t 0).val] :=
  (by decide +kernel : ∀ t : Fin grid0.N, _)

/-- What a point stores is the reference's block there. -/
theorem point (c : Dev nD) (t : Fin cfg0.N) (y) : k0_pay1 (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, idx t]

/-- The blocks tile the array. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The kernel's result is the reference's, whatever the arguments are. -/
theorem equal : Cert.algebraic_MemKvIdeal_MemKvReferenceIdeal := by
  intro m g m' g' _ hargs
  refine ⟨fun c => product (m ((c : Thread nD τ).loc main_arg0)) (m ((c : Thread nD τ).loc main_arg1)), ?_, ?_⟩
  · exact (θ_run defs _ _).mono (fun _ h c => ⟨(h c).1.trans (final m c), (h c).2⟩) (Value.run_blocks m g)
  · refine (θ_run Cert.MemKvReferenceIdeal.defs _ _).mono (fun r h c => ?_) (Cert.MemKvReferenceIdeal.Value.run m' g')
    obtain ⟨h0, ha⟩ := h c
    refine ⟨h0.trans ?_, ha⟩
    rw [(hargs c).1, (hargs c).2]

end Fox.MemKv

end
-- ==== Proof.OutMaps.lean ====
/- The two matrices the output kernel is given besides its arguments: column c of a row belongs to head c / 64, and the matrices hold a
   one at a column and its head, a zero elsewhere. -/
module

public import proofs.«01_k».proof.Proof.Gen.OutFwdIdeal.Value
public import Idealize.ShloMosaic.Lib.StableHlo.Run
public import Idealize.ShloMosaic.Lib.Pipeline.ValueKit

@[expose] public section

set_option maxRecDepth 16384

noncomputable section

namespace Fox.OutFwd

open Cert.OutFwdIdeal Cert.OutFwdIdeal.Gen
open Idealize.ShloMosaic Idealize.ShloMosaic.TcCoe Idealize.ShloMosaic.StableHlo

/-- The columns' numbers, and the divisor at each. -/
def cols : IVec S1280x1 32 := broadcastInDim S1280x1 ![0] bcast_S1280_S1280x1_0 (iotaInDim S1280 32 0)
def div64 : IVec S1280x1 32 := broadcastInDim S1280x1 ![] bcast_S_S1280x1 (constantI S_ 32 64#32)
/-- The columns' heads: the quotient, lowered by one where the signs differ and the remainder is not zero. -/
def heads : IVec S1280x1 32 :=
  select (andi (cmpi .ne (signi cols) (broadcastInDim S1280x1 ![] bcast_S_S1280x1 (signi (constantI S_ 32 64#32))))
      (cmpi .ne (Host.remsi cols div64) (broadcastInDim S1280x1 ![] bcast_S_S1280x1 (constantI S_ 32 0#32))))
    (subi (Host.divsi cols div64) (broadcastInDim S1280x1 ![] bcast_S_S1280x1 (constantI S_ 32 1#32))) (Host.divsi cols div64)
/-- Columns by heads. -/
def maps : FVec Ideal S1280x128 .bf16 :=
  uitofp .bf16 (cmpi .eq (broadcastInDim S1280x128 ![0, 1] bcast_S1280x1_S1280x128_0_1 heads)
    (broadcastInDim S1280x128 ![0, 1] bcast_S1x128_S1280x128_0_1 (broadcastInDim S1x128 ![1] bcast_S128_S1x128_1 (iotaInDim S128 32 0))))

variable (m : (ℓ : Loc nD τ sig) → Buf (Elt Ideal) ℓ) (c : Dev nD)

set_option maxHeartbeats 8000000 in
theorem V_maps : V m c main_v8 = maps := by
  unfold V
  simp only [hostOps0, hostOps0_1, hostOps0_2, List.flatten_cons, List.flatten_nil, List.append_nil, List.cons_append, List.nil_append,
    TRef.binary, TRef.nullary, TRef.ternary, TRef.unary, TRef.toBuf, TRef.ofBuf, cast_eq]
  after_results_simp <;> rfl

set_option maxHeartbeats 8000000 in
theorem V_maps_t : V m c main_v9 = transpose S128x1280 [1, 0] maps transposes_S1280x128_S128x1280_1_0 := by
  unfold V
  simp only [hostOps0, hostOps0_1, hostOps0_2, List.flatten_cons, List.flatten_nil, List.append_nil, List.cons_append, List.nil_append,
    TRef.binary, TRef.nullary, TRef.ternary, TRef.unary, TRef.toBuf, TRef.ofBuf, cast_eq]
  after_results_simp <;> rfl

theorem heads_at : ∀ j : Fin 1280, heads (Idealize.ShloMosaic.ix2 j (0 : Fin 1)) = BitVec.ofNat 32 (j.val / 64) := by
  decide +kernel

theorem heads_apply (i : S1280x1.Idx) : heads i = BitVec.ofNat 32 ((i 0).val / 64) := by
  have h : i = Idealize.ShloMosaic.ix2 (i 0) (0 : Fin 1) := by idx_ext
  rw [h]; exact heads_at (i 0)

theorem uitofp_eq (a b : ℕ) (ha : a < 128) (hb : b < 128) :
    (FloatOps.uitofp FTy.bf16 (IntOp.cmpi CmpIPredicate.eq (BitVec.ofNat 32 a) (BitVec.ofNat 32 b)) : Ideal .bf16) = if a = b then (1 : EReal) else 0 := by
  have e : BitVec.ofNat 32 a = BitVec.ofNat 32 b ↔ a = b := by
    rw [← BitVec.toNat_inj, BitVec.toNat_ofNat, BitVec.toNat_ofNat, Nat.mod_eq_of_lt (by omega), Nat.mod_eq_of_lt (by omega)]
  by_cases h : a = b
  · subst h; rw [if_pos rfl]; simp [IntOp.cmpi, FloatOps.uitofp]
  · rw [if_neg h]; simp [IntOp.cmpi, FloatOps.uitofp, e, h]

/-- One where two numbers are the same, zero elsewhere. -/
def ind (a b : ℕ) : EReal := if a = b then 1 else 0

theorem maps_apply (i : S1280x128.Idx) : maps i = ind ((i 0).val / 64) (i 1).val := by
  have h0 := (i 0).isLt
  have h1 := (i 1).isLt
  change (i 0).val < 1280 at h0
  change (i 1).val < 128 at h1
  unfold maps
  pointwise [heads_apply]
  exact uitofp_eq _ _ (by omega) h1

end Fox.OutFwd

end
-- ==== Proof.OutNorm.lean ====
/- A head's RMS norm, as the output kernel computes it on its matrix unit: a product with the head map sums a head's columns, a product
   with its transpose spreads a number a head over the head's columns. -/
module

public import proofs.«01_k».proof.Proof.Math
public import proofs.«01_k».proof.Proof.OutMaps

@[expose] public section

set_option maxRecDepth 16384

noncomputable section

namespace Fox.OutFwd

open Cert.OutFwdIdeal Cert.OutFwdIdeal.Gen
open Idealize.ShloMosaic Idealize.ShloMosaic.TcCoe

/-! ## The literals -/

def eps : ℝ := 8796093 / 8796093022208
theorem eps_pos : 0 < eps := by unfold eps; norm_num
theorem lit_eps : Ideal.ofBits .f32 0x358637BD#32 = ((eps : ℝ) : EReal) := by
  simp [Ideal.ofBits, Ideal.ieee, eps, -EReal.coe_mul]; norm_num
theorem lit_64th : Ideal.ofBits .f32 0x3C800000#32 = ((1 / 64 : ℝ) : EReal) := by
  simp [Ideal.ofBits, Ideal.ieee, -EReal.coe_mul]; norm_num
theorem lit_64 : Ideal.ofBits .f32 0x42800000#32 = ((64 : ℝ) : EReal) := by
  simp [Ideal.ofBits, Ideal.ieee, -EReal.coe_mul]; norm_num
theorem lit_one : Ideal.ofBits .f32 0x3F800000#32 = (1 : EReal) := by
  rw [← EReal.coe_one]
  simp [Ideal.ofBits, Ideal.ieee, -EReal.coe_mul, -EReal.coe_one]; norm_num

/-! ## Sums over a head -/

/-- A column of head h. -/
def col (h : ℕ) (hh : h < 20) (d : Fin 64) : Fin 1280 := ⟨h * 64 + d.val, by omega⟩

theorem sum_head (f : Fin 1280 → EReal) (h : ℕ) (hh : h < 20) :
    ∑ k : Fin 1280, f k * ind (k.val / 64) h = ∑ d : Fin 64, f (col h hh d) := by
  simp only [ind, mul_ite, mul_one, mul_zero]
  rw [← Finset.sum_filter]
  refine (Finset.sum_bij (fun d _ => col h hh d) ?_ ?_ ?_ ?_).symm
  · intro d _; rw [Finset.mem_filter]; exact ⟨Finset.mem_univ _, by simp only [col]; omega⟩
  · intro a _ b _ e; have := congrArg Fin.val e; simp only [col] at this; exact Fin.ext (by omega)
  · intro k hk
    have hk := (Finset.mem_filter.1 hk).2
    exact ⟨⟨k.val % 64, Nat.mod_lt _ (by decide)⟩, Finset.mem_univ _, Fin.ext (by simp only [col]; omega)⟩
  · intro _ _; rfl

theorem sum_head_none (f : Fin 1280 → EReal) (h : ℕ) (hh : ¬ h < 20) :
    ∑ k : Fin 1280, f k * ind (k.val / 64) h = 0 :=
  Finset.sum_eq_zero fun k _ => by rw [ind, if_neg (by have := k.isLt; omega), mul_zero]

theorem sum_spread (f : Fin 128 → EReal) (k : Fin 1280) :
    ∑ h : Fin 128, f h * ind (k.val / 64) h.val = f ⟨k.val / 64, by omega⟩ := by
  rw [Finset.sum_eq_single (⟨k.val / 64, by omega⟩ : Fin 128)]
  · rw [ind, if_pos rfl, mul_one]
  · intro b _ hb; rw [ind, if_neg fun e => hb (Fin.ext e.symm), mul_zero]
  · intro h; exact absurd (Finset.mem_univ _) h

/-! ## The norm -/

/-- The mean square of a head's columns, and the factor of its norm. -/
def ms (y : Fin 1280 → ℝ) (h : ℕ) (hh : h < 20) : ℝ := (∑ d : Fin 64, y (col h hh d) * y (col h hh d)) / 64
def rf (x : ℝ) : ℝ := (Real.sqrt (x + eps))⁻¹

theorem rsqrt_eps (x : ℝ) (hx : 0 ≤ x) : Ideal.rsqrt ((x : EReal) + ((eps : ℝ) : EReal)) = ((rf x : ℝ) : EReal) := by
  rw [← EReal.coe_add, Ideal.rsqrt_coe]
  have h : 0 < x + eps := add_pos_of_nonneg_of_pos hx eps_pos
  rw [if_neg (not_lt.2 h.le), if_neg h.ne']; rfl

theorem ms_nonneg (y : Fin 1280 → ℝ) (h : ℕ) (hh : h < 20) : 0 ≤ ms y h hh :=
  div_nonneg (Finset.sum_nonneg fun _ _ => mul_self_nonneg _) (by norm_num)

theorem coe_sub_self (x : ℝ) : (x : EReal) - (x : EReal) = 0 := by rw [← EReal.coe_sub, sub_self]; rfl

/-- The factor of any of the matrix unit's 128 heads is a real: that of the head's mean square, or of zero past the last head. -/
def fac (y : Fin 1280 → ℝ) (h : ℕ) : ℝ := if hh : h < 20 then rf (ms y h hh) else rf 0

theorem fac_eq (y : Fin 1280 → ℝ) (h : ℕ) :
    Ideal.rsqrt ((∑ k : Fin 1280, ((y k : EReal) * (y k : EReal)) * ind (k.val / 64) h) * ((1 / 64 : ℝ) : EReal) + ((eps : ℝ) : EReal))
      = ((fac y h : ℝ) : EReal) := by
  unfold fac
  split
  · rename_i hh
    rw [sum_head _ h hh, ← rsqrt_eps _ (ms_nonneg y h hh)]
    simp only [← EReal.coe_mul]
    rw [← Cert.Proof.Fox.coe_sum, ← EReal.coe_mul, mul_one_div]; rfl
  · rename_i hh
    rw [sum_head_none _ h hh, zero_mul, ← rsqrt_eps 0 le_rfl]; rfl

/-- What the kernel stores of a column before the gate: the heads' output, its head's factor, the weight. -/
theorem pay3_apply (v0 v1 : FVec Ideal S256x512 .f32) (v2 : FVec Ideal S256x256 .f32) (ow : FVec Ideal S1x1280 .f32) (Y : Fin 256 → Fin 1280 → ℝ)
    (hY : concatenate S256x1280 1 [⟨S256x512, v0⟩, ⟨S256x512, v1⟩, ⟨S256x256, v2⟩] concatenates_S256x512_S256x512_S256x256_S256x1280_d1
      = fun i => ((Y (i 0) (i 1) : ℝ) : EReal)) (r : Fin 256) (k : Fin 1280) :
    k0_pay3 (F := Ideal) v0 v1 v2 maps (transpose S128x1280 [1, 0] maps transposes_S1280x128_S128x1280_1_0) ow (ix2 r k)
      = ((Y r k * fac (Y r) (k.val / 64) : ℝ) : EReal) * ow (ix2 (0 : Fin 1) k) := by
  unfold k0_pay3
  dsimp only
  rw [hY]
  pointwise [maps_apply]
  rw [lit_64th, lit_eps]
  simp only [← EReal.coe_mul, coe_sub_self, zero_mul, Finset.sum_const_zero, add_zero]
  simp only [EReal.coe_mul, fac_eq, coe_sub_self, sub_zero, zero_mul, Finset.sum_const_zero, add_zero]
  rw [sum_spread (fun h => ((fac (Y r) h.val : ℝ) : EReal)) k]

end Fox.OutFwd

end
-- ==== Proof.OutRef.lean ====
/- The reference's output stage at an index: a head's columns are a row of a third axis, and its mean square a sum along it. -/
module

public import proofs.«01_k».proof.Proof.OutNorm
public import proofs.«01_k».proof.Proof.Gen.OutFwdReferenceIdeal.Run

@[expose] public section

set_option maxRecDepth 16384

noncomputable section

namespace Fox.OutFwd

open Cert.OutFwdReferenceIdeal Cert.OutFwdReferenceIdeal.Gen
open Idealize.ShloMosaic Idealize.ShloMosaic.TcCoe

/-- The heads' outputs side by side. -/
abbrev cat (o0 o1 : FVec Ideal S2048x512 .f32) (o2 : FVec Ideal S2048x256 .f32) : FVec Ideal S2048x1280 .f32 :=
  concatenate S2048x1280 1 [⟨S2048x512, o0⟩, ⟨S2048x512, o1⟩, ⟨S2048x256, o2⟩] concatenates_S2048x512_S2048x512_S2048x256_S2048x1280_d1

/-- The reference's norm of the heads. -/
abbrev normed (y : FVec Ideal S2048x1280 .f32) : FVec Ideal S2048x1280 .f32 :=
  shapeCast _ (mulf (shapeCast _ y shapeCasts_S2048x1280_S2048x20x64) (broadcastInDim S2048x20x64 ![0, 1, 2] bcast_S2048x20x1_S2048x20x64_0_1_2
    (Host.rsqrt (addf (Host.divf (broadcastInDim S2048x20x1 ![0, 1] bcast_S2048x20_S2048x20x1_0_1
      (Host.reduceAdd (mulf (shapeCast _ y shapeCasts_S2048x1280_S2048x20x64) (shapeCast _ y shapeCasts_S2048x1280_S2048x20x64))
        (constant S_ .f32 0x00000000#32) reducesTo_S2048x20x64_S2048x20_d2 h_S_))
      (broadcastInDim S2048x20x1 ![] bcast_S_S2048x20x1 (constant S_ .f32 0x42800000#32)))
      (broadcastInDim S2048x20x1 ![] bcast_S_S2048x20x1 (constant S_ .f32 0x358637BD#32)))))) shapeCasts_S2048x20x64_S2048x1280

/-- The reference's gate. -/
abbrev gate (pb : FVec Ideal S2048x1408 .f32) : FVec Ideal S2048x1280 .f32 :=
  mulf (extractStridedSlice S2048x1280 ![0, 0] pb slices_S2048x1408_S2048x1280_0_0)
    (Host.divf (broadcastInDim S2048x1280 ![] bcast_S_S2048x1280 (constant S_ .f32 0x3F800000#32))
      (addf (broadcastInDim S2048x1280 ![] bcast_S_S2048x1280 (constant S_ .f32 0x3F800000#32))
        (Host.exp (Host.negf (extractStridedSlice S2048x1280 ![0, 0] pb slices_S2048x1408_S2048x1280_0_0)))))

/-- What the reference projects. -/
abbrev mid (o0 o1 : FVec Ideal S2048x512 .f32) (o2 : FVec Ideal S2048x256 .f32) (pb : FVec Ideal S2048x1408 .f32) (ow : FVec Ideal S1x1280 .f32) :
    FVec Ideal S2048x1280 .f32 :=
  mulf (mulf (normed (cat o0 o1 o2)) (broadcastInDim S2048x1280 ![0, 1] bcast_S1x1280_S2048x1280_0_1 ow)) (gate pb)

/-- The reference's two results. -/
abbrev out (o0 o1 : FVec Ideal S2048x512 .f32) (o2 : FVec Ideal S2048x256 .f32) (pb : FVec Ideal S2048x1408 .f32) (ow : FVec Ideal S1x1280 .f32)
    (x : FVec Ideal S2048x1024 .f32) (w : FVec Ideal S1280x1024 .bf16) : FVec Ideal S2048x1024 .f32 :=
  addf x (Host.dotGeneral dot_S2048x1280_S1280x1024_S2048x1024_1_0_0_1_n_n none (mid o0 o1 o2 pb ow) (extf .f32 w bitsLt_bf16_f32))
abbrev kept (o0 o1 : FVec Ideal S2048x512 .f32) (o2 : FVec Ideal S2048x256 .f32) (pb : FVec Ideal S2048x1408 .f32) (ow : FVec Ideal S1x1280 .f32) :
    FVec Ideal S2048x1280 .bf16 :=
  truncf .bf16 (mid o0 o1 o2 pb ow) bitsLt_bf16_f32

theorem normed_apply (Y : Fin 2048 → Fin 1280 → ℝ) (s : Fin 2048) (k : Fin 1280) :
    normed (fun i => ((Y (i 0) (i 1) : ℝ) : EReal)) (ix2 s k) = ((Y s k * fac (Y s) (k.val / 64) : ℝ) : EReal) := by
  pointwise [normed]
  rw [lit_64, lit_eps]
  simp only [← EReal.coe_mul]
  rw [← Cert.Proof.Fox.coe_sum, Cert.Proof.Fox.div_coe _ _ (by norm_num)]
  have hh : k.val / 64 < 20 := by omega
  have e : fac (Y s) (k.val / 64) = rf (ms (Y s) (k.val / 64) hh) := dif_pos hh
  rw [e, EReal.coe_mul, ← rsqrt_eps _ (ms_nonneg (Y s) _ hh)]
  rfl

theorem gate_apply (pb : FVec Ideal S2048x1408 .f32) (s : Fin 2048) (k : Fin 1280) :
    gate pb (ix2 s k) = pb (ix2 s (⟨k.val, by omega⟩ : Fin 1408)) * Ideal.logistic (pb (ix2 s (⟨k.val, by omega⟩ : Fin 1408))) := by
  pointwise [gate]
  rfl

theorem mid_apply (o0 o1 : FVec Ideal S2048x512 .f32) (o2 : FVec Ideal S2048x256 .f32) (pb : FVec Ideal S2048x1408 .f32) (ow : FVec Ideal S1x1280 .f32)
    (Y : Fin 2048 → Fin 1280 → ℝ) (hY : cat o0 o1 o2 = fun i => ((Y (i 0) (i 1) : ℝ) : EReal)) (s : Fin 2048) (k : Fin 1280) :
    mid o0 o1 o2 pb ow (ix2 s k) = ((Y s k * fac (Y s) (k.val / 64) : ℝ) : EReal) * ow (ix2 (0 : Fin 1) k)
      * (pb (ix2 s (⟨k.val, by omega⟩ : Fin 1408)) * Ideal.logistic (pb (ix2 s (⟨k.val, by omega⟩ : Fin 1408)))) := by
  unfold mid
  rw [hY]
  show normed _ (ix2 s k) * broadcastInDim S2048x1280 ![0, 1] bcast_S1x1280_S2048x1280_0_1 ow (ix2 s k) * gate pb (ix2 s k) = _
  rw [normed_apply, gate_apply]
  congr 2
  pointwise

end Fox.OutFwd

end
-- ==== Proof.OutFwd.lean ====
/- The output stage: a point normalizes, gates and projects 256 rows; the blocks tile the reference's results. -/
module

public import proofs.«01_k».proof.Defs
public import proofs.«01_k».proof.Proof.Finite
public import proofs.«01_k».proof.Proof.OutRef

@[expose] public section

set_option maxRecDepth 16384

noncomputable section

open Idealize.ShloMosaic Idealize.ShloMosaic.TcCoe Idealize.SL.Sem
open Idealize.ShloMosaic.Pipeline (Dat)

namespace Fox.OutFwd

open Cert.OutFwdIdeal Cert.OutFwdIdeal.Gen

variable (m : (ℓ : Loc nD τ sig) → Buf (Elt Ideal) ℓ)

/-- The blocks of the windows, at every point of the grid. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![0, 0]
    ∧ win0_7.index t = ![0, 0] ∧ win0_8.index t = ![0, 0] ∧ win0_9.index t = ![t.val, 0] ∧ win0_10.index t = ![t.val, 0] :=
  (by decide +kernel : ∀ t : Fin grid0.N, _)

/-- A row of a point's block, in the array. -/
def rowOf (t : Fin cfg0.N) (r : Fin 256) : Fin 2048 := ⟨t.val * 256 + r.val, by have : t.val < 8 := t.isLt; omega⟩

variable (c : Dev nD) (t : Fin cfg0.N)

theorem out10 : (outsAt0 m c t).2 = k0_pay1 (X0_3 m c t) (k0_pay3 (iblk m c 0 t) (iblk m c 1 t) (iblk m c 2 t) (iblk m c 7 t) (iblk m c 8 t) (iblk m c 4 t)) := by
  unfold outsAt0
  frame_out

theorem out9 : (outsAt0 m c t).1 = k0_pay2 (X0_3 m c t) (k0_pay3 (iblk m c 0 t) (iblk m c 1 t) (iblk m c 2 t) (iblk m c 7 t) (iblk m c 8 t) (iblk m c 4 t))
    (iblk m c 5 t) (iblk m c 6 t) := by
  unfold outsAt0
  frame_out

theorem blk7 : (iblk m c 7 t : FVec Ideal S1280x128 .bf16) = maps := by
  rw [← V_maps m c]
  funext y
  blk_point [iblk, idx t]

theorem blk8 : (iblk m c 8 t : FVec Ideal S128x1280 .bf16) = transpose S128x1280 [1, 0] maps transposes_S1280x128_S128x1280_1_0 := by
  rw [← V_maps_t m c]
  funext y
  blk_point [iblk, idx t]

theorem blk4 : (iblk m c 4 t : FVec Ideal S1x1280 .f32) = m ((c : Thread nD τ).loc main_arg4) := by
  rw [← V_main_arg4 m c]
  funext y
  blk_point [iblk, idx t]

theorem blk6 : (iblk m c 6 t : FVec Ideal S1280x1024 .bf16) = m ((c : Thread nD τ).loc main_arg6) := by
  rw [← V_main_arg6 m c]
  funext y
  blk_point [iblk, idx t]

theorem blk5 (r : Fin 256) (k : Fin 1024) : (iblk m c 5 t : FVec Ideal S256x1024 .f32) (ix2 r k) = m ((c : Thread nD τ).loc main_arg5) (ix2 (rowOf t r) k) := by
  rw [← V_main_arg5 m c]
  blk_point [iblk, idx t, rowOf]

theorem blk0 (r : Fin 256) (k : Fin 512) : (iblk m c 0 t : FVec Ideal S256x512 .f32) (ix2 r k) = m ((c : Thread nD τ).loc main_arg0) (ix2 (rowOf t r) k) := by
  rw [← V_main_arg0 m c]
  blk_point [iblk, idx t, rowOf]

theorem blk1 (r : Fin 256) (k : Fin 512) : (iblk m c 1 t : FVec Ideal S256x512 .f32) (ix2 r k) = m ((c : Thread nD τ).loc main_arg1) (ix2 (rowOf t r) k) := by
  rw [← V_main_arg1 m c]
  blk_point [iblk, idx t, rowOf]

theorem blk2 (r : Fin 256) (k : Fin 256) : (iblk m c 2 t : FVec Ideal S256x256 .f32) (ix2 r k) = m ((c : Thread nD τ).loc main_arg2) (ix2 (rowOf t r) k) := by
  rw [← V_main_arg2 m c]
  blk_point [iblk, idx t, rowOf]

theorem blk3 (r : Fin 256) (k : Fin 1280) : (X0_3 m c t : FVec Ideal S256x1280 .f32) (ix2 r k)
    = m ((c : Thread nD τ).loc main_arg3) (ix2 (rowOf t r) (⟨k.val, by omega⟩ : Fin 1408)) := by
  rw [← V_main_arg3 m c]
  unfold X0_3 Pipeline.Window.fill
  rw [dif_pos (moved0_3 t _)]
  blk_point [iblk, idx t, rowOf]

/-- The rows of the heads' outputs a point is given. -/
theorem blk_cat (Y : Fin 2048 → Fin 1280 → ℝ) (hY : cat (m ((c : Thread nD τ).loc main_arg0)) (m ((c : Thread nD τ).loc main_arg1)) (m ((c : Thread nD τ).loc main_arg2))
      = fun i => ((Y (i 0) (i 1) : ℝ) : EReal)) :
    concatenate S256x1280 1 [⟨S256x512, (iblk m c 0 t : FVec Ideal S256x512 .f32)⟩, ⟨S256x512, (iblk m c 1 t : FVec Ideal S256x512 .f32)⟩,
      ⟨S256x256, (iblk m c 2 t : FVec Ideal S256x256 .f32)⟩] concatenates_S256x512_S256x512_S256x256_S256x1280_d1
      = fun i => ((Y (rowOf t (i 0)) (i 1) : ℝ) : EReal) := by
  funext i
  have e := congrFun hY (ix2 (rowOf t (i 0)) (i 1))
  refine Eq.trans ?_ e
  pointwise [cat, blk0, blk1, blk2]

theorem pay1_apply (g v : FVec Ideal S256x1280 .f32) (i : S256x1280.Idx) : k0_pay1 (F := Ideal) g v i = v i * (g i * Ideal.logistic (g i)) := rfl

/-- What a point projects, of its rows. -/
theorem mid_blk (Y : Fin 2048 → Fin 1280 → ℝ) (hY : cat (m ((c : Thread nD τ).loc main_arg0)) (m ((c : Thread nD τ).loc main_arg1)) (m ((c : Thread nD τ).loc main_arg2))
      = fun i => ((Y (i 0) (i 1) : ℝ) : EReal)) (r : Fin 256) (k : Fin 1280) :
    k0_pay1 (X0_3 m c t) (k0_pay3 (iblk m c 0 t) (iblk m c 1 t) (iblk m c 2 t) (iblk m c 7 t) (iblk m c 8 t) (iblk m c 4 t)) (ix2 r k)
      = mid (m ((c : Thread nD τ).loc main_arg0)) (m ((c : Thread nD τ).loc main_arg1)) (m ((c : Thread nD τ).loc main_arg2))
          (m ((c : Thread nD τ).loc main_arg3)) (m ((c : Thread nD τ).loc main_arg4)) (ix2 (rowOf t r) k) := by
  rw [mid_apply _ _ _ _ _ Y hY, blk7, blk8, blk4]
  refine (pay1_apply _ _ _).trans ?_
  rw [pay3_apply _ _ _ _ (fun r => Y (rowOf t r)) (blk_cat m c t Y hY), blk3]

theorem emb10 (y : S256x1280.Idx) : (win0_10.blk t).view.emb y = ix2 (rowOf t (y 0)) (y 1) := by
  blk_ext [idx t, rowOf]

theorem emb9 (y : S256x1024.Idx) : (win0_9.blk t).view.emb y = ix2 (rowOf t (y 0)) (y 1) := by
  blk_ext [idx t, rowOf]

/-- The blocks tile the two results. -/
theorem final10 (Y : Fin 2048 → Fin 1280 → ℝ) (hY : cat (m ((c : Thread nD τ).loc main_arg0)) (m ((c : Thread nD τ).loc main_arg1)) (m ((c : Thread nD τ).loc main_arg2))
      = fun i => ((Y (i 0) (i 1) : ℝ) : EReal)) : (dats m 0 c).arrAt 10 cfg0.N
    = kept (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 10 _ (by decide +kernel) fun t _ y => ?_
  blk_simp
  rw [after0_10, out10]
  have hy : (y : S256x1280.Idx) = ix2 (y 0) (y 1) := by idx_ext
  exact (congrArg _ hy).trans ((mid_blk m c t Y hY (y 0) (y 1)).trans (congrArg _ (emb10 t y).symm))

theorem pay2_apply (Y : Fin 2048 → Fin 1280 → ℝ) (hY : cat (m ((c : Thread nD τ).loc main_arg0)) (m ((c : Thread nD τ).loc main_arg1)) (m ((c : Thread nD τ).loc main_arg2))
      = fun i => ((Y (i 0) (i 1) : ℝ) : EReal)) (r : Fin 256) (n : Fin 1024) :
    k0_pay2 (X0_3 m c t) (k0_pay3 (iblk m c 0 t) (iblk m c 1 t) (iblk m c 2 t) (iblk m c 7 t) (iblk m c 8 t) (iblk m c 4 t)) (iblk m c 5 t) (iblk m c 6 t) (ix2 r n)
      = out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (ix2 (rowOf t r) n) := by
  rw [blk6]
  unfold out
  generalize hA : mid (m ((c : Thread nD τ).loc main_arg0)) (m ((c : Thread nD τ).loc main_arg1)) (m ((c : Thread nD τ).loc main_arg2))
          (m ((c : Thread nD τ).loc main_arg3)) (m ((c : Thread nD τ).loc main_arg4)) = A
  have hB := fun k => (mid_blk m c t Y hY r k).trans (congrFun hA _)
  unfold k0_pay2
  revert hB
  generalize k0_pay1 (F := Ideal) _ _ = B
  intro hB
  pointwise
  rw [blk5]
  simp only [hB]

theorem final9 (Y : Fin 2048 → Fin 1280 → ℝ) (hY : cat (m ((c : Thread nD τ).loc main_arg0)) (m ((c : Thread nD τ).loc main_arg1)) (m ((c : Thread nD τ).loc main_arg2))
      = fun i => ((Y (i 0) (i 1) : ℝ) : EReal)) : (dats m 0 c).arrAt 9 cfg0.N
    = out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t _ y => ?_
  blk_simp
  rw [after0_9, out9]
  have hy : (y : S256x1024.Idx) = ix2 (y 0) (y 1) := by idx_ext
  exact (congrArg _ hy).trans ((pay2_apply m c t Y hY (y 0) (y 1)).trans (congrArg _ (emb9 t y).symm))

/-! ## The precondition, and the claim -/

theorem facts_heads : Cert.Pre_finite_heads.Facts where
  bcast_S_S2048x512 := by decide
  reducesTo_S2048x512_S_d0_1 := by decide
  h_S_ := by decide
  bcast_S_S2048x256 := by decide
  reducesTo_S2048x256_S_d0_1 := by decide

instance : Subsingleton (Cert.Pre_finite_heads.S_).Idx := ⟨fun _ _ => funext fun a => nomatch a⟩

/-- The heads' outputs, as reals. -/
def realCat (o0 o1 : FVec Ideal S2048x512 .f32) (o2 : FVec Ideal S2048x256 .f32) (s : Fin 2048) (k : Fin 1280) : ℝ :=
  EReal.toReal (cat o0 o1 o2 (ix2 s k))

theorem cat_real (hf : Cert.Pre_finite_heads.Facts) (o0 o1 : FVec Ideal S2048x512 .f32) (o2 : FVec Ideal S2048x256 .f32) (pb : FVec Ideal S2048x1408 .f32)
    (ow : FVec Ideal S1x1280 .f32) (x : FVec Ideal S2048x1024 .f32) (w : FVec Ideal S1280x1024 .bf16)
    (e : Cert.Pre_finite_heads.fn (F := Ideal) o0 o1 o2 pb ow x w = fun _ => 1#1) :
    cat o0 o1 o2 = fun i => ((realCat o0 o1 o2 (i 0) (i 1) : ℝ) : EReal) := by
  have e0 := congrFun e ix0
  unfold Cert.Pre_finite_heads.fn at e0
  obtain ⟨e1, e2⟩ := IntOp.andi_eq_one.1 e0
  obtain ⟨e3, e4⟩ := IntOp.andi_eq_one.1 e1
  have h0 : Cert.Proof.Fox.IsReal o0 := fun i => Cert.Proof.Fox.real_of _ (by
    rw [← Cert.Proof.Fox.lit_top]; exact Host.reduce_andi_all _ _ _ _ _ e3 i)
  have h1 : Cert.Proof.Fox.IsReal o1 := fun i => Cert.Proof.Fox.real_of _ (by
    rw [← Cert.Proof.Fox.lit_top]; exact Host.reduce_andi_all _ _ _ _ _ e4 i)
  have h2 : Cert.Proof.Fox.IsReal o2 := fun i => Cert.Proof.Fox.real_of _ (by
    rw [← Cert.Proof.Fox.lit_top]; exact Host.reduce_andi_all _ _ _ _ _ e2 i)
  funext i
  obtain ⟨s, k, rfl⟩ : ∃ (s : Fin 2048) (k : Fin 1280), i = ix2 s k := ⟨i 0, i 1, by idx_ext⟩
  have hr : cat o0 o1 o2 (ix2 s k) = ((EReal.toReal (cat o0 o1 o2 (ix2 s k)) : ℝ) : EReal) := by
    refine concatenate_forall (P := fun z : EReal => z = ((EReal.toReal z : ℝ) : EReal)) _ _ _ _ ?_ (ix2 s k)
    intro p hp
    simp only [List.mem_cons, List.not_mem_nil, or_false] at hp
    rcases hp with rfl | rfl | rfl
    · exact h0
    · exact h1
    · exact h2
  exact hr

/-- The kernel's results are the reference's, wherever the heads' outputs are finite. -/
theorem equal (hf : Cert.Pre_finite_heads.Facts) : Cert.algebraic_OutFwdIdeal_OutFwdReferenceIdeal_pre_finite_heads (hPre_finite_heads := hf) := by
  intro m g m' g' hpre hargs
  have hY := fun c => cat_real hf _ _ _ _ _ _ _ (hpre c)
  refine ⟨fun c => out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)),
    fun c => kept (m ((c : Thread nD τ).loc main_arg0)) (m ((c : Thread nD τ).loc main_arg1)) (m ((c : Thread nD τ).loc main_arg2))
          (m ((c : Thread nD τ).loc main_arg3)) (m ((c : Thread nD τ).loc main_arg4)), ?_, ?_⟩
  · exact (θ_run defs _ _).mono (fun _ h c => ⟨(h c).1.trans (final9 m c (realCat _ _ _) (hY c)), (h c).2.1.trans (final10 m c (realCat _ _ _) (hY c)), (h c).2.2⟩) (Value.run_blocks m g)
  · refine (θ_run Cert.OutFwdReferenceIdeal.defs _ _).mono (fun r h c => ?_) (Cert.OutFwdReferenceIdeal.Value.run m' g')
    obtain ⟨h0, h1, ha⟩ := h c
    obtain ⟨a0, a1, a2, a3, a4, a5, a6⟩ := hargs c
    refine ⟨h0.trans ?_, h1.trans ?_, ha⟩
    · rw [a0, a1, a2, a3, a4, a5, a6]
    · rw [a0, a1, a2, a3, a4]

end Fox.OutFwd

end
-- ==== Proof.BwdMath.lean ====
/- The gradient of the output stage's norm and gate over the reals, column by column. -/
module

public import proofs.«01_k».proof.Proof.OutNorm

@[expose] public section

noncomputable section

namespace Fox.OutBwd

open Fox.OutFwd Idealize.ShloMosaic Idealize.ShloMosaic.TcCoe

/-- The logistic function. -/
def sg (x : ℝ) : ℝ := 1 / (1 + Real.exp (-x))

theorem logistic_coe (x : ℝ) : Ideal.logistic (x : EReal) = ((sg x : ℝ) : EReal) := by
  have h : (1 + Real.exp (-x)) ≠ 0 := (add_pos one_pos (Real.exp_pos _)).ne'
  unfold Ideal.logistic sg
  rw [← EReal.coe_neg, Cert.Proof.Fox.exp_coe, ← EReal.coe_one, ← EReal.coe_add, Cert.Proof.Fox.div_coe _ _ h]

/-- A normed column of a row y. -/
def yh (y : Fin 1280 → ℝ) (k : Fin 1280) : ℝ := y k * fac y (k.val / 64)
/-- The gradient that reaches the weighted norm's output, of the projected p and the gate g; and with the weight. -/
def dn (p g : Fin 1280 → ℝ) (k : Fin 1280) : ℝ := p k * (g k * sg (g k))
def un (p g o : Fin 1280 → ℝ) (k : Fin 1280) : ℝ := dn p g k * o k
/-- A head's sum of the gradient against the normed columns. -/
def tot (y u : Fin 1280 → ℝ) (h : ℕ) : ℝ := if hh : h < 20 then ∑ d : Fin 64, u (col h hh d) * yh y (col h hh d) else 0
/-- The gradient of the row, and of the gate. -/
def dy (y u : Fin 1280 → ℝ) (k : Fin 1280) : ℝ := fac y (k.val / 64) * (u k - yh y k * (tot y u (k.val / 64) * (1 / 64)))
def dg (y p g o : Fin 1280 → ℝ) (k : Fin 1280) : ℝ := p k * (yh y k * o k) * (sg (g k) * (1 + g k * (1 - sg (g k))))

theorem tot_eq (y u : Fin 1280 → ℝ) (h : ℕ) :
    ∑ k : Fin 1280, ((u k * yh y k : ℝ) : EReal) * ind (k.val / 64) h = ((tot y u h : ℝ) : EReal) := by
  unfold tot
  split
  · rename_i hh
    rw [sum_head _ h hh, Cert.Proof.Fox.coe_sum]
  · rename_i hh
    rw [sum_head_none _ h hh]; rfl

/-- The reference's form: the norm's factor and its derivative apart. -/
theorem dy_eq (y u : Fin 1280 → ℝ) (k : Fin 1280) (hh : k.val / 64 < 20) (c : ℝ)
    (hc : c = (∑ d : Fin 64, y (col (k.val / 64) hh d) * u (col (k.val / 64) hh d))
      * (-(1 / 2) * (rf (ms y (k.val / 64) hh) / (ms y (k.val / 64) hh + eps))) / 64) :
    u k * rf (ms y (k.val / 64) hh) + y k * c + c * y k = dy y u k := by
  have hm := ms_nonneg y (k.val / 64) hh
  have hp : 0 < ms y (k.val / 64) hh + eps := add_pos_of_nonneg_of_pos hm eps_pos
  have ef : ∀ j : Fin 1280, j.val / 64 = k.val / 64 → fac y (j.val / 64) = rf (ms y (k.val / 64) hh) := by
    intro j hj; rw [hj]; exact dif_pos hh
  have sq : rf (ms y (k.val / 64) hh) * rf (ms y (k.val / 64) hh) = (ms y (k.val / 64) hh + eps)⁻¹ := by
    unfold rf; rw [← mul_inv, Real.mul_self_sqrt hp.le]
  have et : tot y u (k.val / 64) = (∑ d : Fin 64, y (col (k.val / 64) hh d) * u (col (k.val / 64) hh d)) * rf (ms y (k.val / 64) hh) := by
    unfold tot yh
    rw [dif_pos hh, Finset.sum_mul]
    refine Finset.sum_congr rfl fun d _ => ?_
    rw [ef (col (k.val / 64) hh d) (by simp only [col]; omega)]; ring
  unfold dy yh
  rw [et, ef k rfl, hc, div_eq_mul_inv (rf _) (_ + eps), ← sq]
  ring

end Fox.OutBwd

end
-- ==== Proof.BwdRef.lean ====
/- The reference's gradient of the output stage at an index, on real arguments. -/
module

public import proofs.«01_k».proof.Proof.BwdMath
public import proofs.«01_k».proof.Proof.Gen.OutBwdReferenceIdeal.Run

@[expose] public section

set_option maxRecDepth 16384

noncomputable section

namespace Fox.OutBwd

open Cert.OutBwdReferenceIdeal Cert.OutBwdReferenceIdeal.Gen Fox.OutFwd
open Idealize.ShloMosaic Idealize.ShloMosaic.TcCoe

/-- The heads' outputs side by side. -/
abbrev cat (o0 o1 : FVec Ideal S2048x512 .f32) (o2 : FVec Ideal S2048x256 .f32) : FVec Ideal S2048x1280 .f32 :=
  concatenate S2048x1280 1 [⟨S2048x512, o0⟩, ⟨S2048x512, o1⟩, ⟨S2048x256, o2⟩] concatenates_S2048x512_S2048x512_S2048x256_S2048x1280_d1

abbrev by64 (y : FVec Ideal S2048x1280 .f32) : FVec Ideal S2048x20x64 .f32 := shapeCast _ y shapeCasts_S2048x1280_S2048x20x64
/-- The heads' mean squares, with the norm's epsilon, and the heads' factors. -/
abbrev sq (y : FVec Ideal S2048x1280 .f32) : FVec Ideal S2048x20x1 .f32 :=
  addf (Host.divf (broadcastInDim S2048x20x1 ![0, 1] bcast_S2048x20_S2048x20x1_0_1
      (Host.reduceAdd (mulf (by64 y) (by64 y)) (constant S_ .f32 0x00000000#32) reducesTo_S2048x20x64_S2048x20_d2 h_S_))
    (broadcastInDim S2048x20x1 ![] bcast_S_S2048x20x1 (constant S_ .f32 0x42800000#32)))
    (broadcastInDim S2048x20x1 ![] bcast_S_S2048x20x1 (constant S_ .f32 0x358637BD#32))
abbrev wide (f : FVec Ideal S2048x20x1 .f32) : FVec Ideal S2048x20x64 .f32 :=
  broadcastInDim S2048x20x64 ![0, 1, 2] bcast_S2048x20x1_S2048x20x64_0_1_2 f
abbrev normed (y : FVec Ideal S2048x1280 .f32) : FVec Ideal S2048x1280 .f32 :=
  shapeCast _ (mulf (by64 y) (wide (Host.rsqrt (sq y)))) shapeCasts_S2048x20x64_S2048x1280

abbrev gates (pb : FVec Ideal S2048x1408 .f32) : FVec Ideal S2048x1280 .f32 := extractStridedSlice S2048x1280 ![0, 0] pb slices_S2048x1408_S2048x1280_0_0
abbrev ones : FVec Ideal S2048x1280 .f32 := broadcastInDim S2048x1280 ![] bcast_S_S2048x1280 (constant S_ .f32 0x3F800000#32)
abbrev sigm (g : FVec Ideal S2048x1280 .f32) : FVec Ideal S2048x1280 .f32 := Host.divf ones (addf ones (Host.exp (Host.negf g)))
abbrev proj (dx : FVec Ideal S2048x1024 .bf16) (w : FVec Ideal S1280x1024 .bf16) : FVec Ideal S2048x1280 .f32 :=
  Host.dotGeneral dot_S2048x1024_S1280x1024_S2048x1280_1_1_0_0_n_n none (extf .f32 dx bitsLt_bf16_f32) (extf .f32 w bitsLt_bf16_f32)
abbrev weights (ow : FVec Ideal S1x1280 .f32) : FVec Ideal S2048x1280 .f32 := broadcastInDim S2048x1280 ![0, 1] bcast_S1x1280_S2048x1280_0_1 ow
abbrev inner (p g : FVec Ideal S2048x1280 .f32) : FVec Ideal S2048x1280 .f32 := mulf p (mulf g (sigm g))

/-- Of the sums along a head, the factor of the head's columns in the gradient of its mean square. -/
abbrev coef (y u : FVec Ideal S2048x1280 .f32) : FVec Ideal S2048x20x64 .f32 :=
  broadcastInDim S2048x20x64 ![0, 1] bcast_S2048x20_S2048x20x64_0_1 (Host.reduceAdd (Host.divf (mulf (shapeCast _
      (Host.reduceAdd (mulf (by64 y) (by64 u)) (constant S_ .f32 0x00000000#32) reducesTo_S2048x20x64_S2048x20_d2 h_S_) shapeCasts_S2048x20_S2048x20x1)
    (mulf (broadcastInDim S2048x20x1 ![] bcast_S_S2048x20x1 (constant S_ .f32 0xBF000000#32)) (Host.divf (Host.rsqrt (sq y)) (sq y))))
    (broadcastInDim S2048x20x1 ![] bcast_S_S2048x20x1 (constant S_ .f32 0x42800000#32)))
    (constant S_ .f32 0x00000000#32) reducesTo_S2048x20x1_S2048x20_d2 h_S_)

/-- The three results, of the heads' outputs y, what was projected back p, the gates g and the weights. -/
abbrev dyRef (y p g : FVec Ideal S2048x1280 .f32) (ow : FVec Ideal S1x1280 .f32) : FVec Ideal S2048x1280 .f32 :=
  shapeCast _ (addf (addf (mulf (by64 (mulf (inner p g) (weights ow))) (wide (Host.rsqrt (sq y)))) (mulf (by64 y) (coef y (mulf (inner p g) (weights ow)))))
    (mulf (coef y (mulf (inner p g) (weights ow))) (by64 y))) shapeCasts_S2048x20x64_S2048x1280
abbrev dgRef (y p g : FVec Ideal S2048x1280 .f32) (ow : FVec Ideal S1x1280 .f32) : FVec Ideal S2048x1280 .bf16 :=
  truncf .bf16 (addf (mulf (mulf (mulf (normed y) (weights ow)) p) (sigm g))
    (mulf (mulf g (mulf (mulf (normed y) (weights ow)) p)) (mulf (sigm g) (subf ones (sigm g))))) bitsLt_bf16_f32
abbrev dwRef (y p g : FVec Ideal S2048x1280 .f32) : FVec Ideal S1x1280 .f32 :=
  shapeCast _ (Host.reduceAdd (mulf (normed y) (inner p g)) (constant S_ .f32 0x00000000#32) reducesTo_S2048x1280_S1280_d0 h_S_) shapeCasts_S1280_S1x1280

theorem lit_half : Ideal.ofBits .f32 0xBF000000#32 = ((-(1 / 2) : ℝ) : EReal) := by
  simp [Ideal.ofBits, Ideal.ieee, -EReal.coe_mul, -EReal.coe_neg]; norm_num

/-- An array of reals. -/
abbrev arr (Y : Fin 2048 → Fin 1280 → ℝ) : FVec Ideal S2048x1280 .f32 := fun i => ((Y (i 0) (i 1) : ℝ) : EReal)

variable (Y P G : Fin 2048 → Fin 1280 → ℝ) (O : Fin 1280 → ℝ)

theorem normed_apply (s : Fin 2048) (k : Fin 1280) : normed (arr Y) (ix2 s k) = ((yh (Y s) k : ℝ) : EReal) := by
  pointwise [normed]
  rw [lit_64, lit_eps]
  simp only [← EReal.coe_mul]
  rw [← Cert.Proof.Fox.coe_sum, Cert.Proof.Fox.div_coe _ _ (by norm_num)]
  have hh : k.val / 64 < 20 := by omega
  have e : fac (Y s) (k.val / 64) = rf (ms (Y s) (k.val / 64) hh) := dif_pos hh
  rw [yh, e, EReal.coe_mul, ← rsqrt_eps _ (ms_nonneg (Y s) _ hh)]
  rfl

theorem sigm_apply (s : Fin 2048) (k : Fin 1280) : sigm (arr G) (ix2 s k) = ((sg (G s k) : ℝ) : EReal) := by
  rw [← logistic_coe]
  pointwise [sigm]
  rfl

theorem inner_apply (s : Fin 2048) (k : Fin 1280) : inner (arr P) (arr G) (ix2 s k) = ((dn (P s) (G s) k : ℝ) : EReal) := by
  show arr P (ix2 s k) * (arr G (ix2 s k) * sigm (arr G) (ix2 s k)) = _
  rw [sigm_apply, dn, EReal.coe_mul, EReal.coe_mul]; rfl

theorem weights_apply (s : Fin 2048) (k : Fin 1280) : weights (fun i => ((O (i 1) : ℝ) : EReal)) (ix2 s k) = ((O k : ℝ) : EReal) := by
  pointwise [weights]

theorem dg_apply (s : Fin 2048) (k : Fin 1280) :
    dgRef (arr Y) (arr P) (arr G) (fun i => ((O (i 1) : ℝ) : EReal)) (ix2 s k) = ((dg (Y s) (P s) (G s) O k : ℝ) : EReal) := by
  show normed (arr Y) (ix2 s k) * weights _ (ix2 s k) * arr P (ix2 s k) * sigm (arr G) (ix2 s k)
    + arr G (ix2 s k) * (normed (arr Y) (ix2 s k) * weights _ (ix2 s k) * arr P (ix2 s k)) * (sigm (arr G) (ix2 s k) * (Ideal.ofBits .f32 0x3F800000#32 - sigm (arr G) (ix2 s k))) = _
  rw [normed_apply, sigm_apply, weights_apply, lit_one, ← EReal.coe_one, ← EReal.coe_sub]
  show (yh (Y s) k : EReal) * (O k : EReal) * (P s k : EReal) * (sg (G s k) : EReal)
    + (G s k : EReal) * ((yh (Y s) k : EReal) * (O k : EReal) * (P s k : EReal)) * ((sg (G s k) : EReal) * ((1 - sg (G s k) : ℝ) : EReal)) = _
  simp only [← EReal.coe_mul, ← EReal.coe_add]
  refine congrArg _ ?_
  unfold dg
  ring

theorem dw_apply (k : Fin 1280) :
    dwRef (arr Y) (arr P) (arr G) (ix2 (0 : Fin 1) k) = ((∑ s : Fin 2048, dn (P s) (G s) k * yh (Y s) k : ℝ) : EReal) := by
  have h : mulf (normed (arr Y)) (inner (arr P) (arr G)) = fun i => ((dn (P (i 0)) (G (i 0)) (i 1) * yh (Y (i 0)) (i 1) : ℝ) : EReal) := by
    funext i
    obtain ⟨s, k, rfl⟩ : ∃ (s : Fin 2048) (k : Fin 1280), i = ix2 s k := ⟨i 0, i 1, by idx_ext⟩
    show normed (arr Y) (ix2 s k) * inner (arr P) (arr G) (ix2 s k) = _
    rw [normed_apply, inner_apply, ← EReal.coe_mul, mul_comm]
    rfl
  unfold dwRef
  rw [h]
  pointwise
  rw [Cert.Proof.Fox.coe_sum]

theorem dy_apply (s : Fin 2048) (k : Fin 1280) :
    dyRef (arr Y) (arr P) (arr G) (fun i => ((O (i 1) : ℝ) : EReal)) (ix2 s k) = ((dy (Y s) (un (P s) (G s) O) k : ℝ) : EReal) := by
  have h : mulf (inner (arr P) (arr G)) (weights (fun i => ((O (i 1) : ℝ) : EReal))) = arr fun s k => un (P s) (G s) O k := by
    funext i
    obtain ⟨s, k, rfl⟩ : ∃ (s : Fin 2048) (k : Fin 1280), i = ix2 s k := ⟨i 0, i 1, by idx_ext⟩
    show inner (arr P) (arr G) (ix2 s k) * weights _ (ix2 s k) = _
    rw [inner_apply, weights_apply, ← EReal.coe_mul]
    rfl
  unfold dyRef
  rw [h]
  show _ = ((dy (Y s) ((fun s k => un (P s) (G s) O k) s) k : ℝ) : EReal)
  generalize (fun s k => un (P s) (G s) O k) = U
  have hh : k.val / 64 < 20 := by omega
  have hm := ms_nonneg (Y s) (k.val / 64) hh
  have hp : (ms (Y s) (k.val / 64) hh + eps) ≠ 0 := (add_pos_of_nonneg_of_pos hm eps_pos).ne'
  rw [← dy_eq (Y s) (U s) k hh _ rfl]
  pointwise [coef, sq]
  rw [lit_64, lit_eps, lit_half]
  simp only [← EReal.coe_mul]
  simp only [← Cert.Proof.Fox.coe_sum]
  rw [Cert.Proof.Fox.div_coe _ _ (by norm_num)]
  change ((U s k : ℝ) : EReal) * Ideal.rsqrt (((ms (Y s) (k.val / 64) hh : ℝ) : EReal) + ((eps : ℝ) : EReal))
    + ((Y s k : ℝ) : EReal) * (∑ _x : Fin 1, Ideal.div (((∑ d : Fin 64, Y s (col (k.val / 64) hh d) * U s (col (k.val / 64) hh d) : ℝ) : EReal)
      * (((-(1 / 2) : ℝ) : EReal) * Ideal.div (Ideal.rsqrt (((ms (Y s) (k.val / 64) hh : ℝ) : EReal) + ((eps : ℝ) : EReal)))
        (((ms (Y s) (k.val / 64) hh : ℝ) : EReal) + ((eps : ℝ) : EReal)))) ((64 : ℝ) : EReal))
    + (∑ _x : Fin 1, Ideal.div (((∑ d : Fin 64, Y s (col (k.val / 64) hh d) * U s (col (k.val / 64) hh d) : ℝ) : EReal)
      * (((-(1 / 2) : ℝ) : EReal) * Ideal.div (Ideal.rsqrt (((ms (Y s) (k.val / 64) hh : ℝ) : EReal) + ((eps : ℝ) : EReal)))
        (((ms (Y s) (k.val / 64) hh : ℝ) : EReal) + ((eps : ℝ) : EReal)))) ((64 : ℝ) : EReal)) * ((Y s k : ℝ) : EReal) = _
  rw [rsqrt_eps _ hm, ← EReal.coe_add, Cert.Proof.Fox.div_coe _ _ hp, ← EReal.coe_mul (-(1 / 2)), ← EReal.coe_mul (∑ d : Fin 64, _),
    Cert.Proof.Fox.div_coe _ _ (by norm_num), Fin.sum_univ_one]
  simp only [← EReal.coe_mul, ← EReal.coe_add]

end Fox.OutBwd

end
-- ==== Proof.BwdNorm.lean ====
/- What a point of the output stage's gradient computes, at an index, on real arguments. -/
module

public import proofs.«01_k».proof.Proof.BwdMath
public import proofs.«01_k».proof.Proof.Gen.OutBwdIdeal.Value

@[expose] public section

set_option maxRecDepth 16384

noncomputable section

namespace Fox.OutBwd

open Cert.OutBwdIdeal Cert.OutBwdIdeal.Gen Fox.OutFwd
open Idealize.ShloMosaic Idealize.ShloMosaic.TcCoe

/-- Heads by columns. -/
abbrev mapsT : FVec Ideal S128x1280 .bf16 := transpose S128x1280 [1, 0] maps transposes_S1280x128_S128x1280_1_0

/-- An array of reals. -/
abbrev blk (Y : Fin 256 → Fin 1280 → ℝ) : FVec Ideal S256x1280 .f32 := fun i => ((Y (i 0) (i 1) : ℝ) : EReal)
abbrev wts (O : Fin 1280 → ℝ) : FVec Ideal S1x1280 .f32 := fun i => ((O (i 1) : ℝ) : EReal)
abbrev zero : FVec Ideal S256x1280 .f32 := constant S256x1280 .f32 0x00000000#32

variable (v6 v7 : FVec Ideal S256x512 .f32) (v8 : FVec Ideal S256x256 .f32)

/-- The heads' factors spread over their columns, and the products with them. -/
abbrev spread : FVec Ideal S256x1280 .f32 := k0_pay12 (F := Ideal) (k0_pay6 mapsT) (k0_pay9 v6 v7 v8 maps) (k0_pay10 v6 v7 v8 maps) (k0_pay11 v6 v7 v8 maps mapsT) zero
abbrev unit : FVec Ideal S256x1280 .f32 :=
  k0_pay13 (F := Ideal) (k0_pay4 v6 v7 v8) (k0_pay6 mapsT) (k0_pay9 v6 v7 v8 maps) (k0_pay10 v6 v7 v8 maps) (k0_pay11 v6 v7 v8 maps mapsT) zero
abbrev tot1 (p g : FVec Ideal S256x1280 .f32) (o : FVec Ideal S1x1280 .f32) : FVec Ideal S256x128 .f32 :=
  k0_pay22 (F := Ideal) p (k0_pay4 v6 v7 v8) (k0_pay6 mapsT) (k0_pay9 v6 v7 v8 maps) (k0_pay10 v6 v7 v8 maps) (k0_pay11 v6 v7 v8 maps mapsT) zero g o maps
abbrev tot2 (p g : FVec Ideal S256x1280 .f32) (o : FVec Ideal S1x1280 .f32) : FVec Ideal S256x128 .f32 :=
  k0_pay23 (F := Ideal) p (k0_pay4 v6 v7 v8) (k0_pay6 mapsT) (k0_pay9 v6 v7 v8 maps) (k0_pay10 v6 v7 v8 maps) (k0_pay11 v6 v7 v8 maps mapsT) zero g o maps
abbrev dyKer (p g : FVec Ideal S256x1280 .f32) (o : FVec Ideal S1x1280 .f32) : FVec Ideal S256x1280 .f32 :=
  k0_pay1 (F := Ideal) (spread v6 v7 v8) (unit v6 v7 v8) (k0_pay18 p g o) (tot1 v6 v7 v8 p g o) (tot2 v6 v7 v8 p g o) mapsT
abbrev dgKer (p g : FVec Ideal S256x1280 .f32) (o : FVec Ideal S1x1280 .f32) : FVec Ideal S256x1280 .bf16 :=
  k0_pay15 (F := Ideal) p (k0_pay4 v6 v7 v8) (k0_pay6 mapsT) (k0_pay9 v6 v7 v8 maps) (k0_pay10 v6 v7 v8 maps) (k0_pay11 v6 v7 v8 maps mapsT) zero g o
abbrev dwKer (p g : FVec Ideal S256x1280 .f32) (a : FVec Ideal S1x1280 .f32) : FVec Ideal S1x1280 .f32 :=
  k0_pay17 (F := Ideal) p (k0_pay4 v6 v7 v8) (k0_pay6 mapsT) (k0_pay9 v6 v7 v8 maps) (k0_pay10 v6 v7 v8 maps) (k0_pay11 v6 v7 v8 maps mapsT) zero g a

variable (Y P G : Fin 256 → Fin 1280 → ℝ) (O : Fin 1280 → ℝ) (hY : k0_pay4 (F := Ideal) v6 v7 v8 = blk Y)

include hY in
theorem pay5_eq : k0_pay5 (F := Ideal) v6 v7 v8 maps = fun i => ((fac (Y (i 0)) (i 1).val : ℝ) : EReal) := by
  funext i
  obtain ⟨r, h, rfl⟩ : ∃ (r : Fin 256) (h : Fin 128), i = ix2 r h := ⟨i 0, i 1, by idx_ext⟩
  show _ = ((fac (Y r) h.val : ℝ) : EReal)
  unfold k0_pay5
  rw [hY]
  pointwise [maps_apply]
  rw [lit_64th, lit_eps]
  simp only [← EReal.coe_mul, coe_sub_self, zero_mul, Finset.sum_const_zero, add_zero]
  simp only [EReal.coe_mul, fac_eq]
  rfl

include hY in
theorem spread_eq : spread v6 v7 v8 = blk fun r k => fac (Y r) (k.val / 64) := by
  funext i
  obtain ⟨r, k, rfl⟩ : ∃ (r : Fin 256) (k : Fin 1280), i = ix2 r k := ⟨i 0, i 1, by idx_ext⟩
  show _ = ((fac (Y r) (k.val / 64) : ℝ) : EReal)
  unfold spread k0_pay12 k0_pay11 k0_pay10 k0_pay9 k0_pay8 k0_pay7 k0_pay6
  rw [pay5_eq v6 v7 v8 Y hY]
  pointwise [maps_apply]
  simp only [coe_sub_self, sub_zero, zero_mul, Finset.sum_const_zero, add_zero]
  exact sum_spread (fun h => ((fac (Y r) h.val : ℝ) : EReal)) k

include hY in
theorem unit_eq : unit v6 v7 v8 = blk fun r k => yh (Y r) k := by
  funext i
  show k0_pay4 (F := Ideal) v6 v7 v8 i * spread v6 v7 v8 i = _
  rw [spread_eq v6 v7 v8 Y hY, hY, ← EReal.coe_mul]; rfl

theorem dn_ker (i : S256x1280.Idx) : k0_pay16 (F := Ideal) (blk P) (blk G) i = ((dn (P (i 0)) (G (i 0)) (i 1) : ℝ) : EReal) := by
  show ((P (i 0) (i 1) : ℝ) : EReal) * (((G (i 0) (i 1) : ℝ) : EReal) * Ideal.logistic ((G (i 0) (i 1) : ℝ) : EReal)) = _
  rw [logistic_coe, ← EReal.coe_mul, ← EReal.coe_mul]; rfl

theorem un_ker : k0_pay18 (F := Ideal) (blk P) (blk G) (wts O) = blk fun r k => un (P r) (G r) O k := by
  funext i
  obtain ⟨r, k, rfl⟩ : ∃ (r : Fin 256) (k : Fin 1280), i = ix2 r k := ⟨i 0, i 1, by idx_ext⟩
  unfold k0_pay18
  pointwise [dn_ker]
  rw [← EReal.coe_mul]; rfl

include hY in
theorem pay19_eq : k0_pay19 (F := Ideal) (blk P) (k0_pay4 v6 v7 v8) (k0_pay6 mapsT) (k0_pay9 v6 v7 v8 maps) (k0_pay10 v6 v7 v8 maps) (k0_pay11 v6 v7 v8 maps mapsT) zero (blk G) (wts O)
    = blk fun r k => un (P r) (G r) O k * yh (Y r) k := by
  funext i
  show k0_pay18 (F := Ideal) (blk P) (blk G) (wts O) i * unit v6 v7 v8 i = _
  rw [un_ker, unit_eq v6 v7 v8 Y hY, ← EReal.coe_mul]

include hY in
theorem tot_ker (r : Fin 256) (h : Fin 128) : tot1 v6 v7 v8 (blk P) (blk G) (wts O) (ix2 r h) + tot2 v6 v7 v8 (blk P) (blk G) (wts O) (ix2 r h)
    = ((tot (Y r) (un (P r) (G r) O) h.val : ℝ) : EReal) := by
  unfold tot1 tot2 k0_pay22 k0_pay23 k0_pay21 k0_pay20
  dsimp only
  rw [pay19_eq v6 v7 v8 Y P G O hY]
  pointwise [maps_apply]
  simp only [coe_sub_self, zero_mul, Finset.sum_const_zero, add_zero]
  exact tot_eq _ _ _

include hY in
theorem dyKer_apply (r : Fin 256) (k : Fin 1280) : dyKer v6 v7 v8 (blk P) (blk G) (wts O) (ix2 r k) = ((dy (Y r) (un (P r) (G r) O) k : ℝ) : EReal) := by
  have ht := tot_ker v6 v7 v8 Y P G O hY
  unfold dyKer
  revert ht
  generalize tot1 v6 v7 v8 (blk P) (blk G) (wts O) = A
  generalize tot2 v6 v7 v8 (blk P) (blk G) (wts O) = B
  intro ht
  rw [un_ker, unit_eq v6 v7 v8 Y hY, spread_eq v6 v7 v8 Y hY]
  unfold k0_pay1
  pointwise [maps_apply]
  simp only [ht]
  rw [lit_64th]
  simp only [← EReal.coe_mul, coe_sub_self, sub_zero, zero_mul, Finset.sum_const_zero, add_zero]
  rw [sum_spread (fun h => ((tot (Y r) (un (P r) (G r) O) h.val * (1 / 64) : ℝ) : EReal)) k]
  rw [← EReal.coe_mul, ← EReal.coe_sub, ← EReal.coe_mul]
  rfl

include hY in
theorem dgKer_apply (r : Fin 256) (k : Fin 1280) : dgKer v6 v7 v8 (blk P) (blk G) (wts O) (ix2 r k) = ((dg (Y r) (P r) (G r) O k : ℝ) : EReal) := by
  unfold dgKer k0_pay15 k0_pay14
  dsimp only
  rw [show k0_pay13 (F := Ideal) (k0_pay4 v6 v7 v8) (k0_pay6 mapsT) (k0_pay9 v6 v7 v8 maps) (k0_pay10 v6 v7 v8 maps) (k0_pay11 v6 v7 v8 maps mapsT) zero = blk fun r k => yh (Y r) k from unit_eq v6 v7 v8 Y hY]
  pointwise
  show ((P r k : ℝ) : EReal) * (((yh (Y r) k : ℝ) : EReal) * ((O k : ℝ) : EReal)) * (Ideal.logistic ((G r k : ℝ) : EReal)
    * (1 + ((G r k : ℝ) : EReal) * (1 - Ideal.logistic ((G r k : ℝ) : EReal)))) = _
  rw [logistic_coe, ← EReal.coe_one]
  simp only [← EReal.coe_mul, ← EReal.coe_sub, ← EReal.coe_add]
  rfl

include hY in
theorem dwKer_apply (a : FVec Ideal S1x1280 .f32) (k : Fin 1280) : dwKer v6 v7 v8 (blk P) (blk G) a (ix2 (0 : Fin 1) k)
    = a (ix2 (0 : Fin 1) k) + ((∑ r : Fin 256, dn (P r) (G r) k * yh (Y r) k : ℝ) : EReal) := by
  unfold dwKer k0_pay17
  dsimp only
  rw [show k0_pay13 (F := Ideal) (k0_pay4 v6 v7 v8) (k0_pay6 mapsT) (k0_pay9 v6 v7 v8 maps) (k0_pay10 v6 v7 v8 maps) (k0_pay11 v6 v7 v8 maps mapsT) zero = blk fun r k => yh (Y r) k from unit_eq v6 v7 v8 Y hY]
  pointwise [dn_ker]
  rw [Cert.Proof.Fox.coe_sum]
  simp only [EReal.coe_mul]
  rfl

end Fox.OutBwd

end
-- ==== Proof.OutBwd.lean ====
/- The output stage's gradient: a point takes 256 rows, and adds their part of the weight's gradient to what the points before left; the
   blocks tile the reference's results. -/
module

public import proofs.«01_k».proof.Defs
public import proofs.«01_k».proof.Proof.Finite
public import proofs.«01_k».proof.Proof.BwdRef
public import proofs.«01_k».proof.Proof.BwdNorm

@[expose] public section

set_option maxRecDepth 16384

noncomputable section

open Idealize.ShloMosaic Idealize.ShloMosaic.TcCoe Idealize.ShloMosaic.StableHlo Idealize.SL.Sem
open Idealize.ShloMosaic.Pipeline (Dat)

namespace Fox.OutBwd

open Cert.OutBwdIdeal Cert.OutBwdIdeal.Gen
open Fox.OutFwd (maps)
open Cert.Proof.Fox (row)

variable (m : (ℓ : Loc nD τ sig) → Buf (Elt Ideal) ℓ) (c : Dev nD)

set_option maxHeartbeats 8000000 in
theorem V_maps : V m c main_v8 = maps := by
  unfold V
  simp only [hostOps0, hostOps0_1, hostOps0_2, List.flatten_cons, List.flatten_nil, List.append_nil, List.cons_append, List.nil_append,
    TRef.binary, TRef.nullary, TRef.ternary, TRef.unary, TRef.toBuf, TRef.ofBuf, cast_eq]
  after_results_simp <;> rfl

set_option maxHeartbeats 8000000 in
theorem V_maps_t : V m c main_v9 = mapsT := by
  unfold V
  simp only [hostOps0, hostOps0_1, hostOps0_2, List.flatten_cons, List.flatten_nil, List.append_nil, List.cons_append, List.nil_append,
    TRef.binary, TRef.nullary, TRef.ternary, TRef.unary, TRef.toBuf, TRef.ofBuf, cast_eq]
  after_results_simp <;> rfl

/-- The blocks of the windows, at every point of the grid. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![t.val, 0] ∧ win0_10.index t = ![t.val, 0]
    ∧ win0_11.index t = ![0, 0] :=
  (by decide +kernel : ∀ t : Fin grid0.N, _)

variable (t : Fin cfg0.N)

theorem lt8 : t.val < 8 := t.isLt
theorem row_eq (r : Fin 256) : (row t.val r).val = t.val * 256 + r.val := by
  rw [Cert.Proof.Fox.row_val (lt8 t), mul_comm]

theorem blk7 : (iblk m c 7 t : FVec Ideal S1280x128 .bf16) = maps := by
  rw [← V_maps m c]
  funext y
  blk_point [iblk, idx t]

theorem blk8 : (iblk m c 8 t : FVec Ideal S128x1280 .bf16) = mapsT := by
  rw [← V_maps_t m c]
  funext y
  blk_point [iblk, idx t]

theorem blk5 : (iblk m c 5 t : FVec Ideal S1x1280 .f32) = m ((c : Thread nD τ).loc main_arg5) := by
  rw [← V_main_arg5 m c]
  funext y
  blk_point [iblk, idx t]

theorem blk6 : (iblk m c 6 t : FVec Ideal S1280x1024 .bf16) = m ((c : Thread nD τ).loc main_arg6) := by
  rw [← V_main_arg6 m c]
  funext y
  blk_point [iblk, idx t]

theorem blk0 (r : Fin 256) (k : Fin 1024) : (iblk m c 0 t : FVec Ideal S256x1024 .bf16) (ix2 r k) = m ((c : Thread nD τ).loc main_arg0) (ix2 (row t.val r) k) := by
  rw [← V_main_arg0 m c]
  blk_point [iblk, idx t, row_eq]

theorem blk1 (r : Fin 256) (k : Fin 512) : (iblk m c 1 t : FVec Ideal S256x512 .f32) (ix2 r k) = m ((c : Thread nD τ).loc main_arg1) (ix2 (row t.val r) k) := by
  rw [← V_main_arg1 m c]
  blk_point [iblk, idx t, row_eq]

theorem blk2 (r : Fin 256) (k : Fin 512) : (iblk m c 2 t : FVec Ideal S256x512 .f32) (ix2 r k) = m ((c : Thread nD τ).loc main_arg2) (ix2 (row t.val r) k) := by
  rw [← V_main_arg2 m c]
  blk_point [iblk, idx t, row_eq]

theorem blk3 (r : Fin 256) (k : Fin 256) : (iblk m c 3 t : FVec Ideal S256x256 .f32) (ix2 r k) = m ((c : Thread nD τ).loc main_arg3) (ix2 (row t.val r) k) := by
  rw [← V_main_arg3 m c]
  blk_point [iblk, idx t, row_eq]

theorem blk4 (r : Fin 256) (k : Fin 1280) : (X0_4 m c t : FVec Ideal S256x1280 .f32) (ix2 r k)
    = m ((c : Thread nD τ).loc main_arg4) (ix2 (row t.val r) (⟨k.val, by omega⟩ : Fin 1408)) := by
  rw [← V_main_arg4 m c]
  unfold X0_4 Pipeline.Window.fill
  rw [dif_pos (moved0_4 t _)]
  blk_point [iblk, idx t, row_eq]

/-! ## What a point leaves -/

/-- What a point projects back. -/
abbrev pback : FVec Ideal S256x1280 .f32 := k0_pay3 (F := Ideal) (iblk m c 0 t) (iblk m c 6 t)

theorem out9 : (outsAt0 m c t.val t.isLt).1 = dyKer (iblk m c 1 t) (iblk m c 2 t) (iblk m c 3 t) (pback m c t) (X0_4 m c t) (iblk m c 5 t) := by
  have h7 := blk7 m c t
  have h8 := blk8 m c t
  unfold dyKer spread unit tot1 tot2
  rw [← h8, ← h7]
  by_cases h : t.val % 8 = 0
  · rw [outsAt0_A m c t h]; frame_out
  · rw [outsAt0_B m c t h]; frame_out

theorem out10 : (outsAt0 m c t.val t.isLt).2.1 = dgKer (iblk m c 1 t) (iblk m c 2 t) (iblk m c 3 t) (pback m c t) (X0_4 m c t) (iblk m c 5 t) := by
  have h7 := blk7 m c t
  have h8 := blk8 m c t
  unfold dgKer
  rw [← h8, ← h7]
  by_cases h : t.val % 8 = 0
  · rw [outsAt0_A m c t h]; frame_out
  · rw [outsAt0_B m c t h]; frame_out

theorem out11_A (h : t.val % 8 = 0) : (outsAt0 m c t.val t.isLt).2.2
    = dwKer (iblk m c 1 t) (iblk m c 2 t) (iblk m c 3 t) (pback m c t) (X0_4 m c t) (k0_pay2 (F := Ideal)) := by
  have h7 := blk7 m c t
  have h8 := blk8 m c t
  unfold dwKer
  rw [← h8, ← h7]
  rw [outsAt0_A m c t h]; frame_out

theorem out11_B (h : ¬ t.val % 8 = 0) : (outsAt0 m c t.val t.isLt).2.2
    = dwKer (iblk m c 1 t) (iblk m c 2 t) (iblk m c 3 t) (pback m c t) (X0_4 m c t) (outsAt0 m c (t.val - 1) (by have := t.isLt; omega)).2.2 := by
  have h7 := blk7 m c t
  have h8 := blk8 m c t
  unfold dwKer
  rw [← h8, ← h7]
  rw [outsAt0_B m c t h]; frame_out

/-! ## On real arguments -/

/-- What is projected back, of the gradient of the residual stream and the projection's weights. -/
def pr (D : Fin 2048 → Fin 1024 → ℝ) (W : Fin 1280 → Fin 1024 → ℝ) (s : Fin 2048) (k : Fin 1280) : ℝ := ∑ n : Fin 1024, D s n * W k n

variable (Y G : Fin 2048 → Fin 1280 → ℝ) (O : Fin 1280 → ℝ) (D : Fin 2048 → Fin 1024 → ℝ) (W : Fin 1280 → Fin 1024 → ℝ)

theorem proj_eq : proj (fun i => ((D (i 0) (i 1) : ℝ) : EReal)) (fun i => ((W (i 0) (i 1) : ℝ) : EReal)) = arr (pr D W) := by
  funext i
  obtain ⟨s, k, rfl⟩ : ∃ (s : Fin 2048) (k : Fin 1280), i = ix2 s k := ⟨i 0, i 1, by idx_ext⟩
  pointwise [proj]
  show _ = ((pr D W s k : ℝ) : EReal)
  rw [pr, Cert.Proof.Fox.coe_sum]
  simp only [EReal.coe_mul]

/-- The arguments are arrays of reals. -/
structure Real (o0 o1 : FVec Ideal S2048x512 .f32) (o2 : FVec Ideal S2048x256 .f32) (dx : FVec Ideal S2048x1024 .bf16) (pb : FVec Ideal S2048x1408 .f32)
    (ow : FVec Ideal S1x1280 .f32) (w : FVec Ideal S1280x1024 .bf16) : Prop where
  y : cat o0 o1 o2 = arr Y
  g : gates pb = arr G
  o : ow = fun i => ((O (i 1) : ℝ) : EReal)
  d : dx = fun i => ((D (i 0) (i 1) : ℝ) : EReal)
  w : w = fun i => ((W (i 0) (i 1) : ℝ) : EReal)

variable (h : Real Y G O D W (m ((c : Thread nD τ).loc main_arg1)) (m ((c : Thread nD τ).loc main_arg2)) (m ((c : Thread nD τ).loc main_arg3))
  (m ((c : Thread nD τ).loc main_arg0)) (m ((c : Thread nD τ).loc main_arg4)) (m ((c : Thread nD τ).loc main_arg5)) (m ((c : Thread nD τ).loc main_arg6)))

include h in
theorem blk_cat : k0_pay4 (F := Ideal) (iblk m c 1 t) (iblk m c 2 t) (iblk m c 3 t) = blk fun r => Y (row t.val r) := by
  funext i
  obtain ⟨r, k, rfl⟩ : ∃ (r : Fin 256) (k : Fin 1280), i = ix2 r k := ⟨i 0, i 1, by idx_ext⟩
  refine Eq.trans ?_ (congrFun h.y (ix2 (row t.val r) k))
  unfold k0_pay4
  pointwise [cat, blk1, blk2, blk3]

include h in
theorem blk_g : (X0_4 m c t : FVec Ideal S256x1280 .f32) = blk fun r => G (row t.val r) := by
  funext i
  obtain ⟨r, k, rfl⟩ : ∃ (r : Fin 256) (k : Fin 1280), i = ix2 r k := ⟨i 0, i 1, by idx_ext⟩
  refine (blk4 m c t r k).trans (Eq.trans ?_ (congrFun h.g (ix2 (row t.val r) k)))
  pointwise [gates]

include h in
theorem blk_p : pback m c t = blk fun r => pr D W (row t.val r) := by
  funext i
  obtain ⟨r, k, rfl⟩ : ∃ (r : Fin 256) (k : Fin 1280), i = ix2 r k := ⟨i 0, i 1, by idx_ext⟩
  show _ = ((pr D W (row t.val r) k : ℝ) : EReal)
  unfold pback
  rw [blk6, h.w]
  unfold k0_pay3
  have e : ∀ n : Fin 1024, (iblk m c 0 t : FVec Ideal S256x1024 .bf16) (ix2 r n) = ((D (row t.val r) n : ℝ) : EReal) := fun n =>
    (blk0 m c t r n).trans (congrFun h.d _)
  revert e
  generalize (iblk m c 0 t : FVec Ideal S256x1024 .bf16) = A
  intro e
  pointwise
  simp only [e]
  rw [pr, Cert.Proof.Fox.coe_sum]
  simp only [EReal.coe_mul]

include h in
theorem blk_o : (iblk m c 5 t : FVec Ideal S1x1280 .f32) = wts O := (blk5 m c t).trans h.o

theorem emb9 (y : S256x1280.Idx) : (win0_9.blk t).view.emb y = ix2 (row t.val (y 0)) (y 1) := by
  blk_ext [idx t, row_eq]
  exact (row_eq t (y 0)).symm

theorem emb10 (y : S256x1280.Idx) : (win0_10.blk t).view.emb y = ix2 (row t.val (y 0)) (y 1) := by
  blk_ext [idx t, row_eq]
  exact (row_eq t (y 0)).symm

theorem emb11 (y : S1x1280.Idx) : (win0_11.blk t).view.emb y = ix2 (y 0) (y 1) := by
  blk_ext [idx t]

/-- The three results, as reals. -/
abbrev dyAll : FVec Ideal S2048x1280 .f32 := arr fun s => Fox.OutBwd.dy (Y s) (un (pr D W s) (G s) O)
abbrev dgAll : FVec Ideal S2048x1280 .bf16 := arr fun s => dg (Y s) (pr D W s) (G s) O
abbrev dwAll : FVec Ideal S1x1280 .f32 := wts fun k => ∑ s : Fin 2048, dn (pr D W s) (G s) k * yh (Y s) k

include h in
theorem final9 : (dats m 0 c).arrAt 9 cfg0.N = dyAll Y G O D W := by
  refine (dats m 0 c).arrAt_eq_of_covers 9 _ (by decide +kernel) fun t _ y => ?_
  blk_simp
  rw [after0_9, out9, blk_g m c t Y G O D W h, blk_p m c t Y G O D W h, blk_o m c t Y G O D W h]
  have hy : (y : S256x1280.Idx) = ix2 (y 0) (y 1) := by idx_ext
  exact (congrArg _ hy).trans ((dyKer_apply _ _ _ (fun r => Y (row t.val r)) (fun r => pr D W (row t.val r)) (fun r => G (row t.val r)) O
    (blk_cat m c t Y G O D W h) (y 0) (y 1)).trans (congrArg (dyAll Y G O D W) (emb9 t y).symm))

include h in
theorem final10 : (dats m 0 c).arrAt 10 cfg0.N = dgAll Y G O D W := by
  refine (dats m 0 c).arrAt_eq_of_covers 10 _ (by decide +kernel) fun t _ y => ?_
  blk_simp
  rw [after0_10, out10, blk_g m c t Y G O D W h, blk_p m c t Y G O D W h, blk_o m c t Y G O D W h]
  have hy : (y : S256x1280.Idx) = ix2 (y 0) (y 1) := by idx_ext
  exact (congrArg _ hy).trans ((dgKer_apply _ _ _ (fun r => Y (row t.val r)) (fun r => pr D W (row t.val r)) (fun r => G (row t.val r)) O
    (blk_cat m c t Y G O D W h) (y 0) (y 1)).trans (congrArg (dgAll Y G O D W) (emb10 t y).symm))

/-! ## The weight's gradient, point by point -/

theorem pay2_apply (i : S1x1280.Idx) : k0_pay2 (F := Ideal) i = 0 := by
  unfold k0_pay2
  pointwise

/-- A row's part of the weight's gradient. -/
def part (k : Fin 1280) (s : Fin 2048) : ℝ := dn (pr D W s) (G s) k * yh (Y s) k

include h in
theorem step_apply (a : FVec Ideal S1x1280 .f32) (k : Fin 1280) :
    dwKer (iblk m c 1 t) (iblk m c 2 t) (iblk m c 3 t) (pback m c t) (X0_4 m c t) a (ix2 (0 : Fin 1) k)
      = a (ix2 (0 : Fin 1) k) + ((∑ r : Fin 256, part Y G D W k (row t.val r) : ℝ) : EReal) := by
  rw [blk_g m c t Y G O D W h, blk_p m c t Y G O D W h]
  exact dwKer_apply _ _ _ (fun r => Y (row t.val r)) (fun r => pr D W (row t.val r)) (fun r => G (row t.val r)) (blk_cat m c t Y G O D W h) a k

include h in
theorem acc (k : Fin 1280) : ∀ (n : ℕ) (hn : n < cfg0.N), ((outsAt0 m c n hn).2.2 : FVec Ideal S1x1280 .f32) (ix2 (0 : Fin 1) k)
    = ((∑ j ∈ Finset.range (n + 1), ∑ r : Fin 256, part Y G D W k (row j r) : ℝ) : EReal) := by
  intro n
  induction n with
  | zero =>
    intro hn
    have e := congrFun (out11_A m c ⟨0, hn⟩ rfl) (ix2 (0 : Fin 1) k)
    refine e.trans ?_
    rw [step_apply m c ⟨0, hn⟩ Y G O D W h, pay2_apply, zero_add, zero_add, Finset.sum_range_one]
  | succ n ih =>
    intro hn
    have h8 : n + 1 < 8 := hn
    have e := congrFun (out11_B m c ⟨n + 1, hn⟩ (by show ¬ (n + 1) % 8 = 0; omega)) (ix2 (0 : Fin 1) k)
    refine e.trans ?_
    rw [step_apply m c ⟨n + 1, hn⟩ Y G O D W h, Finset.sum_range_succ, EReal.coe_add]
    exact congrArg (· + _) (ih (by omega))

theorem flush11 : ∀ t : Fin cfg0.N, (cfg0.win 11).flush t = true → t.val = 7 :=
  (by decide +kernel : ∀ t : Fin grid0.N, _)

include h in
theorem final11 : (dats m 0 c).arrAt 11 cfg0.N = dwAll Y G D W := by
  refine (dats m 0 c).arrAt_eq_of_covers 11 _ (by decide +kernel) fun t hf y => ?_
  have ht := flush11 t hf
  blk_simp
  rw [after0_11]
  have hy : (y : S1x1280.Idx) = ix2 (0 : Fin 1) (y 1) := by idx_ext
  refine (congrArg _ hy).trans ((acc m c Y G O D W h (y 1) t.val t.isLt).trans ?_)
  rw [ht]
  refine Eq.trans ?_ (congrArg (dwAll Y G D W) (emb11 t y).symm)
  exact congrArg _ (Cert.Proof.Fox.sum_rows (part Y G D W (y 1)))

/-! ## The precondition, and the claim -/

theorem facts_out : Cert.Pre_finite_out.Facts where
  bcast_S_S2048x1024 := by decide
  reducesTo_S2048x1024_S_d0_1 := by decide
  h_S_ := by decide
  bcast_S_S2048x512 := by decide
  reducesTo_S2048x512_S_d0_1 := by decide
  bcast_S_S2048x256 := by decide
  reducesTo_S2048x256_S_d0_1 := by decide
  slices_S2048x1408_S2048x1280_0_0 := by decide
  bcast_S_S2048x1280 := by decide
  reducesTo_S2048x1280_S_d0_1 := by decide
  bcast_S_S1x1280 := by decide
  reducesTo_S1x1280_S_d0_1 := by decide
  bcast_S_S1280x1024 := by decide
  reducesTo_S1280x1024_S_d0_1 := by decide

instance : Subsingleton (Cert.Pre_finite_out.S_).Idx := ⟨fun _ _ => funext fun a => nomatch a⟩

theorem real_all (hf : Cert.Pre_finite_out.Facts) (dx : FVec Ideal S2048x1024 .bf16) (o0 o1 : FVec Ideal S2048x512 .f32) (o2 : FVec Ideal S2048x256 .f32)
    (pb : FVec Ideal S2048x1408 .f32) (ow : FVec Ideal S1x1280 .f32) (w : FVec Ideal S1280x1024 .bf16)
    (e : Cert.Pre_finite_out.fn (F := Ideal) dx o0 o1 o2 pb ow w = fun _ => 1#1) :
    Real (fun s k => EReal.toReal (cat o0 o1 o2 (ix2 s k))) (fun s k => EReal.toReal (gates pb (ix2 s k))) (fun k => EReal.toReal (ow (ix2 (0 : Fin 1) k)))
      (fun s n => EReal.toReal (dx (ix2 s n))) (fun k n => EReal.toReal (w (ix2 k n))) o0 o1 o2 dx pb ow w := by
  have e0 := congrFun e ix0
  unfold Cert.Pre_finite_out.fn Cert.Pre_finite_out.fn_part1 Cert.Pre_finite_out.fn_part2 at e0
  obtain ⟨e1, ew⟩ := IntOp.andi_eq_one.1 e0
  obtain ⟨e1, eo⟩ := IntOp.andi_eq_one.1 e1
  obtain ⟨e1, eg⟩ := IntOp.andi_eq_one.1 e1
  obtain ⟨e1, e4⟩ := IntOp.andi_eq_one.1 e1
  obtain ⟨e1, e3⟩ := IntOp.andi_eq_one.1 e1
  obtain ⟨ed, e2⟩ := IntOp.andi_eq_one.1 e1
  have h0 : Cert.Proof.Fox.IsReal o0 := fun i => Cert.Proof.Fox.real_of _ (by
    rw [← Cert.Proof.Fox.lit_top]; exact Host.reduce_andi_all _ _ _ _ _ e2 i)
  have h1 : Cert.Proof.Fox.IsReal o1 := fun i => Cert.Proof.Fox.real_of _ (by
    rw [← Cert.Proof.Fox.lit_top]; exact Host.reduce_andi_all _ _ _ _ _ e3 i)
  have h2 : Cert.Proof.Fox.IsReal o2 := fun i => Cert.Proof.Fox.real_of _ (by
    rw [← Cert.Proof.Fox.lit_top]; exact Host.reduce_andi_all _ _ _ _ _ e4 i)
  have hg : Cert.Proof.Fox.IsReal (gates pb) := fun i => Cert.Proof.Fox.real_of _ (by
    rw [← Cert.Proof.Fox.lit_top]; exact Host.reduce_andi_all _ _ _ _ _ eg i)
  have ho : Cert.Proof.Fox.IsReal ow := fun i => Cert.Proof.Fox.real_of _ (by
    rw [← Cert.Proof.Fox.lit_top]; exact Host.reduce_andi_all _ _ _ _ _ eo i)
  have hd : Cert.Proof.Fox.IsReal dx := fun i => Cert.Proof.Fox.real_of _ (by
    rw [← Cert.Proof.Fox.lit_top_bf16]; exact Host.reduce_andi_all _ _ _ _ _ ed i)
  have hw : Cert.Proof.Fox.IsReal w := fun i => Cert.Proof.Fox.real_of _ (by
    rw [← Cert.Proof.Fox.lit_top_bf16]; exact Host.reduce_andi_all _ _ _ _ _ ew i)
  refine ⟨?_, ?_, ?_, ?_, ?_⟩
  · funext i
    obtain ⟨s, k, rfl⟩ : ∃ (s : Fin 2048) (k : Fin 1280), i = ix2 s k := ⟨i 0, i 1, by idx_ext⟩
    have hr : cat o0 o1 o2 (ix2 s k) = ((EReal.toReal (cat o0 o1 o2 (ix2 s k)) : ℝ) : EReal) := by
      refine concatenate_forall (P := fun z : EReal => z = ((EReal.toReal z : ℝ) : EReal)) _ _ _ _ ?_ (ix2 s k)
      intro p hp
      simp only [List.mem_cons, List.not_mem_nil, or_false] at hp
      rcases hp with rfl | rfl | rfl
      · exact h0
      · exact h1
      · exact h2
    exact hr
  · funext i
    obtain ⟨s, k, rfl⟩ : ∃ (s : Fin 2048) (k : Fin 1280), i = ix2 s k := ⟨i 0, i 1, by idx_ext⟩
    exact hg _
  · funext i
    obtain ⟨k, rfl⟩ : ∃ k : Fin 1280, i = ix2 (0 : Fin 1) k := ⟨i 1, by idx_ext⟩
    exact ho _
  · funext i
    obtain ⟨s, k, rfl⟩ : ∃ (s : Fin 2048) (k : Fin 1024), i = ix2 s k := ⟨i 0, i 1, by idx_ext⟩
    exact hd _
  · funext i
    obtain ⟨s, k, rfl⟩ : ∃ (s : Fin 1280) (k : Fin 1024), i = ix2 s k := ⟨i 0, i 1, by idx_ext⟩
    exact hw _

/-- The reference's three results, on real arguments. -/
theorem ref_dy (P : Fin 2048 → Fin 1280 → ℝ) : dyRef (arr Y) (arr P) (arr G) (fun i => ((O (i 1) : ℝ) : EReal)) = arr fun s => Fox.OutBwd.dy (Y s) (un (P s) (G s) O) := by
  funext i
  obtain ⟨s, k, rfl⟩ : ∃ (s : Fin 2048) (k : Fin 1280), i = ix2 s k := ⟨i 0, i 1, by idx_ext⟩
  exact dy_apply Y P G O s k

theorem ref_dg (P : Fin 2048 → Fin 1280 → ℝ) : dgRef (arr Y) (arr P) (arr G) (fun i => ((O (i 1) : ℝ) : EReal)) = arr fun s => dg (Y s) (P s) (G s) O := by
  funext i
  obtain ⟨s, k, rfl⟩ : ∃ (s : Fin 2048) (k : Fin 1280), i = ix2 s k := ⟨i 0, i 1, by idx_ext⟩
  exact dg_apply Y P G O s k

theorem ref_dw (P : Fin 2048 → Fin 1280 → ℝ) : dwRef (arr Y) (arr P) (arr G) = wts fun k => ∑ s : Fin 2048, dn (P s) (G s) k * yh (Y s) k := by
  funext i
  obtain ⟨k, rfl⟩ : ∃ k : Fin 1280, i = ix2 (0 : Fin 1) k := ⟨i 1, by idx_ext⟩
  exact dw_apply Y P G k

variable {Y G O D W} {o0 o1 : FVec Ideal S2048x512 .f32} {o2 : FVec Ideal S2048x256 .f32} {dx : FVec Ideal S2048x1024 .bf16}
  {pb : FVec Ideal S2048x1408 .f32} {ow : FVec Ideal S1x1280 .f32} {w : FVec Ideal S1280x1024 .bf16} (R : Real Y G O D W o0 o1 o2 dx pb ow w)

include R in
theorem ref9 : dyRef (cat o0 o1 o2) (proj dx w) (gates pb) ow = dyAll Y G O D W := by
  rw [R.y, R.g, R.o, R.d, R.w, proj_eq, ref_dy]

include R in
theorem ref10 : dgRef (cat o0 o1 o2) (proj dx w) (gates pb) ow = dgAll Y G O D W := by
  rw [R.y, R.g, R.o, R.d, R.w, proj_eq, ref_dg]

include R in
theorem ref11 : dwRef (cat o0 o1 o2) (proj dx w) (gates pb) = dwAll Y G D W := by
  rw [R.y, R.g, R.d, R.w, proj_eq, ref_dw]

/-- The kernel's results are the reference's, wherever the arguments are finite. -/
theorem equal (hf : Cert.Pre_finite_out.Facts) : Cert.algebraic_OutBwdIdeal_OutBwdReferenceIdeal_pre_finite_out (hPre_finite_out := hf) := by
  intro m g m' g' hpre hargs
  have hR := fun c => real_all hf _ _ _ _ _ _ _ (hpre c)
  refine ⟨fun c => dyRef (cat (m ((c : Thread nD τ).loc main_arg1)) (m ((c : Thread nD τ).loc main_arg2)) (m ((c : Thread nD τ).loc main_arg3)))
      (proj (m ((c : Thread nD τ).loc main_arg0)) (m ((c : Thread nD τ).loc main_arg6))) (gates (m ((c : Thread nD τ).loc main_arg4))) (m ((c : Thread nD τ).loc main_arg5)),
    fun c => dgRef (cat (m ((c : Thread nD τ).loc main_arg1)) (m ((c : Thread nD τ).loc main_arg2)) (m ((c : Thread nD τ).loc main_arg3)))
      (proj (m ((c : Thread nD τ).loc main_arg0)) (m ((c : Thread nD τ).loc main_arg6))) (gates (m ((c : Thread nD τ).loc main_arg4))) (m ((c : Thread nD τ).loc main_arg5)),
    fun c => dwRef (cat (m ((c : Thread nD τ).loc main_arg1)) (m ((c : Thread nD τ).loc main_arg2)) (m ((c : Thread nD τ).loc main_arg3)))
      (proj (m ((c : Thread nD τ).loc main_arg0)) (m ((c : Thread nD τ).loc main_arg6))) (gates (m ((c : Thread nD τ).loc main_arg4))), ?_, ?_⟩
  · exact (θ_run defs _ _).mono (fun _ h c => ⟨(h c).1.trans ((final9 m c _ _ _ _ _ (hR c)).trans (ref9 (hR c)).symm),
      (h c).2.1.trans ((final10 m c _ _ _ _ _ (hR c)).trans (ref10 (hR c)).symm),
      (h c).2.2.1.trans ((final11 m c _ _ _ _ _ (hR c)).trans (ref11 (hR c)).symm), (h c).2.2.2⟩) (Value.run_blocks m g)
  · refine (θ_run Cert.OutBwdReferenceIdeal.defs _ _).mono (fun r h c => ?_) (Cert.OutBwdReferenceIdeal.Value.run m' g')
    obtain ⟨h0, h1, h2, ha⟩ := h c
    obtain ⟨a0, a1, a2, a3, a4, a5, a6⟩ := hargs c
    refine ⟨h0.trans ?_, h1.trans ?_, h2.trans ?_, ha⟩
    · unfold Cert.OutBwdReferenceIdeal.Value.res_main_v48
      rw [a0, a1, a2, a3, a4, a5, a6]
      rfl
    · unfold Cert.OutBwdReferenceIdeal.Value.res_main_v49
      rw [a0, a1, a2, a3, a4, a5, a6]
      rfl
    · rw [a0, a1, a2, a3, a4, a6] <;> rfl

end Fox.OutBwd

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Same
public import proofs.«01_k».proof.Proof.KerFinal
public import proofs.«01_k».proof.Proof.Finite
public import proofs.«01_k».proof.Proof.ProdDwInA
public import proofs.«01_k».proof.Proof.ProdDwInB
public import proofs.«01_k».proof.Proof.ProdDhA
public import proofs.«01_k».proof.Proof.ProdDhB
public import proofs.«01_k».proof.Proof.ProdDwOut
public import proofs.«01_k».proof.Proof.ProdInprojA
public import proofs.«01_k».proof.Proof.ProdInprojB
public import proofs.«01_k».proof.Proof.ProdDwKv
public import proofs.«01_k».proof.Proof.ProdDmem
public import proofs.«01_k».proof.Proof.ProdMemKv
public import proofs.«01_k».proof.Proof.OutFwd
public import proofs.«01_k».proof.Proof.OutBwd
public import proofs.«01_k».proof.Proof.Gen.DwInA
public import proofs.«01_k».proof.Proof.Gen.DwInA.Frame
public import proofs.«01_k».proof.Proof.Gen.DwInAIdeal
public import proofs.«01_k».proof.Proof.Gen.DwInAIdeal.Frame
public import proofs.«01_k».proof.Proof.Gen.DwInAIdeal.Value
public import proofs.«01_k».proof.Proof.Gen.DwInAReferenceIdeal
public import proofs.«01_k».proof.Proof.Gen.DwInAReferenceIdeal.Run
public import proofs.«01_k».proof.Proof.Gen.DwInB
public import proofs.«01_k».proof.Proof.Gen.DwInB.Frame
public import proofs.«01_k».proof.Proof.Gen.DwInBIdeal
public import proofs.«01_k».proof.Proof.Gen.DwInBIdeal.Frame
public import proofs.«01_k».proof.Proof.Gen.DwInBIdeal.Value
public import proofs.«01_k».proof.Proof.Gen.DwInBReferenceIdeal
public import proofs.«01_k».proof.Proof.Gen.DwInBReferenceIdeal.Run
public import proofs.«01_k».proof.Proof.Gen.DhA
public import proofs.«01_k».proof.Proof.Gen.DhA.Frame
public import proofs.«01_k».proof.Proof.Gen.DhAIdeal
public import proofs.«01_k».proof.Proof.Gen.DhAIdeal.Frame
public import proofs.«01_k».proof.Proof.Gen.DhAIdeal.Value
public import proofs.«01_k».proof.Proof.Gen.DhAReferenceIdeal
public import proofs.«01_k».proof.Proof.Gen.DhAReferenceIdeal.Run
public import proofs.«01_k».proof.Proof.Gen.DhB
public import proofs.«01_k».proof.Proof.Gen.DhB.Frame
public import proofs.«01_k».proof.Proof.Gen.DhBIdeal
public import proofs.«01_k».proof.Proof.Gen.DhBIdeal.Frame
public import proofs.«01_k».proof.Proof.Gen.DhBIdeal.Value
public import proofs.«01_k».proof.Proof.Gen.DhBReferenceIdeal
public import proofs.«01_k».proof.Proof.Gen.DhBReferenceIdeal.Run
public import proofs.«01_k».proof.Proof.Gen.DwOut
public import proofs.«01_k».proof.Proof.Gen.DwOut.Frame
public import proofs.«01_k».proof.Proof.Gen.DwOutIdeal
public import proofs.«01_k».proof.Proof.Gen.DwOutIdeal.Frame
public import proofs.«01_k».proof.Proof.Gen.DwOutIdeal.Value
public import proofs.«01_k».proof.Proof.Gen.DwOutReferenceIdeal
public import proofs.«01_k».proof.Proof.Gen.DwOutReferenceIdeal.Run
public import proofs.«01_k».proof.Proof.Gen.InprojA
public import proofs.«01_k».proof.Proof.Gen.InprojA.Frame
public import proofs.«01_k».proof.Proof.Gen.InprojAIdeal
public import proofs.«01_k».proof.Proof.Gen.InprojAIdeal.Frame
public import proofs.«01_k».proof.Proof.Gen.InprojAIdeal.Value
public import proofs.«01_k».proof.Proof.Gen.InprojAReferenceIdeal
public import proofs.«01_k».proof.Proof.Gen.InprojAReferenceIdeal.Run
public import proofs.«01_k».proof.Proof.Gen.InprojB
public import proofs.«01_k».proof.Proof.Gen.InprojB.Frame
public import proofs.«01_k».proof.Proof.Gen.InprojBIdeal
public import proofs.«01_k».proof.Proof.Gen.InprojBIdeal.Frame
public import proofs.«01_k».proof.Proof.Gen.InprojBIdeal.Value
public import proofs.«01_k».proof.Proof.Gen.InprojBReferenceIdeal
public import proofs.«01_k».proof.Proof.Gen.InprojBReferenceIdeal.Run
public import proofs.«01_k».proof.Proof.Gen.DwKv
public import proofs.«01_k».proof.Proof.Gen.DwKv.Frame
public import proofs.«01_k».proof.Proof.Gen.DwKvIdeal
public import proofs.«01_k».proof.Proof.Gen.DwKvIdeal.Frame
public import proofs.«01_k».proof.Proof.Gen.DwKvIdeal.Value
public import proofs.«01_k».proof.Proof.Gen.DwKvReferenceIdeal
public import proofs.«01_k».proof.Proof.Gen.DwKvReferenceIdeal.Run
public import proofs.«01_k».proof.Proof.Gen.Dmem
public import proofs.«01_k».proof.Proof.Gen.Dmem.Frame
public import proofs.«01_k».proof.Proof.Gen.DmemIdeal
public import proofs.«01_k».proof.Proof.Gen.DmemIdeal.Frame
public import proofs.«01_k».proof.Proof.Gen.DmemIdeal.Value
public import proofs.«01_k».proof.Proof.Gen.DmemReferenceIdeal
public import proofs.«01_k».proof.Proof.Gen.DmemReferenceIdeal.Run
public import proofs.«01_k».proof.Proof.Gen.MemKv
public import proofs.«01_k».proof.Proof.Gen.MemKv.Frame
public import proofs.«01_k».proof.Proof.Gen.MemKvIdeal
public import proofs.«01_k».proof.Proof.Gen.MemKvIdeal.Frame
public import proofs.«01_k».proof.Proof.Gen.MemKvIdeal.Value
public import proofs.«01_k».proof.Proof.Gen.MemKvReferenceIdeal
public import proofs.«01_k».proof.Proof.Gen.MemKvReferenceIdeal.Run
public import proofs.«01_k».proof.Proof.Gen.OutFwd
public import proofs.«01_k».proof.Proof.Gen.OutFwd.Frame
public import proofs.«01_k».proof.Proof.Gen.OutFwdIdeal
public import proofs.«01_k».proof.Proof.Gen.OutFwdIdeal.Frame
public import proofs.«01_k».proof.Proof.Gen.OutFwdIdeal.Value
public import proofs.«01_k».proof.Proof.Gen.OutFwdReferenceIdeal
public import proofs.«01_k».proof.Proof.Gen.OutFwdReferenceIdeal.Run
public import proofs.«01_k».proof.Proof.Gen.OutBwd
public import proofs.«01_k».proof.Proof.Gen.OutBwd.Frame
public import proofs.«01_k».proof.Proof.Gen.OutBwdIdeal
public import proofs.«01_k».proof.Proof.Gen.OutBwdIdeal.Frame
public import proofs.«01_k».proof.Proof.Gen.OutBwdIdeal.Value
public import proofs.«01_k».proof.Proof.Gen.OutBwdReferenceIdeal
public import proofs.«01_k».proof.Proof.Gen.OutBwdReferenceIdeal.Run
public import Idealize.ShloMosaic.Adequacy
public import Idealize.ShloMosaic.Init

@[expose] public section

noncomputable section

namespace Cert.Proof

open Idealize.ShloMosaic Idealize.ShloMosaic.TcCoe

/-- A run of the kernel leaves its arguments as launched and no semaphore counted, at every float model. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c => ⟨
      ((h.1 c).1 2).trans (((Fox.dats m 0 c).arrAt_in 2 rfl _).trans (Cert.KernelIdeal.Gen.V_main_arg0 m c)),
      ((h.1 c).2 Cert.KernelIdeal.main_arg1 (Pipeline.mem_restRefs_of Cert.KernelIdeal.main_arg1 (by decide) (by decide))).trans (Cert.KernelIdeal.Gen.V_main_arg1 m c),
      ((h.1 c).1 7).trans (((Fox.dats m 0 c).arrAt_in 7 rfl _).trans (Cert.KernelIdeal.Gen.V_main_arg2 m c))⟩, h.2⟩)
    (Fox.run_main m ρ)

set_option maxHeartbeats 1000000 in
/-- The bit-exact program's run is the same run. -/
theorem frame_kernel : Cert.quiescent_Kernel := fun m ρ _ => by
  rw [Fox.defs_same (F := Bits), Fox.mains_same (F := Bits)]
  exact frame_any (F := Bits) m ρ

/-- The reference is a sequence of host operations: it runs, changes no argument and counts no semaphore. -/
theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run m ρ)

set_option maxHeartbeats 1000000 in
/-- On finite arguments the kernel's four gradients are the reference's. -/
theorem gradients : Cert.algebraic_KernelIdeal_ReferenceIdeal_pre_finite (hPre_finite := Fox.facts_finite) := by
  intro m g m' g' hpre hargs
  have hr := fun c => Fox.isReal_of Fox.facts_finite _ _ _ (hpre c)
  refine ⟨fun c => Fox.Ref.dq (Fox.argX m c) (Fox.argC m c) (Fox.argY m c), fun c => Fox.Ref.dk (Fox.argX m c) (Fox.argC m c) (Fox.argY m c),
    fun c => Fox.Ref.dv (Fox.argX m c) (Fox.argC m c) (Fox.argY m c), fun c => Fox.Ref.cs (Fox.argX m c) (Fox.argC m c) (Fox.argY m c), ?_, ?_⟩
  · exact (θ_run Cert.KernelIdeal.defs _ _).mono (fun _ h c => ⟨
        ((h.1 c).1 8).trans (Fox.final_dq m c (hr c).1 (hr c).2.1 (hr c).2.2), ((h.1 c).1 9).trans (Fox.final_dk m c (hr c).1 (hr c).2.1 (hr c).2.2),
        ((h.1 c).1 10).trans (Fox.final_dv m c (hr c).1 (hr c).2.1 (hr c).2.2), ((h.1 c).1 11).trans (Fox.final_cs m c (hr c).1 (hr c).2.1 (hr c).2.2),
        ((h.1 c).1 2).trans (((Fox.dats m 0 c).arrAt_in 2 rfl _).trans (Cert.KernelIdeal.Gen.V_main_arg0 m c)),
        ((h.1 c).2 Cert.KernelIdeal.main_arg1 (Pipeline.mem_restRefs_of Cert.KernelIdeal.main_arg1 (by decide) (by decide))).trans (Cert.KernelIdeal.Gen.V_main_arg1 m c),
        ((h.1 c).1 7).trans (((Fox.dats m 0 c).arrAt_in 7 rfl _).trans (Cert.KernelIdeal.Gen.V_main_arg2 m c))⟩)
      (Fox.run_main m g)
  · refine (θ_run Cert.ReferenceIdeal.defs _ _).mono (fun r h c => ?_) (Cert.ReferenceIdeal.Value.run m' g')
    obtain ⟨e0, e1, e2⟩ := hargs c
    obtain ⟨h0, h1, h2, h3, ha⟩ := h c
    refine ⟨h0.trans ?_, h1.trans ?_, h2.trans ?_, h3.trans ?_, ha⟩
    · refine (Fox.Ref.res_dq m' c).trans ?_; rw [e0, e1, e2]
    · refine (Fox.Ref.res_dk m' c).trans ?_; rw [e0, e1, e2]
    · refine (Fox.Ref.res_dv m' c).trans ?_; rw [e0, e1, e2]
    · refine (Fox.Ref.res_cs m' c).trans ?_; rw [e0, e1, e2]

/-! ## The other calls: the references' runs -/

theorem frame_DwInA : Cert.quiescent_DwInAReferenceIdeal := fun m ρ _ =>
  (θ_run Cert.DwInAReferenceIdeal.defs _ _).mono (fun r h => ⟨fun c => (h c).2, sem_eq_zero_of_no_sems (by decide) r.2⟩)
    (Cert.DwInAReferenceIdeal.Value.run m ρ)

theorem frame_DwInB : Cert.quiescent_DwInBReferenceIdeal := fun m ρ _ =>
  (θ_run Cert.DwInBReferenceIdeal.defs _ _).mono (fun r h => ⟨fun c => (h c).2, sem_eq_zero_of_no_sems (by decide) r.2⟩)
    (Cert.DwInBReferenceIdeal.Value.run m ρ)

theorem frame_DhA : Cert.quiescent_DhAReferenceIdeal := fun m ρ _ =>
  (θ_run Cert.DhAReferenceIdeal.defs _ _).mono (fun r h => ⟨fun c => (h c).2, sem_eq_zero_of_no_sems (by decide) r.2⟩)
    (Cert.DhAReferenceIdeal.Value.run m ρ)

theorem frame_DhB : Cert.quiescent_DhBReferenceIdeal := fun m ρ _ =>
  (θ_run Cert.DhBReferenceIdeal.defs _ _).mono (fun r h => ⟨fun c => (h c).2, sem_eq_zero_of_no_sems (by decide) r.2⟩)
    (Cert.DhBReferenceIdeal.Value.run m ρ)

theorem frame_DwOut : Cert.quiescent_DwOutReferenceIdeal := fun m ρ _ =>
  (θ_run Cert.DwOutReferenceIdeal.defs _ _).mono (fun r h => ⟨fun c => (h c).2, sem_eq_zero_of_no_sems (by decide) r.2⟩)
    (Cert.DwOutReferenceIdeal.Value.run m ρ)

theorem frame_InprojA : Cert.quiescent_InprojAReferenceIdeal := fun m ρ _ =>
  (θ_run Cert.InprojAReferenceIdeal.defs _ _).mono (fun r h => ⟨fun c => (h c).2, sem_eq_zero_of_no_sems (by decide) r.2⟩)
    (Cert.InprojAReferenceIdeal.Value.run m ρ)

theorem frame_InprojB : Cert.quiescent_InprojBReferenceIdeal := fun m ρ _ =>
  (θ_run Cert.InprojBReferenceIdeal.defs _ _).mono (fun r h => ⟨fun c => (h c).2, sem_eq_zero_of_no_sems (by decide) r.2⟩)
    (Cert.InprojBReferenceIdeal.Value.run m ρ)

theorem frame_DwKv : Cert.quiescent_DwKvReferenceIdeal := fun m ρ _ =>
  (θ_run Cert.DwKvReferenceIdeal.defs _ _).mono (fun r h => ⟨fun c => (h c).2, sem_eq_zero_of_no_sems (by decide) r.2⟩)
    (Cert.DwKvReferenceIdeal.Value.run m ρ)

theorem frame_Dmem : Cert.quiescent_DmemReferenceIdeal := fun m ρ _ =>
  (θ_run Cert.DmemReferenceIdeal.defs _ _).mono (fun r h => ⟨fun c => (h c).2, sem_eq_zero_of_no_sems (by decide) r.2⟩)
    (Cert.DmemReferenceIdeal.Value.run m ρ)

theorem frame_MemKv : Cert.quiescent_MemKvReferenceIdeal := fun m ρ _ =>
  (θ_run Cert.MemKvReferenceIdeal.defs _ _).mono (fun r h => ⟨fun c => (h c).2, sem_eq_zero_of_no_sems (by decide) r.2⟩)
    (Cert.MemKvReferenceIdeal.Value.run m ρ)

theorem frame_OutFwd : Cert.quiescent_OutFwdReferenceIdeal := fun m ρ _ =>
  (θ_run Cert.OutFwdReferenceIdeal.defs _ _).mono (fun r h => ⟨fun c => (h c).2.2, sem_eq_zero_of_no_sems (by decide) r.2⟩)
    (Cert.OutFwdReferenceIdeal.Value.run m ρ)

theorem frame_OutBwd : Cert.quiescent_OutBwdReferenceIdeal := fun m ρ _ =>
  (θ_run Cert.OutBwdReferenceIdeal.defs _ _).mono (fun r h => ⟨fun c => (h c).2.2.2, sem_eq_zero_of_no_sems (by decide) r.2⟩)
    (Cert.OutBwdReferenceIdeal.Value.run m ρ)

theorem claim : Cert.Claim :=
  ⟨Cert.Kernel.Gen.facts, Cert.KernelIdeal.Gen.facts, Cert.ReferenceIdeal.Gen.facts,
    Cert.DwInA.Gen.facts, Cert.DwInAIdeal.Gen.facts, Cert.DwInAReferenceIdeal.Gen.facts,
    Cert.DwInB.Gen.facts, Cert.DwInBIdeal.Gen.facts, Cert.DwInBReferenceIdeal.Gen.facts,
    Cert.DhA.Gen.facts, Cert.DhAIdeal.Gen.facts, Cert.DhAReferenceIdeal.Gen.facts,
    Cert.DhB.Gen.facts, Cert.DhBIdeal.Gen.facts, Cert.DhBReferenceIdeal.Gen.facts,
    Cert.DwOut.Gen.facts, Cert.DwOutIdeal.Gen.facts, Cert.DwOutReferenceIdeal.Gen.facts,
    Cert.InprojA.Gen.facts, Cert.InprojAIdeal.Gen.facts, Cert.InprojAReferenceIdeal.Gen.facts,
    Cert.InprojB.Gen.facts, Cert.InprojBIdeal.Gen.facts, Cert.InprojBReferenceIdeal.Gen.facts,
    Cert.DwKv.Gen.facts, Cert.DwKvIdeal.Gen.facts, Cert.DwKvReferenceIdeal.Gen.facts,
    Cert.Dmem.Gen.facts, Cert.DmemIdeal.Gen.facts, Cert.DmemReferenceIdeal.Gen.facts,
    Cert.MemKv.Gen.facts, Cert.MemKvIdeal.Gen.facts, Cert.MemKvReferenceIdeal.Gen.facts,
    Cert.OutFwd.Gen.facts, Cert.OutFwdIdeal.Gen.facts, Cert.OutFwdReferenceIdeal.Gen.facts,
    Cert.OutBwd.Gen.facts, Cert.OutBwdIdeal.Gen.facts, Cert.OutBwdReferenceIdeal.Gen.facts,
    Fox.facts_finite, Fox.OutFwd.facts_heads, Fox.OutBwd.facts_out,
    frame_kernel, fun m ρ _ => frame_any m ρ, fun m ρ _ => frame_any m ρ, frame_reference, fun m ρ _ => frame_reference m ρ trivial,
    fun m ρ _ => Cert.DwInA.Gen.frame m ρ, fun m ρ _ => Cert.DwInAIdeal.Gen.frame m ρ, frame_DwInA,
    fun m ρ _ => Cert.DwInB.Gen.frame m ρ, fun m ρ _ => Cert.DwInBIdeal.Gen.frame m ρ, frame_DwInB,
    fun m ρ _ => Cert.DhA.Gen.frame m ρ, fun m ρ _ => Cert.DhAIdeal.Gen.frame m ρ, frame_DhA,
    fun m ρ _ => Cert.DhB.Gen.frame m ρ, fun m ρ _ => Cert.DhBIdeal.Gen.frame m ρ, frame_DhB,
    fun m ρ _ => Cert.DwOut.Gen.frame m ρ, fun m ρ _ => Cert.DwOutIdeal.Gen.frame m ρ, frame_DwOut,
    fun m ρ _ => Cert.InprojA.Gen.frame m ρ, fun m ρ _ => Cert.InprojAIdeal.Gen.frame m ρ, frame_InprojA,
    fun m ρ _ => Cert.InprojB.Gen.frame m ρ, fun m ρ _ => Cert.InprojBIdeal.Gen.frame m ρ, frame_InprojB,
    fun m ρ _ => Cert.DwKv.Gen.frame m ρ, fun m ρ _ => Cert.DwKvIdeal.Gen.frame m ρ, frame_DwKv,
    fun m ρ _ => Cert.Dmem.Gen.frame m ρ, fun m ρ _ => Cert.DmemIdeal.Gen.frame m ρ, frame_Dmem,
    fun m ρ _ => Cert.MemKv.Gen.frame m ρ, fun m ρ _ => Cert.MemKvIdeal.Gen.frame m ρ, frame_MemKv,
    fun m ρ _ => Cert.OutFwd.Gen.frame m ρ, fun m ρ _ => Cert.OutFwdIdeal.Gen.frame m ρ, fun m ρ _ => Cert.OutFwdIdeal.Gen.frame m ρ,
    frame_OutFwd, fun m ρ _ => frame_OutFwd m ρ trivial,
    fun m ρ _ => Cert.OutBwd.Gen.frame m ρ, fun m ρ _ => Cert.OutBwdIdeal.Gen.frame m ρ, fun m ρ _ => Cert.OutBwdIdeal.Gen.frame m ρ,
    frame_OutBwd, fun m ρ _ => frame_OutBwd m ρ trivial,
    trivial, gradients,
    trivial, Fox.DwInA.equal,
    trivial, Fox.DwInB.equal,
    trivial, Fox.DhA.equal,
    trivial, Fox.DhB.equal,
    trivial, Fox.DwOut.equal,
    trivial, Fox.InprojA.equal,
    trivial, Fox.InprojB.equal,
    trivial, Fox.DwKv.equal,
    trivial, Fox.Dmem.equal,
    trivial, Fox.MemKv.equal,
    trivial, Fox.OutFwd.equal _,
    trivial, Fox.OutBwd.equal _⟩

end Cert.Proof

end
